-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_rms [hPre_finite_rms : Cert.Pre_finite_rms.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_rms.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite_rms.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite_rms.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_rms [hPre_finite_rms : Cert.Pre_finite_rms.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_rms.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite_rms.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite_rms.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_pool [hPre_finite_pool : Cert.Pre_finite_pool.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_pool.fn (F := Ideal) (m ((c.tc : Thread Cert.Kernel3Ideal.nD Cert.Kernel3Ideal.τ).loc Cert.Kernel3Ideal.main_arg0))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_pool [hPre_finite_pool : Cert.Pre_finite_pool.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_pool.fn (F := Ideal) (m ((c.tc : Thread Cert.Reference3Ideal.nD Cert.Reference3Ideal.τ).loc Cert.Reference3Ideal.main_arg0))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_loss [hPre_finite_loss : Cert.Pre_finite_loss.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite_loss.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_loss [hPre_finite_loss : Cert.Pre_finite_loss.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite_loss.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_v [hPre_finite_v : Cert.Pre_finite_v.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_v.fn (F := Ideal) (m ((c.tc : Thread Cert.Kernel9Ideal.nD Cert.Kernel9Ideal.τ).loc Cert.Kernel9Ideal.main_arg0))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_v [hPre_finite_v : Cert.Pre_finite_v.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_v.fn (F := Ideal) (m ((c.tc : Thread Cert.Reference9Ideal.nD Cert.Reference9Ideal.τ).loc Cert.Reference9Ideal.main_arg0))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel20 [hPre_placed : Cert.Pre_placed.Facts] (m : (ℓ : Loc Cert.Kernel20.nD Cert.Kernel20.τ Cert.Kernel20.sig) → Buf (Elt Bits) ℓ) : Prop :=
  ∀ c : Dev Cert.Kernel20.nD,
    (Cert.Pre_placed.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2))) = (fun _ => 1#1)

def Pre_Kernel20Ideal [hPre_placed : Cert.Pre_placed.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_placed.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_placed [hPre_placed : Cert.Pre_placed.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_placed.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_rms [hKernel4Ideal : Cert.Kernel4Ideal.Facts] [hPre_finite_rms : Cert.Pre_finite_rms.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_rms m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_rms [hReference4Ideal : Cert.Reference4Ideal.Facts] [hPre_finite_rms : Cert.Pre_finite_rms.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_rms m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_finite_pool [hKernel3Ideal : Cert.Kernel3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_pool m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_finite_pool [hReference3Ideal : Cert.Reference3Ideal.Facts] [hPre_finite_pool : Cert.Pre_finite_pool.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_pool m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite_loss [hKernel5Ideal : Cert.Kernel5Ideal.Facts] [hPre_finite_loss : Cert.Pre_finite_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_loss m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite_loss [hReference5Ideal : Cert.Reference5Ideal.Facts] [hPre_finite_loss : Cert.Pre_finite_loss.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_loss m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_finite_v [hKernel9Ideal : Cert.Kernel9Ideal.Facts] [hPre_finite_v : Cert.Pre_finite_v.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_v m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_finite_v [hReference9Ideal : Cert.Reference9Ideal.Facts] [hPre_finite_v : Cert.Pre_finite_v.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_v m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8)
      ∧ r.2.mem ((c.tc : Thread Cert.Kernel18.nD Cert.Kernel18.τ).loc Cert.Kernel18.main_arg9) = m ((c.tc : Thread Cert.Kernel18.nD Cert.Kernel18.τ).loc Cert.Kernel18.main_arg9)
      ∧ r.2.mem ((c.tc : Thread Cert.Kernel18.nD Cert.Kernel18.τ).loc Cert.Kernel18.main_arg10) = m ((c.tc : Thread Cert.Kernel18.nD Cert.Kernel18.τ).loc Cert.Kernel18.main_arg10)
      ∧ r.2.mem ((c.tc : Thread Cert.Kernel18.nD Cert.Kernel18.τ).loc Cert.Kernel18.main_arg11) = m ((c.tc : Thread Cert.Kernel18.nD Cert.Kernel18.τ).loc Cert.Kernel18.main_arg11)
      ∧ r.2.mem ((c.tc : Thread Cert.Kernel18.nD Cert.Kernel18.τ).loc Cert.Kernel18.main_arg12) = m ((c.tc : Thread Cert.Kernel18.nD Cert.Kernel18.τ).loc Cert.Kernel18.main_arg12)
      ∧ r.2.mem ((c.tc : Thread Cert.Kernel18.nD Cert.Kernel18.τ).loc Cert.Kernel18.main_arg13) = m ((c.tc : Thread Cert.Kernel18.nD Cert.Kernel18.τ).loc Cert.Kernel18.main_arg13)
      ∧ r.2.mem ((c.tc : Thread Cert.Kernel18.nD Cert.Kernel18.τ).loc Cert.Kernel18.main_arg14) = m ((c.tc : Thread Cert.Kernel18.nD Cert.Kernel18.τ).loc Cert.Kernel18.main_arg14)
      ∧ r.2.mem ((c.tc : Thread Cert.Kernel18.nD Cert.Kernel18.τ).loc Cert.Kernel18.main_arg15) = m ((c.tc : Thread Cert.Kernel18.nD Cert.Kernel18.τ).loc Cert.Kernel18.main_arg15)
      ∧ r.2.mem ((c.tc : Thread Cert.Kernel18.nD Cert.Kernel18.τ).loc Cert.Kernel18.main_arg16) = m ((c.tc : Thread Cert.Kernel18.nD Cert.Kernel18.τ).loc Cert.Kernel18.main_arg16)
      ∧ r.2.mem ((c.tc : Thread Cert.Kernel18.nD Cert.Kernel18.τ).loc Cert.Kernel18.main_arg17) = m ((c.tc : Thread Cert.Kernel18.nD Cert.Kernel18.τ).loc Cert.Kernel18.main_arg17)
      ∧ r.2.mem ((c.tc : Thread Cert.Kernel18.nD Cert.Kernel18.τ).loc Cert.Kernel18.main_arg18) = m ((c.tc : Thread Cert.Kernel18.nD Cert.Kernel18.τ).loc Cert.Kernel18.main_arg18)
      ∧ r.2.mem ((c.tc : Thread Cert.Kernel18.nD Cert.Kernel18.τ).loc Cert.Kernel18.main_arg19) = m ((c.tc : Thread Cert.Kernel18.nD Cert.Kernel18.τ).loc Cert.Kernel18.main_arg19)
      ∧ r.2.mem ((c.tc : Thread Cert.Kernel18.nD Cert.Kernel18.τ).loc Cert.Kernel18.main_arg20) = m ((c.tc : Thread Cert.Kernel18.nD Cert.Kernel18.τ).loc Cert.Kernel18.main_arg20)
      ∧ r.2.mem ((c.tc : Thread Cert.Kernel18.nD Cert.Kernel18.τ).loc Cert.Kernel18.main_arg21) = m ((c.tc : Thread Cert.Kernel18.nD Cert.Kernel18.τ).loc Cert.Kernel18.main_arg21)
      ∧ r.2.mem ((c.tc : Thread Cert.Kernel18.nD Cert.Kernel18.τ).loc Cert.Kernel18.main_arg22) = m ((c.tc : Thread Cert.Kernel18.nD Cert.Kernel18.τ).loc Cert.Kernel18.main_arg22)
      ∧ r.2.mem ((c.tc : Thread Cert.Kernel18.nD Cert.Kernel18.τ).loc Cert.Kernel18.main_arg23) = m ((c.tc : Thread Cert.Kernel18.nD Cert.Kernel18.τ).loc Cert.Kernel18.main_arg23)
      ∧ r.2.mem ((c.tc : Thread Cert.Kernel18.nD Cert.Kernel18.τ).loc Cert.Kernel18.main_arg24) = m ((c.tc : Thread Cert.Kernel18.nD Cert.Kernel18.τ).loc Cert.Kernel18.main_arg24)
      ∧ r.2.mem ((c.tc : Thread Cert.Kernel18.nD Cert.Kernel18.τ).loc Cert.Kernel18.main_arg25) = m ((c.tc : Thread Cert.Kernel18.nD Cert.Kernel18.τ).loc Cert.Kernel18.main_arg25)
      ∧ r.2.mem ((c.tc : Thread Cert.Kernel18.nD Cert.Kernel18.τ).loc Cert.Kernel18.main_arg26) = m ((c.tc : Thread Cert.Kernel18.nD Cert.Kernel18.τ).loc Cert.Kernel18.main_arg26)
      ∧ r.2.mem ((c.tc : Thread Cert.Kernel18.nD Cert.Kernel18.τ).loc Cert.Kernel18.main_arg27) = m ((c.tc : Thread Cert.Kernel18.nD Cert.Kernel18.τ).loc Cert.Kernel18.main_arg27)
      ∧ r.2.mem ((c.tc : Thread Cert.Kernel18.nD Cert.Kernel18.τ).loc Cert.Kernel18.main_arg28) = m ((c.tc : Thread Cert.Kernel18.nD Cert.Kernel18.τ).loc Cert.Kernel18.main_arg28)
      ∧ r.2.mem ((c.tc : Thread Cert.Kernel18.nD Cert.Kernel18.τ).loc Cert.Kernel18.main_arg29) = m ((c.tc : Thread Cert.Kernel18.nD Cert.Kernel18.τ).loc Cert.Kernel18.main_arg29)
      ∧ r.2.mem ((c.tc : Thread Cert.Kernel18.nD Cert.Kernel18.τ).loc Cert.Kernel18.main_arg30) = m ((c.tc : Thread Cert.Kernel18.nD Cert.Kernel18.τ).loc Cert.Kernel18.main_arg30)
      ∧ r.2.mem ((c.tc : Thread Cert.Kernel18.nD Cert.Kernel18.τ).loc Cert.Kernel18.main_arg31) = m ((c.tc : Thread Cert.Kernel18.nD Cert.Kernel18.τ).loc Cert.Kernel18.main_arg31))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
      ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
      ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
      ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
      ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
      ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
      ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
      ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
      ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
      ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
      ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
      ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
      ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
      ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
      ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
      ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
      ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
      ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
      ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
      ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
      ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
      ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
      ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
      ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8)
      ∧ r.2.mem ((c.tc : Thread Cert.Reference18Ideal.nD Cert.Reference18Ideal.τ).loc Cert.Reference18Ideal.main_arg9) = m ((c.tc : Thread Cert.Reference18Ideal.nD Cert.Reference18Ideal.τ).loc Cert.Reference18Ideal.main_arg9)
      ∧ r.2.mem ((c.tc : Thread Cert.Reference18Ideal.nD Cert.Reference18Ideal.τ).loc Cert.Reference18Ideal.main_arg10) = m ((c.tc : Thread Cert.Reference18Ideal.nD Cert.Reference18Ideal.τ).loc Cert.Reference18Ideal.main_arg10)
      ∧ r.2.mem ((c.tc : Thread Cert.Reference18Ideal.nD Cert.Reference18Ideal.τ).loc Cert.Reference18Ideal.main_arg11) = m ((c.tc : Thread Cert.Reference18Ideal.nD Cert.Reference18Ideal.τ).loc Cert.Reference18Ideal.main_arg11)
      ∧ r.2.mem ((c.tc : Thread Cert.Reference18Ideal.nD Cert.Reference18Ideal.τ).loc Cert.Reference18Ideal.main_arg12) = m ((c.tc : Thread Cert.Reference18Ideal.nD Cert.Reference18Ideal.τ).loc Cert.Reference18Ideal.main_arg12)
      ∧ r.2.mem ((c.tc : Thread Cert.Reference18Ideal.nD Cert.Reference18Ideal.τ).loc Cert.Reference18Ideal.main_arg13) = m ((c.tc : Thread Cert.Reference18Ideal.nD Cert.Reference18Ideal.τ).loc Cert.Reference18Ideal.main_arg13)
      ∧ r.2.mem ((c.tc : Thread Cert.Reference18Ideal.nD Cert.Reference18Ideal.τ).loc Cert.Reference18Ideal.main_arg14) = m ((c.tc : Thread Cert.Reference18Ideal.nD Cert.Reference18Ideal.τ).loc Cert.Reference18Ideal.main_arg14)
      ∧ r.2.mem ((c.tc : Thread Cert.Reference18Ideal.nD Cert.Reference18Ideal.τ).loc Cert.Reference18Ideal.main_arg15) = m ((c.tc : Thread Cert.Reference18Ideal.nD Cert.Reference18Ideal.τ).loc Cert.Reference18Ideal.main_arg15)
      ∧ r.2.mem ((c.tc : Thread Cert.Reference18Ideal.nD Cert.Reference18Ideal.τ).loc Cert.Reference18Ideal.main_arg16) = m ((c.tc : Thread Cert.Reference18Ideal.nD Cert.Reference18Ideal.τ).loc Cert.Reference18Ideal.main_arg16)
      ∧ r.2.mem ((c.tc : Thread Cert.Reference18Ideal.nD Cert.Reference18Ideal.τ).loc Cert.Reference18Ideal.main_arg17) = m ((c.tc : Thread Cert.Reference18Ideal.nD Cert.Reference18Ideal.τ).loc Cert.Reference18Ideal.main_arg17)
      ∧ r.2.mem ((c.tc : Thread Cert.Reference18Ideal.nD Cert.Reference18Ideal.τ).loc Cert.Reference18Ideal.main_arg18) = m ((c.tc : Thread Cert.Reference18Ideal.nD Cert.Reference18Ideal.τ).loc Cert.Reference18Ideal.main_arg18)
      ∧ r.2.mem ((c.tc : Thread Cert.Reference18Ideal.nD Cert.Reference18Ideal.τ).loc Cert.Reference18Ideal.main_arg19) = m ((c.tc : Thread Cert.Reference18Ideal.nD Cert.Reference18Ideal.τ).loc Cert.Reference18Ideal.main_arg19)
      ∧ r.2.mem ((c.tc : Thread Cert.Reference18Ideal.nD Cert.Reference18Ideal.τ).loc Cert.Reference18Ideal.main_arg20) = m ((c.tc : Thread Cert.Reference18Ideal.nD Cert.Reference18Ideal.τ).loc Cert.Reference18Ideal.main_arg20)
      ∧ r.2.mem ((c.tc : Thread Cert.Reference18Ideal.nD Cert.Reference18Ideal.τ).loc Cert.Reference18Ideal.main_arg21) = m ((c.tc : Thread Cert.Reference18Ideal.nD Cert.Reference18Ideal.τ).loc Cert.Reference18Ideal.main_arg21)
      ∧ r.2.mem ((c.tc : Thread Cert.Reference18Ideal.nD Cert.Reference18Ideal.τ).loc Cert.Reference18Ideal.main_arg22) = m ((c.tc : Thread Cert.Reference18Ideal.nD Cert.Reference18Ideal.τ).loc Cert.Reference18Ideal.main_arg22)
      ∧ r.2.mem ((c.tc : Thread Cert.Reference18Ideal.nD Cert.Reference18Ideal.τ).loc Cert.Reference18Ideal.main_arg23) = m ((c.tc : Thread Cert.Reference18Ideal.nD Cert.Reference18Ideal.τ).loc Cert.Reference18Ideal.main_arg23)
      ∧ r.2.mem ((c.tc : Thread Cert.Reference18Ideal.nD Cert.Reference18Ideal.τ).loc Cert.Reference18Ideal.main_arg24) = m ((c.tc : Thread Cert.Reference18Ideal.nD Cert.Reference18Ideal.τ).loc Cert.Reference18Ideal.main_arg24)
      ∧ r.2.mem ((c.tc : Thread Cert.Reference18Ideal.nD Cert.Reference18Ideal.τ).loc Cert.Reference18Ideal.main_arg25) = m ((c.tc : Thread Cert.Reference18Ideal.nD Cert.Reference18Ideal.τ).loc Cert.Reference18Ideal.main_arg25)
      ∧ r.2.mem ((c.tc : Thread Cert.Reference18Ideal.nD Cert.Reference18Ideal.τ).loc Cert.Reference18Ideal.main_arg26) = m ((c.tc : Thread Cert.Reference18Ideal.nD Cert.Reference18Ideal.τ).loc Cert.Reference18Ideal.main_arg26)
      ∧ r.2.mem ((c.tc : Thread Cert.Reference18Ideal.nD Cert.Reference18Ideal.τ).loc Cert.Reference18Ideal.main_arg27) = m ((c.tc : Thread Cert.Reference18Ideal.nD Cert.Reference18Ideal.τ).loc Cert.Reference18Ideal.main_arg27)
      ∧ r.2.mem ((c.tc : Thread Cert.Reference18Ideal.nD Cert.Reference18Ideal.τ).loc Cert.Reference18Ideal.main_arg28) = m ((c.tc : Thread Cert.Reference18Ideal.nD Cert.Reference18Ideal.τ).loc Cert.Reference18Ideal.main_arg28)
      ∧ r.2.mem ((c.tc : Thread Cert.Reference18Ideal.nD Cert.Reference18Ideal.τ).loc Cert.Reference18Ideal.main_arg29) = m ((c.tc : Thread Cert.Reference18Ideal.nD Cert.Reference18Ideal.τ).loc Cert.Reference18Ideal.main_arg29)
      ∧ r.2.mem ((c.tc : Thread Cert.Reference18Ideal.nD Cert.Reference18Ideal.τ).loc Cert.Reference18Ideal.main_arg30) = m ((c.tc : Thread Cert.Reference18Ideal.nD Cert.Reference18Ideal.τ).loc Cert.Reference18Ideal.main_arg30)
      ∧ r.2.mem ((c.tc : Thread Cert.Reference18Ideal.nD Cert.Reference18Ideal.τ).loc Cert.Reference18Ideal.main_arg31) = m ((c.tc : Thread Cert.Reference18Ideal.nD Cert.Reference18Ideal.τ).loc Cert.Reference18Ideal.main_arg31))
      ∧ r.2.sem = fun _ => 0)

def quiescent_Kernel20 [hKernel20 : Cert.Kernel20.Facts] [hPre_placed : Cert.Pre_placed.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] [hPre_placed : Cert.Pre_placed.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_placed [hReference20Ideal : Cert.Reference20Ideal.Facts] [hPre_placed : Cert.Pre_placed.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_placed m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel4_Kernel4Ideal : Prop :=
  True

def algebraic_Kernel4Ideal_Reference4Ideal_pre_finite_rms [hKernel4Ideal : Cert.Kernel4Ideal.Facts] [hReference4Ideal : Cert.Reference4Ideal.Facts] [hPre_finite_rms : Cert.Pre_finite_rms.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_rms m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel2_Kernel2Ideal : Prop :=
  IdealRules.named_const.Statement Cert.Kernel2Ideal.κ "sqrt_half" .f32 0x3F3504F3#32 (((Real.sqrt 2)⁻¹ : ℝ) : EReal)
  ∧ IdealRules.named_const.Statement Cert.Kernel2Ideal.κ "inv_sqrt_2pi" .f32 0x3ECC422A#32 (((Real.sqrt (2 * Real.pi))⁻¹ : ℝ) : EReal)

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)) (v2 : (c : Dev Cert.Kernel2Ideal.nD) → Buf (Elt Ideal) ((c.tc : Thread Cert.Kernel2Ideal.nD Cert.Kernel2Ideal.τ).loc Cert.Kernel2Ideal.main_v3_2)) (v3 : (c : Dev Cert.Kernel2Ideal.nD) → Buf (Elt Ideal) ((c.tc : Thread Cert.Kernel2Ideal.nD Cert.Kernel2Ideal.τ).loc Cert.Kernel2Ideal.main_v3_3)) (v4 : (c : Dev Cert.Kernel2Ideal.nD) → Buf (Elt Ideal) ((c.tc : Thread Cert.Kernel2Ideal.nD Cert.Kernel2Ideal.τ).loc Cert.Kernel2Ideal.main_v3_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_v3_2) = v2 c
          ∧ r.2.mem ((c.tc : Thread Cert.Kernel2Ideal.nD Cert.Kernel2Ideal.τ).loc Cert.Kernel2Ideal.main_v3_3) = v3 c
          ∧ r.2.mem ((c.tc : Thread Cert.Kernel2Ideal.nD Cert.Kernel2Ideal.τ).loc Cert.Kernel2Ideal.main_v3_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v116) = v0 c
          ∧ r.2.mem ((c.tc : Thread Cert.Reference2Ideal.nD Cert.Reference2Ideal.τ).loc Cert.Reference2Ideal.main_v73) = v1 c
          ∧ r.2.mem ((c.tc : Thread Cert.Reference2Ideal.nD Cert.Reference2Ideal.τ).loc Cert.Reference2Ideal.main_v117) = v2 c
          ∧ r.2.mem ((c.tc : Thread Cert.Reference2Ideal.nD Cert.Reference2Ideal.τ).loc Cert.Reference2Ideal.main_v118) = v3 c
          ∧ r.2.mem ((c.tc : Thread Cert.Reference2Ideal.nD Cert.Reference2Ideal.τ).loc Cert.Reference2Ideal.main_v119) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_pool [hKernel3Ideal : Cert.Kernel3Ideal.Facts] [hReference3Ideal : Cert.Reference3Ideal.Facts] [hPre_finite_pool : Cert.Pre_finite_pool.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_pool m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v161) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel5_Kernel5Ideal : Prop :=
  True

def algebraic_Kernel5Ideal_Reference5Ideal_pre_finite_loss [hKernel5Ideal : Cert.Kernel5Ideal.Facts] [hReference5Ideal : Cert.Reference5Ideal.Facts] [hPre_finite_loss : Cert.Pre_finite_loss.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_loss m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v12_0)) (v1 : (c : Dev Cert.Kernel5Ideal.nD) → Buf (Elt Ideal) ((c.tc : Thread Cert.Kernel5Ideal.nD Cert.Kernel5Ideal.τ).loc Cert.Kernel5Ideal.main_v12_1)) (v2 : (c : Dev Cert.Kernel5Ideal.nD) → Buf (Elt Ideal) ((c.tc : Thread Cert.Kernel5Ideal.nD Cert.Kernel5Ideal.τ).loc Cert.Kernel5Ideal.main_v12_2)) (v3 : (c : Dev Cert.Kernel5Ideal.nD) → Buf (Elt Ideal) ((c.tc : Thread Cert.Kernel5Ideal.nD Cert.Kernel5Ideal.τ).loc Cert.Kernel5Ideal.main_v12_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_v12_1) = v1 c
          ∧ r.2.mem ((c.tc : Thread Cert.Kernel5Ideal.nD Cert.Kernel5Ideal.τ).loc Cert.Kernel5Ideal.main_v12_2) = v2 c
          ∧ r.2.mem ((c.tc : Thread Cert.Kernel5Ideal.nD Cert.Kernel5Ideal.τ).loc Cert.Kernel5Ideal.main_v12_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v56) = v2 c
          ∧ r.2.mem ((c.tc : Thread Cert.Reference5Ideal.nD Cert.Reference5Ideal.τ).loc Cert.Reference5Ideal.main_v57) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "sqrt_half" .f32 0x3F3504F3#32 (((Real.sqrt 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal_pre_finite_v [hKernel9Ideal : Cert.Kernel9Ideal.Facts] [hReference9Ideal : Cert.Reference9Ideal.Facts] [hPre_finite_v : Cert.Pre_finite_v.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_v m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v87) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v4) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v9) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v11)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m ((c.tc : Thread Cert.Kernel13Ideal.nD Cert.Kernel13Ideal.τ).loc Cert.Kernel13Ideal.main_arg0) = Layout.block ⟨2, ![1, 128]⟩ ⟨2, ![8, 128]⟩ 0 8 c (m' (((0 : Dev Cert.Reference13Ideal.nD).tc : Thread Cert.Reference13Ideal.nD Cert.Reference13Ideal.τ).loc Cert.Reference13Ideal.main_arg0))) →
    ∃ (v0 : Buf (Elt Ideal) (((0 : Dev Cert.Reference13Ideal.nD).tc : Thread Cert.Reference13Ideal.nD Cert.Reference13Ideal.τ).loc Cert.Reference13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r =>
          r.2.mem (((0 : Dev Cert.Reference13Ideal.nD).tc : Thread Cert.Reference13Ideal.nD Cert.Reference13Ideal.τ).loc Cert.Reference13Ideal.main_v2) = v0
          ∧ r.2.mem (((0 : Dev Cert.Reference13Ideal.nD).tc : Thread Cert.Reference13Ideal.nD Cert.Reference13Ideal.τ).loc Cert.Reference13Ideal.main_arg0) = m' (((0 : Dev Cert.Reference13Ideal.nD).tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v8) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v27)) (v1 : (c : Dev Cert.Kernel17Ideal.nD) → Buf (Elt Ideal) ((c.tc : Thread Cert.Kernel17Ideal.nD Cert.Kernel17Ideal.τ).loc Cert.Kernel17Ideal.main_v30)) (v2 : (c : Dev Cert.Kernel17Ideal.nD) → Buf (Elt Ideal) ((c.tc : Thread Cert.Kernel17Ideal.nD Cert.Kernel17Ideal.τ).loc Cert.Kernel17Ideal.main_v33)) (v3 : (c : Dev Cert.Kernel17Ideal.nD) → Buf (Elt Ideal) ((c.tc : Thread Cert.Kernel17Ideal.nD Cert.Kernel17Ideal.τ).loc Cert.Kernel17Ideal.main_v36)) (v4 : (c : Dev Cert.Kernel17Ideal.nD) → Buf (Elt Ideal) ((c.tc : Thread Cert.Kernel17Ideal.nD Cert.Kernel17Ideal.τ).loc Cert.Kernel17Ideal.main_v39)) (v5 : (c : Dev Cert.Kernel17Ideal.nD) → Buf (Elt Ideal) ((c.tc : Thread Cert.Kernel17Ideal.nD Cert.Kernel17Ideal.τ).loc Cert.Kernel17Ideal.main_v42)) (v6 : (c : Dev Cert.Kernel17Ideal.nD) → Buf (Elt Ideal) ((c.tc : Thread Cert.Kernel17Ideal.nD Cert.Kernel17Ideal.τ).loc Cert.Kernel17Ideal.main_v45)) (v7 : (c : Dev Cert.Kernel17Ideal.nD) → Buf (Elt Ideal) ((c.tc : Thread Cert.Kernel17Ideal.nD Cert.Kernel17Ideal.τ).loc Cert.Kernel17Ideal.main_v47)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v27) = v0 c
          ∧ r.2.mem ((c.tc : Thread Cert.Kernel17Ideal.nD Cert.Kernel17Ideal.τ).loc Cert.Kernel17Ideal.main_v30) = v1 c
          ∧ r.2.mem ((c.tc : Thread Cert.Kernel17Ideal.nD Cert.Kernel17Ideal.τ).loc Cert.Kernel17Ideal.main_v33) = v2 c
          ∧ r.2.mem ((c.tc : Thread Cert.Kernel17Ideal.nD Cert.Kernel17Ideal.τ).loc Cert.Kernel17Ideal.main_v36) = v3 c
          ∧ r.2.mem ((c.tc : Thread Cert.Kernel17Ideal.nD Cert.Kernel17Ideal.τ).loc Cert.Kernel17Ideal.main_v39) = v4 c
          ∧ r.2.mem ((c.tc : Thread Cert.Kernel17Ideal.nD Cert.Kernel17Ideal.τ).loc Cert.Kernel17Ideal.main_v42) = v5 c
          ∧ r.2.mem ((c.tc : Thread Cert.Kernel17Ideal.nD Cert.Kernel17Ideal.τ).loc Cert.Kernel17Ideal.main_v45) = v6 c
          ∧ r.2.mem ((c.tc : Thread Cert.Kernel17Ideal.nD Cert.Kernel17Ideal.τ).loc Cert.Kernel17Ideal.main_v47) = v7 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v1) = v1 c
          ∧ r.2.mem ((c.tc : Thread Cert.Reference17Ideal.nD Cert.Reference17Ideal.τ).loc Cert.Reference17Ideal.main_v2) = v2 c
          ∧ r.2.mem ((c.tc : Thread Cert.Reference17Ideal.nD Cert.Reference17Ideal.τ).loc Cert.Reference17Ideal.main_v3) = v3 c
          ∧ r.2.mem ((c.tc : Thread Cert.Reference17Ideal.nD Cert.Reference17Ideal.τ).loc Cert.Reference17Ideal.main_v4) = v4 c
          ∧ r.2.mem ((c.tc : Thread Cert.Reference17Ideal.nD Cert.Reference17Ideal.τ).loc Cert.Reference17Ideal.main_v5) = v5 c
          ∧ r.2.mem ((c.tc : Thread Cert.Reference17Ideal.nD Cert.Reference17Ideal.τ).loc Cert.Reference17Ideal.main_v6) = v6 c
          ∧ r.2.mem ((c.tc : Thread Cert.Reference17Ideal.nD Cert.Reference17Ideal.τ).loc Cert.Reference17Ideal.main_v7) = v7 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_v42) = v1 c
          ∧ r.2.mem ((c.tc : Thread Cert.Reference19Ideal.nD Cert.Reference19Ideal.τ).loc Cert.Reference19Ideal.main_v47) = v2 c
          ∧ r.2.mem ((c.tc : Thread Cert.Reference19Ideal.nD Cert.Reference19Ideal.τ).loc Cert.Reference19Ideal.main_v52) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)
      ∧ m' ((c.tc : Thread Cert.Reference18Ideal.nD Cert.Reference18Ideal.τ).loc Cert.Reference18Ideal.main_arg9) = m ((c.tc : Thread Cert.Kernel18Ideal.nD Cert.Kernel18Ideal.τ).loc Cert.Kernel18Ideal.main_arg9)
      ∧ m' ((c.tc : Thread Cert.Reference18Ideal.nD Cert.Reference18Ideal.τ).loc Cert.Reference18Ideal.main_arg10) = m ((c.tc : Thread Cert.Kernel18Ideal.nD Cert.Kernel18Ideal.τ).loc Cert.Kernel18Ideal.main_arg10)
      ∧ m' ((c.tc : Thread Cert.Reference18Ideal.nD Cert.Reference18Ideal.τ).loc Cert.Reference18Ideal.main_arg11) = m ((c.tc : Thread Cert.Kernel18Ideal.nD Cert.Kernel18Ideal.τ).loc Cert.Kernel18Ideal.main_arg11)
      ∧ m' ((c.tc : Thread Cert.Reference18Ideal.nD Cert.Reference18Ideal.τ).loc Cert.Reference18Ideal.main_arg12) = m ((c.tc : Thread Cert.Kernel18Ideal.nD Cert.Kernel18Ideal.τ).loc Cert.Kernel18Ideal.main_arg12)
      ∧ m' ((c.tc : Thread Cert.Reference18Ideal.nD Cert.Reference18Ideal.τ).loc Cert.Reference18Ideal.main_arg13) = m ((c.tc : Thread Cert.Kernel18Ideal.nD Cert.Kernel18Ideal.τ).loc Cert.Kernel18Ideal.main_arg13)
      ∧ m' ((c.tc : Thread Cert.Reference18Ideal.nD Cert.Reference18Ideal.τ).loc Cert.Reference18Ideal.main_arg14) = m ((c.tc : Thread Cert.Kernel18Ideal.nD Cert.Kernel18Ideal.τ).loc Cert.Kernel18Ideal.main_arg14)
      ∧ m' ((c.tc : Thread Cert.Reference18Ideal.nD Cert.Reference18Ideal.τ).loc Cert.Reference18Ideal.main_arg15) = m ((c.tc : Thread Cert.Kernel18Ideal.nD Cert.Kernel18Ideal.τ).loc Cert.Kernel18Ideal.main_arg15)
      ∧ m' ((c.tc : Thread Cert.Reference18Ideal.nD Cert.Reference18Ideal.τ).loc Cert.Reference18Ideal.main_arg16) = m ((c.tc : Thread Cert.Kernel18Ideal.nD Cert.Kernel18Ideal.τ).loc Cert.Kernel18Ideal.main_arg16)
      ∧ m' ((c.tc : Thread Cert.Reference18Ideal.nD Cert.Reference18Ideal.τ).loc Cert.Reference18Ideal.main_arg17) = m ((c.tc : Thread Cert.Kernel18Ideal.nD Cert.Kernel18Ideal.τ).loc Cert.Kernel18Ideal.main_arg17)
      ∧ m' ((c.tc : Thread Cert.Reference18Ideal.nD Cert.Reference18Ideal.τ).loc Cert.Reference18Ideal.main_arg18) = m ((c.tc : Thread Cert.Kernel18Ideal.nD Cert.Kernel18Ideal.τ).loc Cert.Kernel18Ideal.main_arg18)
      ∧ m' ((c.tc : Thread Cert.Reference18Ideal.nD Cert.Reference18Ideal.τ).loc Cert.Reference18Ideal.main_arg19) = m ((c.tc : Thread Cert.Kernel18Ideal.nD Cert.Kernel18Ideal.τ).loc Cert.Kernel18Ideal.main_arg19)
      ∧ m' ((c.tc : Thread Cert.Reference18Ideal.nD Cert.Reference18Ideal.τ).loc Cert.Reference18Ideal.main_arg20) = m ((c.tc : Thread Cert.Kernel18Ideal.nD Cert.Kernel18Ideal.τ).loc Cert.Kernel18Ideal.main_arg20)
      ∧ m' ((c.tc : Thread Cert.Reference18Ideal.nD Cert.Reference18Ideal.τ).loc Cert.Reference18Ideal.main_arg21) = m ((c.tc : Thread Cert.Kernel18Ideal.nD Cert.Kernel18Ideal.τ).loc Cert.Kernel18Ideal.main_arg21)
      ∧ m' ((c.tc : Thread Cert.Reference18Ideal.nD Cert.Reference18Ideal.τ).loc Cert.Reference18Ideal.main_arg22) = m ((c.tc : Thread Cert.Kernel18Ideal.nD Cert.Kernel18Ideal.τ).loc Cert.Kernel18Ideal.main_arg22)
      ∧ m' ((c.tc : Thread Cert.Reference18Ideal.nD Cert.Reference18Ideal.τ).loc Cert.Reference18Ideal.main_arg23) = m ((c.tc : Thread Cert.Kernel18Ideal.nD Cert.Kernel18Ideal.τ).loc Cert.Kernel18Ideal.main_arg23)
      ∧ m' ((c.tc : Thread Cert.Reference18Ideal.nD Cert.Reference18Ideal.τ).loc Cert.Reference18Ideal.main_arg24) = m ((c.tc : Thread Cert.Kernel18Ideal.nD Cert.Kernel18Ideal.τ).loc Cert.Kernel18Ideal.main_arg24)
      ∧ m' ((c.tc : Thread Cert.Reference18Ideal.nD Cert.Reference18Ideal.τ).loc Cert.Reference18Ideal.main_arg25) = m ((c.tc : Thread Cert.Kernel18Ideal.nD Cert.Kernel18Ideal.τ).loc Cert.Kernel18Ideal.main_arg25)
      ∧ m' ((c.tc : Thread Cert.Reference18Ideal.nD Cert.Reference18Ideal.τ).loc Cert.Reference18Ideal.main_arg26) = m ((c.tc : Thread Cert.Kernel18Ideal.nD Cert.Kernel18Ideal.τ).loc Cert.Kernel18Ideal.main_arg26)
      ∧ m' ((c.tc : Thread Cert.Reference18Ideal.nD Cert.Reference18Ideal.τ).loc Cert.Reference18Ideal.main_arg27) = m ((c.tc : Thread Cert.Kernel18Ideal.nD Cert.Kernel18Ideal.τ).loc Cert.Kernel18Ideal.main_arg27)
      ∧ m' ((c.tc : Thread Cert.Reference18Ideal.nD Cert.Reference18Ideal.τ).loc Cert.Reference18Ideal.main_arg28) = m ((c.tc : Thread Cert.Kernel18Ideal.nD Cert.Kernel18Ideal.τ).loc Cert.Kernel18Ideal.main_arg28)
      ∧ m' ((c.tc : Thread Cert.Reference18Ideal.nD Cert.Reference18Ideal.τ).loc Cert.Reference18Ideal.main_arg29) = m ((c.tc : Thread Cert.Kernel18Ideal.nD Cert.Kernel18Ideal.τ).loc Cert.Kernel18Ideal.main_arg29)
      ∧ m' ((c.tc : Thread Cert.Reference18Ideal.nD Cert.Reference18Ideal.τ).loc Cert.Reference18Ideal.main_arg30) = m ((c.tc : Thread Cert.Kernel18Ideal.nD Cert.Kernel18Ideal.τ).loc Cert.Kernel18Ideal.main_arg30)
      ∧ m' ((c.tc : Thread Cert.Reference18Ideal.nD Cert.Reference18Ideal.τ).loc Cert.Reference18Ideal.main_arg31) = m ((c.tc : Thread Cert.Kernel18Ideal.nD Cert.Kernel18Ideal.τ).loc Cert.Kernel18Ideal.main_arg31)) →
    ∃ (v0 : (c : Dev Cert.Kernel18Ideal.nD) → Buf (Elt Ideal) ((c.tc : Thread Cert.Kernel18Ideal.nD Cert.Kernel18Ideal.τ).loc Cert.Kernel18Ideal.main_v99)) (v1 : (c : Dev Cert.Kernel18Ideal.nD) → Buf (Elt Ideal) ((c.tc : Thread Cert.Kernel18Ideal.nD Cert.Kernel18Ideal.τ).loc Cert.Kernel18Ideal.main_v102)) (v2 : (c : Dev Cert.Kernel18Ideal.nD) → Buf (Elt Ideal) ((c.tc : Thread Cert.Kernel18Ideal.nD Cert.Kernel18Ideal.τ).loc Cert.Kernel18Ideal.main_v105)) (v3 : (c : Dev Cert.Kernel18Ideal.nD) → Buf (Elt Ideal) ((c.tc : Thread Cert.Kernel18Ideal.nD Cert.Kernel18Ideal.τ).loc Cert.Kernel18Ideal.main_v108)) (v4 : (c : Dev Cert.Kernel18Ideal.nD) → Buf (Elt Ideal) ((c.tc : Thread Cert.Kernel18Ideal.nD Cert.Kernel18Ideal.τ).loc Cert.Kernel18Ideal.main_v112)) (v5 : (c : Dev Cert.Kernel18Ideal.nD) → Buf (Elt Ideal) ((c.tc : Thread Cert.Kernel18Ideal.nD Cert.Kernel18Ideal.τ).loc Cert.Kernel18Ideal.main_v115)) (v6 : (c : Dev Cert.Kernel18Ideal.nD) → Buf (Elt Ideal) ((c.tc : Thread Cert.Kernel18Ideal.nD Cert.Kernel18Ideal.τ).loc Cert.Kernel18Ideal.main_v118)) (v7 : (c : Dev Cert.Kernel18Ideal.nD) → Buf (Elt Ideal) ((c.tc : Thread Cert.Kernel18Ideal.nD Cert.Kernel18Ideal.τ).loc Cert.Kernel18Ideal.main_v120)) (v8 : (c : Dev Cert.Kernel18Ideal.nD) → Buf (Elt Ideal) ((c.tc : Thread Cert.Kernel18Ideal.nD Cert.Kernel18Ideal.τ).loc Cert.Kernel18Ideal.main_v123)) (v9 : (c : Dev Cert.Kernel18Ideal.nD) → Buf (Elt Ideal) ((c.tc : Thread Cert.Kernel18Ideal.nD Cert.Kernel18Ideal.τ).loc Cert.Kernel18Ideal.main_v126)) (v10 : (c : Dev Cert.Kernel18Ideal.nD) → Buf (Elt Ideal) ((c.tc : Thread Cert.Kernel18Ideal.nD Cert.Kernel18Ideal.τ).loc Cert.Kernel18Ideal.main_v129)) (v11 : (c : Dev Cert.Kernel18Ideal.nD) → Buf (Elt Ideal) ((c.tc : Thread Cert.Kernel18Ideal.nD Cert.Kernel18Ideal.τ).loc Cert.Kernel18Ideal.main_v132)) (v12 : (c : Dev Cert.Kernel18Ideal.nD) → Buf (Elt Ideal) ((c.tc : Thread Cert.Kernel18Ideal.nD Cert.Kernel18Ideal.τ).loc Cert.Kernel18Ideal.main_v136)) (v13 : (c : Dev Cert.Kernel18Ideal.nD) → Buf (Elt Ideal) ((c.tc : Thread Cert.Kernel18Ideal.nD Cert.Kernel18Ideal.τ).loc Cert.Kernel18Ideal.main_v139)) (v14 : (c : Dev Cert.Kernel18Ideal.nD) → Buf (Elt Ideal) ((c.tc : Thread Cert.Kernel18Ideal.nD Cert.Kernel18Ideal.τ).loc Cert.Kernel18Ideal.main_v142)) (v15 : (c : Dev Cert.Kernel18Ideal.nD) → Buf (Elt Ideal) ((c.tc : Thread Cert.Kernel18Ideal.nD Cert.Kernel18Ideal.τ).loc Cert.Kernel18Ideal.main_v144)) (v16 : (c : Dev Cert.Kernel18Ideal.nD) → Buf (Elt Ideal) ((c.tc : Thread Cert.Kernel18Ideal.nD Cert.Kernel18Ideal.τ).loc Cert.Kernel18Ideal.main_v147)) (v17 : (c : Dev Cert.Kernel18Ideal.nD) → Buf (Elt Ideal) ((c.tc : Thread Cert.Kernel18Ideal.nD Cert.Kernel18Ideal.τ).loc Cert.Kernel18Ideal.main_v150)) (v18 : (c : Dev Cert.Kernel18Ideal.nD) → Buf (Elt Ideal) ((c.tc : Thread Cert.Kernel18Ideal.nD Cert.Kernel18Ideal.τ).loc Cert.Kernel18Ideal.main_v153)) (v19 : (c : Dev Cert.Kernel18Ideal.nD) → Buf (Elt Ideal) ((c.tc : Thread Cert.Kernel18Ideal.nD Cert.Kernel18Ideal.τ).loc Cert.Kernel18Ideal.main_v156)) (v20 : (c : Dev Cert.Kernel18Ideal.nD) → Buf (Elt Ideal) ((c.tc : Thread Cert.Kernel18Ideal.nD Cert.Kernel18Ideal.τ).loc Cert.Kernel18Ideal.main_v160)) (v21 : (c : Dev Cert.Kernel18Ideal.nD) → Buf (Elt Ideal) ((c.tc : Thread Cert.Kernel18Ideal.nD Cert.Kernel18Ideal.τ).loc Cert.Kernel18Ideal.main_v163)) (v22 : (c : Dev Cert.Kernel18Ideal.nD) → Buf (Elt Ideal) ((c.tc : Thread Cert.Kernel18Ideal.nD Cert.Kernel18Ideal.τ).loc Cert.Kernel18Ideal.main_v166)) (v23 : (c : Dev Cert.Kernel18Ideal.nD) → Buf (Elt Ideal) ((c.tc : Thread Cert.Kernel18Ideal.nD Cert.Kernel18Ideal.τ).loc Cert.Kernel18Ideal.main_v168)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v99) = v0 c
          ∧ r.2.mem ((c.tc : Thread Cert.Kernel18Ideal.nD Cert.Kernel18Ideal.τ).loc Cert.Kernel18Ideal.main_v102) = v1 c
          ∧ r.2.mem ((c.tc : Thread Cert.Kernel18Ideal.nD Cert.Kernel18Ideal.τ).loc Cert.Kernel18Ideal.main_v105) = v2 c
          ∧ r.2.mem ((c.tc : Thread Cert.Kernel18Ideal.nD Cert.Kernel18Ideal.τ).loc Cert.Kernel18Ideal.main_v108) = v3 c
          ∧ r.2.mem ((c.tc : Thread Cert.Kernel18Ideal.nD Cert.Kernel18Ideal.τ).loc Cert.Kernel18Ideal.main_v112) = v4 c
          ∧ r.2.mem ((c.tc : Thread Cert.Kernel18Ideal.nD Cert.Kernel18Ideal.τ).loc Cert.Kernel18Ideal.main_v115) = v5 c
          ∧ r.2.mem ((c.tc : Thread Cert.Kernel18Ideal.nD Cert.Kernel18Ideal.τ).loc Cert.Kernel18Ideal.main_v118) = v6 c
          ∧ r.2.mem ((c.tc : Thread Cert.Kernel18Ideal.nD Cert.Kernel18Ideal.τ).loc Cert.Kernel18Ideal.main_v120) = v7 c
          ∧ r.2.mem ((c.tc : Thread Cert.Kernel18Ideal.nD Cert.Kernel18Ideal.τ).loc Cert.Kernel18Ideal.main_v123) = v8 c
          ∧ r.2.mem ((c.tc : Thread Cert.Kernel18Ideal.nD Cert.Kernel18Ideal.τ).loc Cert.Kernel18Ideal.main_v126) = v9 c
          ∧ r.2.mem ((c.tc : Thread Cert.Kernel18Ideal.nD Cert.Kernel18Ideal.τ).loc Cert.Kernel18Ideal.main_v129) = v10 c
          ∧ r.2.mem ((c.tc : Thread Cert.Kernel18Ideal.nD Cert.Kernel18Ideal.τ).loc Cert.Kernel18Ideal.main_v132) = v11 c
          ∧ r.2.mem ((c.tc : Thread Cert.Kernel18Ideal.nD Cert.Kernel18Ideal.τ).loc Cert.Kernel18Ideal.main_v136) = v12 c
          ∧ r.2.mem ((c.tc : Thread Cert.Kernel18Ideal.nD Cert.Kernel18Ideal.τ).loc Cert.Kernel18Ideal.main_v139) = v13 c
          ∧ r.2.mem ((c.tc : Thread Cert.Kernel18Ideal.nD Cert.Kernel18Ideal.τ).loc Cert.Kernel18Ideal.main_v142) = v14 c
          ∧ r.2.mem ((c.tc : Thread Cert.Kernel18Ideal.nD Cert.Kernel18Ideal.τ).loc Cert.Kernel18Ideal.main_v144) = v15 c
          ∧ r.2.mem ((c.tc : Thread Cert.Kernel18Ideal.nD Cert.Kernel18Ideal.τ).loc Cert.Kernel18Ideal.main_v147) = v16 c
          ∧ r.2.mem ((c.tc : Thread Cert.Kernel18Ideal.nD Cert.Kernel18Ideal.τ).loc Cert.Kernel18Ideal.main_v150) = v17 c
          ∧ r.2.mem ((c.tc : Thread Cert.Kernel18Ideal.nD Cert.Kernel18Ideal.τ).loc Cert.Kernel18Ideal.main_v153) = v18 c
          ∧ r.2.mem ((c.tc : Thread Cert.Kernel18Ideal.nD Cert.Kernel18Ideal.τ).loc Cert.Kernel18Ideal.main_v156) = v19 c
          ∧ r.2.mem ((c.tc : Thread Cert.Kernel18Ideal.nD Cert.Kernel18Ideal.τ).loc Cert.Kernel18Ideal.main_v160) = v20 c
          ∧ r.2.mem ((c.tc : Thread Cert.Kernel18Ideal.nD Cert.Kernel18Ideal.τ).loc Cert.Kernel18Ideal.main_v163) = v21 c
          ∧ r.2.mem ((c.tc : Thread Cert.Kernel18Ideal.nD Cert.Kernel18Ideal.τ).loc Cert.Kernel18Ideal.main_v166) = v22 c
          ∧ r.2.mem ((c.tc : Thread Cert.Kernel18Ideal.nD Cert.Kernel18Ideal.τ).loc Cert.Kernel18Ideal.main_v168) = v23 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8)
          ∧ r.2.mem ((c.tc : Thread Cert.Kernel18Ideal.nD Cert.Kernel18Ideal.τ).loc Cert.Kernel18Ideal.main_arg9) = m ((c.tc : Thread Cert.Kernel18Ideal.nD Cert.Kernel18Ideal.τ).loc Cert.Kernel18Ideal.main_arg9)
          ∧ r.2.mem ((c.tc : Thread Cert.Kernel18Ideal.nD Cert.Kernel18Ideal.τ).loc Cert.Kernel18Ideal.main_arg10) = m ((c.tc : Thread Cert.Kernel18Ideal.nD Cert.Kernel18Ideal.τ).loc Cert.Kernel18Ideal.main_arg10)
          ∧ r.2.mem ((c.tc : Thread Cert.Kernel18Ideal.nD Cert.Kernel18Ideal.τ).loc Cert.Kernel18Ideal.main_arg11) = m ((c.tc : Thread Cert.Kernel18Ideal.nD Cert.Kernel18Ideal.τ).loc Cert.Kernel18Ideal.main_arg11)
          ∧ r.2.mem ((c.tc : Thread Cert.Kernel18Ideal.nD Cert.Kernel18Ideal.τ).loc Cert.Kernel18Ideal.main_arg12) = m ((c.tc : Thread Cert.Kernel18Ideal.nD Cert.Kernel18Ideal.τ).loc Cert.Kernel18Ideal.main_arg12)
          ∧ r.2.mem ((c.tc : Thread Cert.Kernel18Ideal.nD Cert.Kernel18Ideal.τ).loc Cert.Kernel18Ideal.main_arg13) = m ((c.tc : Thread Cert.Kernel18Ideal.nD Cert.Kernel18Ideal.τ).loc Cert.Kernel18Ideal.main_arg13)
          ∧ r.2.mem ((c.tc : Thread Cert.Kernel18Ideal.nD Cert.Kernel18Ideal.τ).loc Cert.Kernel18Ideal.main_arg14) = m ((c.tc : Thread Cert.Kernel18Ideal.nD Cert.Kernel18Ideal.τ).loc Cert.Kernel18Ideal.main_arg14)
          ∧ r.2.mem ((c.tc : Thread Cert.Kernel18Ideal.nD Cert.Kernel18Ideal.τ).loc Cert.Kernel18Ideal.main_arg15) = m ((c.tc : Thread Cert.Kernel18Ideal.nD Cert.Kernel18Ideal.τ).loc Cert.Kernel18Ideal.main_arg15)
          ∧ r.2.mem ((c.tc : Thread Cert.Kernel18Ideal.nD Cert.Kernel18Ideal.τ).loc Cert.Kernel18Ideal.main_arg16) = m ((c.tc : Thread Cert.Kernel18Ideal.nD Cert.Kernel18Ideal.τ).loc Cert.Kernel18Ideal.main_arg16)
          ∧ r.2.mem ((c.tc : Thread Cert.Kernel18Ideal.nD Cert.Kernel18Ideal.τ).loc Cert.Kernel18Ideal.main_arg17) = m ((c.tc : Thread Cert.Kernel18Ideal.nD Cert.Kernel18Ideal.τ).loc Cert.Kernel18Ideal.main_arg17)
          ∧ r.2.mem ((c.tc : Thread Cert.Kernel18Ideal.nD Cert.Kernel18Ideal.τ).loc Cert.Kernel18Ideal.main_arg18) = m ((c.tc : Thread Cert.Kernel18Ideal.nD Cert.Kernel18Ideal.τ).loc Cert.Kernel18Ideal.main_arg18)
          ∧ r.2.mem ((c.tc : Thread Cert.Kernel18Ideal.nD Cert.Kernel18Ideal.τ).loc Cert.Kernel18Ideal.main_arg19) = m ((c.tc : Thread Cert.Kernel18Ideal.nD Cert.Kernel18Ideal.τ).loc Cert.Kernel18Ideal.main_arg19)
          ∧ r.2.mem ((c.tc : Thread Cert.Kernel18Ideal.nD Cert.Kernel18Ideal.τ).loc Cert.Kernel18Ideal.main_arg20) = m ((c.tc : Thread Cert.Kernel18Ideal.nD Cert.Kernel18Ideal.τ).loc Cert.Kernel18Ideal.main_arg20)
          ∧ r.2.mem ((c.tc : Thread Cert.Kernel18Ideal.nD Cert.Kernel18Ideal.τ).loc Cert.Kernel18Ideal.main_arg21) = m ((c.tc : Thread Cert.Kernel18Ideal.nD Cert.Kernel18Ideal.τ).loc Cert.Kernel18Ideal.main_arg21)
          ∧ r.2.mem ((c.tc : Thread Cert.Kernel18Ideal.nD Cert.Kernel18Ideal.τ).loc Cert.Kernel18Ideal.main_arg22) = m ((c.tc : Thread Cert.Kernel18Ideal.nD Cert.Kernel18Ideal.τ).loc Cert.Kernel18Ideal.main_arg22)
          ∧ r.2.mem ((c.tc : Thread Cert.Kernel18Ideal.nD Cert.Kernel18Ideal.τ).loc Cert.Kernel18Ideal.main_arg23) = m ((c.tc : Thread Cert.Kernel18Ideal.nD Cert.Kernel18Ideal.τ).loc Cert.Kernel18Ideal.main_arg23)
          ∧ r.2.mem ((c.tc : Thread Cert.Kernel18Ideal.nD Cert.Kernel18Ideal.τ).loc Cert.Kernel18Ideal.main_arg24) = m ((c.tc : Thread Cert.Kernel18Ideal.nD Cert.Kernel18Ideal.τ).loc Cert.Kernel18Ideal.main_arg24)
          ∧ r.2.mem ((c.tc : Thread Cert.Kernel18Ideal.nD Cert.Kernel18Ideal.τ).loc Cert.Kernel18Ideal.main_arg25) = m ((c.tc : Thread Cert.Kernel18Ideal.nD Cert.Kernel18Ideal.τ).loc Cert.Kernel18Ideal.main_arg25)
          ∧ r.2.mem ((c.tc : Thread Cert.Kernel18Ideal.nD Cert.Kernel18Ideal.τ).loc Cert.Kernel18Ideal.main_arg26) = m ((c.tc : Thread Cert.Kernel18Ideal.nD Cert.Kernel18Ideal.τ).loc Cert.Kernel18Ideal.main_arg26)
          ∧ r.2.mem ((c.tc : Thread Cert.Kernel18Ideal.nD Cert.Kernel18Ideal.τ).loc Cert.Kernel18Ideal.main_arg27) = m ((c.tc : Thread Cert.Kernel18Ideal.nD Cert.Kernel18Ideal.τ).loc Cert.Kernel18Ideal.main_arg27)
          ∧ r.2.mem ((c.tc : Thread Cert.Kernel18Ideal.nD Cert.Kernel18Ideal.τ).loc Cert.Kernel18Ideal.main_arg28) = m ((c.tc : Thread Cert.Kernel18Ideal.nD Cert.Kernel18Ideal.τ).loc Cert.Kernel18Ideal.main_arg28)
          ∧ r.2.mem ((c.tc : Thread Cert.Kernel18Ideal.nD Cert.Kernel18Ideal.τ).loc Cert.Kernel18Ideal.main_arg29) = m ((c.tc : Thread Cert.Kernel18Ideal.nD Cert.Kernel18Ideal.τ).loc Cert.Kernel18Ideal.main_arg29)
          ∧ r.2.mem ((c.tc : Thread Cert.Kernel18Ideal.nD Cert.Kernel18Ideal.τ).loc Cert.Kernel18Ideal.main_arg30) = m ((c.tc : Thread Cert.Kernel18Ideal.nD Cert.Kernel18Ideal.τ).loc Cert.Kernel18Ideal.main_arg30)
          ∧ r.2.mem ((c.tc : Thread Cert.Kernel18Ideal.nD Cert.Kernel18Ideal.τ).loc Cert.Kernel18Ideal.main_arg31) = m ((c.tc : Thread Cert.Kernel18Ideal.nD Cert.Kernel18Ideal.τ).loc Cert.Kernel18Ideal.main_arg31))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v47) = v1 c
          ∧ r.2.mem ((c.tc : Thread Cert.Reference18Ideal.nD Cert.Reference18Ideal.τ).loc Cert.Reference18Ideal.main_v71) = v2 c
          ∧ r.2.mem ((c.tc : Thread Cert.Reference18Ideal.nD Cert.Reference18Ideal.τ).loc Cert.Reference18Ideal.main_v95) = v3 c
          ∧ r.2.mem ((c.tc : Thread Cert.Reference18Ideal.nD Cert.Reference18Ideal.τ).loc Cert.Reference18Ideal.main_v119) = v4 c
          ∧ r.2.mem ((c.tc : Thread Cert.Reference18Ideal.nD Cert.Reference18Ideal.τ).loc Cert.Reference18Ideal.main_v143) = v5 c
          ∧ r.2.mem ((c.tc : Thread Cert.Reference18Ideal.nD Cert.Reference18Ideal.τ).loc Cert.Reference18Ideal.main_v167) = v6 c
          ∧ r.2.mem ((c.tc : Thread Cert.Reference18Ideal.nD Cert.Reference18Ideal.τ).loc Cert.Reference18Ideal.main_v191) = v7 c
          ∧ r.2.mem ((c.tc : Thread Cert.Reference18Ideal.nD Cert.Reference18Ideal.τ).loc Cert.Reference18Ideal.main_v4) = v8 c
          ∧ r.2.mem ((c.tc : Thread Cert.Reference18Ideal.nD Cert.Reference18Ideal.τ).loc Cert.Reference18Ideal.main_v28) = v9 c
          ∧ r.2.mem ((c.tc : Thread Cert.Reference18Ideal.nD Cert.Reference18Ideal.τ).loc Cert.Reference18Ideal.main_v52) = v10 c
          ∧ r.2.mem ((c.tc : Thread Cert.Reference18Ideal.nD Cert.Reference18Ideal.τ).loc Cert.Reference18Ideal.main_v76) = v11 c
          ∧ r.2.mem ((c.tc : Thread Cert.Reference18Ideal.nD Cert.Reference18Ideal.τ).loc Cert.Reference18Ideal.main_v100) = v12 c
          ∧ r.2.mem ((c.tc : Thread Cert.Reference18Ideal.nD Cert.Reference18Ideal.τ).loc Cert.Reference18Ideal.main_v124) = v13 c
          ∧ r.2.mem ((c.tc : Thread Cert.Reference18Ideal.nD Cert.Reference18Ideal.τ).loc Cert.Reference18Ideal.main_v148) = v14 c
          ∧ r.2.mem ((c.tc : Thread Cert.Reference18Ideal.nD Cert.Reference18Ideal.τ).loc Cert.Reference18Ideal.main_v172) = v15 c
          ∧ r.2.mem ((c.tc : Thread Cert.Reference18Ideal.nD Cert.Reference18Ideal.τ).loc Cert.Reference18Ideal.main_v10) = v16 c
          ∧ r.2.mem ((c.tc : Thread Cert.Reference18Ideal.nD Cert.Reference18Ideal.τ).loc Cert.Reference18Ideal.main_v34) = v17 c
          ∧ r.2.mem ((c.tc : Thread Cert.Reference18Ideal.nD Cert.Reference18Ideal.τ).loc Cert.Reference18Ideal.main_v58) = v18 c
          ∧ r.2.mem ((c.tc : Thread Cert.Reference18Ideal.nD Cert.Reference18Ideal.τ).loc Cert.Reference18Ideal.main_v82) = v19 c
          ∧ r.2.mem ((c.tc : Thread Cert.Reference18Ideal.nD Cert.Reference18Ideal.τ).loc Cert.Reference18Ideal.main_v106) = v20 c
          ∧ r.2.mem ((c.tc : Thread Cert.Reference18Ideal.nD Cert.Reference18Ideal.τ).loc Cert.Reference18Ideal.main_v130) = v21 c
          ∧ r.2.mem ((c.tc : Thread Cert.Reference18Ideal.nD Cert.Reference18Ideal.τ).loc Cert.Reference18Ideal.main_v154) = v22 c
          ∧ r.2.mem ((c.tc : Thread Cert.Reference18Ideal.nD Cert.Reference18Ideal.τ).loc Cert.Reference18Ideal.main_v178) = v23 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8)
          ∧ r.2.mem ((c.tc : Thread Cert.Reference18Ideal.nD Cert.Reference18Ideal.τ).loc Cert.Reference18Ideal.main_arg9) = m' ((c.tc : Thread Cert.Reference18Ideal.nD Cert.Reference18Ideal.τ).loc Cert.Reference18Ideal.main_arg9)
          ∧ r.2.mem ((c.tc : Thread Cert.Reference18Ideal.nD Cert.Reference18Ideal.τ).loc Cert.Reference18Ideal.main_arg10) = m' ((c.tc : Thread Cert.Reference18Ideal.nD Cert.Reference18Ideal.τ).loc Cert.Reference18Ideal.main_arg10)
          ∧ r.2.mem ((c.tc : Thread Cert.Reference18Ideal.nD Cert.Reference18Ideal.τ).loc Cert.Reference18Ideal.main_arg11) = m' ((c.tc : Thread Cert.Reference18Ideal.nD Cert.Reference18Ideal.τ).loc Cert.Reference18Ideal.main_arg11)
          ∧ r.2.mem ((c.tc : Thread Cert.Reference18Ideal.nD Cert.Reference18Ideal.τ).loc Cert.Reference18Ideal.main_arg12) = m' ((c.tc : Thread Cert.Reference18Ideal.nD Cert.Reference18Ideal.τ).loc Cert.Reference18Ideal.main_arg12)
          ∧ r.2.mem ((c.tc : Thread Cert.Reference18Ideal.nD Cert.Reference18Ideal.τ).loc Cert.Reference18Ideal.main_arg13) = m' ((c.tc : Thread Cert.Reference18Ideal.nD Cert.Reference18Ideal.τ).loc Cert.Reference18Ideal.main_arg13)
          ∧ r.2.mem ((c.tc : Thread Cert.Reference18Ideal.nD Cert.Reference18Ideal.τ).loc Cert.Reference18Ideal.main_arg14) = m' ((c.tc : Thread Cert.Reference18Ideal.nD Cert.Reference18Ideal.τ).loc Cert.Reference18Ideal.main_arg14)
          ∧ r.2.mem ((c.tc : Thread Cert.Reference18Ideal.nD Cert.Reference18Ideal.τ).loc Cert.Reference18Ideal.main_arg15) = m' ((c.tc : Thread Cert.Reference18Ideal.nD Cert.Reference18Ideal.τ).loc Cert.Reference18Ideal.main_arg15)
          ∧ r.2.mem ((c.tc : Thread Cert.Reference18Ideal.nD Cert.Reference18Ideal.τ).loc Cert.Reference18Ideal.main_arg16) = m' ((c.tc : Thread Cert.Reference18Ideal.nD Cert.Reference18Ideal.τ).loc Cert.Reference18Ideal.main_arg16)
          ∧ r.2.mem ((c.tc : Thread Cert.Reference18Ideal.nD Cert.Reference18Ideal.τ).loc Cert.Reference18Ideal.main_arg17) = m' ((c.tc : Thread Cert.Reference18Ideal.nD Cert.Reference18Ideal.τ).loc Cert.Reference18Ideal.main_arg17)
          ∧ r.2.mem ((c.tc : Thread Cert.Reference18Ideal.nD Cert.Reference18Ideal.τ).loc Cert.Reference18Ideal.main_arg18) = m' ((c.tc : Thread Cert.Reference18Ideal.nD Cert.Reference18Ideal.τ).loc Cert.Reference18Ideal.main_arg18)
          ∧ r.2.mem ((c.tc : Thread Cert.Reference18Ideal.nD Cert.Reference18Ideal.τ).loc Cert.Reference18Ideal.main_arg19) = m' ((c.tc : Thread Cert.Reference18Ideal.nD Cert.Reference18Ideal.τ).loc Cert.Reference18Ideal.main_arg19)
          ∧ r.2.mem ((c.tc : Thread Cert.Reference18Ideal.nD Cert.Reference18Ideal.τ).loc Cert.Reference18Ideal.main_arg20) = m' ((c.tc : Thread Cert.Reference18Ideal.nD Cert.Reference18Ideal.τ).loc Cert.Reference18Ideal.main_arg20)
          ∧ r.2.mem ((c.tc : Thread Cert.Reference18Ideal.nD Cert.Reference18Ideal.τ).loc Cert.Reference18Ideal.main_arg21) = m' ((c.tc : Thread Cert.Reference18Ideal.nD Cert.Reference18Ideal.τ).loc Cert.Reference18Ideal.main_arg21)
          ∧ r.2.mem ((c.tc : Thread Cert.Reference18Ideal.nD Cert.Reference18Ideal.τ).loc Cert.Reference18Ideal.main_arg22) = m' ((c.tc : Thread Cert.Reference18Ideal.nD Cert.Reference18Ideal.τ).loc Cert.Reference18Ideal.main_arg22)
          ∧ r.2.mem ((c.tc : Thread Cert.Reference18Ideal.nD Cert.Reference18Ideal.τ).loc Cert.Reference18Ideal.main_arg23) = m' ((c.tc : Thread Cert.Reference18Ideal.nD Cert.Reference18Ideal.τ).loc Cert.Reference18Ideal.main_arg23)
          ∧ r.2.mem ((c.tc : Thread Cert.Reference18Ideal.nD Cert.Reference18Ideal.τ).loc Cert.Reference18Ideal.main_arg24) = m' ((c.tc : Thread Cert.Reference18Ideal.nD Cert.Reference18Ideal.τ).loc Cert.Reference18Ideal.main_arg24)
          ∧ r.2.mem ((c.tc : Thread Cert.Reference18Ideal.nD Cert.Reference18Ideal.τ).loc Cert.Reference18Ideal.main_arg25) = m' ((c.tc : Thread Cert.Reference18Ideal.nD Cert.Reference18Ideal.τ).loc Cert.Reference18Ideal.main_arg25)
          ∧ r.2.mem ((c.tc : Thread Cert.Reference18Ideal.nD Cert.Reference18Ideal.τ).loc Cert.Reference18Ideal.main_arg26) = m' ((c.tc : Thread Cert.Reference18Ideal.nD Cert.Reference18Ideal.τ).loc Cert.Reference18Ideal.main_arg26)
          ∧ r.2.mem ((c.tc : Thread Cert.Reference18Ideal.nD Cert.Reference18Ideal.τ).loc Cert.Reference18Ideal.main_arg27) = m' ((c.tc : Thread Cert.Reference18Ideal.nD Cert.Reference18Ideal.τ).loc Cert.Reference18Ideal.main_arg27)
          ∧ r.2.mem ((c.tc : Thread Cert.Reference18Ideal.nD Cert.Reference18Ideal.τ).loc Cert.Reference18Ideal.main_arg28) = m' ((c.tc : Thread Cert.Reference18Ideal.nD Cert.Reference18Ideal.τ).loc Cert.Reference18Ideal.main_arg28)
          ∧ r.2.mem ((c.tc : Thread Cert.Reference18Ideal.nD Cert.Reference18Ideal.τ).loc Cert.Reference18Ideal.main_arg29) = m' ((c.tc : Thread Cert.Reference18Ideal.nD Cert.Reference18Ideal.τ).loc Cert.Reference18Ideal.main_arg29)
          ∧ r.2.mem ((c.tc : Thread Cert.Reference18Ideal.nD Cert.Reference18Ideal.τ).loc Cert.Reference18Ideal.main_arg30) = m' ((c.tc : Thread Cert.Reference18Ideal.nD Cert.Reference18Ideal.τ).loc Cert.Reference18Ideal.main_arg30)
          ∧ r.2.mem ((c.tc : Thread Cert.Reference18Ideal.nD Cert.Reference18Ideal.τ).loc Cert.Reference18Ideal.main_arg31) = m' ((c.tc : Thread Cert.Reference18Ideal.nD Cert.Reference18Ideal.τ).loc Cert.Reference18Ideal.main_arg31))

def preserves_Kernel20_Kernel20Ideal : Prop :=
  True

def algebraic_Kernel20Ideal_Reference20Ideal [hKernel20Ideal : Cert.Kernel20Ideal.Facts] [hReference20Ideal : Cert.Reference20Ideal.Facts] [hPre_placed : Cert.Pre_placed.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v6)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v6) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_v12) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel18 : Cert.Kernel18.Facts) (hKernel18Ideal : Cert.Kernel18Ideal.Facts) (hReference18Ideal : Cert.Reference18Ideal.Facts) (hKernel20 : Cert.Kernel20.Facts) (hKernel20Ideal : Cert.Kernel20Ideal.Facts) (hReference20Ideal : Cert.Reference20Ideal.Facts) (hPre_finite_rms : Cert.Pre_finite_rms.Facts) (hPre_finite_gate : Cert.Pre_finite_gate.Facts) (hPre_finite_pool : Cert.Pre_finite_pool.Facts) (hPre_finite_loss : Cert.Pre_finite_loss.Facts) (hPre_finite_v : Cert.Pre_finite_v.Facts) (hPre_placed : Cert.Pre_placed.Facts),
    quiescent_Kernel (hKernel := hKernel)
    ∧ quiescent_KernelIdeal (hKernelIdeal := hKernelIdeal)
    ∧ quiescent_ReferenceIdeal (hReferenceIdeal := hReferenceIdeal)
    ∧ quiescent_Kernel4 (hKernel4 := hKernel4)
    ∧ quiescent_Kernel4Ideal (hKernel4Ideal := hKernel4Ideal)
    ∧ quiescent_Kernel4Ideal_pre_finite_rms (hKernel4Ideal := hKernel4Ideal) (hPre_finite_rms := hPre_finite_rms)
    ∧ quiescent_Reference4Ideal (hReference4Ideal := hReference4Ideal)
    ∧ quiescent_Reference4Ideal_pre_finite_rms (hReference4Ideal := hReference4Ideal) (hPre_finite_rms := hPre_finite_rms)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Kernel3Ideal_pre_finite_pool (hKernel3Ideal := hKernel3Ideal) (hPre_finite_pool := hPre_finite_pool)
    ∧ quiescent_Reference3Ideal (hReference3Ideal := hReference3Ideal)
    ∧ quiescent_Reference3Ideal_pre_finite_pool (hReference3Ideal := hReference3Ideal) (hPre_finite_pool := hPre_finite_pool)
    ∧ quiescent_Kernel5 (hKernel5 := hKernel5)
    ∧ quiescent_Kernel5Ideal (hKernel5Ideal := hKernel5Ideal)
    ∧ quiescent_Kernel5Ideal_pre_finite_loss (hKernel5Ideal := hKernel5Ideal) (hPre_finite_loss := hPre_finite_loss)
    ∧ quiescent_Reference5Ideal (hReference5Ideal := hReference5Ideal)
    ∧ quiescent_Reference5Ideal_pre_finite_loss (hReference5Ideal := hReference5Ideal) (hPre_finite_loss := hPre_finite_loss)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_v (hKernel9Ideal := hKernel9Ideal) (hPre_finite_v := hPre_finite_v)
    ∧ quiescent_Reference9Ideal (hReference9Ideal := hReference9Ideal)
    ∧ quiescent_Reference9Ideal_pre_finite_v (hReference9Ideal := hReference9Ideal) (hPre_finite_v := hPre_finite_v)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel20 (hKernel20 := hKernel20) (hPre_placed := hPre_placed)
    ∧ quiescent_Kernel20Ideal (hKernel20Ideal := hKernel20Ideal) (hPre_placed := hPre_placed)
    ∧ quiescent_Reference20Ideal (hReference20Ideal := hReference20Ideal)
    ∧ quiescent_Reference20Ideal_pre_placed (hReference20Ideal := hReference20Ideal) (hPre_placed := hPre_placed)
    ∧ preserves_Kernel_KernelIdeal
    ∧ algebraic_KernelIdeal_ReferenceIdeal (hKernelIdeal := hKernelIdeal) (hReferenceIdeal := hReferenceIdeal)
    ∧ preserves_Kernel4_Kernel4Ideal
    ∧ algebraic_Kernel4Ideal_Reference4Ideal_pre_finite_rms (hKernel4Ideal := hKernel4Ideal) (hReference4Ideal := hReference4Ideal) (hPre_finite_rms := hPre_finite_rms)
    ∧ preserves_Kernel6_Kernel6Ideal
    ∧ algebraic_Kernel6Ideal_Reference6Ideal (hKernel6Ideal := hKernel6Ideal) (hReference6Ideal := hReference6Ideal)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal_pre_finite_pool (hKernel3Ideal := hKernel3Ideal) (hReference3Ideal := hReference3Ideal) (hPre_finite_pool := hPre_finite_pool)
    ∧ preserves_Kernel5_Kernel5Ideal
    ∧ algebraic_Kernel5Ideal_Reference5Ideal_pre_finite_loss (hKernel5Ideal := hKernel5Ideal) (hReference5Ideal := hReference5Ideal) (hPre_finite_loss := hPre_finite_loss)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_v (hKernel9Ideal := hKernel9Ideal) (hReference9Ideal := hReference9Ideal) (hPre_finite_v := hPre_finite_v)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel19_Kernel19Ideal
    ∧ algebraic_Kernel19Ideal_Reference19Ideal (hKernel19Ideal := hKernel19Ideal) (hReference19Ideal := hReference19Ideal)
    ∧ preserves_Kernel18_Kernel18Ideal
    ∧ algebraic_Kernel18Ideal_Reference18Ideal (hKernel18Ideal := hKernel18Ideal) (hReference18Ideal := hReference18Ideal)
    ∧ preserves_Kernel20_Kernel20Ideal
    ∧ algebraic_Kernel20Ideal_Reference20Ideal (hKernel20Ideal := hKernel20Ideal) (hReference20Ideal := hReference20Ideal) (hPre_placed := hPre_placed)
-- ==== Pre_finite_gate.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x4096 : S_.BroadcastsInDim S2048x4096 (![] : Fin 0 → Fin S2048x4096.rank)
  bcast_S_S2048x2048 : S_.BroadcastsInDim S2048x2048 (![] : Fin 0 → Fin S2048x2048.rank)
  bcast_S_S1x2048 : S_.BroadcastsInDim S1x2048 (![] : Fin 0 → Fin S1x2048.rank)
  bcast_S_S1x8x128x128 : S_.BroadcastsInDim S1x8x128x128 (![] : Fin 0 → Fin S1x8x128x128.rank)
  bcast_S_S1x8x128 : S_.BroadcastsInDim S1x8x128 (![] : Fin 0 → Fin S1x8x128.rank)

variable [Facts]

def fn {F : FTy → Type} [FloatOps F] (main_arg0 : FVec F S2048x4096 .f32) (main_arg1 : FVec F S2048x2048 .f32) (main_arg2 : FVec F S1x2048 .f32) (main_arg3 : FVec F S1x2048 .f32) (main_arg4 : FVec F S1x8x128x128 .f32) (main_arg5 : FVec F S1x8x128 .f32) : IVec S2048x4096 1 × IVec S2048x2048 1 × IVec S1x2048 1 × IVec S1x2048 1 × IVec S1x8x128x128 1 × IVec S1x8x128 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S1x8x128x128 .f32 := Host.absf main_arg4
  let main_cst_3 : FVec F S_ .f32 := constant S_ .f32 0x7F800000#32
  let main_v13 : FVec F S1x8x128x128 .f32 := broadcastInDim S1x8x128x128 ![] bcast_S_S1x8x128x128 main_cst_3
  let main_v14 : IVec S1x8x128x128 1 := cmpf .olt main_v12 main_v13
  let main_v15 : FVec F S1x8x128 .f32 := Host.absf main_arg5
  let main_cst_4 : FVec F S_ .f32 := constant S_ .f32 0x7F800000#32
  let main_v16 : FVec F S1x8x128 .f32 := broadcastInDim S1x8x128 ![] bcast_S_S1x8x128 main_cst_4
  let main_v17 : IVec S1x8x128 1 := cmpf .olt main_v15 main_v16
  (main_v2, main_v5, main_v8, main_v11, main_v14, main_v17)
-- ==== Pre_finite_loss.lean ====
abbrev S2048x2048 : Shape := ⟨2, ![2048, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  bitsLt_bf16_f32 : FTy.bits .bf16 < FTy.bits .f32
  bcast_S_S2048x8192 : S_.BroadcastsInDim S2048x8192 (![] : Fin 0 → Fin S2048x8192.rank)
  bcast_S_S8192x2048 : S_.BroadcastsInDim S8192x2048 (![] : Fin 0 → Fin S8192x2048.rank)
  bcast_S_S2048 : S_.BroadcastsInDim S2048 (![] : Fin 0 → Fin S2048.rank)

variable [Facts]

def fn {F : FTy → Type} [FloatOps F] (main_arg0 : FVec F S2048x2048 .f32) (main_arg1 : FVec F S2048x8192 .bf16) (main_arg2 : FVec F S8192x2048 .bf16) (main_arg3 : FVec F S2048 .f32) (main_arg4 : FVec F S2048x2048 .f32) : IVec S2048x2048 1 × IVec S2048x8192 1 × IVec S8192x2048 1 × IVec S2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x8192 .f32 := (extf .f32 · bitsLt_bf16_f32) main_arg1
  let main_v4 : FVec F S2048x8192 .f32 := Host.absf main_v3
  let main_cst_0 : FVec F S_ .f32 := constant S_ .f32 0x7F800000#32
  let main_v5 : FVec F S2048x8192 .f32 := broadcastInDim S2048x8192 ![] bcast_S_S2048x8192 main_cst_0
  let main_v6 : IVec S2048x8192 1 := cmpf .olt main_v4 main_v5
  let main_v7 : FVec F S8192x2048 .f32 := (extf .f32 · bitsLt_bf16_f32) main_arg2
  let main_v8 : FVec F S8192x2048 .f32 := Host.absf main_v7
  let main_cst_1 : FVec F S_ .f32 := constant S_ .f32 0x7F800000#32
  let main_v9 : FVec F S8192x2048 .f32 := broadcastInDim S8192x2048 ![] bcast_S_S8192x2048 main_cst_1
  let main_v10 : IVec S8192x2048 1 := cmpf .olt main_v8 main_v9
  let main_v11 : FVec F S2048 .f32 := Host.absf main_arg3
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_v14 : FVec F S2048x2048 .f32 := Host.absf main_arg4
  let main_cst_3 : FVec F S_ .f32 := constant S_ .f32 0x7F800000#32
  let main_v15 : FVec F S2048x2048 .f32 := broadcastInDim S2048x2048 ![] bcast_S_S2048x2048 main_cst_3
  let main_v16 : IVec S2048x2048 1 := cmpf .olt main_v14 main_v15
  (main_v2, main_v6, main_v10, main_v13, main_v16)
-- ==== Pre_finite_pool.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_finite_rms.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S1x2048 .f32) (main_arg2 : FVec F S2048x2048 .f32) (main_arg3 : FVec F S2048x2048 .f32) : IVec S2048x2048 1 × IVec S1x2048 1 × IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg1
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S2048x2048 .f32 := Host.absf main_arg2
  let main_cst_1 : FVec F S_ .f32 := constant S_ .f32 0x7F800000#32
  let main_v7 : FVec F S2048x2048 .f32 := broadcastInDim S2048x2048 ![] bcast_S_S2048x2048 main_cst_1
  let main_v8 : IVec S2048x2048 1 := cmpf .olt main_v6 main_v7
  (main_v2, main_v5, main_v8)
-- ==== Pre_finite_v.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)

variable [Facts]

def fn {F : FTy → Type} [FloatOps F] (main_arg0 : FVec F S2048x2048 .f32) : IVec S2048x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  main_v2
-- ==== Pre_placed.lean ====
abbrev S2 : Shape := ⟨1, ![2]⟩
abbrev S4x1x2048x2048 : Shape := ⟨4, ![4, 1, 2048, 2048]⟩
abbrev S4x1x1024x2048 : Shape := ⟨4, ![4, 1, 1024, 2048]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4x1x2048x2048 .bf16) (main_arg2 : FVec F S4x1x1024x2048 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Kernel.lean ====
abbrev S2048x2048 : Shape := ⟨2, ![2048, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 53
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S1x2048, .f32⟩
  | .hbm, ⟨52, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel6.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S4x1x2048x2048 : Shape := ⟨4, ![4, 1, 2048, 2048]⟩
abbrev S1x1x512x2048 : Shape := ⟨4, ![1, 1, 512, 2048]⟩
abbrev S2048x512 : Shape := ⟨2, ![2048, 512]⟩
abbrev S512x2048 : Shape := ⟨2, ![512, 2048]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S4x1x2048x2048, .bf16⟩
  | .hbm, ⟨8, _⟩ => ⟨S2048x8192, .bf16⟩
  | .local _ .vmem, ⟨0, _⟩ => ⟨S2048x2048, .bf16⟩
  | .local _ .vmem, ⟨1, _⟩ => ⟨S1x1x512x2048, .bf16⟩
  | .local _ .vmem, ⟨2, _⟩ => ⟨S1x1x512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 16, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference6Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S8192x2048, .f32⟩
  | .hbm, ⟨13, _⟩ => ⟨S2048x2048, .f32⟩
  | .hbm, ⟨14, _⟩ => ⟨S2048x2048, .f32⟩
  | .hbm, ⟨15, _⟩ => ⟨S2048x8192, .f32⟩
  | .hbm, ⟨16, _⟩ => ⟨S2048x8192, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Kernel2.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩
abbrev S2048 : Shape := ⟨1, ![2048]⟩

abbrev nBuf : Space → Nat
  | .hbm => 14
  | .vmem => 16
  | .smem => 0
  | _ => 0

abbrev bufTy : (tb : Table) → Fin (tcTables nBuf tb) → BufTy
  | .hbm, ⟨0, _⟩ => ⟨S2048x4096, .f32⟩
  | .hbm, ⟨1, _⟩ => ⟨S2048x2048, .f32⟩
  | .hbm, ⟨2, _⟩ => ⟨S1x2048, .f32⟩
  | .hbm, ⟨3, _⟩ => ⟨S1x2048, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S128x8, .f32⟩
  | .hbm, ⟨9, _⟩ => ⟨S2048x4096, .bf16⟩
  | .hbm, ⟨10, _⟩ => ⟨S8x128x128, .f32⟩
  | .hbm, ⟨11, _⟩ => ⟨S128x8, .f32⟩
  | .hbm, ⟨12, _⟩ => ⟨S1x2048, .f32⟩
  | .hbm, ⟨13, _⟩ => ⟨S1x2048, .f32⟩
  | .local _ .vmem, ⟨0, _⟩ => ⟨S128x4096, .f32⟩
  | .local _ .vmem, ⟨1, _⟩ => ⟨S128x4096, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S128x4096, .bf16⟩
  | .local _ .vmem, ⟨9, _⟩ => ⟨S128x4096, .bf16⟩
  | .local _ .vmem, ⟨10, _⟩ => ⟨S8x128x128, .f32⟩
  | .local _ .vmem, ⟨11, _⟩ => ⟨S128x8, .f32⟩
  | .local _ .vmem, ⟨12, _⟩ => ⟨S1x2048, .f32⟩
  | .local _ .vmem, ⟨13, _⟩ => ⟨S1x2048, .f32⟩
  | .local _ .vmem, ⟨14, _⟩ => ⟨S128x2048, .f32⟩
  | .local _ .vmem, ⟨15, _⟩ => ⟨S128x2048, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Kernel2Ideal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== Reference2Ideal.lean ====
abbrev S2048x4096 : Shape := ⟨2, ![2048, 4096]⟩
abbrev S2048x2048 : Shape := ⟨2, ![2048, 2048]⟩
abbrev S1x2048 : Shape := ⟨2, ![1, 2048]⟩
abbrev S1x8x128x128 : Shape := ⟨4, ![1, 8, 128, 128]⟩
abbrev S1x8x128 : Shape := ⟨3, ![1, 8, 128]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S2048x1 : Shape := ⟨2, ![2048, 1]⟩
abbrev S16x128x8x256 : Shape := ⟨4, ![16, 128, 8, 256]⟩
abbrev S128x128 : Shape := ⟨2, ![128, 128]⟩
abbrev S1x128x128 : Shape := ⟨3, ![1, 128, 128]⟩
abbrev S8x16x256x128 : Shape := ⟨4, ![8, 16, 256, 128]⟩
abbrev S128x8 : Shape := ⟨2, ![128, 8]⟩
abbrev S1x128x8x1 : Shape := ⟨4, ![1, 128, 8, 1]⟩

abbrev nBuf : Space → Nat
  | .hbm => 159
  | .vmem => 0
  | .smem => 0
  | _ => 0

abbrev hbmTy0_0 (i : Nat) : BufTy := match i % 128 with
  | 0 => ⟨S2048x4096, .f32⟩
  | 1 => ⟨S2048x2048, .f32⟩
  | 2 => ⟨S1x2048, .f32⟩
  | 3 => ⟨S1x2048, .f32⟩
  | 4 => ⟨S1x8x128x128, .f32⟩
  | 5 => ⟨S1x8x128, .f32⟩
  | 6 => ⟨S2048, .f32⟩
  | 7 => ⟨S2048, .f32⟩
  | 8 => ⟨S8x128x128, .f32⟩
  | 9 => ⟨S8x128, .f32⟩
  | 10 => ⟨S_, .f32⟩
  | 11 => ⟨S2048x4096, .f32⟩
  | 12 => ⟨S2048x4096, .f32⟩
  | 13 => ⟨S2048x4096, .f32⟩
  | 14 => ⟨S_, .f32⟩
  | 15 => ⟨S_, .f32⟩
  | 16 => ⟨S2048x4096, .f32⟩
  | 17 => ⟨S2048x4096, .f32⟩
  | 18 => ⟨S_, .f32⟩
  | 19 => ⟨S_, .f32⟩
  | 20 => ⟨S_, .f32⟩
  | 21 => ⟨S2048x4096, .f32⟩
  | 22 => ⟨S_, .f32⟩
  | 23 => ⟨S_, .f32⟩
  | 24 => ⟨S_, .f32⟩
  | 25 => ⟨S2048x4096, .f32⟩
  | 26 => ⟨S2048x4096, .f32⟩
  | 27 => ⟨S2048x4096, .f32⟩
  | 28 => ⟨S2048x4096, .f32⟩
  | 29 => ⟨S2048x4096, .f32⟩
  | 30 => ⟨S2048x4096, .f32⟩
  | 31 => ⟨S2048x2048, .f32⟩
  | 32 => ⟨S2048x2048, .f32⟩
  | 33 => ⟨S_, .f32⟩
  | 34 => ⟨S2048, .f32⟩
  | 35 => ⟨S2048x1, .f32⟩
  | 36 => ⟨S_, .f32⟩
  | 37 => ⟨S2048x1, .f32⟩
  | 38 => ⟨S2048x1, .f32⟩
  | 39 => ⟨S2048x2048, .f32⟩
  | 40 => ⟨S2048x2048, .f32⟩
  | 41 => ⟨S2048x2048, .f32⟩
  | 42 => ⟨S_, .f32⟩
  | 43 => ⟨S2048, .f32⟩
  | 44 => ⟨S2048x1, .f32⟩
  | 45 => ⟨S_, .f32⟩
  | 46 => ⟨S2048x1, .f32⟩
  | 47 => ⟨S2048x1, .f32⟩
  | 48 => ⟨S_, .f32⟩
  | 49 => ⟨S2048x1, .f32⟩
  | 50 => ⟨S2048x1, .f32⟩
  | 51 => ⟨S2048x1, .f32⟩
  | 52 => ⟨S2048x1, .f32⟩
  | 53 => ⟨S_, .f32⟩
  | 54 => ⟨S2048x1, .f32⟩
  | 55 => ⟨S2048x1, .f32⟩
  | 56 => ⟨S2048x2048, .f32⟩
  | 57 => ⟨S2048x2048, .f32⟩
  | 58 => ⟨S1x2048, .f32⟩
  | 59 => ⟨S2048x2048, .f32⟩
  | 60 => ⟨S2048x2048, .f32⟩
  | 61 => ⟨S1x2048, .f32⟩
  | 62 => ⟨S2048x2048, .f32⟩
  | 63 => ⟨S2048x2048, .f32⟩
  | 64 => ⟨S16x128x8x256, .f32⟩
  | 65 => ⟨S_, .f32⟩
  | 66 => ⟨S128x128, .f32⟩
  | 67 => ⟨S128x128, .i32⟩
  | 68 => ⟨S_, .i32⟩
  | 69 => ⟨S128x128, .i32⟩
  | 70 => ⟨S128x128, .i32⟩
  | 71 => ⟨S128x128, .i32⟩
  | 72 => ⟨S128x128, .i1⟩
  | 73 => ⟨S_, .f32⟩
  | 74 => ⟨S128x128, .f32⟩
  | 75 => ⟨S128x128, .f32⟩
  | 76 => ⟨S1x128x128, .f32⟩
  | 77 => ⟨S8x128x128, .f32⟩
  | 78 => ⟨S8x128x128, .f32⟩
  | 79 => ⟨S8x16x256x128, .f32⟩
  | 80 => ⟨S16x128x8x256, .f32⟩
  | 81 => ⟨S128x8, .f32⟩
  | 82 => ⟨S1x128x8x1, .f32⟩
  | 83 => ⟨S16x128x8x256, .f32⟩
  | 84 => ⟨S16x128x8x256, .f32⟩
  | 85 => ⟨S2048x2048, .f32⟩
  | 86 => ⟨S2048x2048, .f32⟩
  | 87 => ⟨S2048x2048, .f32⟩
  | 88 => ⟨S2048x2048, .f32⟩
  | 89 => ⟨S16x128x8x256, .f32⟩
  | 90 => ⟨S_, .f32⟩
  | 91 => ⟨S128x8, .f32⟩
  | 92 => ⟨S1x128x8x1, .f32⟩
  | 93 => ⟨S_, .f32⟩
  | 94 => ⟨S128x8, .f32⟩
  | 95 => ⟨S8x128, .f32⟩
  | 96 => ⟨S8x16x256x128, .f32⟩
  | 97 => ⟨S8x128x128, .f32⟩
  | 98 => ⟨S8x16x256x128, .f32⟩
  | 99 => ⟨S16x128x8x256, .f32⟩
  | 100 => ⟨S8x128x128, .f32⟩
  | 101 => ⟨S8x128x128, .f32⟩
  | 102 => ⟨S2048x2048, .f32⟩
  | 103 => ⟨S_, .f32⟩
  | 104 => ⟨S2048, .f32⟩
  | 105 => ⟨S1x2048, .f32⟩
  | 106 => ⟨S_, .f32⟩
  | 107 => ⟨S2048, .f32⟩
  | 108 => ⟨S2048x2048, .f32⟩
  | 109 => ⟨S_, .f32⟩
  | 110 => ⟨S2048, .f32⟩
  | 111 => ⟨S1x2048, .f32⟩
  | 112 => ⟨S2048x2048, .f32⟩
  | 113 => ⟨S2048x2048, .f32⟩
  | 114 => ⟨S_, .f32⟩
  | 115 => ⟨S2048, .f32⟩
  | 116 => ⟨S2048x2048, .f32⟩
  | 117 => ⟨S_, .f32⟩
  | 118 => ⟨S2048, .f32⟩
  | 119 => ⟨S2048x1, .f32⟩
  | 120 => ⟨S2048x2048, .f32⟩
  | 121 => ⟨S2048x2048, .f32⟩
  | 122 => ⟨S2048x1, .f32⟩
  | 123 => ⟨S_, .f32⟩
  | 124 => ⟨S2048x1, .f32⟩
  | 125 => ⟨S2048x1, .f32⟩
  | 126 => ⟨S_, .f32⟩
  | 127 => ⟨S2048, .f32⟩
  | _ => ⟨S2048x4096, .f32⟩

abbrev hbmTy0_1 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S_, .f32⟩
  | 7 => ⟨S2048, .f32⟩
  | 8 => ⟨S2048x1, .f32⟩
  | 9 => ⟨S_, .f32⟩
  | 10 => ⟨S2048x1, .f32⟩
  | 11 => ⟨S2048x1, .f32⟩
  | 12 => ⟨S_, .f32⟩
  | 13 => ⟨S2048, .f32⟩
  | 14 => ⟨S2048x2048, .f32⟩
  | 15 => ⟨S2048x2048, .f32⟩
  | 16 => ⟨S2048x4096, .f32⟩
  | 17 => ⟨S2048x4096, .f32⟩
  | 18 => ⟨S2048x4096, .f32⟩
  | 19 => ⟨S2048x4096, .f32⟩
  | 20 => ⟨S2048x4096, .f32⟩
  | 21 => ⟨S2048x4096, .f32⟩
  | 22 => ⟨S2048x4096, .f32⟩
  | 23 => ⟨S_, .f32⟩
  | 24 => ⟨S2048x4096, .f32⟩
  | 25 => ⟨S2048x4096, .f32⟩
  | 26 => ⟨S2048x4096, .f32⟩
  | 27 => ⟨S2048x4096, .bf16⟩
  | 28 => ⟨S128x8, .f32⟩
  | 29 => ⟨S1x2048, .f32⟩
  | 30 => ⟨S1x2048, .f32⟩
  | _ => ⟨S2048x4096, .f32⟩

abbrev hbmTy (i : Nat) : BufTy := match i / 128 with
  | 0 => hbmTy0_0 i
  | 1 => hbmTy0_1 i
  | _ => ⟨S2048x4096, .f32⟩

abbrev bufTy : (tb : Table) → Fin (tcTables nBuf tb) → BufTy
  | .hbm, ⟨i, _⟩ => hbmTy i
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_cst : Ref sig .tc := ⟨.hbm, 73, rfl⟩
abbrev main_call0_v5 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_18 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_cst_23 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩

abbrev nD : Nat := 1
abbrev τ : Topo := Topo.v7x

variable {F : FTy → Type} [FloatOps F]
-- ==== Kernel3.lean ====
abbrev S2048x2048 : Shape := ⟨2, ![2048, 2048]⟩
abbrev S2048x256 : Shape := ⟨2, ![2048, 256]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference3Ideal.lean ====
abbrev S2048x2048 : Shape := ⟨2, ![2048, 2048]⟩
abbrev S_ : Shape := ⟨0, ![]⟩
abbrev S2048x4x512 : Shape := ⟨3, ![2048, 4, 512]⟩
abbrev S2048x1x512 : Shape := ⟨3, ![2048, 1, 512]⟩
abbrev S2048x512 : Shape := ⟨2, ![2048, 512]⟩
abbrev S2x512 : Shape := ⟨2, ![2, 512]⟩
abbrev S2046x512 : Shape := ⟨2, ![2046, 512]⟩
abbrev S2048 : Shape := ⟨1, ![2048]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 208
  | .vmem => 0
  | .smem => 0
  | _ => 0

abbrev hbmTy0_0 (i : Nat) : BufTy := match i % 128 with
  | 0 => ⟨S2048x2048, .f32⟩
  | 1 => ⟨S_, .f32⟩
  | 2 => ⟨S2048x2048, .f32⟩
  | 3 => ⟨S2048x4x512, .f32⟩
  | 4 => ⟨S2048x1x512, .f32⟩
  | 5 => ⟨S2048x512, .f32⟩
  | 6 => ⟨S_, .f32⟩
  | 7 => ⟨S_, .f32⟩
  | 8 => ⟨S2048x512, .f32⟩
  | 9 => ⟨S2x512, .f32⟩
  | 10 => ⟨S_, .f32⟩
  | 11 => ⟨S2x512, .f32⟩
  | 12 => ⟨S2046x512, .f32⟩
  | 13 => ⟨S2048x512, .f32⟩
  | 14 => ⟨S_, .f32⟩
  | 15 => ⟨S2x512, .f32⟩
  | 16 => ⟨S2048, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i32⟩
  | 23 => ⟨S2048, .f32⟩
  | 24 => ⟨S2048x512, .f32⟩
  | 25 => ⟨S2048x1, .f32⟩
  | 26 => ⟨S2048x512, .f32⟩
  | 27 => ⟨S2048x512, .f32⟩
  | 28 => ⟨S2048x1x512, .f32⟩
  | 29 => ⟨S2048x512, .f32⟩
  | 30 => ⟨S2048x512, .f32⟩
  | 31 => ⟨S2048x1x512, .f32⟩
  | 32 => ⟨S2048x512, .f32⟩
  | 33 => ⟨S_, .f32⟩
  | 34 => ⟨S_, .f32⟩
  | 35 => ⟨S2048x512, .f32⟩
  | 36 => ⟨S4x512, .f32⟩
  | 37 => ⟨S_, .f32⟩
  | 38 => ⟨S4x512, .f32⟩
  | 39 => ⟨S2044x512, .f32⟩
  | 40 => ⟨S2048x512, .f32⟩
  | 41 => ⟨S_, .f32⟩
  | 42 => ⟨S4x512, .f32⟩
  | 43 => ⟨S2048, .i32⟩
  | 44 => ⟨S_, .i32⟩
  | 45 => ⟨S2048, .i32⟩
  | 46 => ⟨S2048, .i32⟩
  | 47 => ⟨S_, .i32⟩
  | 48 => ⟨S2048, .i32⟩
  | 49 => ⟨S2048, .i32⟩
  | 50 => ⟨S2048, .f32⟩
  | 51 => ⟨S2048x512, .f32⟩
  | 52 => ⟨S2048x1, .f32⟩
  | 53 => ⟨S2048x512, .f32⟩
  | 54 => ⟨S2048x512, .f32⟩
  | 55 => ⟨S2048x1x512, .f32⟩
  | 56 => ⟨S2048x512, .f32⟩
  | 57 => ⟨S2048x512, .f32⟩
  | 58 => ⟨S2048x1x512, .f32⟩
  | 59 => ⟨S2048x512, .f32⟩
  | 60 => ⟨S_, .f32⟩
  | 61 => ⟨S_, .f32⟩
  | 62 => ⟨S2048x512, .f32⟩
  | 63 => ⟨S8x512, .f32⟩
  | 64 => ⟨S_, .f32⟩
  | 65 => ⟨S8x512, .f32⟩
  | 66 => ⟨S2040x512, .f32⟩
  | 67 => ⟨S2048x512, .f32⟩
  | 68 => ⟨S_, .f32⟩
  | 69 => ⟨S8x512, .f32⟩
  | 70 => ⟨S2048, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S2048, .f32⟩
  | 78 => ⟨S2048x512, .f32⟩
  | 79 => ⟨S2048x1, .f32⟩
  | 80 => ⟨S2048x512, .f32⟩
  | 81 => ⟨S2048x512, .f32⟩
  | 82 => ⟨S2048x1x512, .f32⟩
  | 83 => ⟨S2048x512, .f32⟩
  | 84 => ⟨S2048x512, .f32⟩
  | 85 => ⟨S2048x1x512, .f32⟩
  | 86 => ⟨S2048x512, .f32⟩
  | 87 => ⟨S_, .f32⟩
  | 88 => ⟨S_, .f32⟩
  | 89 => ⟨S2048x512, .f32⟩
  | 90 => ⟨S16x512, .f32⟩
  | 91 => ⟨S_, .f32⟩
  | 92 => ⟨S16x512, .f32⟩
  | 93 => ⟨S2032x512, .f32⟩
  | 94 => ⟨S2048x512, .f32⟩
  | 95 => ⟨S_, .f32⟩
  | 96 => ⟨S16x512, .f32⟩
  | 97 => ⟨S2048, .i32⟩
  | 98 => ⟨S_, .i32⟩
  | 99 => ⟨S2048, .i32⟩
  | 100 => ⟨S2048, .i32⟩
  | 101 => ⟨S_, .i32⟩
  | 102 => ⟨S2048, .i32⟩
  | 103 => ⟨S2048, .i32⟩
  | 104 => ⟨S2048, .f32⟩
  | 105 => ⟨S2048x512, .f32⟩
  | 106 => ⟨S2048x1, .f32⟩
  | 107 => ⟨S2048x512, .f32⟩
  | 108 => ⟨S2048x512, .f32⟩
  | 109 => ⟨S2048x1x512, .f32⟩
  | 110 => ⟨S2048x512, .f32⟩
  | 111 => ⟨S2048x512, .f32⟩
  | 112 => ⟨S2048x1x512, .f32⟩
  | 113 => ⟨S2048x1x512, .f32⟩
  | 114 => ⟨S2048x1x512, .f32⟩
  | 115 => ⟨S2048x1x512, .f32⟩
  | 116 => ⟨S2048x4x512, .f32⟩
  | 117 => ⟨S2048x2048, .f32⟩
  | 118 => ⟨S2048x4x512, .f32⟩
  | 119 => ⟨S2048x1x512, .f32⟩
  | 120 => ⟨S2048x512, .f32⟩
  | 121 => ⟨S2048x1x512, .f32⟩
  | 122 => ⟨S2048x512, .f32⟩
  | 123 => ⟨S2048x1x512, .f32⟩
  | 124 => ⟨S2048x512, .f32⟩
  | 125 => ⟨S2048x1x512, .f32⟩
  | 126 => ⟨S2048x512, .f32⟩
  | 127 => ⟨S2048x512, .f32⟩
  | _ => ⟨S2048x2048, .f32⟩

abbrev hbmTy0_1 (i : Nat) : BufTy := match i % 128 with
  | 0 => ⟨S2048x1x512, .f32⟩
  | 1 => ⟨S_, .f32⟩
  | 2 => ⟨S2048x4x512, .f32⟩
  | 3 => ⟨S2048x512, .f32⟩
  | 4 => ⟨S2048x512, .f32⟩
  | 5 => ⟨S2048x512, .f32⟩
  | 6 => ⟨S16x512, .f32⟩
  | 7 => ⟨S2032x512, .f32⟩
  | 8 => ⟨S_, .f32⟩
  | 9 => ⟨S2048x512, .f32⟩
  | 10 => ⟨S2048x512, .f32⟩
  | 11 => ⟨S_, .f32⟩
  | 12 => ⟨S_, .f32⟩
  | 13 => ⟨S2048x512, .f32⟩
  | 14 => ⟨S2048x1x512, .f32⟩
  | 15 => ⟨S_, .f32⟩
  | 16 => ⟨S2048x4x512, .f32⟩
  | 17 => ⟨S2048x4x512, .f32⟩
  | 18 => ⟨S2048x512, .f32⟩
  | 19 => ⟨S2048x1x512, .f32⟩
  | 20 => ⟨S_, .f32⟩
  | 21 => ⟨S2048x4x512, .f32⟩
  | 22 => ⟨S2048x4x512, .f32⟩
  | 23 => ⟨S2048x512, .f32⟩
  | 24 => ⟨S2048x512, .f32⟩
  | 25 => ⟨S2048x512, .f32⟩
  | 26 => ⟨S8x512, .f32⟩
  | 27 => ⟨S2040x512, .f32⟩
  | 28 => ⟨S_, .f32⟩
  | 29 => ⟨S2048x512, .f32⟩
  | 30 => ⟨S2048x512, .f32⟩
  | 31 => ⟨S_, .f32⟩
  | 32 => ⟨S_, .f32⟩
  | 33 => ⟨S2048x512, .f32⟩
  | 34 => ⟨S2048x1x512, .f32⟩
  | 35 => ⟨S_, .f32⟩
  | 36 => ⟨S2048x4x512, .f32⟩
  | 37 => ⟨S2048x4x512, .f32⟩
  | 38 => ⟨S2048x512, .f32⟩
  | 39 => ⟨S2048x1x512, .f32⟩
  | 40 => ⟨S_, .f32⟩
  | 41 => ⟨S2048x4x512, .f32⟩
  | 42 => ⟨S2048x4x512, .f32⟩
  | 43 => ⟨S2048x512, .f32⟩
  | 44 => ⟨S2048x512, .f32⟩
  | 45 => ⟨S2048x512, .f32⟩
  | 46 => ⟨S4x512, .f32⟩
  | 47 => ⟨S2044x512, .f32⟩
  | 48 => ⟨S_, .f32⟩
  | 49 => ⟨S2048x512, .f32⟩
  | 50 => ⟨S2048x512, .f32⟩
  | 51 => ⟨S_, .f32⟩
  | 52 => ⟨S_, .f32⟩
  | 53 => ⟨S2048x512, .f32⟩
  | 54 => ⟨S2048x1x512, .f32⟩
  | 55 => ⟨S_, .f32⟩
  | 56 => ⟨S2048x4x512, .f32⟩
  | 57 => ⟨S2048x4x512, .f32⟩
  | 58 => ⟨S2048x512, .f32⟩
  | 59 => ⟨S2048x1x512, .f32⟩
  | 60 => ⟨S_, .f32⟩
  | 61 => ⟨S2048x4x512, .f32⟩
  | 62 => ⟨S2048x4x512, .f32⟩
  | 63 => ⟨S2048x512, .f32⟩
  | 64 => ⟨S2048x512, .f32⟩
  | 65 => ⟨S2048x512, .f32⟩
  | 66 => ⟨S2x512, .f32⟩
  | 67 => ⟨S2046x512, .f32⟩
  | 68 => ⟨S_, .f32⟩
  | 69 => ⟨S2048x512, .f32⟩
  | 70 => ⟨S2048x512, .f32⟩
  | 71 => ⟨S_, .f32⟩
  | 72 => ⟨S_, .f32⟩
  | 73 => ⟨S2048x512, .f32⟩
  | 74 => ⟨S2048x1x512, .f32⟩
  | 75 => ⟨S_, .f32⟩
  | 76 => ⟨S2048x4x512, .f32⟩
  | 77 => ⟨S2048x4x512, .f32⟩
  | 78 => ⟨S2048x2048, .f32⟩
  | 79 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_call1_call0_cst : Ref sig .tc := ⟨.hbm, 33, rfl⟩
abbrev main_call1_call0_v0 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_call2_call0_cst : Ref sig .tc := ⟨.hbm, 60, rfl⟩
abbrev main_call2_call0_v0 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_call3_call0_cst : Ref sig .tc := ⟨.hbm, 87, rfl⟩
abbrev main_call3_call0_v0 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_v74 : Ref sig .tc := ⟨.hbm, 99, rfl⟩
abbrev main_v75 : Ref sig .tc := ⟨.hbm, 100, rfl⟩
abbrev main_c_14 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_cst_15 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_16 : Ref sig .tc := ⟨.hbm, 136, rfl⟩
abbrev main_v109 : Ref sig .tc := ⟨.hbm, 137, rfl⟩
abbrev main_v110 : Ref sig .tc := ⟨.hbm, 138, rfl⟩
abbrev main_call4_call0_cst : Ref sig .tc := ⟨.hbm, 139, rfl⟩
abbrev main_call4_call0_v0 : Ref sig .tc := ⟨.hbm, 140, rfl⟩
abbrev main_v111 : Ref sig .tc := ⟨.hbm, 141, rfl⟩
abbrev main_v112 : Ref sig .tc := ⟨.hbm, 142, rfl⟩
abbrev main_cst_17 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_18 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_19 : Ref sig .tc := ⟨.hbm, 156, rfl⟩
abbrev main_v124 : Ref sig .tc := ⟨.hbm, 157, rfl⟩
abbrev main_v125 : Ref sig .tc := ⟨.hbm, 158, rfl⟩
abbrev main_call5_call0_cst : Ref sig .tc := ⟨.hbm, 159, rfl⟩
abbrev main_call5_call0_v0 : Ref sig .tc := ⟨.hbm, 160, rfl⟩
abbrev main_v126 : Ref sig .tc := ⟨.hbm, 161, rfl⟩
abbrev main_v127 : Ref sig .tc := ⟨.hbm, 162, rfl⟩
abbrev main_cst_20 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_cst_21 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_cst_22 : Ref sig .tc := ⟨.hbm, 176, rfl⟩
abbrev main_v139 : Ref sig .tc := ⟨.hbm, 177, rfl⟩
abbrev main_v140 : Ref sig .tc := ⟨.hbm, 178, rfl⟩
abbrev main_call6_call0_cst : Ref sig .tc := ⟨.hbm, 179, rfl⟩
abbrev main_call6_call0_v0 : Ref sig .tc := ⟨.hbm, 180, rfl⟩
abbrev main_v141 : Ref sig .tc := ⟨.hbm, 181, rfl⟩
abbrev main_v142 : Ref sig .tc := ⟨.hbm, 182, rfl⟩
abbrev main_cst_23 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_24 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_cst_25 : Ref sig .tc := ⟨.hbm, 196, rfl⟩
abbrev main_v154 : Ref sig .tc := ⟨.hbm, 197, rfl⟩
abbrev main_v155 : Ref sig .tc := ⟨.hbm, 198, rfl⟩
abbrev main_call7_call0_cst : Ref sig .tc := ⟨.hbm, 199, rfl⟩
abbrev main_call7_call0_v0 : Ref sig .tc := ⟨.hbm, 200, rfl⟩
abbrev main_v156 : Ref sig .tc := ⟨.hbm, 201, rfl⟩
abbrev main_v157 : Ref sig .tc := ⟨.hbm, 202, rfl⟩
abbrev main_cst_26 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩

abbrev nD : Nat := 1
abbrev τ : Topo := Topo.v7x

variable {F : FTy → Type} [FloatOps F]
-- ==== Kernel5.lean ====
abbrev S2048x2048 : Shape := ⟨2, ![2048, 2048]⟩
abbrev S2048x8192 : Shape := ⟨2, ![2048, 8192]⟩
abbrev S8192x2048 : Shape := ⟨2, ![8192, 2048]⟩
abbrev S2048 : Shape := ⟨1, ![2048]⟩
abbrev S2048x8x2x512 : Shape := ⟨4, ![2048, 8, 2, 512]⟩
abbrev S2048x8x1x512 : Shape := ⟨4, ![2048, 8, 1, 512]⟩
abbrev S2048x8x512 : Shape := ⟨3, ![2048, 8, 512]⟩
abbrev S8x2x512x2048 : Shape := ⟨4, ![8, 2, 512, 2048]⟩
abbrev S8x1x512x2048 : Shape := ⟨4, ![8, 1, 512, 2048]⟩
abbrev S8x512x2048 : Shape := ⟨3, ![8, 512, 2048]⟩
abbrev S4x1x2048x2048 : Shape := ⟨4, ![4, 1, 2048, 2048]⟩
abbrev S1x2048 : Shape := ⟨2, ![1, 2048]⟩
abbrev S1x128 : Shape := ⟨2, ![1, 128]⟩
abbrev S512x512 : Shape := ⟨2, ![512, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S8192x2048, .bf16⟩
  | .hbm, ⟨3, _⟩ => ⟨S2048, .f32⟩
  | .hbm, ⟨4, _⟩ => ⟨S2048x2048, .f32⟩
  | .hbm, ⟨5, _⟩ => ⟨S2048x8x2x512, .bf16⟩
  | .hbm, ⟨6, _⟩ => ⟨S2048x8x1x512, .bf16⟩
  | .hbm, ⟨7, _⟩ => ⟨S2048x8x512, .bf16⟩
  | .hbm, ⟨8, _⟩ => ⟨S8x2x512x2048, .bf16⟩
  | .hbm, ⟨9, _⟩ => ⟨S8x1x512x2048, .bf16⟩
  | .hbm, ⟨10, _⟩ => ⟨S8x512x2048, .bf16⟩
  | .hbm, ⟨11, _⟩ => ⟨S2048x8x512, .f32⟩
  | .hbm, ⟨12, _⟩ => ⟨S8x512x2048, .f32⟩
  | .hbm, ⟨13, _⟩ => ⟨S2048x2048, .f32⟩
  | .hbm, ⟨14, _⟩ => ⟨S2048x2048, .f32⟩
  | .hbm, ⟨15, _⟩ => ⟨S4x1x2048x2048, .bf16⟩
  | .hbm, ⟨16, _⟩ => ⟨S1x2048, .f32⟩
  | .hbm, ⟨17, _⟩ => ⟨S2048x2048, .f32⟩
  | .hbm, ⟨18, _⟩ => ⟨S2048x2048, .bf16⟩
  | .hbm, ⟨19, _⟩ => ⟨S1x2048, .f32⟩
  | .hbm, ⟨20, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x1x512x2048, .bf16⟩
  | .local _ .vmem, ⟨5, _⟩ => ⟨S1x1x512x2048, .bf16⟩
  | .local _ .vmem, ⟨6, _⟩ => ⟨S1x1x512x2048, .bf16⟩
  | .local _ .vmem, ⟨7, _⟩ => ⟨S1x1x512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | .local _ .vmem, ⟨16, _⟩ => ⟨S512x2048, .bf16⟩
  | .local _ .vmem, ⟨17, _⟩ => ⟨S1x2048, .f32⟩
  | .local _ .vmem, ⟨18, _⟩ => ⟨S1x128, .f32⟩
  | .local _ .vmem, ⟨19, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨2, ![4, 4], ![false, false]⟩

def k0_cond4 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_18 : BitVec 32 := 0#32
  let v22 : BitVec 1 := Scalar.cmpi .ne v21 c0_i32_18
  v22

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c1_i32 : BitVec 32 := 1#32
  let v2 : BitVec 32 := Scalar.addi v1 c1_i32
  let c0_i32 : BitVec 32 := 0#32
  ![arg0.toNat, v2.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![arg1.toNat, c0_i32.toNat, c1_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  let c0_i32_1 : BitVec 32 := 0#32
  ![arg1.toNat, c0_i32.toNat, c3_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference5Ideal.lean ====
abbrev S2048x2048 : Shape := ⟨2, ![2048, 2048]⟩
abbrev S2048x8192 : Shape := ⟨2, ![2048, 8192]⟩
abbrev S8192x2048 : Shape := ⟨2, ![8192, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S8192x2048, .bf16⟩
  | .hbm, ⟨3, _⟩ => ⟨S2048, .f32⟩
  | .hbm, ⟨4, _⟩ => ⟨S2048x2048, .f32⟩
  | .hbm, ⟨5, _⟩ => ⟨S2048x8192, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x2048, .f32⟩
  | .hbm, ⟨25, _⟩ => ⟨S2048x2048, .f32⟩
  | .hbm, ⟨26, _⟩ => ⟨S1x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S2048, .f32⟩
  | .hbm, ⟨49, _⟩ => ⟨S2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x2048, .f32⟩
  | .hbm, ⟨65, _⟩ => ⟨S2048x2048, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S2048x2048, .f32⟩
  | .hbm, ⟨77, _⟩ => ⟨S2048x2048, .bf16⟩
  | .hbm, ⟨78, _⟩ => ⟨S1x2048, .f32⟩
  | .hbm, ⟨79, _⟩ => ⟨S1x128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel7.lean ====
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S1x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel8.lean ====
abbrev S2048x4096 : Shape := ⟨2, ![2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S2048x2048 : Shape := ⟨2, ![2048, 2048]⟩
abbrev S128x4096 : Shape := ⟨2, ![128, 4096]⟩
abbrev S128x2048 : Shape := ⟨2, ![128, 2048]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 9
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S8x128x128, .f32⟩
  | .hbm, ⟨6, _⟩ => ⟨S8x128, .f32⟩
  | .hbm, ⟨7, _⟩ => ⟨S128x8, .f32⟩
  | .hbm, ⟨8, _⟩ => ⟨S2048x2048, .bf16⟩
  | .local _ .vmem, ⟨0, _⟩ => ⟨S128x4096, .f32⟩
  | .local _ .vmem, ⟨1, _⟩ => ⟨S128x4096, .f32⟩
  | .local _ .vmem, ⟨2, _⟩ => ⟨S1x2048, .f32⟩
  | .local _ .vmem, ⟨3, _⟩ => ⟨S1x2048, .f32⟩
  | .local _ .vmem, ⟨4, _⟩ => ⟨S8x128x128, .f32⟩
  | .local _ .vmem, ⟨5, _⟩ => ⟨S128x8, .f32⟩
  | .local _ .vmem, ⟨6, _⟩ => ⟨S128x2048, .bf16⟩
  | .local _ .vmem, ⟨7, _⟩ => ⟨S128x2048, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel8Ideal.lean ====
variable {F : FTy → Type} [FloatOps F] [Named F]
def κ : String → Option EReal := fun
  | "sqrt_half" => some (((Real.sqrt 2)⁻¹ : ℝ) : EReal)
  | _ => none
-- ==== Reference8Ideal.lean ====
abbrev S2048x4096 : Shape := ⟨2, ![2048, 4096]⟩
abbrev S1x2048 : Shape := ⟨2, ![1, 2048]⟩
abbrev S1x8x128x128 : Shape := ⟨4, ![1, 8, 128, 128]⟩
abbrev S1x8x128 : Shape := ⟨3, ![1, 8, 128]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S2048x2048 : Shape := ⟨2, ![2048, 2048]⟩
abbrev S2048x1 : Shape := ⟨2, ![2048, 1]⟩
abbrev S16x128x8x256 : Shape := ⟨4, ![16, 128, 8, 256]⟩
abbrev S128x128 : Shape := ⟨2, ![128, 128]⟩
abbrev S1x128x128 : Shape := ⟨3, ![1, 128, 128]⟩
abbrev S8x16x256x128 : Shape := ⟨4, ![8, 16, 256, 128]⟩
abbrev S128x8 : Shape := ⟨2, ![128, 8]⟩
abbrev S1x128x8x1 : Shape := ⟨4, ![1, 128, 8, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x2048, .f32⟩
  | .hbm, ⟨2, _⟩ => ⟨S1x2048, .f32⟩
  | .hbm, ⟨3, _⟩ => ⟨S1x8x128x128, .f32⟩
  | .hbm, ⟨4, _⟩ => ⟨S1x8x128, .f32⟩
  | .hbm, ⟨5, _⟩ => ⟨S2048, .f32⟩
  | .hbm, ⟨6, _⟩ => ⟨S2048, .f32⟩
  | .hbm, ⟨7, _⟩ => ⟨S8x128x128, .f32⟩
  | .hbm, ⟨8, _⟩ => ⟨S8x128, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S_, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1, .f32⟩
  | .hbm, ⟨40, _⟩ => ⟨S2048x2048, .f32⟩
  | .hbm, ⟨41, _⟩ => ⟨S2048x2048, .f32⟩
  | .hbm, ⟨42, _⟩ => ⟨S1x2048, .f32⟩
  | .hbm, ⟨43, _⟩ => ⟨S2048x2048, .f32⟩
  | .hbm, ⟨44, _⟩ => ⟨S2048x2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S16x128x8x256, .f32⟩
  | .hbm, ⟨49, _⟩ => ⟨S_, .f32⟩
  | .hbm, ⟨50, _⟩ => ⟨S128x128, .f32⟩
  | .hbm, ⟨51, _⟩ => ⟨S128x128, .i32⟩
  | .hbm, ⟨52, _⟩ => ⟨S_, .i32⟩
  | .hbm, ⟨53, _⟩ => ⟨S128x128, .i32⟩
  | .hbm, ⟨54, _⟩ => ⟨S128x128, .i32⟩
  | .hbm, ⟨55, _⟩ => ⟨S128x128, .i32⟩
  | .hbm, ⟨56, _⟩ => ⟨S128x128, .i1⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S1x128x128, .f32⟩
  | .hbm, ⟨61, _⟩ => ⟨S8x128x128, .f32⟩
  | .hbm, ⟨62, _⟩ => ⟨S8x128x128, .f32⟩
  | .hbm, ⟨63, _⟩ => ⟨S8x16x256x128, .f32⟩
  | .hbm, ⟨64, _⟩ => ⟨S16x128x8x256, .f32⟩
  | .hbm, ⟨65, _⟩ => ⟨S128x8, .f32⟩
  | .hbm, ⟨66, _⟩ => ⟨S1x128x8x1, .f32⟩
  | .hbm, ⟨67, _⟩ => ⟨S16x128x8x256, .f32⟩
  | .hbm, ⟨68, _⟩ => ⟨S16x128x8x256, .f32⟩
  | .hbm, ⟨69, _⟩ => ⟨S2048x2048, .f32⟩
  | .hbm, ⟨70, _⟩ => ⟨S2048x2048, .f32⟩
  | .hbm, ⟨71, _⟩ => ⟨S2048x2048, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_call0_v0 : Ref sig .tc := ⟨.hbm, 51, rfl⟩
abbrev main_call0_c : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_cst : Ref sig .tc := ⟨.hbm, 57, rfl⟩
abbrev main_call0_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Kernel9.lean ====
abbrev S2048x2048 : Shape := ⟨2, ![2048, 2048]⟩
abbrev S2048x256 : Shape := ⟨2, ![2048, 256]⟩

abbrev nBuf : Space → Nat
  | .hbm => 2
  | .vmem => 4
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .local _ .vmem, ⟨0, _⟩ => ⟨S2048x256, .f32⟩
  | .local _ .vmem, ⟨1, _⟩ => ⟨S2048x256, .f32⟩
  | .local _ .vmem, ⟨2, _⟩ => ⟨S2048x256, .bf16⟩
  | .local _ .vmem, ⟨3, _⟩ => ⟨S2048x256, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference9Ideal.lean ====
abbrev S2048x2048 : Shape := ⟨2, ![2048, 2048]⟩
abbrev S2048x4x512 : Shape := ⟨3, ![2048, 4, 512]⟩
abbrev S2048x1x512 : Shape := ⟨3, ![2048, 1, 512]⟩
abbrev S2048x512 : Shape := ⟨2, ![2048, 512]⟩
abbrev S_ : Shape := ⟨0, ![]⟩
abbrev S2x512 : Shape := ⟨2, ![2, 512]⟩
abbrev S2046x512 : Shape := ⟨2, ![2046, 512]⟩
abbrev S2048 : Shape := ⟨1, ![2048]⟩
abbrev S2048x1 : Shape := ⟨2, ![2048, 1]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩

abbrev nBuf : Space → Nat
  | .hbm => 109
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4x512, .f32⟩
  | .hbm, ⟨2, _⟩ => ⟨S2048x1x512, .f32⟩
  | .hbm, ⟨3, _⟩ => ⟨S2048x512, .f32⟩
  | .hbm, ⟨4, _⟩ => ⟨S_, .f32⟩
  | .hbm, ⟨5, _⟩ => ⟨S_, .f32⟩
  | .hbm, ⟨6, _⟩ => ⟨S2048x512, .f32⟩
  | .hbm, ⟨7, _⟩ => ⟨S2x512, .f32⟩
  | .hbm, ⟨8, _⟩ => ⟨S_, .f32⟩
  | .hbm, ⟨9, _⟩ => ⟨S2x512, .f32⟩
  | .hbm, ⟨10, _⟩ => ⟨S2046x512, .f32⟩
  | .hbm, ⟨11, _⟩ => ⟨S2048x512, .f32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .f32⟩
  | .hbm, ⟨20, _⟩ => ⟨S2048x512, .f32⟩
  | .hbm, ⟨21, _⟩ => ⟨S2048x1, .f32⟩
  | .hbm, ⟨22, _⟩ => ⟨S2048x512, .f32⟩
  | .hbm, ⟨23, _⟩ => ⟨S2048x512, .f32⟩
  | .hbm, ⟨24, _⟩ => ⟨S2048x1x512, .f32⟩
  | .hbm, ⟨25, _⟩ => ⟨S2048x512, .f32⟩
  | .hbm, ⟨26, _⟩ => ⟨S2048x512, .f32⟩
  | .hbm, ⟨27, _⟩ => ⟨S2048x1x512, .f32⟩
  | .hbm, ⟨28, _⟩ => ⟨S2048x512, .f32⟩
  | .hbm, ⟨29, _⟩ => ⟨S_, .f32⟩
  | .hbm, ⟨30, _⟩ => ⟨S_, .f32⟩
  | .hbm, ⟨31, _⟩ => ⟨S2048x512, .f32⟩
  | .hbm, ⟨32, _⟩ => ⟨S4x512, .f32⟩
  | .hbm, ⟨33, _⟩ => ⟨S_, .f32⟩
  | .hbm, ⟨34, _⟩ => ⟨S4x512, .f32⟩
  | .hbm, ⟨35, _⟩ => ⟨S2044x512, .f32⟩
  | .hbm, ⟨36, _⟩ => ⟨S2048x512, .f32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .f32⟩
  | .hbm, ⟨45, _⟩ => ⟨S2048x512, .f32⟩
  | .hbm, ⟨46, _⟩ => ⟨S2048x1, .f32⟩
  | .hbm, ⟨47, _⟩ => ⟨S2048x512, .f32⟩
  | .hbm, ⟨48, _⟩ => ⟨S2048x512, .f32⟩
  | .hbm, ⟨49, _⟩ => ⟨S2048x1x512, .f32⟩
  | .hbm, ⟨50, _⟩ => ⟨S2048x512, .f32⟩
  | .hbm, ⟨51, _⟩ => ⟨S2048x512, .f32⟩
  | .hbm, ⟨52, _⟩ => ⟨S2048x1x512, .f32⟩
  | .hbm, ⟨53, _⟩ => ⟨S2048x512, .f32⟩
  | .hbm, ⟨54, _⟩ => ⟨S_, .f32⟩
  | .hbm, ⟨55, _⟩ => ⟨S_, .f32⟩
  | .hbm, ⟨56, _⟩ => ⟨S2048x512, .f32⟩
  | .hbm, ⟨57, _⟩ => ⟨S8x512, .f32⟩
  | .hbm, ⟨58, _⟩ => ⟨S_, .f32⟩
  | .hbm, ⟨59, _⟩ => ⟨S8x512, .f32⟩
  | .hbm, ⟨60, _⟩ => ⟨S2040x512, .f32⟩
  | .hbm, ⟨61, _⟩ => ⟨S2048x512, .f32⟩
  | .hbm, ⟨62, _⟩ => ⟨S2048, .i32⟩
  | .hbm, ⟨63, _⟩ => ⟨S_, .i32⟩
  | .hbm, ⟨64, _⟩ => ⟨S2048, .i32⟩
  | .hbm, ⟨65, _⟩ => ⟨S2048, .i32⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .f32⟩
  | .hbm, ⟨70, _⟩ => ⟨S2048x512, .f32⟩
  | .hbm, ⟨71, _⟩ => ⟨S2048x1, .f32⟩
  | .hbm, ⟨72, _⟩ => ⟨S2048x512, .f32⟩
  | .hbm, ⟨73, _⟩ => ⟨S2048x512, .f32⟩
  | .hbm, ⟨74, _⟩ => ⟨S2048x1x512, .f32⟩
  | .hbm, ⟨75, _⟩ => ⟨S2048x512, .f32⟩
  | .hbm, ⟨76, _⟩ => ⟨S2048x512, .f32⟩
  | .hbm, ⟨77, _⟩ => ⟨S2048x1x512, .f32⟩
  | .hbm, ⟨78, _⟩ => ⟨S2048x512, .f32⟩
  | .hbm, ⟨79, _⟩ => ⟨S_, .f32⟩
  | .hbm, ⟨80, _⟩ => ⟨S_, .f32⟩
  | .hbm, ⟨81, _⟩ => ⟨S2048x512, .f32⟩
  | .hbm, ⟨82, _⟩ => ⟨S16x512, .f32⟩
  | .hbm, ⟨83, _⟩ => ⟨S_, .f32⟩
  | .hbm, ⟨84, _⟩ => ⟨S16x512, .f32⟩
  | .hbm, ⟨85, _⟩ => ⟨S2032x512, .f32⟩
  | .hbm, ⟨86, _⟩ => ⟨S2048x512, .f32⟩
  | .hbm, ⟨87, _⟩ => ⟨S2048, .i32⟩
  | .hbm, ⟨88, _⟩ => ⟨S_, .i32⟩
  | .hbm, ⟨89, _⟩ => ⟨S2048, .i32⟩
  | .hbm, ⟨90, _⟩ => ⟨S2048, .i32⟩
  | .hbm, ⟨91, _⟩ => ⟨S_, .i32⟩
  | .hbm, ⟨92, _⟩ => ⟨S2048, .i32⟩
  | .hbm, ⟨93, _⟩ => ⟨S2048, .i32⟩
  | .hbm, ⟨94, _⟩ => ⟨S2048, .f32⟩
  | .hbm, ⟨95, _⟩ => ⟨S2048x512, .f32⟩
  | .hbm, ⟨96, _⟩ => ⟨S2048x1, .f32⟩
  | .hbm, ⟨97, _⟩ => ⟨S2048x512, .f32⟩
  | .hbm, ⟨98, _⟩ => ⟨S2048x512, .f32⟩
  | .hbm, ⟨99, _⟩ => ⟨S2048x1x512, .f32⟩
  | .hbm, ⟨100, _⟩ => ⟨S2048x512, .f32⟩
  | .hbm, ⟨101, _⟩ => ⟨S2048x512, .f32⟩
  | .hbm, ⟨102, _⟩ => ⟨S2048x1x512, .f32⟩
  | .hbm, ⟨103, _⟩ => ⟨S2048x1x512, .f32⟩
  | .hbm, ⟨104, _⟩ => ⟨S2048x1x512, .f32⟩
  | .hbm, ⟨105, _⟩ => ⟨S2048x1x512, .f32⟩
  | .hbm, ⟨106, _⟩ => ⟨S2048x4x512, .f32⟩
  | .hbm, ⟨107, _⟩ => ⟨S2048x2048, .f32⟩
  | .hbm, ⟨108, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_call0_cst : Ref sig .tc := ⟨.hbm, 4, rfl⟩
abbrev main_call0_call0_v0 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call1_call0_cst : Ref sig .tc := ⟨.hbm, 29, rfl⟩
abbrev main_call1_call0_v0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call2_call0_cst : Ref sig .tc := ⟨.hbm, 54, rfl⟩
abbrev main_call2_call0_v0 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_5 : Ref sig .tc := ⟨.hbm, 63, rfl⟩
abbrev main_v49 : Ref sig .tc := ⟨.hbm, 64, rfl⟩
abbrev main_v50 : Ref sig .tc := ⟨.hbm, 65, rfl⟩
abbrev main_c_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call3_call0_cst : Ref sig .tc := ⟨.hbm, 79, rfl⟩
abbrev main_call3_call0_v0 : Ref sig .tc := ⟨.hbm, 80, rfl⟩
abbrev main_v63 : Ref sig .tc := ⟨.hbm, 81, rfl⟩
abbrev main_v64 : Ref sig .tc := ⟨.hbm, 82, rfl⟩
abbrev main_cst_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_c_8 : Ref sig .tc := ⟨.hbm, 88, rfl⟩
abbrev main_v69 : Ref sig .tc := ⟨.hbm, 89, rfl⟩
abbrev main_v70 : Ref sig .tc := ⟨.hbm, 90, rfl⟩
abbrev main_c_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]
-- ==== Kernel10.lean ====
abbrev S2048x2048 : Shape := ⟨2, ![2048, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S1x1x2048x512 : Shape := ⟨4, ![1, 1, 2048, 512]⟩
abbrev S2048x512 : Shape := ⟨2, ![2048, 512]⟩

abbrev nBuf : Space → Nat
  | .hbm => 9
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4x1x2048x2048, .bf16⟩
  | .hbm, ⟨6, _⟩ => ⟨S2048x2048, .bf16⟩
  | .hbm, ⟨7, _⟩ => ⟨S2048x8192, .bf16⟩
  | .hbm, ⟨8, _⟩ => ⟨S2048x8192, .bf16⟩
  | .local _ .vmem, ⟨0, _⟩ => ⟨S2048x2048, .bf16⟩
  | .local _ .vmem, ⟨1, _⟩ => ⟨S1x1x2048x512, .bf16⟩
  | .local _ .vmem, ⟨2, _⟩ => ⟨S1x1x2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![1, 1, 16, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, arg3.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false, true]

abbrev stage0_1 : Fin 2 → Memref sig .tc .vmem S1x1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference10Ideal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .f32⟩
  | .hbm, ⟨8, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S2048x2048 : Shape := ⟨2, ![2048, 2048]⟩
abbrev S1x4x512x512 : Shape := ⟨4, ![1, 4, 512, 512]⟩
abbrev S1x2048 : Shape := ⟨2, ![1, 2048]⟩
abbrev S4x512x512 : Shape := ⟨3, ![4, 512, 512]⟩
abbrev S4x4x128x512 : Shape := ⟨4, ![4, 4, 128, 512]⟩
abbrev S2048x512 : Shape := ⟨2, ![2048, 512]⟩
abbrev S4x1x128x512 : Shape := ⟨4, ![4, 1, 128, 512]⟩
abbrev S1x512 : Shape := ⟨2, ![1, 512]⟩
abbrev S4x128x512 : Shape := ⟨3, ![4, 128, 512]⟩
abbrev S512x512 : Shape := ⟨2, ![512, 512]⟩

abbrev nBuf : Space → Nat
  | .hbm => 10
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S1x4x512x512, .f32⟩
  | .hbm, ⟨2, _⟩ => ⟨S1x2048, .f32⟩
  | .hbm, ⟨3, _⟩ => ⟨S4x512x512, .f32⟩
  | .hbm, ⟨4, _⟩ => ⟨S4x512x512, .bf16⟩
  | .hbm, ⟨5, _⟩ => ⟨S4x4x128x512, .bf16⟩
  | .hbm, ⟨6, _⟩ => ⟨S4x4x128x512, .bf16⟩
  | .hbm, ⟨7, _⟩ => ⟨S2048x2048, .bf16⟩
  | .hbm, ⟨8, _⟩ => ⟨S2048x2048, .f32⟩
  | .hbm, ⟨9, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S1x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![4, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg1.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true, false]
-- ==== Reference11Ideal.lean ====
abbrev S2048x2048 : Shape := ⟨2, ![2048, 2048]⟩
abbrev S1x4x512x512 : Shape := ⟨4, ![1, 4, 512, 512]⟩
abbrev S1x2048 : Shape := ⟨2, ![1, 2048]⟩
abbrev S2048x4x512 : Shape := ⟨3, ![2048, 4, 512]⟩
abbrev S4x512x512 : Shape := ⟨3, ![4, 512, 512]⟩
abbrev S4x512x2048 : Shape := ⟨3, ![4, 512, 2048]⟩
abbrev S2048 : Shape := ⟨1, ![2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x4x512x512, .f32⟩
  | .hbm, ⟨2, _⟩ => ⟨S1x2048, .f32⟩
  | .hbm, ⟨3, _⟩ => ⟨S2048x4x512, .f32⟩
  | .hbm, ⟨4, _⟩ => ⟨S4x512x512, .f32⟩
  | .hbm, ⟨5, _⟩ => ⟨S4x512x2048, .f32⟩
  | .hbm, ⟨6, _⟩ => ⟨S2048x4x512, .f32⟩
  | .hbm, ⟨7, _⟩ => ⟨S2048x2048, .f32⟩
  | .hbm, ⟨8, _⟩ => ⟨S2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel12.lean ====
abbrev S2048x2048 : Shape := ⟨2, ![2048, 2048]⟩
abbrev S2048x8192 : Shape := ⟨2, ![2048, 8192]⟩
abbrev S8192x2048 : Shape := ⟨2, ![8192, 2048]⟩
abbrev S2048x8x2x512 : Shape := ⟨4, ![2048, 8, 2, 512]⟩
abbrev S2048x8x1x512 : Shape := ⟨4, ![2048, 8, 1, 512]⟩
abbrev S2048x8x512 : Shape := ⟨3, ![2048, 8, 512]⟩
abbrev S8x2x512x2048 : Shape := ⟨4, ![8, 2, 512, 2048]⟩
abbrev S8x1x512x2048 : Shape := ⟨4, ![8, 1, 512, 2048]⟩
abbrev S8x512x2048 : Shape := ⟨3, ![8, 512, 2048]⟩
abbrev S4x1x2048x2048 : Shape := ⟨4, ![4, 1, 2048, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S8192x2048, .bf16⟩
  | .hbm, ⟨3, _⟩ => ⟨S2048x8x2x512, .bf16⟩
  | .hbm, ⟨4, _⟩ => ⟨S2048x8x1x512, .bf16⟩
  | .hbm, ⟨5, _⟩ => ⟨S2048x8x512, .bf16⟩
  | .hbm, ⟨6, _⟩ => ⟨S8x2x512x2048, .bf16⟩
  | .hbm, ⟨7, _⟩ => ⟨S8x1x512x2048, .bf16⟩
  | .hbm, ⟨8, _⟩ => ⟨S8x512x2048, .bf16⟩
  | .hbm, ⟨9, _⟩ => ⟨S2048x8x512, .f32⟩
  | .hbm, ⟨10, _⟩ => ⟨S8x512x2048, .f32⟩
  | .hbm, ⟨11, _⟩ => ⟨S2048x2048, .f32⟩
  | .hbm, ⟨12, _⟩ => ⟨S2048x2048, .f32⟩
  | .hbm, ⟨13, _⟩ => ⟨S4x1x2048x2048, .bf16⟩
  | .hbm, ⟨14, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 8], ![false, false, false, false]⟩

def k0_cond3 (i : grid0.Coords) : BitVec 1 :=
  let arg3 : BitVec 32 := BitVec.ofNat 32 (i 3).val
  let c7_i32 : BitVec 32 := 7#32
  let v10 : BitVec 1 := Scalar.cmpi .eq arg3 c7_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c1_i32_11 : BitVec 32 := 1#32
  let v28 : BitVec 32 := Scalar.addi v27 c1_i32_11
  let c4_i32 : BitVec 32 := 4#32
  let v29 : BitVec 32 := Scalar.muli v16 c4_i32
  let c2_i32_12 : BitVec 32 := 2#32
  let v30 : BitVec 32 := Scalar.divsi arg3 c2_i32_12
  let c0_i32_13 : BitVec 32 := 0#32
  let v31 : BitVec 1 := Scalar.cmpi .sgt arg3 c0_i32_13
  let v32 : BitVec 32 := Scalar.extui v31
  let c0_i32_14 : BitVec 32 := 0#32
  let v33 : BitVec 1 := Scalar.cmpi .slt arg3 c0_i32_14
  let v34 : BitVec 32 := Scalar.extui v33
  let v35 : BitVec 32 := Scalar.subi v32 v34
  let c0_i32_15 : BitVec 32 := 0#32
  let v36 : BitVec 1 := Scalar.cmpi .sgt c2_i32_12 c0_i32_15
  let v37 : BitVec 32 := Scalar.extui v36
  let c0_i32_16 : BitVec 32 := 0#32
  let v38 : BitVec 1 := Scalar.cmpi .slt c2_i32_12 c0_i32_16
  let v39 : BitVec 32 := Scalar.extui v38
  let v40 : BitVec 32 := Scalar.subi v37 v39
  let v41 : BitVec 1 := Scalar.cmpi .ne v35 v40
  let v42 : BitVec 32 := Scalar.remsi arg3 c2_i32_12
  let c0_i32_17 : BitVec 32 := 0#32
  let v43 : BitVec 1 := Scalar.cmpi .ne v42 c0_i32_17
  let v44 : BitVec 1 := Scalar.andi v41 v43
  let c1_i32_18 : BitVec 32 := 1#32
  let v45 : BitVec 32 := Scalar.subi v30 c1_i32_18
  let v46 : BitVec 32 := Scalar.select v44 v45 v30
  let c2_i32_19 : BitVec 32 := 2#32
  let c0_i32_20 : BitVec 32 := 0#32
  let v47 : BitVec 1 := Scalar.cmpi .eq c2_i32_19 c0_i32_20
  let c1_i32_21 : BitVec 32 := 1#32
  let v48 : BitVec 32 := Scalar.select v47 c1_i32_21 c2_i32_19
  let v49 : BitVec 32 := Scalar.remsi arg3 v48
  let c0_i32_22 : BitVec 32 := 0#32
  let v50 : BitVec 1 := Scalar.cmpi .ne v49 c0_i32_22
  let c0_i32_23 : BitVec 32 := 0#32
  let v51 : BitVec 1 := Scalar.cmpi .slt v49 c0_i32_23
  let c0_i32_24 : BitVec 32 := 0#32
  let v52 : BitVec 1 := Scalar.cmpi .slt v48 c0_i32_24
  let v53 : BitVec 1 := Scalar.xori v51 v52
  let v54 : BitVec 1 := Scalar.andi v53 v50
  let v55 : BitVec 32 := Scalar.addi v49 v48
  let v56 : BitVec 32 := Scalar.select v54 v55 v49
  let c2_i32_25 : BitVec 32 := 2#32
  let v57 : BitVec 32 := Scalar.muli v56 c2_i32_25
  let c1_i32_26 : BitVec 32 := 1#32
  let v58 : BitVec 32 := Scalar.addi v57 c1_i32_26
  let v59 : BitVec 32 := Scalar.addi v29 v58
  let c0_i32_27 : BitVec 32 := 0#32
  ![arg1.toNat, v59.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg3 c2_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg3 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg3 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.muli v26 c2_i32_10
  let c1_i32_11 : BitVec 32 := 1#32
  let v28 : BitVec 32 := Scalar.addi v27 c1_i32_11
  let c2_i32_12 : BitVec 32 := 2#32
  let v29 : BitVec 32 := Scalar.divsi arg3 c2_i32_12
  let c0_i32_13 : BitVec 32 := 0#32
  let v30 : BitVec 1 := Scalar.cmpi .sgt arg3 c0_i32_13
  let v31 : BitVec 32 := Scalar.extui v30
  let c0_i32_14 : BitVec 32 := 0#32
  let v32 : BitVec 1 := Scalar.cmpi .slt arg3 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi arg3 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let c2_i32_19 : BitVec 32 := 2#32
  let c0_i32_20 : BitVec 32 := 0#32
  let v46 : BitVec 1 := Scalar.cmpi .eq c2_i32_19 c0_i32_20
  let c1_i32_21 : BitVec 32 := 1#32
  let v47 : BitVec 32 := Scalar.select v46 c1_i32_21 c2_i32_19
  let v48 : BitVec 32 := Scalar.remsi arg3 v47
  let c0_i32_22 : BitVec 32 := 0#32
  let v49 : BitVec 1 := Scalar.cmpi .ne v48 c0_i32_22
  let c0_i32_23 : BitVec 32 := 0#32
  let v50 : BitVec 1 := Scalar.cmpi .slt v48 c0_i32_23
  let c0_i32_24 : BitVec 32 := 0#32
  let v51 : BitVec 1 := Scalar.cmpi .slt v47 c0_i32_24
  let v52 : BitVec 1 := Scalar.xori v50 v51
  let v53 : BitVec 1 := Scalar.andi v52 v49
  let v54 : BitVec 32 := Scalar.addi v48 v47
  let v55 : BitVec 32 := Scalar.select v53 v54 v48
  let c2_i32_25 : BitVec 32 := 2#32
  let v56 : BitVec 32 := Scalar.muli v55 c2_i32_25
  let c1_i32_26 : BitVec 32 := 1#32
  let v57 : BitVec 32 := Scalar.addi v56 c1_i32_26
  let c0_i32_27 : BitVec 32 := 0#32
  let c0_i32_28 : BitVec 32 := 0#32
  ![v16.toNat, c0_i32_27.toNat, v57.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== Reference12Ideal.lean ====
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .bf16⟩
  | .hbm, ⟨2, _⟩ => ⟨S8192x2048, .bf16⟩
  | .hbm, ⟨3, _⟩ => ⟨S2048x8192, .f32⟩
  | .hbm, ⟨4, _⟩ => ⟨S8192x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S1x128 : Shape := ⟨2, ![1, 128]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x1, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | _, _ => ⟨S1x128, .f32⟩

abbrev bufScoped : (cs : CoreSpace) → Fin (nBuf (.core cs)) → Bool
  | _, _ => false

abbrev semScoped : Fin 1 → Bool
  | ⟨0, _⟩ => false
  | _ => false

abbrev dmaSemScoped : Fin 2 → Bool
  | ⟨0, _⟩ => false
  | ⟨1, _⟩ => false
  | _ => false

abbrev sig : RefSig :=
  ofTc nBuf bufTy 1 2 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v3_s0 : Ref sig .tc := ⟨.hbm, 4, rfl⟩
abbrev main_v3_s1 : Ref sig .tc := ⟨.hbm, 5, rfl⟩
abbrev main_v3_s2 : Ref sig .tc := ⟨.hbm, 6, rfl⟩
abbrev main_v3_s3 : Ref sig .tc := ⟨.hbm, 7, rfl⟩
abbrev main_v3_s4 : Ref sig .tc := ⟨.hbm, 8, rfl⟩
abbrev main_v3_s5 : Ref sig .tc := ⟨.hbm, 9, rfl⟩
abbrev main_v3_s6 : Ref sig .tc := ⟨.hbm, 10, rfl⟩
abbrev main_v3_s7 : Ref sig .tc := ⟨.hbm, 11, rfl⟩
abbrev ar0_recv : DmaSem sig := 0
abbrev ar0_send : DmaSem sig := 1
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v3_s0 | 1 => main_v3_s1 | 2 => main_v3_s2 | 3 => main_v3_s3 | 4 => main_v3_s4 | 5 => main_v3_s5 | 6 => main_v3_s6 | 7 => main_v3_s7 | ⟨_ + 8, h⟩ => absurd h (Nat.not_lt.2 (Nat.le_add_left _ _))
-- ==== Reference13Ideal.lean ====
abbrev S8x128 : Shape := ⟨2, ![8, 128]⟩
abbrev S8x1 : Shape := ⟨2, ![8, 1]⟩
abbrev S8 : Shape := ⟨1, ![8]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x1, .f32⟩
  | .hbm, ⟨2, _⟩ => ⟨S8, .f32⟩
  | .hbm, ⟨3, _⟩ => ⟨S_, .f32⟩
  | .hbm, ⟨4, _⟩ => ⟨S_, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S2048x2048 : Shape := ⟨2, ![2048, 2048]⟩
abbrev S4x1x512x2048 : Shape := ⟨4, ![4, 1, 512, 2048]⟩
abbrev S1x1x512x2048 : Shape := ⟨4, ![1, 1, 512, 2048]⟩
abbrev S2048x512 : Shape := ⟨2, ![2048, 512]⟩
abbrev S512x2048 : Shape := ⟨2, ![512, 2048]⟩

abbrev nBuf : Space → Nat
  | .hbm => 6
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S4x1x512x2048, .bf16⟩
  | .hbm, ⟨4, _⟩ => ⟨S2048x2048, .f32⟩
  | .hbm, ⟨5, _⟩ => ⟨S4x1x512x2048, .bf16⟩
  | .local _ .vmem, ⟨0, _⟩ => ⟨S2048x2048, .bf16⟩
  | .local _ .vmem, ⟨1, _⟩ => ⟨S1x1x512x2048, .bf16⟩
  | .local _ .vmem, ⟨2, _⟩ => ⟨S1x1x512x2048, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | .local _ .vmem, ⟨6, _⟩ => ⟨S2048x512, .f32⟩
  | .local _ .vmem, ⟨7, _⟩ => ⟨S1x1x512x2048, .bf16⟩
  | .local _ .vmem, ⟨8, _⟩ => ⟨S1x1x512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference14Ideal.lean ====
abbrev S2048x2048 : Shape := ⟨2, ![2048, 2048]⟩
abbrev S4x1x512x2048 : Shape := ⟨4, ![4, 1, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S4x1x512x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel15.lean ====
abbrev S2048x8192 : Shape := ⟨2, ![2048, 8192]⟩
abbrev S2048x2048 : Shape := ⟨2, ![2048, 2048]⟩
abbrev S4x1x2048x2048 : Shape := ⟨4, ![4, 1, 2048, 2048]⟩
abbrev S2048x1024 : Shape := ⟨2, ![2048, 1024]⟩
abbrev S1x1x1024x2048 : Shape := ⟨4, ![1, 1, 1024, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S4x1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S1x1x1024x2048, .bf16⟩
  | .local _ .vmem, ⟨4, _⟩ => ⟨S1x1x1024x2048, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 1, 8, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c8_i32 : BitVec 32 := 8#32
  let v0 : BitVec 32 := Scalar.muli arg0 c8_i32
  let v1 : BitVec 32 := Scalar.addi v0 arg2
  let c0_i32 : BitVec 32 := 0#32
  ![arg3.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg1
  let c0_i32 : BitVec 32 := 0#32
  ![arg3.toNat, v1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== Reference15Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩
abbrev S4x1x2048x2048 : Shape := ⟨4, ![4, 1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x8192, .f32⟩
  | .hbm, ⟨5, _⟩ => ⟨S2048x2048, .f32⟩
  | .hbm, ⟨6, _⟩ => ⟨S2048x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | .hbm, ⟨10, _⟩ => ⟨S4x1x2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S2048x2048 : Shape := ⟨2, ![2048, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4x1x2048x2048, .bf16⟩
  | .hbm, ⟨6, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v10 : BitVec 1 := Scalar.cmpi .eq arg3 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg3
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.divsi arg3 c1_i32
  let c0_i32 : BitVec 32 := 0#32
  let v1 : BitVec 1 := Scalar.cmpi .sgt arg3 c0_i32
  let v2 : BitVec 32 := Scalar.extui v1
  let c0_i32_0 : BitVec 32 := 0#32
  let v3 : BitVec 1 := Scalar.cmpi .slt arg3 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg3 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg3 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference16Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8x1x2048 : Shape := ⟨3, ![8, 1, 2048]⟩
abbrev S8x1x8x128x128 : Shape := ⟨5, ![8, 1, 8, 128, 128]⟩
abbrev S8x1x8x128 : Shape := ⟨4, ![8, 1, 8, 128]⟩
abbrev S8x2x2048 : Shape := ⟨3, ![8, 2, 2048]⟩
abbrev S8x2048 : Shape := ⟨2, ![8, 2048]⟩
abbrev S_ : Shape := ⟨0, ![]⟩
abbrev S8x16x128 : Shape := ⟨3, ![8, 16, 128]⟩
abbrev S8x131072 : Shape := ⟨2, ![8, 131072]⟩
abbrev S8x1024x128 : Shape := ⟨3, ![8, 1024, 128]⟩
abbrev S8x1024 : Shape := ⟨2, ![8, 1024]⟩
abbrev S8x8x128 : Shape := ⟨3, ![8, 8, 128]⟩
abbrev S8x4096 : Shape := ⟨2, ![8, 4096]⟩
abbrev S8x32x128 : Shape := ⟨3, ![8, 32, 128]⟩
abbrev S8x1160x128 : Shape := ⟨3, ![8, 1160, 128]⟩
abbrev S1160x128 : Shape := ⟨2, ![1160, 128]⟩
abbrev S1x1160x128 : Shape := ⟨3, ![1, 1160, 128]⟩
abbrev S16x128 : Shape := ⟨2, ![16, 128]⟩
abbrev S2048 : Shape := ⟨1, ![2048]⟩
abbrev S1x2048 : Shape := ⟨2, ![1, 2048]⟩
abbrev S1024x128 : Shape := ⟨2, ![1024, 128]⟩
abbrev S131072 : Shape := ⟨1, ![131072]⟩
abbrev S1x8x128x128 : Shape := ⟨4, ![1, 8, 128, 128]⟩
abbrev S8x128 : Shape := ⟨2, ![8, 128]⟩
abbrev S1024 : Shape := ⟨1, ![1024]⟩
abbrev S1x8x128 : Shape := ⟨3, ![1, 8, 128]⟩
abbrev S32x128 : Shape := ⟨2, ![32, 128]⟩
abbrev S4096 : Shape := ⟨1, ![4096]⟩
abbrev S2x2048 : Shape := ⟨2, ![2, 2048]⟩

abbrev nBuf : Space → Nat
  | .hbm => 72
  | .vmem => 2
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x1x8x128x128, .f32⟩
  | .hbm, ⟨3, _⟩ => ⟨S8x1x8x128, .f32⟩
  | .hbm, ⟨4, _⟩ => ⟨S8x1x2048, .f32⟩
  | .hbm, ⟨5, _⟩ => ⟨S8x2x2048, .f32⟩
  | .hbm, ⟨6, _⟩ => ⟨S8x2x2048, .f32⟩
  | .hbm, ⟨7, _⟩ => ⟨S8x2048, .f32⟩
  | .hbm, ⟨8, _⟩ => ⟨S8x2048, .f32⟩
  | .hbm, ⟨9, _⟩ => ⟨S_, .i32⟩
  | .hbm, ⟨10, _⟩ => ⟨S_, .f32⟩
  | .hbm, ⟨11, _⟩ => ⟨S8x2048, .f32⟩
  | .hbm, ⟨12, _⟩ => ⟨S8x16x128, .f32⟩
  | .hbm, ⟨13, _⟩ => ⟨S8x2048, .f32⟩
  | .hbm, ⟨14, _⟩ => ⟨S_, .i32⟩
  | .hbm, ⟨15, _⟩ => ⟨S_, .f32⟩
  | .hbm, ⟨16, _⟩ => ⟨S8x2048, .f32⟩
  | .hbm, ⟨17, _⟩ => ⟨S8x16x128, .f32⟩
  | .hbm, ⟨18, _⟩ => ⟨S8x131072, .f32⟩
  | .hbm, ⟨19, _⟩ => ⟨S_, .i32⟩
  | .hbm, ⟨20, _⟩ => ⟨S_, .f32⟩
  | .hbm, ⟨21, _⟩ => ⟨S8x131072, .f32⟩
  | .hbm, ⟨22, _⟩ => ⟨S8x1024x128, .f32⟩
  | .hbm, ⟨23, _⟩ => ⟨S8x1024, .f32⟩
  | .hbm, ⟨24, _⟩ => ⟨S_, .i32⟩
  | .hbm, ⟨25, _⟩ => ⟨S_, .f32⟩
  | .hbm, ⟨26, _⟩ => ⟨S8x1024, .f32⟩
  | .hbm, ⟨27, _⟩ => ⟨S8x8x128, .f32⟩
  | .hbm, ⟨28, _⟩ => ⟨S8x2048, .f32⟩
  | .hbm, ⟨29, _⟩ => ⟨S_, .i32⟩
  | .hbm, ⟨30, _⟩ => ⟨S_, .f32⟩
  | .hbm, ⟨31, _⟩ => ⟨S8x2048, .f32⟩
  | .hbm, ⟨32, _⟩ => ⟨S8x16x128, .f32⟩
  | .hbm, ⟨33, _⟩ => ⟨S8x4096, .f32⟩
  | .hbm, ⟨34, _⟩ => ⟨S_, .i32⟩
  | .hbm, ⟨35, _⟩ => ⟨S_, .f32⟩
  | .hbm, ⟨36, _⟩ => ⟨S8x4096, .f32⟩
  | .hbm, ⟨37, _⟩ => ⟨S8x32x128, .f32⟩
  | .hbm, ⟨38, _⟩ => ⟨S8x4096, .f32⟩
  | .hbm, ⟨39, _⟩ => ⟨S_, .i32⟩
  | .hbm, ⟨40, _⟩ => ⟨S_, .f32⟩
  | .hbm, ⟨41, _⟩ => ⟨S8x4096, .f32⟩
  | .hbm, ⟨42, _⟩ => ⟨S8x32x128, .f32⟩
  | .hbm, ⟨43, _⟩ => ⟨S_, .i32⟩
  | .hbm, ⟨44, _⟩ => ⟨S_, .f32⟩
  | .hbm, ⟨45, _⟩ => ⟨S8x2048, .f32⟩
  | .hbm, ⟨46, _⟩ => ⟨S8x16x128, .f32⟩
  | .hbm, ⟨47, _⟩ => ⟨S8x1160x128, .f32⟩
  | .hbm, ⟨48, _⟩ => ⟨S1160x128, .f32⟩
  | .hbm, ⟨49, _⟩ => ⟨S16x128, .f32⟩
  | .hbm, ⟨50, _⟩ => ⟨S2048, .f32⟩
  | .hbm, ⟨51, _⟩ => ⟨S1x2048, .f32⟩
  | .hbm, ⟨52, _⟩ => ⟨S16x128, .f32⟩
  | .hbm, ⟨53, _⟩ => ⟨S2048, .f32⟩
  | .hbm, ⟨54, _⟩ => ⟨S1x2048, .f32⟩
  | .hbm, ⟨55, _⟩ => ⟨S1024x128, .f32⟩
  | .hbm, ⟨56, _⟩ => ⟨S131072, .f32⟩
  | .hbm, ⟨57, _⟩ => ⟨S1x8x128x128, .f32⟩
  | .hbm, ⟨58, _⟩ => ⟨S8x128, .f32⟩
  | .hbm, ⟨59, _⟩ => ⟨S1024, .f32⟩
  | .hbm, ⟨60, _⟩ => ⟨S1x8x128, .f32⟩
  | .hbm, ⟨61, _⟩ => ⟨S16x128, .f32⟩
  | .hbm, ⟨62, _⟩ => ⟨S2048, .f32⟩
  | .hbm, ⟨63, _⟩ => ⟨S1x2048, .f32⟩
  | .hbm, ⟨64, _⟩ => ⟨S32x128, .f32⟩
  | .hbm, ⟨65, _⟩ => ⟨S4096, .f32⟩
  | .hbm, ⟨66, _⟩ => ⟨S2x2048, .f32⟩
  | .hbm, ⟨67, _⟩ => ⟨S32x128, .f32⟩
  | .hbm, ⟨68, _⟩ => ⟨S4096, .f32⟩
  | .hbm, ⟨69, _⟩ => ⟨S2x2048, .f32⟩
  | .hbm, ⟨70, _⟩ => ⟨S16x128, .f32⟩
  | .hbm, ⟨71, _⟩ => ⟨S2048, .f32⟩
  | .local _ .vmem, ⟨0, _⟩ => ⟨S8x1160x128, .f32⟩
  | .local _ .vmem, ⟨1, _⟩ => ⟨S1160x128, .f32⟩
  | _, _ => ⟨S8x1x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_call1_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_call2_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_call3_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_call4_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_call5_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_call6_v0 : Ref sig .tc := ⟨.hbm, 40, rfl⟩
abbrev main_v19 : Ref sig .tc := ⟨.hbm, 41, rfl⟩
abbrev main_v20 : Ref sig .tc := ⟨.hbm, 42, rfl⟩
abbrev main_c_6 : Ref sig .tc := ⟨.hbm, 43, rfl⟩
abbrev main_call7_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference17Ideal.lean ====
abbrev S8x1x2048 : Shape := ⟨3, ![8, 1, 2048]⟩
abbrev S8x1x8x128x128 : Shape := ⟨5, ![8, 1, 8, 128, 128]⟩
abbrev S8x1x8x128 : Shape := ⟨4, ![8, 1, 8, 128]⟩
abbrev S8x2x2048 : Shape := ⟨3, ![8, 2, 2048]⟩
abbrev S8x2048 : Shape := ⟨2, ![8, 2048]⟩
abbrev S_ : Shape := ⟨0, ![]⟩
abbrev S1x2048 : Shape := ⟨2, ![1, 2048]⟩
abbrev S1x8x128x128 : Shape := ⟨4, ![1, 8, 128, 128]⟩
abbrev S1x8x128 : Shape := ⟨3, ![1, 8, 128]⟩
abbrev S2x2048 : Shape := ⟨2, ![2, 2048]⟩
abbrev S2048 : Shape := ⟨1, ![2048]⟩

abbrev nBuf : Space → Nat
  | .hbm => 24
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S8x1x2048, .f32⟩
  | .hbm, ⟨2, _⟩ => ⟨S8x1x8x128x128, .f32⟩
  | .hbm, ⟨3, _⟩ => ⟨S8x1x8x128, .f32⟩
  | .hbm, ⟨4, _⟩ => ⟨S8x1x2048, .f32⟩
  | .hbm, ⟨5, _⟩ => ⟨S8x2x2048, .f32⟩
  | .hbm, ⟨6, _⟩ => ⟨S8x2x2048, .f32⟩
  | .hbm, ⟨7, _⟩ => ⟨S8x2048, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S_, .f32⟩
  | .hbm, ⟨13, _⟩ => ⟨S1x8x128x128, .f32⟩
  | .hbm, ⟨14, _⟩ => ⟨S_, .f32⟩
  | .hbm, ⟨15, _⟩ => ⟨S1x8x128, .f32⟩
  | .hbm, ⟨16, _⟩ => ⟨S_, .f32⟩
  | .hbm, ⟨17, _⟩ => ⟨S1x2048, .f32⟩
  | .hbm, ⟨18, _⟩ => ⟨S_, .f32⟩
  | .hbm, ⟨19, _⟩ => ⟨S2x2048, .f32⟩
  | .hbm, ⟨20, _⟩ => ⟨S_, .f32⟩
  | .hbm, ⟨21, _⟩ => ⟨S2x2048, .f32⟩
  | .hbm, ⟨22, _⟩ => ⟨S_, .f32⟩
  | .hbm, ⟨23, _⟩ => ⟨S2048, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_cst_3 : Ref sig .tc := ⟨.hbm, 16, rfl⟩
abbrev main_v4 : Ref sig .tc := ⟨.hbm, 17, rfl⟩
abbrev main_cst_4 : Ref sig .tc := ⟨.hbm, 18, rfl⟩
abbrev main_v5 : Ref sig .tc := ⟨.hbm, 19, rfl⟩
abbrev main_cst_5 : Ref sig .tc := ⟨.hbm, 20, rfl⟩
abbrev main_v6 : Ref sig .tc := ⟨.hbm, 21, rfl⟩
abbrev main_cst_6 : Ref sig .tc := ⟨.hbm, 22, rfl⟩
abbrev main_v7 : Ref sig .tc := ⟨.hbm, 23, rfl⟩

abbrev nD : Nat := 1
abbrev τ : Topo := Topo.v7x

variable {F : FTy → Type} [FloatOps F]
-- ==== Kernel19.lean ====
abbrev S2x2048x2048 : Shape := ⟨3, ![2, 2048, 2048]⟩
abbrev S4x1x2048x2048 : Shape := ⟨4, ![4, 1, 2048, 2048]⟩
abbrev S1x256x2048 : Shape := ⟨3, ![1, 256, 2048]⟩
abbrev S4x1x256x2048 : Shape := ⟨4, ![4, 1, 256, 2048]⟩
abbrev S1x1x256x2048 : Shape := ⟨4, ![1, 1, 256, 2048]⟩
abbrev S256x2048 : Shape := ⟨2, ![256, 2048]⟩

abbrev nBuf : Space → Nat
  | .hbm => 12
  | .vmem => 16
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S4x1x2048x2048, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S2x2048x2048, .f32⟩
  | .hbm, ⟨9, _⟩ => ⟨S2x2048x2048, .f32⟩
  | .hbm, ⟨10, _⟩ => ⟨S2x2048x2048, .f32⟩
  | .hbm, ⟨11, _⟩ => ⟨S2x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S4x1x256x2048, .bf16⟩
  | .local _ .vmem, ⟨7, _⟩ => ⟨S4x1x256x2048, .bf16⟩
  | .local _ .vmem, ⟨8, _⟩ => ⟨S1x256x2048, .f32⟩
  | .local _ .vmem, ⟨9, _⟩ => ⟨S1x256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference19Ideal.lean ====
abbrev S2x2048x2048 : Shape := ⟨3, ![2, 2048, 2048]⟩
abbrev S4x1x2048x2048 : Shape := ⟨4, ![4, 1, 2048, 2048]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩

abbrev nBuf : Space → Nat
  | .hbm => 71
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2x2048x2048, .f32⟩
  | .hbm, ⟨3, _⟩ => ⟨S4x1x2048x2048, .bf16⟩
  | .hbm, ⟨4, _⟩ => ⟨S2x2048x2048, .f32⟩
  | .hbm, ⟨5, _⟩ => ⟨S2x2048x2048, .f32⟩
  | .hbm, ⟨6, _⟩ => ⟨S2x2048x2048, .f32⟩
  | .hbm, ⟨7, _⟩ => ⟨S2x2048x2048, .f32⟩
  | .hbm, ⟨8, _⟩ => ⟨S4x2048x2048, .bf16⟩
  | .hbm, ⟨9, _⟩ => ⟨S4x2048x2048, .f32⟩
  | .hbm, ⟨10, _⟩ => ⟨S_, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S1x2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S_, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048x2048, .f32⟩
  | .hbm, ⟨50, _⟩ => ⟨S2048x2048, .f32⟩
  | .hbm, ⟨51, _⟩ => ⟨S1x2048x2048, .f32⟩
  | .hbm, ⟨52, _⟩ => ⟨S2048x2048, .f32⟩
  | .hbm, ⟨53, _⟩ => ⟨S1x2048x2048, .f32⟩
  | .hbm, ⟨54, _⟩ => ⟨S1x2048x2048, .f32⟩
  | .hbm, ⟨55, _⟩ => ⟨S2x2048x2048, .f32⟩
  | .hbm, ⟨56, _⟩ => ⟨S1x2048x2048, .f32⟩
  | .hbm, ⟨57, _⟩ => ⟨S2048x2048, .f32⟩
  | .hbm, ⟨58, _⟩ => ⟨S1x2048x2048, .f32⟩
  | .hbm, ⟨59, _⟩ => ⟨S1x2048x2048, .f32⟩
  | .hbm, ⟨60, _⟩ => ⟨S2x2048x2048, .f32⟩
  | .hbm, ⟨61, _⟩ => ⟨S1x2048x2048, .f32⟩
  | .hbm, ⟨62, _⟩ => ⟨S2048x2048, .f32⟩
  | .hbm, ⟨63, _⟩ => ⟨S1x2048x2048, .f32⟩
  | .hbm, ⟨64, _⟩ => ⟨S1x2048x2048, .f32⟩
  | .hbm, ⟨65, _⟩ => ⟨S2x2048x2048, .f32⟩
  | .hbm, ⟨66, _⟩ => ⟨S1x2048x2048, .f32⟩
  | .hbm, ⟨67, _⟩ => ⟨S2048x2048, .f32⟩
  | .hbm, ⟨68, _⟩ => ⟨S1x2048x2048, .f32⟩
  | .hbm, ⟨69, _⟩ => ⟨S1x2048x2048, .f32⟩
  | .hbm, ⟨70, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel18.lean ====
abbrev S1x2048 : Shape := ⟨2, ![1, 2048]⟩
abbrev S1x8x128x128 : Shape := ⟨4, ![1, 8, 128, 128]⟩
abbrev S1x8x128 : Shape := ⟨3, ![1, 8, 128]⟩
abbrev S1x512 : Shape := ⟨2, ![1, 512]⟩
abbrev S2x2048 : Shape := ⟨2, ![2, 2048]⟩
abbrev S2048 : Shape := ⟨1, ![2048]⟩
abbrev S_ : Shape := ⟨0, ![]⟩
abbrev S16x128 : Shape := ⟨2, ![16, 128]⟩
abbrev S131072 : Shape := ⟨1, ![131072]⟩
abbrev S1024x128 : Shape := ⟨2, ![1024, 128]⟩
abbrev S1024 : Shape := ⟨1, ![1024]⟩
abbrev S8x128 : Shape := ⟨2, ![8, 128]⟩
abbrev S512 : Shape := ⟨1, ![512]⟩
abbrev S4096 : Shape := ⟨1, ![4096]⟩
abbrev S32x128 : Shape := ⟨2, ![32, 128]⟩
abbrev S1152x128 : Shape := ⟨2, ![1152, 128]⟩

abbrev nBuf : Space → Nat
  | .hbm => 267
  | .vmem => 7
  | .smem => 0
  | _ => 0

abbrev hbmTy0_0 (i : Nat) : BufTy := match i % 128 with
  | 0 => ⟨S1x2048, .f32⟩
  | 1 => ⟨S1x2048, .f32⟩
  | 2 => ⟨S1x8x128x128, .f32⟩
  | 3 => ⟨S1x8x128, .f32⟩
  | 4 => ⟨S1x512, .f32⟩
  | 5 => ⟨S2x2048, .f32⟩
  | 6 => ⟨S2x2048, .f32⟩
  | 7 => ⟨S2048, .f32⟩
  | 8 => ⟨S1x2048, .f32⟩
  | 9 => ⟨S1x2048, .f32⟩
  | 10 => ⟨S1x8x128x128, .f32⟩
  | 11 => ⟨S1x8x128, .f32⟩
  | 12 => ⟨S1x512, .f32⟩
  | 13 => ⟨S2x2048, .f32⟩
  | 14 => ⟨S2x2048, .f32⟩
  | 15 => ⟨S2048, .f32⟩
  | 16 => ⟨S1x2048, .f32⟩
  | 17 => ⟨S1x2048, .f32⟩
  | 18 => ⟨S1x8x128x128, .f32⟩
  | 19 => ⟨S1x8x128, .f32⟩
  | 20 => ⟨S1x512, .f32⟩
  | 21 => ⟨S2x2048, .f32⟩
  | 22 => ⟨S2x2048, .f32⟩
  | 23 => ⟨S2048, .f32⟩
  | 24 => ⟨S1x2048, .f32⟩
  | 25 => ⟨S1x2048, .f32⟩
  | 26 => ⟨S1x8x128x128, .f32⟩
  | 27 => ⟨S1x8x128, .f32⟩
  | 28 => ⟨S1x512, .f32⟩
  | 29 => ⟨S2x2048, .f32⟩
  | 30 => ⟨S2x2048, .f32⟩
  | 31 => ⟨S2048, .f32⟩
  | 32 => ⟨S2048, .f32⟩
  | 33 => ⟨S_, .i32⟩
  | 34 => ⟨S_, .f32⟩
  | 35 => ⟨S2048, .f32⟩
  | 36 => ⟨S16x128, .f32⟩
  | 37 => ⟨S2048, .f32⟩
  | 38 => ⟨S_, .i32⟩
  | 39 => ⟨S_, .f32⟩
  | 40 => ⟨S2048, .f32⟩
  | 41 => ⟨S16x128, .f32⟩
  | 42 => ⟨S131072, .f32⟩
  | 43 => ⟨S_, .i32⟩
  | 44 => ⟨S_, .f32⟩
  | 45 => ⟨S131072, .f32⟩
  | 46 => ⟨S1024x128, .f32⟩
  | 47 => ⟨S1024, .f32⟩
  | 48 => ⟨S_, .i32⟩
  | 49 => ⟨S_, .f32⟩
  | 50 => ⟨S1024, .f32⟩
  | 51 => ⟨S8x128, .f32⟩
  | 52 => ⟨S512, .f32⟩
  | 53 => ⟨S_, .i32⟩
  | 54 => ⟨S_, .f32⟩
  | 55 => ⟨S1024, .f32⟩
  | 56 => ⟨S8x128, .f32⟩
  | 57 => ⟨S4096, .f32⟩
  | 58 => ⟨S_, .i32⟩
  | 59 => ⟨S_, .f32⟩
  | 60 => ⟨S4096, .f32⟩
  | 61 => ⟨S32x128, .f32⟩
  | 62 => ⟨S4096, .f32⟩
  | 63 => ⟨S_, .i32⟩
  | 64 => ⟨S_, .f32⟩
  | 65 => ⟨S4096, .f32⟩
  | 66 => ⟨S32x128, .f32⟩
  | 67 => ⟨S_, .i32⟩
  | 68 => ⟨S_, .f32⟩
  | 69 => ⟨S2048, .f32⟩
  | 70 => ⟨S16x128, .f32⟩
  | 71 => ⟨S1152x128, .f32⟩
  | 72 => ⟨S2048, .f32⟩
  | 73 => ⟨S_, .i32⟩
  | 74 => ⟨S_, .f32⟩
  | 75 => ⟨S2048, .f32⟩
  | 76 => ⟨S16x128, .f32⟩
  | 77 => ⟨S2048, .f32⟩
  | 78 => ⟨S_, .i32⟩
  | 79 => ⟨S_, .f32⟩
  | 80 => ⟨S2048, .f32⟩
  | 81 => ⟨S16x128, .f32⟩
  | 82 => ⟨S131072, .f32⟩
  | 83 => ⟨S_, .i32⟩
  | 84 => ⟨S_, .f32⟩
  | 85 => ⟨S131072, .f32⟩
  | 86 => ⟨S1024x128, .f32⟩
  | 87 => ⟨S1024, .f32⟩
  | 88 => ⟨S_, .i32⟩
  | 89 => ⟨S_, .f32⟩
  | 90 => ⟨S1024, .f32⟩
  | 91 => ⟨S8x128, .f32⟩
  | 92 => ⟨S512, .f32⟩
  | 93 => ⟨S_, .i32⟩
  | 94 => ⟨S_, .f32⟩
  | 95 => ⟨S1024, .f32⟩
  | 96 => ⟨S8x128, .f32⟩
  | 97 => ⟨S4096, .f32⟩
  | 98 => ⟨S_, .i32⟩
  | 99 => ⟨S_, .f32⟩
  | 100 => ⟨S4096, .f32⟩
  | 101 => ⟨S32x128, .f32⟩
  | 102 => ⟨S4096, .f32⟩
  | 103 => ⟨S_, .i32⟩
  | 104 => ⟨S_, .f32⟩
  | 105 => ⟨S4096, .f32⟩
  | 106 => ⟨S32x128, .f32⟩
  | 107 => ⟨S_, .i32⟩
  | 108 => ⟨S_, .f32⟩
  | 109 => ⟨S2048, .f32⟩
  | 110 => ⟨S16x128, .f32⟩
  | 111 => ⟨S1152x128, .f32⟩
  | 112 => ⟨S2048, .f32⟩
  | 113 => ⟨S_, .i32⟩
  | 114 => ⟨S_, .f32⟩
  | 115 => ⟨S2048, .f32⟩
  | 116 => ⟨S16x128, .f32⟩
  | 117 => ⟨S2048, .f32⟩
  | 118 => ⟨S_, .i32⟩
  | 119 => ⟨S_, .f32⟩
  | 120 => ⟨S2048, .f32⟩
  | 121 => ⟨S16x128, .f32⟩
  | 122 => ⟨S131072, .f32⟩
  | 123 => ⟨S_, .i32⟩
  | 124 => ⟨S_, .f32⟩
  | 125 => ⟨S131072, .f32⟩
  | 126 => ⟨S1024x128, .f32⟩
  | 127 => ⟨S1024, .f32⟩
  | _ => ⟨S1x2048, .f32⟩

abbrev hbmTy0_1 (i : Nat) : BufTy := match i % 128 with
  | 0 => ⟨S_, .i32⟩
  | 1 => ⟨S_, .f32⟩
  | 2 => ⟨S1024, .f32⟩
  | 3 => ⟨S8x128, .f32⟩
  | 4 => ⟨S512, .f32⟩
  | 5 => ⟨S_, .i32⟩
  | 6 => ⟨S_, .f32⟩
  | 7 => ⟨S1024, .f32⟩
  | 8 => ⟨S8x128, .f32⟩
  | 9 => ⟨S4096, .f32⟩
  | 10 => ⟨S_, .i32⟩
  | 11 => ⟨S_, .f32⟩
  | 12 => ⟨S4096, .f32⟩
  | 13 => ⟨S32x128, .f32⟩
  | 14 => ⟨S4096, .f32⟩
  | 15 => ⟨S_, .i32⟩
  | 16 => ⟨S_, .f32⟩
  | 17 => ⟨S4096, .f32⟩
  | 18 => ⟨S32x128, .f32⟩
  | 19 => ⟨S_, .i32⟩
  | 20 => ⟨S_, .f32⟩
  | 21 => ⟨S2048, .f32⟩
  | 22 => ⟨S16x128, .f32⟩
  | 23 => ⟨S1152x128, .f32⟩
  | 24 => ⟨S2048, .f32⟩
  | 25 => ⟨S_, .i32⟩
  | 26 => ⟨S_, .f32⟩
  | 27 => ⟨S2048, .f32⟩
  | 28 => ⟨S16x128, .f32⟩
  | 29 => ⟨S2048, .f32⟩
  | 30 => ⟨S_, .i32⟩
  | 31 => ⟨S_, .f32⟩
  | 32 => ⟨S2048, .f32⟩
  | 33 => ⟨S16x128, .f32⟩
  | 34 => ⟨S131072, .f32⟩
  | 35 => ⟨S_, .i32⟩
  | 36 => ⟨S_, .f32⟩
  | 37 => ⟨S131072, .f32⟩
  | 38 => ⟨S1024x128, .f32⟩
  | 39 => ⟨S1024, .f32⟩
  | 40 => ⟨S_, .i32⟩
  | 41 => ⟨S_, .f32⟩
  | 42 => ⟨S1024, .f32⟩
  | 43 => ⟨S8x128, .f32⟩
  | 44 => ⟨S512, .f32⟩
  | 45 => ⟨S_, .i32⟩
  | 46 => ⟨S_, .f32⟩
  | 47 => ⟨S1024, .f32⟩
  | 48 => ⟨S8x128, .f32⟩
  | 49 => ⟨S4096, .f32⟩
  | 50 => ⟨S_, .i32⟩
  | 51 => ⟨S_, .f32⟩
  | 52 => ⟨S4096, .f32⟩
  | 53 => ⟨S32x128, .f32⟩
  | 54 => ⟨S4096, .f32⟩
  | 55 => ⟨S_, .i32⟩
  | 56 => ⟨S_, .f32⟩
  | 57 => ⟨S4096, .f32⟩
  | 58 => ⟨S32x128, .f32⟩
  | 59 => ⟨S_, .i32⟩
  | 60 => ⟨S_, .f32⟩
  | 61 => ⟨S2048, .f32⟩
  | 62 => ⟨S16x128, .f32⟩
  | 63 => ⟨S1152x128, .f32⟩
  | 64 => ⟨S1152x128, .f32⟩
  | 65 => ⟨S1152x128, .f32⟩
  | 66 => ⟨S1152x128, .f32⟩
  | 67 => ⟨S16x128, .f32⟩
  | 68 => ⟨S2048, .f32⟩
  | 69 => ⟨S1x2048, .f32⟩
  | 70 => ⟨S16x128, .f32⟩
  | 71 => ⟨S2048, .f32⟩
  | 72 => ⟨S1x2048, .f32⟩
  | 73 => ⟨S1024x128, .f32⟩
  | 74 => ⟨S131072, .f32⟩
  | 75 => ⟨S1x8x128x128, .f32⟩
  | 76 => ⟨S8x128, .f32⟩
  | 77 => ⟨S1024, .f32⟩
  | 78 => ⟨S1x8x128, .f32⟩
  | 79 => ⟨S8x128, .f32⟩
  | 80 => ⟨S1024, .f32⟩
  | 81 => ⟨S512, .f32⟩
  | 82 => ⟨S1x512, .f32⟩
  | 83 => ⟨S32x128, .f32⟩
  | 84 => ⟨S4096, .f32⟩
  | 85 => ⟨S2x2048, .f32⟩
  | 86 => ⟨S32x128, .f32⟩
  | 87 => ⟨S4096, .f32⟩
  | 88 => ⟨S2x2048, .f32⟩
  | 89 => ⟨S16x128, .f32⟩
  | 90 => ⟨S2048, .f32⟩
  | 91 => ⟨S16x128, .f32⟩
  | 92 => ⟨S2048, .f32⟩
  | 93 => ⟨S1x2048, .f32⟩
  | 94 => ⟨S16x128, .f32⟩
  | 95 => ⟨S2048, .f32⟩
  | 96 => ⟨S1x2048, .f32⟩
  | 97 => ⟨S1024x128, .f32⟩
  | 98 => ⟨S131072, .f32⟩
  | 99 => ⟨S1x8x128x128, .f32⟩
  | 100 => ⟨S8x128, .f32⟩
  | 101 => ⟨S1024, .f32⟩
  | 102 => ⟨S1x8x128, .f32⟩
  | 103 => ⟨S8x128, .f32⟩
  | 104 => ⟨S1024, .f32⟩
  | 105 => ⟨S512, .f32⟩
  | 106 => ⟨S1x512, .f32⟩
  | 107 => ⟨S32x128, .f32⟩
  | 108 => ⟨S4096, .f32⟩
  | 109 => ⟨S2x2048, .f32⟩
  | 110 => ⟨S32x128, .f32⟩
  | 111 => ⟨S4096, .f32⟩
  | 112 => ⟨S2x2048, .f32⟩
  | 113 => ⟨S16x128, .f32⟩
  | 114 => ⟨S2048, .f32⟩
  | 115 => ⟨S16x128, .f32⟩
  | 116 => ⟨S2048, .f32⟩
  | 117 => ⟨S1x2048, .f32⟩
  | 118 => ⟨S16x128, .f32⟩
  | 119 => ⟨S2048, .f32⟩
  | 120 => ⟨S1x2048, .f32⟩
  | 121 => ⟨S1024x128, .f32⟩
  | 122 => ⟨S131072, .f32⟩
  | 123 => ⟨S1x8x128x128, .f32⟩
  | 124 => ⟨S8x128, .f32⟩
  | 125 => ⟨S1024, .f32⟩
  | 126 => ⟨S1x8x128, .f32⟩
  | 127 => ⟨S8x128, .f32⟩
  | _ => ⟨S1x2048, .f32⟩

abbrev hbmTy0_2 (i : Nat) : BufTy := match i % 128 with
  | 0 => ⟨S1024, .f32⟩
  | 1 => ⟨S512, .f32⟩
  | 2 => ⟨S1x512, .f32⟩
  | 3 => ⟨S32x128, .f32⟩
  | 4 => ⟨S4096, .f32⟩
  | 5 => ⟨S2x2048, .f32⟩
  | 6 => ⟨S32x128, .f32⟩
  | 7 => ⟨S4096, .f32⟩
  | 8 => ⟨S2x2048, .f32⟩
  | 9 => ⟨S16x128, .f32⟩
  | 10 => ⟨S2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | .local _ .vmem, ⟨0, _⟩ => ⟨S1152x128, .f32⟩
  | .local _ .vmem, ⟨1, _⟩ => ⟨S1152x128, .f32⟩
  | .local _ .vmem, ⟨2, _⟩ => ⟨S1152x128, .f32⟩
  | .local _ .vmem, ⟨3, _⟩ => ⟨S1152x128, .f32⟩
  | .local _ .vmem, ⟨4, _⟩ => ⟨S1152x128, .f32⟩
  | .local _ .vmem, ⟨5, _⟩ => ⟨S1152x128, .f32⟩
  | .local _ .vmem, ⟨6, _⟩ => ⟨S1152x128, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_c : Ref sig .tc := ⟨.hbm, 33, rfl⟩
abbrev main_call0_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_c_0 : Ref sig .tc := ⟨.hbm, 38, rfl⟩
abbrev main_call1_v0 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_c_1 : Ref sig .tc := ⟨.hbm, 43, rfl⟩
abbrev main_call2_v0 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_c_2 : Ref sig .tc := ⟨.hbm, 48, rfl⟩
abbrev main_call3_v0 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_c_3 : Ref sig .tc := ⟨.hbm, 53, rfl⟩
abbrev main_call4_v0 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_c_4 : Ref sig .tc := ⟨.hbm, 58, rfl⟩
abbrev main_call5_v0 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_c_5 : Ref sig .tc := ⟨.hbm, 63, rfl⟩
abbrev main_call6_v0 : Ref sig .tc := ⟨.hbm, 64, rfl⟩
abbrev main_v19 : Ref sig .tc := ⟨.hbm, 65, rfl⟩
abbrev main_v20 : Ref sig .tc := ⟨.hbm, 66, rfl⟩
abbrev main_c_6 : Ref sig .tc := ⟨.hbm, 67, rfl⟩
abbrev main_call7_v0 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_7 : Ref sig .tc := ⟨.hbm, 73, rfl⟩
abbrev main_call8_v0 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_c_8 : Ref sig .tc := ⟨.hbm, 78, rfl⟩
abbrev main_call9_v0 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_9 : Ref sig .tc := ⟨.hbm, 83, rfl⟩
abbrev main_call10_v0 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_c_10 : Ref sig .tc := ⟨.hbm, 88, rfl⟩
abbrev main_call11_v0 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_c_11 : Ref sig .tc := ⟨.hbm, 93, rfl⟩
abbrev main_call12_v0 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_c_12 : Ref sig .tc := ⟨.hbm, 98, rfl⟩
abbrev main_call13_v0 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_c_13 : Ref sig .tc := ⟨.hbm, 103, rfl⟩
abbrev main_call14_v0 : Ref sig .tc := ⟨.hbm, 104, rfl⟩
abbrev main_v43 : Ref sig .tc := ⟨.hbm, 105, rfl⟩
abbrev main_v44 : Ref sig .tc := ⟨.hbm, 106, rfl⟩
abbrev main_c_14 : Ref sig .tc := ⟨.hbm, 107, rfl⟩
abbrev main_call15_v0 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_c_15 : Ref sig .tc := ⟨.hbm, 113, rfl⟩
abbrev main_call16_v0 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_c_16 : Ref sig .tc := ⟨.hbm, 118, rfl⟩
abbrev main_call17_v0 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_c_17 : Ref sig .tc := ⟨.hbm, 123, rfl⟩
abbrev main_call18_v0 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_c_18 : Ref sig .tc := ⟨.hbm, 128, rfl⟩
abbrev main_call19_v0 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_c_19 : Ref sig .tc := ⟨.hbm, 133, rfl⟩
abbrev main_call20_v0 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_c_20 : Ref sig .tc := ⟨.hbm, 138, rfl⟩
abbrev main_call21_v0 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_c_21 : Ref sig .tc := ⟨.hbm, 143, rfl⟩
abbrev main_call22_v0 : Ref sig .tc := ⟨.hbm, 144, rfl⟩
abbrev main_v67 : Ref sig .tc := ⟨.hbm, 145, rfl⟩
abbrev main_v68 : Ref sig .tc := ⟨.hbm, 146, rfl⟩
abbrev main_c_22 : Ref sig .tc := ⟨.hbm, 147, rfl⟩
abbrev main_call23_v0 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_c_23 : Ref sig .tc := ⟨.hbm, 153, rfl⟩
abbrev main_call24_v0 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_c_24 : Ref sig .tc := ⟨.hbm, 158, rfl⟩
abbrev main_call25_v0 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_c_25 : Ref sig .tc := ⟨.hbm, 163, rfl⟩
abbrev main_call26_v0 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_c_26 : Ref sig .tc := ⟨.hbm, 168, rfl⟩
abbrev main_call27_v0 : Ref sig .tc := ⟨.hbm, 169, rfl⟩
abbrev main_v82 : Ref sig .tc := ⟨.hbm, 170, rfl⟩
abbrev main_v83 : Ref sig .tc := ⟨.hbm, 171, rfl⟩
abbrev main_v84 : Ref sig .tc := ⟨.hbm, 172, rfl⟩
abbrev main_c_27 : Ref sig .tc := ⟨.hbm, 173, rfl⟩
abbrev main_call28_v0 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_c_28 : Ref sig .tc := ⟨.hbm, 178, rfl⟩
abbrev main_call29_v0 : Ref sig .tc := ⟨.hbm, 179, rfl⟩
abbrev main_v88 : Ref sig .tc := ⟨.hbm, 180, rfl⟩
abbrev main_v89 : Ref sig .tc := ⟨.hbm, 181, rfl⟩
abbrev main_v90 : Ref sig .tc := ⟨.hbm, 182, rfl⟩
abbrev main_c_29 : Ref sig .tc := ⟨.hbm, 183, rfl⟩
abbrev main_call30_v0 : Ref sig .tc := ⟨.hbm, 184, rfl⟩
abbrev main_v91 : Ref sig .tc := ⟨.hbm, 185, rfl⟩
abbrev main_v92 : Ref sig .tc := ⟨.hbm, 186, rfl⟩
abbrev main_c_30 : Ref sig .tc := ⟨.hbm, 187, rfl⟩
abbrev main_call31_v0 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96_0 : Ref sig .tc := ⟨.hbm, 192, rfl⟩
abbrev main_v96_1 : Ref sig .tc := ⟨.hbm, 193, rfl⟩
abbrev main_v96_2 : Ref sig .tc := ⟨.hbm, 194, rfl⟩
abbrev main_v97 : Ref sig .tc := ⟨.hbm, 195, rfl⟩
abbrev main_v98 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_v102 : Ref sig .tc := ⟨.hbm, 200, rfl⟩
abbrev main_v103 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_v107 : Ref sig .tc := ⟨.hbm, 205, rfl⟩
abbrev main_v108 : Ref sig .tc := ⟨.hbm, 206, rfl⟩
abbrev main_v109 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_v121 : Ref sig .tc := ⟨.hbm, 219, rfl⟩
abbrev main_v122 : Ref sig .tc := ⟨.hbm, 220, rfl⟩
abbrev main_v123 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1152x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1152x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1152x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1152x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1152x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1152x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S1x2048 : Shape := ⟨2, ![1, 2048]⟩
abbrev S1x8x128x128 : Shape := ⟨4, ![1, 8, 128, 128]⟩
abbrev S1x8x128 : Shape := ⟨3, ![1, 8, 128]⟩
abbrev S1x512 : Shape := ⟨2, ![1, 512]⟩
abbrev S2x2048 : Shape := ⟨2, ![2, 2048]⟩
abbrev S2048 : Shape := ⟨1, ![2048]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S1x2048, .f32⟩
  | 1 => ⟨S1x2048, .f32⟩
  | 2 => ⟨S1x8x128x128, .f32⟩
  | 3 => ⟨S1x8x128, .f32⟩
  | 4 => ⟨S1x512, .f32⟩
  | 5 => ⟨S2x2048, .f32⟩
  | 6 => ⟨S2x2048, .f32⟩
  | 7 => ⟨S2048, .f32⟩
  | 8 => ⟨S1x2048, .f32⟩
  | 9 => ⟨S1x2048, .f32⟩
  | 10 => ⟨S1x8x128x128, .f32⟩
  | 11 => ⟨S1x8x128, .f32⟩
  | 12 => ⟨S1x512, .f32⟩
  | 13 => ⟨S2x2048, .f32⟩
  | 14 => ⟨S2x2048, .f32⟩
  | 15 => ⟨S2048, .f32⟩
  | 16 => ⟨S1x2048, .f32⟩
  | 17 => ⟨S1x2048, .f32⟩
  | 18 => ⟨S1x8x128x128, .f32⟩
  | 19 => ⟨S1x8x128, .f32⟩
  | 20 => ⟨S1x512, .f32⟩
  | 21 => ⟨S2x2048, .f32⟩
  | 22 => ⟨S2x2048, .f32⟩
  | 23 => ⟨S2048, .f32⟩
  | 24 => ⟨S1x2048, .f32⟩
  | 25 => ⟨S1x2048, .f32⟩
  | 26 => ⟨S1x8x128x128, .f32⟩
  | 27 => ⟨S1x8x128, .f32⟩
  | 28 => ⟨S1x512, .f32⟩
  | 29 => ⟨S2x2048, .f32⟩
  | 30 => ⟨S2x2048, .f32⟩
  | 31 => ⟨S2048, .f32⟩
  | 32 => ⟨S_, .f32⟩
  | 33 => ⟨S1x2048, .f32⟩
  | 34 => ⟨S1x2048, .f32⟩
  | 35 => ⟨S_, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S1x2048, .f32⟩
  | 43 => ⟨S_, .f32⟩
  | 44 => ⟨S1x2048, .f32⟩
  | 45 => ⟨S1x2048, .f32⟩
  | 46 => ⟨S1x2048, .f32⟩
  | 47 => ⟨S_, .f32⟩
  | 48 => ⟨S1x2048, .f32⟩
  | 49 => ⟨S1x2048, .f32⟩
  | 50 => ⟨S_, .f32⟩
  | 51 => ⟨S1x2048, .f32⟩
  | 52 => ⟨S1x2048, .f32⟩
  | 53 => ⟨S1x2048, .f32⟩
  | 54 => ⟨S_, .f32⟩
  | 55 => ⟨S1x2048, .f32⟩
  | 56 => ⟨S1x2048, .f32⟩
  | 57 => ⟨S1x2048, .f32⟩
  | 58 => ⟨S_, .f32⟩
  | 59 => ⟨S1x2048, .f32⟩
  | 60 => ⟨S1x2048, .f32⟩
  | 61 => ⟨S1x2048, .f32⟩
  | 62 => ⟨S_, .f32⟩
  | 63 => ⟨S1x2048, .f32⟩
  | 64 => ⟨S1x2048, .f32⟩
  | 65 => ⟨S_, .f32⟩
  | 66 => ⟨S1x2048, .f32⟩
  | 67 => ⟨S1x2048, .f32⟩
  | 68 => ⟨S_, .f32⟩
  | 69 => ⟨S1x2048, .f32⟩
  | 70 => ⟨S1x2048, .f32⟩
  | 71 => ⟨S1x2048, .f32⟩
  | 72 => ⟨S_, .f32⟩
  | 73 => ⟨S1x2048, .f32⟩
  | 74 => ⟨S1x2048, .f32⟩
  | 75 => ⟨S1x2048, .f32⟩
  | 76 => ⟨S_, .f32⟩
  | 77 => ⟨S1x2048, .f32⟩
  | 78 => ⟨S1x2048, .f32⟩
  | 79 => ⟨S1x2048, .f32⟩
  | 80 => ⟨S_, .f32⟩
  | 81 => ⟨S1x2048, .f32⟩
  | 82 => ⟨S1x2048, .f32⟩
  | 83 => ⟨S_, .f32⟩
  | 84 => ⟨S1x2048, .f32⟩
  | 85 => ⟨S1x2048, .f32⟩
  | 86 => ⟨S1x2048, .f32⟩
  | 87 => ⟨S_, .f32⟩
  | 88 => ⟨S1x2048, .f32⟩
  | 89 => ⟨S1x2048, .f32⟩
  | 90 => ⟨S1x2048, .f32⟩
  | 91 => ⟨S_, .f32⟩
  | 92 => ⟨S1x2048, .f32⟩
  | 93 => ⟨S1x2048, .f32⟩
  | 94 => ⟨S1x2048, .f32⟩
  | 95 => ⟨S_, .f32⟩
  | 96 => ⟨S1x2048, .f32⟩
  | 97 => ⟨S1x2048, .f32⟩
  | 98 => ⟨S_, .f32⟩
  | 99 => ⟨S1x8x128x128, .f32⟩
  | 100 => ⟨S1x8x128x128, .f32⟩
  | 101 => ⟨S_, .f32⟩
  | 102 => ⟨S1x8x128x128, .f32⟩
  | 103 => ⟨S1x8x128x128, .f32⟩
  | 104 => ⟨S1x8x128x128, .f32⟩
  | 105 => ⟨S_, .f32⟩
  | 106 => ⟨S1x8x128x128, .f32⟩
  | 107 => ⟨S1x8x128x128, .f32⟩
  | 108 => ⟨S1x8x128x128, .f32⟩
  | 109 => ⟨S_, .f32⟩
  | 110 => ⟨S1x8x128x128, .f32⟩
  | 111 => ⟨S1x8x128x128, .f32⟩
  | 112 => ⟨S1x8x128x128, .f32⟩
  | 113 => ⟨S_, .f32⟩
  | 114 => ⟨S1x8x128x128, .f32⟩
  | 115 => ⟨S1x8x128x128, .f32⟩
  | 116 => ⟨S_, .f32⟩
  | 117 => ⟨S1x8x128x128, .f32⟩
  | 118 => ⟨S1x8x128x128, .f32⟩
  | 119 => ⟨S1x8x128x128, .f32⟩
  | 120 => ⟨S_, .f32⟩
  | 121 => ⟨S1x8x128x128, .f32⟩
  | 122 => ⟨S1x8x128x128, .f32⟩
  | 123 => ⟨S1x8x128x128, .f32⟩
  | 124 => ⟨S_, .f32⟩
  | 125 => ⟨S1x8x128x128, .f32⟩
  | 126 => ⟨S1x8x128x128, .f32⟩
  | 127 => ⟨S1x8x128x128, .f32⟩
  | _ => ⟨S1x2048, .f32⟩

abbrev hbmTy0_1 (i : Nat) : BufTy := match i % 128 with
  | 0 => ⟨S_, .f32⟩
  | 1 => ⟨S1x8x128x128, .f32⟩
  | 2 => ⟨S1x8x128x128, .f32⟩
  | 3 => ⟨S_, .f32⟩
  | 4 => ⟨S1x8x128, .f32⟩
  | 5 => ⟨S1x8x128, .f32⟩
  | 6 => ⟨S_, .f32⟩
  | 7 => ⟨S1x8x128, .f32⟩
  | 8 => ⟨S1x8x128, .f32⟩
  | 9 => ⟨S1x8x128, .f32⟩
  | 10 => ⟨S_, .f32⟩
  | 11 => ⟨S1x8x128, .f32⟩
  | 12 => ⟨S1x8x128, .f32⟩
  | 13 => ⟨S1x8x128, .f32⟩
  | 14 => ⟨S_, .f32⟩
  | 15 => ⟨S1x8x128, .f32⟩
  | 16 => ⟨S1x8x128, .f32⟩
  | 17 => ⟨S1x8x128, .f32⟩
  | 18 => ⟨S_, .f32⟩
  | 19 => ⟨S1x8x128, .f32⟩
  | 20 => ⟨S1x8x128, .f32⟩
  | 21 => ⟨S_, .f32⟩
  | 22 => ⟨S1x8x128, .f32⟩
  | 23 => ⟨S1x8x128, .f32⟩
  | 24 => ⟨S1x8x128, .f32⟩
  | 25 => ⟨S_, .f32⟩
  | 26 => ⟨S1x8x128, .f32⟩
  | 27 => ⟨S1x8x128, .f32⟩
  | 28 => ⟨S1x8x128, .f32⟩
  | 29 => ⟨S_, .f32⟩
  | 30 => ⟨S1x8x128, .f32⟩
  | 31 => ⟨S1x8x128, .f32⟩
  | 32 => ⟨S1x8x128, .f32⟩
  | 33 => ⟨S_, .f32⟩
  | 34 => ⟨S1x8x128, .f32⟩
  | 35 => ⟨S1x8x128, .f32⟩
  | 36 => ⟨S_, .f32⟩
  | 37 => ⟨S1x512, .f32⟩
  | 38 => ⟨S1x512, .f32⟩
  | 39 => ⟨S_, .f32⟩
  | 40 => ⟨S1x512, .f32⟩
  | 41 => ⟨S1x512, .f32⟩
  | 42 => ⟨S1x512, .f32⟩
  | 43 => ⟨S_, .f32⟩
  | 44 => ⟨S1x512, .f32⟩
  | 45 => ⟨S1x512, .f32⟩
  | 46 => ⟨S1x512, .f32⟩
  | 47 => ⟨S_, .f32⟩
  | 48 => ⟨S1x512, .f32⟩
  | 49 => ⟨S1x512, .f32⟩
  | 50 => ⟨S1x512, .f32⟩
  | 51 => ⟨S_, .f32⟩
  | 52 => ⟨S1x512, .f32⟩
  | 53 => ⟨S1x512, .f32⟩
  | 54 => ⟨S_, .f32⟩
  | 55 => ⟨S1x512, .f32⟩
  | 56 => ⟨S1x512, .f32⟩
  | 57 => ⟨S1x512, .f32⟩
  | 58 => ⟨S_, .f32⟩
  | 59 => ⟨S1x512, .f32⟩
  | 60 => ⟨S1x512, .f32⟩
  | 61 => ⟨S1x512, .f32⟩
  | 62 => ⟨S_, .f32⟩
  | 63 => ⟨S1x512, .f32⟩
  | 64 => ⟨S1x512, .f32⟩
  | 65 => ⟨S1x512, .f32⟩
  | 66 => ⟨S_, .f32⟩
  | 67 => ⟨S1x512, .f32⟩
  | 68 => ⟨S1x512, .f32⟩
  | 69 => ⟨S_, .f32⟩
  | 70 => ⟨S2x2048, .f32⟩
  | 71 => ⟨S2x2048, .f32⟩
  | 72 => ⟨S_, .f32⟩
  | 73 => ⟨S2x2048, .f32⟩
  | 74 => ⟨S2x2048, .f32⟩
  | 75 => ⟨S2x2048, .f32⟩
  | 76 => ⟨S_, .f32⟩
  | 77 => ⟨S2x2048, .f32⟩
  | 78 => ⟨S2x2048, .f32⟩
  | 79 => ⟨S2x2048, .f32⟩
  | 80 => ⟨S_, .f32⟩
  | 81 => ⟨S2x2048, .f32⟩
  | 82 => ⟨S2x2048, .f32⟩
  | 83 => ⟨S2x2048, .f32⟩
  | 84 => ⟨S_, .f32⟩
  | 85 => ⟨S2x2048, .f32⟩
  | 86 => ⟨S2x2048, .f32⟩
  | 87 => ⟨S_, .f32⟩
  | 88 => ⟨S2x2048, .f32⟩
  | 89 => ⟨S2x2048, .f32⟩
  | 90 => ⟨S2x2048, .f32⟩
  | 91 => ⟨S_, .f32⟩
  | 92 => ⟨S2x2048, .f32⟩
  | 93 => ⟨S2x2048, .f32⟩
  | 94 => ⟨S2x2048, .f32⟩
  | 95 => ⟨S_, .f32⟩
  | 96 => ⟨S2x2048, .f32⟩
  | 97 => ⟨S2x2048, .f32⟩
  | 98 => ⟨S2x2048, .f32⟩
  | 99 => ⟨S_, .f32⟩
  | 100 => ⟨S2x2048, .f32⟩
  | 101 => ⟨S2x2048, .f32⟩
  | 102 => ⟨S_, .f32⟩
  | 103 => ⟨S2x2048, .f32⟩
  | 104 => ⟨S2x2048, .f32⟩
  | 105 => ⟨S_, .f32⟩
  | 106 => ⟨S2x2048, .f32⟩
  | 107 => ⟨S2x2048, .f32⟩
  | 108 => ⟨S2x2048, .f32⟩
  | 109 => ⟨S_, .f32⟩
  | 110 => ⟨S2x2048, .f32⟩
  | 111 => ⟨S2x2048, .f32⟩
  | 112 => ⟨S2x2048, .f32⟩
  | 113 => ⟨S_, .f32⟩
  | 114 => ⟨S2x2048, .f32⟩
  | 115 => ⟨S2x2048, .f32⟩
  | 116 => ⟨S2x2048, .f32⟩
  | 117 => ⟨S_, .f32⟩
  | 118 => ⟨S2x2048, .f32⟩
  | 119 => ⟨S2x2048, .f32⟩
  | 120 => ⟨S_, .f32⟩
  | 121 => ⟨S2x2048, .f32⟩
  | 122 => ⟨S2x2048, .f32⟩
  | 123 => ⟨S2x2048, .f32⟩
  | 124 => ⟨S_, .f32⟩
  | 125 => ⟨S2x2048, .f32⟩
  | 126 => ⟨S2x2048, .f32⟩
  | 127 => ⟨S2x2048, .f32⟩
  | _ => ⟨S1x2048, .f32⟩

abbrev hbmTy0_2 (i : Nat) : BufTy := match i % 128 with
  | 0 => ⟨S_, .f32⟩
  | 1 => ⟨S2x2048, .f32⟩
  | 2 => ⟨S2x2048, .f32⟩
  | 3 => ⟨S2x2048, .f32⟩
  | 4 => ⟨S_, .f32⟩
  | 5 => ⟨S2x2048, .f32⟩
  | 6 => ⟨S2x2048, .f32⟩
  | 7 => ⟨S_, .f32⟩
  | 8 => ⟨S2048, .f32⟩
  | 9 => ⟨S2048, .f32⟩
  | 10 => ⟨S_, .f32⟩
  | 11 => ⟨S2048, .f32⟩
  | 12 => ⟨S2048, .f32⟩
  | 13 => ⟨S2048, .f32⟩
  | 14 => ⟨S_, .f32⟩
  | 15 => ⟨S2048, .f32⟩
  | 16 => ⟨S2048, .f32⟩
  | 17 => ⟨S2048, .f32⟩
  | 18 => ⟨S_, .f32⟩
  | 19 => ⟨S2048, .f32⟩
  | 20 => ⟨S2048, .f32⟩
  | 21 => ⟨S2048, .f32⟩
  | 22 => ⟨S_, .f32⟩
  | 23 => ⟨S2048, .f32⟩
  | 24 => ⟨S2048, .f32⟩
  | 25 => ⟨S_, .f32⟩
  | 26 => ⟨S2048, .f32⟩
  | 27 => ⟨S2048, .f32⟩
  | 28 => ⟨S2048, .f32⟩
  | 29 => ⟨S_, .f32⟩
  | 30 => ⟨S2048, .f32⟩
  | 31 => ⟨S2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | _ => ⟨S1x2048, .f32⟩

abbrev hbmTy (i : Nat) : BufTy := match i / 128 with
  | 0 => hbmTy0_0 i
  | 1 => hbmTy0_1 i
  | 2 => hbmTy0_2 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== Kernel20.lean ====
abbrev S2 : Shape := ⟨1, ![2]⟩
abbrev S4x1x2048x2048 : Shape := ⟨4, ![4, 1, 2048, 2048]⟩
abbrev S4x1x1024x2048 : Shape := ⟨4, ![4, 1, 1024, 2048]⟩
abbrev S1 : Shape := ⟨1, ![1]⟩
abbrev S_ : Shape := ⟨0, ![]⟩
abbrev S1x1x1024x2048 : Shape := ⟨4, ![1, 1, 1024, 2048]⟩
abbrev S1024x2048 : Shape := ⟨2, ![1024, 2048]⟩

abbrev nBuf : Space → Nat
  | .hbm => 13
  | .vmem => 7
  | .smem => 1
  | _ => 0

abbrev bufTy : (tb : Table) → Fin (tcTables nBuf tb) → BufTy
  | .hbm, ⟨0, _⟩ => ⟨S4x1x2048x2048, .bf16⟩
  | .hbm, ⟨1, _⟩ => ⟨S4x1x1024x2048, .bf16⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S4x1x1024x2048, .bf16⟩
  | .hbm, ⟨9, _⟩ => ⟨S4x1x2048x2048, .bf16⟩
  | .hbm, ⟨10, _⟩ => ⟨S_, .i32⟩
  | .hbm, ⟨11, _⟩ => ⟨S_, .i32⟩
  | .hbm, ⟨12, _⟩ => ⟨S1x1x1024x2048, .bf16⟩
  | .local _ .vmem, ⟨0, _⟩ => ⟨S1x1x1024x2048, .bf16⟩
  | .local _ .vmem, ⟨1, _⟩ => ⟨S1x1x1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1x1x1024x2048, .bf16⟩
  | .local _ .smem, ⟨0, _⟩ => ⟨S2, .i32⟩
  | _, _ => ⟨S4x1x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_c_0 : Ref sig .tc := ⟨.hbm, 10, rfl⟩
abbrev main_c_1 : Ref sig .tc := ⟨.hbm, 11, rfl⟩
abbrev main_v6 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨3, ![1, 1, 4], ![false, false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) (v11 : BitVec 32) : BitVec 1 :=
  let arg2 : BitVec 32 := BitVec.ofNat 32 (i 2).val
  let v12 : BitVec 1 := Scalar.cmpi .eq arg2 v11
  let v13 : BitVec 32 := Scalar.extui v12
  let c0_i32 : BitVec 32 := 0#32
  let v14 : BitVec 1 := Scalar.cmpi .ne v13 c0_i32
  v14

def cc0_transform_0 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg2.toNat, arg0.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_3 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S2) ![0] S1.size inb_S2_S1_0) numel1_S1
  let c1 : Index := 1#32
  let v1 : BitVec 32 := pf.at 0 (Rect.unit (s := S2) ![1] S1.size inb_S2_S1_1) numel1_S1
  let c1_i32 : BitVec 32 := 1#32
  let v2 : BitVec 32 := Scalar.muli v1 c1_i32
  let v3 : BitVec 32 := Scalar.addi v2 arg1
  let c0_i32 : BitVec 32 := 0#32
  let c0_i32_0 : BitVec 32 := 0#32
  ![v0.toNat, arg0.toNat, v3.toNat, c0_i32.toNat]

abbrev stage0_0 : Fin 2 → Memref sig .tc .vmem S1x1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference20Ideal.lean ====
abbrev S2 : Shape := ⟨1, ![2]⟩
abbrev S4x1x2048x2048 : Shape := ⟨4, ![4, 1, 2048, 2048]⟩
abbrev S4x1x1024x2048 : Shape := ⟨4, ![4, 1, 1024, 2048]⟩
abbrev S1 : Shape := ⟨1, ![1]⟩
abbrev S_ : Shape := ⟨0, ![]⟩
abbrev S1x1x1024x2048 : Shape := ⟨4, ![1, 1, 1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2, .i32⟩
  | .hbm, ⟨1, _⟩ => ⟨S4x1x2048x2048, .bf16⟩
  | .hbm, ⟨2, _⟩ => ⟨S4x1x1024x2048, .bf16⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S4x1x1024x2048, .bf16⟩
  | .hbm, ⟨8, _⟩ => ⟨S4x1x1024x2048, .bf16⟩
  | .hbm, ⟨9, _⟩ => ⟨S4x1x1024x2048, .bf16⟩
  | .hbm, ⟨10, _⟩ => ⟨S4x1x1024x2048, .f32⟩
  | .hbm, ⟨11, _⟩ => ⟨S4x1x1024x2048, .f32⟩
  | .hbm, ⟨12, _⟩ => ⟨S4x1x1024x2048, .f32⟩
  | .hbm, ⟨13, _⟩ => ⟨S4x1x1024x2048, .bf16⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1x1x1024x2048, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_c_1 : Ref sig .tc := ⟨.hbm, 17, rfl⟩
abbrev main_c_2 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Scale.lean ====
/- The gradient of the branch scale: the two result arrays of the kernel are the reference's terms. -/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Scale

open Cert.KernelIdeal Cert.KernelIdeal.Gen
open Cert.ReferenceIdeal.Read (val_main_cst val_main_v2 val_main_v3 val_main_v4 val_main_v5 val_main_v6 val_main_v7)

variable (m : (ℓ : Loc nD τ sig) → Buf (Elt Ideal) ℓ)

/-- Where each window's block sits at a grid point. -/
theorem idx : ∀ t : Fin cfg0.N, win0_0.index t = ![t.val, 0] ∧ win0_1.index t = ![t.val, 0]
    ∧ win0_2.index t = ![0, 0] ∧ win0_3.index t = ![t.val, 0] ∧ win0_4.index t = ![0, 0] :=
  (by decide +kernel : ∀ t : Fin grid0.N, _)

/-- The product written back at a point is the reference's product at the array index. -/
theorem point (c : Dev nD) (t : Fin cfg0.N) (y) :
    k0_pay3 (iblk m c 0 t) (iblk m c 2 t) y
      = val_main_v7 (F := Ideal) (m ((c : Thread nD τ).loc main_arg0)) (m ((c : Thread nD τ).loc main_arg2))
        (((cfg0.win 3).blk t).view.emb y) := by
  pointwise [k0_pay3, val_main_v7, val_main_v6, val_main_v5]
  blk_point [iblk, V, idx t]

/-- The gradient of the mixed rows. -/
theorem final_mixed (c : Dev nD) : (dats m 0 c).arrAt 3 (cfgs 0).N
    = val_main_v7 (F := Ideal) (m ((c : Thread nD τ).loc main_arg0)) (m ((c : Thread nD τ).loc main_arg2)) := by
  refine (dats m 0 c).arrAt_eq_of_covers 3 _ (by decide +kernel) fun t _ y => ?_
  blk_simp
  rw [after0_3]
  by_cases h : t.val % 4 = 0
  · rw [outsAt0_A m c t h]; frame_out; exact point m c t y
  · rw [outsAt0_B m c t h]; frame_out; exact point m c t y

/-- The accumulator starts at zero. -/
theorem zero_fill (j) : k0_pay1 (F := Ideal) j = 0 := by pointwise [k0_pay1]

/-- One point adds its rows' products to the accumulator. -/
theorem pay_acc (x0 : Vec Ideal S512x2048 .f32) (acc : Vec Ideal S1x2048 .f32) (x1 : Vec Ideal S512x2048 .f32) (j : S1x2048.Idx) :
    k0_pay2 x0 acc x1 j = acc j + ∑ r : Fin 512, x1 (ix2 r (j 1)) * x0 (ix2 r (j 1)) := by
  pointwise! [k0_pay2]

/-- The gradient of the scale: the rows of the four points, added up. -/
theorem final_scale (c : Dev nD) : (dats m 0 c).arrAt 4 (cfgs 0).N
    = val_main_v4 (F := Ideal) (m ((c : Thread nD τ).loc main_arg0)) (m ((c : Thread nD τ).loc main_arg1)) := by
  refine (dats m 0 c).arrAt_eq_of_after_last 4 t0_3 (by decide +kernel) _ fun j => ?_
  blk_simp
  rw [after0_4, Pipeline.eq_sum_fin_of_reset_step_apply_last (fun n h => (outsAt0 m c n h).2) 4 (fun _ => 0) _
    (fun t h j => by rw [outsAt0_A m c t h]; frame_out; rw [pay_acc, zero_fill])
    (fun t h j => by rw [outsAt0_B m c t h]; frame_out; rw [pay_acc])
    (le_of_eq N_0) t0_3 rfl j, zero_add]
  pointwise [val_main_v4, val_main_v3, val_main_v2, val_main_cst]
  refine Fin.sum_mul_add_congr fun s k hl => ?_
  blk_point [iblk, V, idx s]

end Cert.KernelIdeal.Scale

end
-- ==== Proof.Reals.lean ====
module
public import Idealize.ShloMosaic.PureOps.Ideal.Laws
public import Idealize.ShloMosaic.PureOps
public import Idealize.ShloMosaic.Lib.Pointwise
@[expose] public section
noncomputable section
open Idealize.ShloMosaic

/-! Facts about finite extended reals that the gradients share: sums of finite values are finite, the reciprocal root of a
    positive real, the constants, and what the preconditions say of an array. -/
namespace Cert.Reals

theorem coe_sum {ι : Type} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_zero : Ideal.ofBits .f32 0x00000000#32 = 0 := by simp [Ideal.ofBits, Ideal.ieee]

/-- The norms' small constant is a positive real. -/
theorem ofBits_eps : ∃ e : ℝ, 0 < e ∧ Ideal.ofBits .f32 0x358637BD#32 = (e : EReal) := by
  refine ⟨8796093 * (2 ^ 43)⁻¹, by positivity, ?_⟩
  simp [Ideal.ofBits, Ideal.ieee, -EReal.coe_mul]

/-- The reciprocal root of a positive real is a real whose square is the inverse. -/
theorem rsqrt_pos {q : ℝ} (h : 0 < q) : ∃ r : ℝ, Ideal.rsqrt (q : EReal) = (r : EReal) ∧ r * r = 1 / q := by
  refine ⟨(√q)⁻¹, ?_, ?_⟩
  · rw [Ideal.rsqrt_coe, if_neg (not_lt.2 h.le), if_neg h.ne']
  · rw [← mul_inv, Real.mul_self_sqrt h.le, one_div]

theorem div_real {y : ℝ} (h : y ≠ 0) (x : ℝ) : Ideal.div (x : EReal) (y : EReal) = ((x / y : ℝ) : EReal) := by
  rw [Ideal.div_coe h, ← EReal.coe_mul, mul_one_div]

/-- Every entry is a real. -/
def Finite {s : Shape} (x : FVec Ideal s .f32) : Prop := ∀ i, ∃ r : ℝ, x i = (r : EReal)

/-- What `|x| < ∞` says of an array. -/
theorem finite_of_lt {s : Shape} (x : FVec Ideal s .f32) (t : FVec Ideal s .f32) (ht : ∀ i, t i = Ideal.ofBits .f32 0x7F800000#32)
    (h : cmpf .olt (Host.absf x) t = fun _ => 1#1) : Finite x := by
  intro i
  have h1 : Ideal.cmp .olt (max (x i) (-(x i))) (t i) = 1#1 := congrFun h i
  rw [ht i, show Ideal.ofBits .f32 0x7F800000#32 = ⊤ by simp [Ideal.ofBits, Ideal.ieee]] at h1
  have h2 : max (x i) (-(x i)) < ⊤ := by
    by_contra hc
    simp [Ideal.cmp, hc] at h1
  have h3 := max_lt_iff.1 h2
  refine ⟨(x i).toReal, (EReal.coe_toReal h3.1.ne fun hb => ?_).symm⟩
  rw [hb] at h3; simp at h3

/-! Values that are reals, and what keeps them so. -/
def IsR (x : EReal) : Prop := ∃ r : ℝ, x = (r : EReal)

theorem IsR.coe (r : ℝ) : IsR (r : EReal) := ⟨r, rfl⟩
theorem IsR.zero : IsR 0 := ⟨0, rfl⟩
theorem IsR.add {x y : EReal} : IsR x → IsR y → IsR (x + y)
  | ⟨a, ha⟩, ⟨b, hb⟩ => ⟨a + b, by rw [ha, hb, EReal.coe_add]⟩
theorem IsR.sub {x y : EReal} : IsR x → IsR y → IsR (x - y)
  | ⟨a, ha⟩, ⟨b, hb⟩ => ⟨a - b, by rw [ha, hb, EReal.coe_sub]⟩
theorem IsR.mul {x y : EReal} : IsR x → IsR y → IsR (x * y)
  | ⟨a, ha⟩, ⟨b, hb⟩ => ⟨a * b, by rw [ha, hb, EReal.coe_mul]⟩
theorem IsR.sum {ι : Type} [Fintype ι] {f : ι → EReal} (h : ∀ k, IsR (f k)) : IsR (∑ k, f k) := by
  choose a ha using h
  exact ⟨∑ k, a k, by rw [coe_sum]; exact Finset.sum_congr rfl fun k _ => ha k⟩
theorem IsR.ite {p : Prop} [Decidable p] {x y : EReal} (hx : IsR x) (hy : IsR y) : IsR (if p then x else y) := by
  split
  · exact hx
  · exact hy
theorem IsR.div {x : EReal} {y : ℝ} (h : y ≠ 0) : IsR x → IsR (Ideal.div x (y : EReal))
  | ⟨a, ha⟩ => ⟨a / y, by rw [ha, div_real h]⟩

/-- Of a row of reals, the mean of squares plus the norms' constant is a positive real. -/
theorem denom (x : Fin 2048 → ℝ) : ∃ q : ℝ, 0 < q ∧
    Ideal.div (∑ k, (x k : EReal) * (x k : EReal)) (Ideal.ofBits .f32 0x45000000#32) + Ideal.ofBits .f32 0x358637BD#32 = (q : EReal) := by
  obtain ⟨e, he, hE⟩ := ofBits_eps
  refine ⟨(∑ k, x k * x k) / 2048 + e, ?_, ?_⟩
  · have : 0 ≤ ∑ k, x k * x k := Finset.sum_nonneg fun k _ => mul_self_nonneg _
    positivity
  · simp only [← EReal.coe_mul, ← coe_sum, ofBits_2048, hE, div_real (by norm_num : (2048 : ℝ) ≠ 0), ← EReal.coe_add]

/-- The two forms of the gradient of `x ↦ x / √(mean x² + ε)` along one row, over the reals: `r` the reciprocal root, `q` its
    argument, `w` the cotangent times the scale. -/
theorem row (x w : Fin 2048 → ℝ) (r q : ℝ) (hr : r * r = 1 / q) (l : Fin 2048) :
    r * (w l - x l * r * ((∑ k, w k * (x k * r)) / 2048))
      = w l * r + x l * ((∑ k, x k * w k) * (-(1 / 2) * (r / q)) / 2048) + (∑ k, x k * w k) * (-(1 / 2) * (r / q)) / 2048 * x l := by
  have h : ∑ k, w k * (x k * r) = (∑ k, x k * w k) * r := by
    rw [Finset.sum_mul]; exact Finset.sum_congr rfl fun k _ => by ring
  rw [h, div_eq_mul_one_div r q, ← hr]; ring

/-- The reciprocal of the row's length, as a float word. -/
theorem ofBits_inv_2048 : Ideal.ofBits .f32 0x3A000000#32 = ((1 / 2048 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul, -EReal.coe_one, -EReal.coe_eq_one]; norm_num

end Cert.Reals
end
-- ==== Proof.Rms.lean ====
module
public import proofs.«01_k».proof.Proof.Gen.Kernel4Ideal.Value
public import proofs.«01_k».proof.Proof.Gen.Reference4Ideal.Read
public import proofs.«01_k».proof.Proof.Reals
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel4Ideal.Rms
open Cert.Kernel4Ideal Cert.Kernel4Ideal.Gen
open Cert.Reference4Ideal.Read

/-- A row block's new gradient is the reference's, entry by entry. -/
theorem pay_at (x d e : FVec Ideal S512x2048 .f32) (g : FVec Ideal S1x2048 .f32) (X D E : FVec Ideal S2048x2048 .f32) (r : Fin 512) (R : Fin 2048)
    (hx : ∀ l, x (ix2 r l) = X (ix2 R l)) (hd : ∀ l, d (ix2 r l) = D (ix2 R l)) (he : ∀ l, e (ix2 r l) = E (ix2 R l))
    (fx : ∀ i, ∃ a : ℝ, X i = a) (fg : ∀ i, ∃ a : ℝ, g i = a) (fd : ∀ i, ∃ a : ℝ, D i = a) (l : Fin 2048) :
    k0_pay6 (F := Ideal) x d g e (ix2 r l) = val_main_v37 (F := Ideal) X g D E (ix2 R l) := by
  pointwise [k0_pay6, k0_pay4, k0_pay3]
  pointwise [val_main_v37, val_main_v36, val_main_v35, val_main_v34, val_main_v33, val_main_v32, val_main_v31, val_main_v30, val_main_v29,
    val_main_v28, val_main_v27, val_main_v26, val_main_v25, val_main_v24, val_main_v23, val_main_v22, val_main_v21, val_main_v20,
    val_main_v14, val_main_v12, val_main_v11, val_main_v10, val_main_v9, val_main_v8, val_main_v7, val_main_v6, val_main_v5, val_main_v4,
    val_main_v3, val_main_v2, val_main_v1, val_main_v0, val_main_cst, val_main_cst_0, val_main_cst_1, val_main_cst_2, val_main_cst_4,
    val_main_cst_5, val_main_cst_6, val_main_cst_7]
  choose X' hX' using fun k => fx (ix2 R k)
  choose D' hD' using fun k => fd (ix2 R k)
  choose g' hg' using fun k => fg (ix2 0 k)
  obtain ⟨q, hq, hQ⟩ := Reals.denom X'
  obtain ⟨s, hs, hs'⟩ := Reals.rsqrt_pos hq
  have key := Reals.row X' (fun k => D' k * g' k) s q hs' l
  simp only [hx, hd, he, hX', hD', hg', hQ, hs]
  simp only [Reals.ofBits_2048, Reals.ofBits_neg_half, Reals.div_real (by norm_num : (2048 : ℝ) ≠ 0), Reals.div_real hq.ne', ← EReal.coe_mul,
    ← Reals.coe_sum, ← EReal.coe_add, ← EReal.coe_sub, Finset.univ_unique, Finset.sum_singleton, zero_add, add_assoc]
  exact congrArg (fun t : ℝ => E (ix2 R l) + (t : EReal)) (key.trans (add_assoc _ _ _))

/-- A row's term of the scale's gradient. -/
def term (x d : Fin 2048 → EReal) (l : Fin 2048) : EReal :=
  x l * Ideal.rsqrt (Ideal.div (∑ k, x k * x k) (Ideal.ofBits .f32 0x45000000#32) + Ideal.ofBits .f32 0x358637BD#32) * d l

/-- A block adds its rows' terms to the scale's gradient. -/
theorem pay_acc (x d : FVec Ideal S512x2048 .f32) (acc : FVec Ideal S1x2048 .f32) (j : S1x2048.Idx) :
    k0_pay5 (F := Ideal) x d acc j = acc j + ∑ r : Fin 512, term (fun k => x (ix2 r k)) (fun k => d (ix2 r k)) (j 1) := by
  pointwise! [k0_pay5, k0_pay4, k0_pay3, term]

theorem zero_fill (j : S1x2048.Idx) : k0_pay2 (F := Ideal) j = 0 := by
  pointwise! [k0_pay2]

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] :=
  (by decide +kernel : ∀ t : Fin grid0.N, _)

/-- Row `r` of point `t`'s block, as a row of the whole array. -/
def at_row (t : Fin cfg0.N) (r : Fin 512) : Fin 2048 := ⟨t.val * 512 + r.val, by have : t.val < 4 := lt_of_lt_of_eq t.isLt N_0; omega⟩

theorem rows (c : Dev nD) (t : Fin cfg0.N) (r : Fin 512) (l : Fin 2048) :
    (iblk m c 0 t : FVec Ideal S512x2048 .f32) (ix2 r l) = m ((c : Thread nD τ).loc main_arg0) (ix2 (at_row t r) l)
    ∧ (iblk m c 2 t : FVec Ideal S512x2048 .f32) (ix2 r l) = m ((c : Thread nD τ).loc main_arg2) (ix2 (at_row t r) l)
    ∧ (iblk m c 3 t : FVec Ideal S512x2048 .f32) (ix2 r l) = m ((c : Thread nD τ).loc main_arg3) (ix2 (at_row t r) l)
    ∧ (iblk m c 1 t : FVec Ideal S1x2048 .f32) = m ((c : Thread nD τ).loc main_arg1) := by
  refine ⟨?_, ?_, ?_, ?_⟩
  · unfold at_row; blk_point [iblk, V, idx t]
  · unfold at_row; blk_point [iblk, V, idx t]
  · unfold at_row; blk_point [iblk, V, idx t]
  · funext j; idx_vars j; blk_point [iblk, V, idx t]

abbrev X (c : Dev nD) : FVec Ideal S2048x2048 .f32 := m ((c : Thread nD τ).loc main_arg0)
abbrev G (c : Dev nD) : FVec Ideal S1x2048 .f32 := m ((c : Thread nD τ).loc main_arg1)
abbrev D (c : Dev nD) : FVec Ideal S2048x2048 .f32 := m ((c : Thread nD τ).loc main_arg2)
abbrev E (c : Dev nD) : FVec Ideal S2048x2048 .f32 := m ((c : Thread nD τ).loc main_arg3)

theorem point (c : Dev nD) (hx : Reals.Finite (X m c)) (hg : Reals.Finite (G m c)) (hd : Reals.Finite (D m c)) (t : Fin cfg0.N)
    (y : S512x2048.Idx) :
    k0_pay6 (F := Ideal) (iblk m c 0 t) (iblk m c 2 t) (iblk m c 1 t) (iblk m c 3 t) y
      = val_main_v37 (F := Ideal) (X m c) (G m c) (D m c) (E m c) (ix2 (at_row t (y 0)) (y 1)) := by
  rw [eq_ix2 y, (rows m c t 0 0).2.2.2]
  exact pay_at _ _ _ _ _ _ _ (y 0) (at_row t (y 0)) (fun l => (rows m c t (y 0) l).1) (fun l => (rows m c t (y 0) l).2.1)
    (fun l => (rows m c t (y 0) l).2.2.1) hx hg hd (y 1)

/-- The residual's gradient. -/
theorem final_dx (c : Dev nD) (hx : Reals.Finite (X m c)) (hg : Reals.Finite (G m c)) (hd : Reals.Finite (D m c)) :
    (dats m 0 c).arrAt 4 (cfgs 0).N = val_main_v37 (F := Ideal) (X m c) (G m c) (D m c) (E m c) := by
  refine (dats m 0 c).arrAt_eq_of_covers 4 _ (by decide +kernel) fun t _ y => ?_
  blk_simp
  have hy : ((cfg0.win 4).blk t).view.emb y = ix2 (at_row t (y 0)) (y 1) := by
    unfold at_row; blk_ext [idx t]
  rw [hy, after0_4]
  by_cases h0 : t.val % 4 = 0
  · rw [outsAt0_A m c t h0]; frame_out; exact point m c hx hg hd t y
  · rw [outsAt0_B m c t h0]; frame_out; exact point m c hx hg hd t y

/-- Its copy at bf16. -/
theorem final_copy (c : Dev nD) (hx : Reals.Finite (X m c)) (hg : Reals.Finite (G m c)) (hd : Reals.Finite (D m c)) :
    (dats m 0 c).arrAt 5 (cfgs 0).N = val_main_v39 (F := Ideal) (X m c) (G m c) (D m c) (E m c) := by
  refine (dats m 0 c).arrAt_eq_of_covers 5 _ (by decide +kernel) fun t _ y => ?_
  blk_simp
  have hy : ((cfg0.win 5).blk t).view.emb y = ix2 (at_row t (y 0)) (y 1) := by
    unfold at_row; blk_ext [idx t]
  rw [hy, after0_5]
  by_cases h0 : t.val % 4 = 0
  · rw [outsAt0_A m c t h0]; frame_out; exact point m c hx hg hd t y
  · rw [outsAt0_B m c t h0]; frame_out; exact point m c hx hg hd t y

/-- The scale's gradient: the rows of the four points, added up. -/
theorem final_scale (c : Dev nD) : (dats m 0 c).arrAt 6 (cfgs 0).N = val_main_v38 (F := Ideal) (X m c) (D m c) := by
  refine (dats m 0 c).arrAt_eq_of_after_last 6 t0_3 (by decide +kernel) _ fun j => ?_
  blk_simp
  rw [after0_6, Pipeline.eq_sum_fin_of_reset_step_apply_last (fun n h => (outsAt0 m c n h).2.2) 4 (fun _ => 0) _
    (fun t h j => by rw [outsAt0_A m c t h]; frame_out; rw [pay_acc, zero_fill])
    (fun t h j => by rw [outsAt0_B m c t h]; frame_out; rw [pay_acc])
    (le_of_eq N_0) t0_3 rfl j, zero_add]
  simp only [rows m c]
  pointwise [val_main_v38, val_main_v22, val_main_v19, val_main_v18, val_main_v17, val_main_v13, val_main_v12, val_main_v8, val_main_v7,
    val_main_v6, val_main_v5, val_main_v4, val_main_v3, val_main_v2, val_main_v1, val_main_cst, val_main_cst_0, val_main_cst_1,
    val_main_cst_3, val_main_cst_4, term]
  simp only [Finset.univ_unique, Finset.sum_singleton, zero_add]
  refine Fin.sum_mul_add_congr fun s k hl => ?_
  rfl

end Cert.Kernel4Ideal.Rms

end
-- ==== Proof.MlpDx.lean ====
module
public import proofs.«01_k».proof.Proof.Gen.Kernel6Ideal.Value
public import proofs.«01_k».proof.Proof.Gen.Reference6Ideal.Read
public import proofs.«01_k».proof.Proof.Reals
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel6Ideal.MlpDx
open Cert.Kernel6Ideal Cert.Kernel6Ideal.Gen
open Cert.Reference6Ideal.Read

theorem two_bf16 : Ideal.ofBits .bf16 0x4000#16 = ((2 : ℝ) : EReal) := by
  simp [Ideal.ofBits, Ideal.ieee, -EReal.coe_mul]; norm_num

/-- The derivative of the squared rectifier times a cotangent, in the two forms. -/
theorem squared (p s : EReal) :
    s * (((2 : ℝ) : EReal) * max p 0) = if 0 < p then max p 0 * s + s * max p 0 else 0 := by
  by_cases h : 0 < p
  · rw [if_pos h, mul_comm (max p 0) s, ← EReal.left_distrib_of_nonneg (le_max_right _ _) (le_max_right _ _)]
    congr 1
    have : ((2 : ℝ) : EReal) = 1 + 1 := by norm_cast
    rw [this, EReal.right_distrib_of_nonneg zero_le_one zero_le_one, one_mul]
  · rw [if_neg h, max_eq_right (not_lt.mp h), mul_zero, mul_zero]

variable (m : (ℓ : Loc nD τ sig) → Buf (Elt Ideal) ℓ)

theorem idx : ∀ t : Fin cfg0.N, win0_0.index t = ![0, 0] ∧ win0_1.index t = ![t.val / 4, 0, t.val % 4, 0] ∧ win0_2.index t = ![0, t.val]
    ∧ win0_3.index t = ![0, t.val] :=
  (by decide +kernel : ∀ t : Fin grid0.N, _)

/-- Column `k` of point `t`'s block, as a column of the whole array. -/
def at_col (t : Fin cfg0.N) (k : Fin 512) : Fin 8192 := ⟨t.val * 512 + k.val, by have : t.val < 16 := lt_of_lt_of_eq t.isLt N_0; omega⟩

abbrev P (c : Dev nD) : FVec Ideal S2048x8192 .f32 := m ((c : Thread nD τ).loc main_arg0)
abbrev W (c : Dev nD) : FVec Ideal S8192x2048 .bf16 := m ((c : Thread nD τ).loc main_arg1)
abbrev H (c : Dev nD) : FVec Ideal S2048x2048 .bf16 := m ((c : Thread nD τ).loc main_arg2)

theorem entry_act (c : Dev nD) : V m c main_v1 = (fun i => max (P m c i) 0 : FVec Ideal S2048x8192 .bf16) := by
  unfold V hostOps0 hostOps0_1
  simp only [List.flatten_cons, List.flatten_nil, List.append_nil, List.cons_append, List.nil_append]
  after_results
  funext i
  show max (P m c i) (Ideal.ofBits .f32 0x00000000#32) = _
  rw [Reals.ofBits_zero]

theorem entry_w (c : Dev nD) : V m c main_v2 = shapeCast S4x1x2048x2048 (W m c) shapeCasts_S8192x2048_S4x1x2048x2048 := by
  unfold V hostOps0 hostOps0_1
  simp only [List.flatten_cons, List.flatten_nil, List.append_nil, List.cons_append, List.nil_append]
  after_results
  try rfl

theorem blocks (c : Dev nD) (t : Fin cfg0.N) (r : Fin 2048) (k : Fin 512) :
    (iblk m c 2 t : FVec Ideal S2048x512 .bf16) (ix2 r k) = max (P m c (ix2 r (at_col t k))) 0
    ∧ (∀ l : Fin 2048, (iblk m c 1 t : FVec Ideal S1x1x512x2048 .bf16) (ix4 0 0 k l) = W m c (ix2 (at_col t k) l))
    ∧ (iblk m c 0 t : FVec Ideal S2048x2048 .bf16) = H m c := by
  refine ⟨?_, fun l => ?_, ?_⟩
  · unfold at_col; blk_simp [iblk]; rw [entry_act]; refine congrArg (fun i => max (P m c i) 0) ?_; blk_ext [idx t]
  · unfold at_col; blk_simp [iblk]; rw [entry_w]; pointwise; blk_ext [idx t]
  · funext j; idx_vars j; blk_point [iblk, V, idx t]

theorem final_dx (c : Dev nD) : (dats m 0 c).arrAt 3 (cfgs 0).N = val_main_v14 (F := Ideal) (P m c) (W m c) (H m c) := by
  refine (dats m 0 c).arrAt_eq_of_covers 3 _ (by decide +kernel) fun t _ y => ?_
  obtain ⟨r, k, rfl⟩ : ∃ (r : Fin 2048) (k : Fin 512), y = ix2 r k := ⟨_, _, eq_ix2 (y : S2048x512.Idx)⟩
  blk_simp
  have hy : ((cfg0.win 3).blk t).view.emb (ix2 r k) = ix2 r (at_col t k) := by
    unfold at_col; blk_ext [idx t]
  rw [hy, after0_3]
  frame_out
  rw [(blocks m c t 0 0).2.2]
  pointwise [k0_pay1]
  simp only [(blocks m c t r k).1, (blocks m c t r k).2.1]
  pointwise [val_main_v14, val_main_v13, val_main_v12, val_main_cst_1, val_main_v11, val_main_v10, val_main_v9, val_main_v8, val_main_v7,
    val_main_v5, val_main_v3, val_main_cst_0, val_main_v2, val_main_v1, val_main_cst, val_main_v0, val_main_call0_v0, val_main_call0_cst]
  rw [two_bf16]
  exact squared _ _

end Cert.Kernel6Ideal.MlpDx

end
-- ==== Proof.GateSpec.lean ====
module
public import proofs.«01_k».proof.Proof.Gen.Kernel2Ideal.Value
public import proofs.«01_k».proof.Proof.Gen.Reference2Ideal.Read
public import proofs.«01_k».proof.Proof.Reals
public import Idealize.ShloMosaic.Lib.Pipeline.ValueKit
public import Idealize.ShloMosaic.Lib.Pipeline.ReadBack
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel2Ideal.Gate
open Cert.Kernel2Ideal Cert.Kernel2Ideal.Gen
open Cert.Reference2Ideal.Read
variable (m : (ℓ : Loc nD τ sig) → Buf (Elt Ideal) ℓ)

/-- `1/√2` at its exact value. -/
def s2i : EReal := (((Real.sqrt 2)⁻¹ : ℝ) : EReal)
/-- The gelu as the kernel computes it. -/
def gel (x : EReal) : EReal := x * (Ideal.erf (x * s2i) + 1) * ((1 / 2 : ℝ) : EReal)
theorem named_s2i : Named.named (F := Ideal) κ "sqrt_half" (φ := .f32) 0x3F3504F3#32 = s2i := IdealRules.named_const.ideal_named_scalar _ _ _ _ rfl
theorem ofBits_one : Ideal.ofBits .f32 0x3F800000#32 = 1 := by simp [Ideal.ofBits, Ideal.ieee, -EReal.coe_mul]; norm_num

/-- A store list whose first stores cover an index reads there as those stores alone. -/
theorem canon_append_left {S : Shape} {e : EltTy} (L' : List (View.Piece (Elt Ideal) S e)) (y : S.Idx) : ∀ L : List (View.Piece (Elt Ideal) S e),
    (∃ p ∈ L, y ∈ p.1.set) → View.canon (L ++ L') y = View.canon L y
  | [], hc => by obtain ⟨p, hp, _⟩ := hc; exact absurd hp List.not_mem_nil
  | p :: L, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_left L' y L ?_
      obtain ⟨q, hq, hyq⟩ := hc
      rcases List.mem_cons.mp hq with rfl | hq'
      · exact absurd hyq hm
      · exact ⟨q, hq', hyq⟩

theorem canon_over {S : Shape} {e : EltTy} (L : List (View.Piece (Elt Ideal) S e)) (y : S.Idx)
    (hc : ∃ p ∈ L.dropLast, y ∈ p.1.set) : View.canon L y = View.canon L.dropLast y := by
  have hne : L ≠ [] := by rintro rfl; simp at hc
  conv_lhs => rw [← List.dropLast_append_getLast hne]
  exact canon_append_left _ y _ hc

theorem pay6_at (x : FVec Ideal S128x2048 .f32) (i : S128x2048.Idx) : k0_pay6 (F := Ideal) x i = gel (x i) := by
  pointwise! [k0_pay6]
  rw [named_s2i, Reals.ofBits_half]; rfl

def col (gi : Fin 8) (k : Fin 256) : Fin 2048 := ⟨gi.val * 256 + k.val, by omega⟩
def lo (l : Fin 2048) : Fin 4096 := ⟨l.val, by omega⟩
def hi (l : Fin 2048) : Fin 4096 := ⟨2048 + l.val, by omega⟩
def grp (l : Fin 2048) : Fin 8 := ⟨l.val / 256, by omega⟩

abbrev zb (c : Dev nD) (t : Fin cfg0.N) : FVec Ideal S128x4096 .f32 := iblk m c 0 t
abbrev db (c : Dev nD) (t : Fin cfg0.N) : FVec Ideal S128x2048 .f32 := iblk m c 1 t
abbrev gb (c : Dev nD) (t : Fin cfg0.N) : FVec Ideal S1x2048 .f32 := iblk m c 2 t
abbrev bb (c : Dev nD) (t : Fin cfg0.N) : FVec Ideal S1x2048 .f32 := iblk m c 3 t
abbrev wb (c : Dev nD) (t : Fin cfg0.N) : FVec Ideal S8x128x128 .f32 := iblk m c 4 t
abbrev cb (c : Dev nD) (t : Fin cfg0.N) : FVec Ideal S128x8 .f32 := iblk m c 5 t

/-! A row's layer norm. -/
def cen (v : Fin 2048 → EReal) (l : Fin 2048) : EReal := v l - Ideal.div (∑ k, v k) (Ideal.ofBits .f32 0x45000000#32)
def veps (v : Fin 2048 → EReal) : EReal := Ideal.div (∑ k, cen v k * cen v k) (Ideal.ofBits .f32 0x45000000#32) + Ideal.ofBits .f32 0x358637BD#32
def rsd (v : Fin 2048 → EReal) : EReal := Ideal.rsqrt (veps v)
def hat (v : Fin 2048 → EReal) (l : Fin 2048) : EReal := cen v l * rsd v
/-! One chunk of 128 rows: `z` the pre-activation, `d` the cotangent, `g` and `b` the norm's scale and bias, `w` and `s` the mixing weights and bias. -/
def vrow (z : Fin 128 → Fin 4096 → EReal) (r : Fin 128) (k : Fin 2048) : EReal := gel (z r (hi k))
def vln (z : Fin 128 → Fin 4096 → EReal) (g b : Fin 2048 → EReal) (r : Fin 128) (l : Fin 2048) : EReal := hat (vrow z r) l * g l + b l
def wm (w : Fin 8 → Fin 128 → Fin 128 → EReal) (i : Fin 8) (j k : Fin 128) : EReal := if k ≤ j then w i j k else 0
def sgv (z : Fin 128 → Fin 4096 → EReal) (g b : Fin 2048 → EReal) (w : Fin 8 → Fin 128 → Fin 128 → EReal) (s : Fin 128 → Fin 8 → EReal)
    (r : Fin 128) (l : Fin 2048) : EReal := (∑ k, wm w (grp l) r k * vln z g b k l) + s r (grp l)
def dsv (z : Fin 128 → Fin 4096 → EReal) (d : Fin 128 → Fin 2048 → EReal) (r : Fin 128) (l : Fin 2048) : EReal := d r l * gel (z r (lo l))
def dvv (z : Fin 128 → Fin 4096 → EReal) (d : Fin 128 → Fin 2048 → EReal) (w : Fin 8 → Fin 128 → Fin 128 → EReal) (k : Fin 128) (l : Fin 2048) : EReal :=
  ∑ j, wm w (grp l) j k * dsv z d j l
def duv (z : Fin 128 → Fin 4096 → EReal) (d : Fin 128 → Fin 2048 → EReal) (g b : Fin 2048 → EReal) (w : Fin 8 → Fin 128 → Fin 128 → EReal)
    (s : Fin 128 → Fin 8 → EReal) (r : Fin 128) (l : Fin 2048) : EReal := d r l * sgv z g b w s r l

theorem pay7_at (x : FVec Ideal S128x2048 .f32) (r : Fin 128) (l : Fin 2048) :
    k0_pay7 (F := Ideal) x (ix2 r l) = cen (fun k => gel (x (ix2 r k))) l := by
  pointwise [k0_pay7]
  simp only [named_s2i, Reals.ofBits_half]; rfl
theorem pay8_at (x : FVec Ideal S128x2048 .f32) (r : Fin 128) (l : Fin 1) :
    k0_pay8 (F := Ideal) x (ix2 r l) = rsd (fun k => gel (x (ix2 r k))) := by
  pointwise [k0_pay8, pay7_at, rsd, veps]
theorem pay11_at (j k : Fin 128) : k0_pay11 (ix2 j k) = if k ≤ j then 1#1 else 0#1 := by
  pointwise [k0_pay11]
  rw [WordCmp.cmpi_sle_ofNat (lt_trans k.isLt (by norm_num)) (lt_trans j.isLt (by norm_num))]
  by_cases h : k ≤ j <;> simp [h]
theorem select_if {p : Prop} [Decidable p] (a b : EReal) : Scalar.select (if p then 1#1 else 0#1) a b = if p then a else b := by
  by_cases h : p <;> simp [h, Scalar.select]

def c2p : EReal := (((Real.sqrt (2 * Real.pi))⁻¹ : ℝ) : EReal)
theorem named_c2p : Named.named (F := Ideal) κ "inv_sqrt_2pi" (φ := .f32) 0x3ECC422A#32 = c2p := IdealRules.named_const.ideal_named_scalar _ _ _ _ rfl
/-- The gelu's derivative as the kernel computes it. -/
def gpr (x : EReal) : EReal := ((1 / 2 : ℝ) : EReal) * (Ideal.erf (x * s2i) + 1) + x * Ideal.exp (((-(1 / 2) : ℝ) : EReal) * x * x) * c2p
def dnv (z : Fin 128 → Fin 4096 → EReal) (d : Fin 128 → Fin 2048 → EReal) (g : Fin 2048 → EReal) (w : Fin 8 → Fin 128 → Fin 128 → EReal)
    (r : Fin 128) (l : Fin 2048) : EReal := dvv z d w r l * g l
def dvz (z : Fin 128 → Fin 4096 → EReal) (d : Fin 128 → Fin 2048 → EReal) (g : Fin 2048 → EReal) (w : Fin 8 → Fin 128 → Fin 128 → EReal)
    (r : Fin 128) (l : Fin 2048) : EReal :=
  rsd (vrow z r) * (dnv z d g w r l - Ideal.div (∑ k, dnv z d g w r k) (Ideal.ofBits .f32 0x45000000#32)
    - hat (vrow z r) l * Ideal.div (∑ k, dnv z d g w r k * hat (vrow z r) k) (Ideal.ofBits .f32 0x45000000#32))
def dwv (z : Fin 128 → Fin 4096 → EReal) (d : Fin 128 → Fin 2048 → EReal) (g b : Fin 2048 → EReal) (i : Fin 8) (j k : Fin 128) : EReal :=
  if k ≤ j then ∑ c : Fin 256, dsv z d j (col i c) * vln z g b k (col i c) else 0

abbrev zf (c : Dev nD) (t : Fin cfg0.N) (r : Fin 128) (l : Fin 4096) : EReal := zb m c t (ix2 r l)
abbrev df (c : Dev nD) (t : Fin cfg0.N) (r : Fin 128) (l : Fin 2048) : EReal := db m c t (ix2 r l)
abbrev gf (c : Dev nD) (t : Fin cfg0.N) (l : Fin 2048) : EReal := gb m c t (ix2 0 l)
abbrev bf (c : Dev nD) (t : Fin cfg0.N) (l : Fin 2048) : EReal := bb m c t (ix2 0 l)
abbrev wf (c : Dev nD) (t : Fin cfg0.N) (i : Fin 8) (j k : Fin 128) : EReal := wb m c t (ix3 i j k)
abbrev sf (c : Dev nD) (t : Fin cfg0.N) (r : Fin 128) (i : Fin 8) : EReal := cb m c t (ix2 r i)

theorem du_of (z : Fin 128 → Fin 4096 → EReal) (d : Fin 128 → Fin 2048 → EReal) (g b : Fin 2048 → EReal) (w : Fin 8 → Fin 128 → Fin 128 → EReal)
    (s : Fin 128 → Fin 8 → EReal) (r : Fin 128) (l : Fin 2048) (i : Fin 8) (r' : Fin 128) (l' : Fin 2048) (hr : r.val = r'.val) (hl : l.val = l'.val)
    (hi : l'.val / 256 = i.val) :
    d r' l' * ((∑ x, (if x ≤ r' then w i r' x else 0) * (cen (vrow z x) l' * rsd (vrow z x) * g l' + b l')) + s r' i) = duv z d g b w s r l := by
  obtain rfl := Fin.ext hr
  obtain rfl := Fin.ext hl
  obtain rfl : grp l = i := Fin.ext hi
  rfl

theorem gpr_at (x : EReal) : Ideal.ofBits .f32 0x3F000000#32 * (FloatOps.erf (F := Ideal) (φ := .f32) (x * Named.named (F := Ideal) κ "sqrt_half" (φ := .f32) 0x3F3504F3#32) + 1)
    + x * Ideal.exp (Ideal.ofBits .f32 0xBF000000#32 * x * x) * Named.named (F := Ideal) κ "inv_sqrt_2pi" (φ := .f32) 0x3ECC422A#32 = gpr x := by
  rw [named_s2i, named_c2p, Reals.ofBits_half, Reals.ofBits_neg_half]; rfl

end Cert.Kernel2Ideal.Gate

end
-- ==== Proof.GateRef.lean ====
module
public import proofs.«01_k».proof.Proof.Gen.Kernel2Ideal.Value
public import proofs.«01_k».proof.Proof.Gen.Reference2Ideal.Read
public import proofs.«01_k».proof.Proof.Reals
public import Idealize.ShloMosaic.Lib.Pipeline.ValueKit
public import Idealize.ShloMosaic.Lib.Pipeline.ReadBack
public import Idealize.ShloMosaic.Lib.Pointwise
public import proofs.«01_k».proof.Proof.GateSpec
@[expose] public section
set_option maxRecDepth 16384
noncomputable section
open Idealize.ShloMosaic Idealize.ShloMosaic.TcCoe Idealize.SL.Sem
open Idealize.ShloMosaic.Pipeline (Dat)
namespace Cert.Kernel2Ideal.Gate
open Cert.Kernel2Ideal Cert.Kernel2Ideal.Gen
open Cert.Reference2Ideal.Read

/-- A sum over the first and the last of four axes. -/
theorem reduce_ends {n0 n3 : Nat} (h : (⟨4, ![n0, 128, 8, n3]⟩ : Shape).ReducesTo [0, 3] S128x8) (v : (⟨4, ![n0, 128, 8, n3]⟩ : Shape).Idx → EReal)
    (init : EReal) (r : Fin 128) (i : Fin 8) : Ideal.hostReduceAdd h v init (ix2 r i) = init + ∑ n : Fin n0, ∑ k : Fin n3, v (ix4 n r i k) := by
  refine congrArg (init + ·) ?_
  rw [← Fintype.sum_prod_type' (f := fun (n : Fin n0) (k : Fin n3) => v (ix4 n r i k))]
  refine Finset.sum_filter_eq_sum_of_fiber _ (fun p : Fin n0 × Fin n3 => ix4 p.1 r i p.2)
    (fun p q e => Prod.ext (congrFun e 0) (congrFun e 3)) (fun q => ⟨fun e => ⟨(q 0, q 3), ?_⟩, ?_⟩) v
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨p, rfl⟩
    funext b
    apply Fin.ext
    match b with
    | ⟨0, _⟩ => rfl
    | ⟨1, _⟩ => rfl

open Cert.Reals (IsR)
theorem grp_col (i : Fin 8) (k : Fin 256) : grp (col i k) = i := Fin.ext (by simp only [grp, col]; omega)
theorem mask_at (j k : Fin 128) : IntOp.cmpi CmpIPredicate.sge (IntOp.addi (BitVec.ofNat 32 j.val) 0#32) (BitVec.ofNat 32 k.val) = if k ≤ j then 1#1 else 0#1 := by
  rw [show IntOp.addi (BitVec.ofNat 32 j.val) 0#32 = BitVec.ofNat 32 j.val by simp [IntOp.addi],
    WordCmp.cmpi_sge_ofNat (lt_trans j.isLt (by norm_num)) (lt_trans k.isLt (by norm_num))]
  by_cases h : k ≤ j <;> simp [h]

/-- The reference's gelu and its derivative, over the reals. -/
theorem erf_real (r : ℝ) : ∃ e : ℝ, Ideal.erf (r : EReal) = (e : EReal) := ⟨_, Ideal.erf_coe r⟩
theorem sqrt_two : Ideal.sqrt (Ideal.ofBits .f32 0x40000000#32) = ((√2 : ℝ) : EReal) := by
  rw [Reals.ofBits_two, Ideal.sqrt_coe]; simp
theorem sqrt_pi : Ideal.sqrt (Ideal.atan2 0 (Ideal.ofBits .f32 0xBF800000#32)) = ((√Real.pi : ℝ) : EReal) := by
  have h1 : Ideal.ofBits .f32 0xBF800000#32 = ((-1 : ℝ) : EReal) := by
    simp [Ideal.ofBits, Ideal.ieee, -EReal.coe_mul]; norm_num
  have h : Ideal.atan2 ((0 : ℝ) : EReal) ((-1 : ℝ) : EReal) = (Real.pi : EReal) := by
    change (((if (0 : ℝ) < -1 then Real.arctan (0 / -1)
      else if (-1 : ℝ) < 0 then (if (0 : ℝ) ≤ 0 then Real.arctan (0 / -1) + Real.pi else Real.arctan (0 / -1) - Real.pi)
      else if (0 : ℝ) < 0 then Real.pi / 2 else if (0 : ℝ) < 0 then -(Real.pi / 2) else 0 : ℝ)) : EReal) = _
    norm_num
  rw [h1, ← EReal.coe_zero, h, Ideal.sqrt_coe, if_neg (not_lt.2 Real.pi_pos.le)]
theorem ofBits_neg_two : Ideal.ofBits .f32 0xC0000000#32 = ((-2 : ℝ) : EReal) := by
  simp [Ideal.ofBits, Ideal.ieee, -EReal.coe_mul]; norm_num
theorem gel_host {x : EReal} : IsR x →
    Ideal.ofBits .f32 0x3F000000#32 * x * Ideal.erfc (Ideal.div (-x) (Ideal.sqrt (Ideal.ofBits .f32 0x40000000#32))) = gel x
  | ⟨a, ha⟩ => by
    subst ha
    have h2 : √(2 : ℝ) ≠ 0 := by positivity
    obtain ⟨e, he⟩ := erf_real (a / √2)
    rw [sqrt_two, ← EReal.coe_neg, Reals.div_real h2, neg_div, EReal.coe_neg, Ideal.erfc, Ideal.erf_neg, he, gel, s2i, ← EReal.coe_mul, ← div_eq_mul_inv, he,
      Reals.ofBits_half]
    norm_cast
    ring
theorem gpr_host {x c : EReal} : IsR x → IsR c →
    -Ideal.div (Ideal.ofBits .f32 0x3F000000#32 * x * c * (Ideal.div (Ideal.ofBits .f32 0xC0000000#32) (Ideal.sqrt (Ideal.atan2 0 (Ideal.ofBits .f32 0xBF800000#32)))
          * Ideal.exp (-(Ideal.div (-x) (Ideal.sqrt (Ideal.ofBits .f32 0x40000000#32)) * Ideal.div (-x) (Ideal.sqrt (Ideal.ofBits .f32 0x40000000#32))))))
        (Ideal.sqrt (Ideal.ofBits .f32 0x40000000#32))
      + Ideal.ofBits .f32 0x3F000000#32 * (c * Ideal.erfc (Ideal.div (-x) (Ideal.sqrt (Ideal.ofBits .f32 0x40000000#32)))) = c * gpr x
  | ⟨a, ha⟩, ⟨b, hb⟩ => by
    subst ha hb
    have h2 : √(2 : ℝ) ≠ 0 := by positivity
    have hp : √Real.pi ≠ 0 := by positivity
    obtain ⟨e, he⟩ := erf_real (a / √2)
    have hx : -(-a / √2 * (-a / √2)) = -(1 / 2) * a * a := by
      rw [div_mul_div_comm, Real.mul_self_sqrt (by norm_num)]; ring
    rw [sqrt_two, sqrt_pi, ofBits_neg_two, ← EReal.coe_neg, Reals.div_real h2, Reals.div_real hp, ← EReal.coe_mul (-a / √2), ← EReal.coe_neg (-a / √2 * _), hx, Ideal.exp_coe,
      neg_div √2 a, EReal.coe_neg (a / √2), Ideal.erfc, Ideal.erf_neg, he, gpr, s2i, ← EReal.coe_mul a, ← div_eq_mul_inv, he, c2p, Reals.ofBits_half,
      show ((-(1 / 2) : ℝ) : EReal) * a * a = ((-(1 / 2) * a * a : ℝ) : EReal) by rw [EReal.coe_mul, EReal.coe_mul], Ideal.exp_coe]
    rw [Real.sqrt_mul (by norm_num) Real.pi]
    have h1 : (1 : EReal) = ((1 : ℝ) : EReal) := rfl
    simp only [h1, ← EReal.coe_mul, ← EReal.coe_neg, ← EReal.coe_add, ← EReal.coe_sub, Reals.div_real h2]
    refine congrArg _ ?_
    field_simp
    ring

/-! Of real arguments every value of a chunk is real. -/
section
variable {z : Fin 128 → Fin 4096 → EReal} {d : Fin 128 → Fin 2048 → EReal} {g b : Fin 2048 → EReal} {w : Fin 8 → Fin 128 → Fin 128 → EReal}
  {s : Fin 128 → Fin 8 → EReal}

theorem real_gel {x : EReal} : IsR x → IsR (gel x)
  | ⟨a, ha⟩ => by
    subst ha
    obtain ⟨e, he⟩ := erf_real (a * (√2)⁻¹)
    exact ⟨a * (e + 1) * (1 / 2), by rw [gel, s2i, ← EReal.coe_mul, he]; norm_cast⟩

/-- A row of reals: its centred values, which sum to zero, and the root of its variance. -/
theorem real_row {v : Fin 2048 → EReal} (hv : ∀ k, IsR (v k)) : ∃ (x : Fin 2048 → ℝ) (q r : ℝ),
    (∀ k, cen v k = x k) ∧ ∑ k, x k = 0 ∧ 0 < q ∧ veps v = q ∧ rsd v = r ∧ r * r = 1 / q := by
  choose a ha using hv
  have hc : ∀ k, cen v k = ((a k - (∑ l, a l) / 2048 : ℝ) : EReal) := fun k => by
    simp only [cen, ha, ← Reals.coe_sum, Reals.ofBits_2048, Reals.div_real (by norm_num : (2048 : ℝ) ≠ 0), ← EReal.coe_sub]
  obtain ⟨q, hq, hQ⟩ := Reals.denom (fun k => a k - (∑ l, a l) / 2048)
  obtain ⟨r, hr, hr'⟩ := Reals.rsqrt_pos hq
  have hve : veps v = q := by simp only [veps, hc]; exact hQ
  refine ⟨_, q, r, hc, ?_, hq, hve, by rw [rsd, hve, hr], hr'⟩
  rw [Finset.sum_sub_distrib, Finset.sum_const, Finset.card_univ, Fintype.card_fin, nsmul_eq_mul]
  push_cast
  ring

theorem real_vrow (hz : ∀ r l, IsR (z r l)) (r : Fin 128) (k : Fin 2048) : IsR (vrow z r k) := real_gel (hz r _)
theorem real_wm (hw : ∀ i j k, IsR (w i j k)) (i : Fin 8) (j k : Fin 128) : IsR (wm w i j k) := IsR.ite (hw i j k) IsR.zero
theorem real_dvv (hz : ∀ r l, IsR (z r l)) (hd : ∀ r l, IsR (d r l)) (hw : ∀ i j k, IsR (w i j k)) (r : Fin 128) (l : Fin 2048) :
    IsR (dvv z d w r l) :=
  IsR.sum fun j => (real_wm hw _ _ _).mul ((hd _ _).mul (real_gel (hz _ _)))
theorem real_duv (hz : ∀ r l, IsR (z r l)) (hd : ∀ r l, IsR (d r l)) (hg : ∀ l, IsR (g l)) (hb : ∀ l, IsR (b l)) (hw : ∀ i j k, IsR (w i j k))
    (hs : ∀ r i, IsR (s r i)) (r : Fin 128) (l : Fin 2048) : IsR (duv z d g b w s r l) := by
  refine (hd _ _).mul ((IsR.sum fun k => (real_wm hw _ _ _).mul ?_).add (hs _ _))
  obtain ⟨x, q, t, hx, -, -, -, ht, -⟩ := real_row (real_vrow hz k)
  rw [vln, hat, hx, ht]
  exact (((IsR.coe _).mul (IsR.coe _)).mul (hg _)).add (hb _)

/-- The two forms of the layer norm's gradient along one row, over the reals: `x` the centred row, `r` the reciprocal root, `q` its argument. -/
theorem row (x w : Fin 2048 → ℝ) (r q : ℝ) (hx : ∑ k, x k = 0) (hr : r * r = 1 / q) (l : Fin 2048) :
    w l * r + x l * ((∑ k, x k * w k) * (-(1 / 2) * (r / q)) / 2048) + (∑ k, x k * w k) * (-(1 / 2) * (r / q)) / 2048 * x l
        + (∑ j, -(w j * r + x j * ((∑ k, x k * w k) * (-(1 / 2) * (r / q)) / 2048) + (∑ k, x k * w k) * (-(1 / 2) * (r / q)) / 2048 * x j)) / 2048
      = r * (w l - (∑ k, w k) / 2048 - x l * r * ((∑ k, w k * (x k * r)) / 2048)) := by
  have h : ∑ k, w k * (x k * r) = (∑ k, x k * w k) * r := by
    rw [Finset.sum_mul]; exact Finset.sum_congr rfl fun k _ => by ring
  rw [h, Finset.sum_neg_distrib, Finset.sum_add_distrib, Finset.sum_add_distrib, ← Finset.sum_mul, ← Finset.sum_mul, ← Finset.mul_sum, hx,
    div_eq_mul_one_div r q, ← hr]
  ring

/-- The same of the chunk's values. -/
theorem dvz_host (hz : ∀ r l, IsR (z r l)) (hd : ∀ r l, IsR (d r l)) (hg : ∀ l, IsR (g l)) (hw : ∀ i j k, IsR (w i j k)) (r : Fin 128) (l : Fin 2048) :
    IsR (dvz z d g w r l) ∧
    ∀ P : Fin 2048 → EReal, (∀ l, P l = dvv z d w r l * g l * rsd (vrow z r)
        + cen (vrow z r) l * Ideal.div ((∑ k, cen (vrow z r) k * (dvv z d w r k * g k))
          * (Ideal.ofBits .f32 0xBF000000#32 * Ideal.div (rsd (vrow z r)) (veps (vrow z r)))) (Ideal.ofBits .f32 0x45000000#32)
        + Ideal.div ((∑ k, cen (vrow z r) k * (dvv z d w r k * g k))
          * (Ideal.ofBits .f32 0xBF000000#32 * Ideal.div (rsd (vrow z r)) (veps (vrow z r)))) (Ideal.ofBits .f32 0x45000000#32) * cen (vrow z r) l) →
      P l + Ideal.div (∑ k, -P k) (Ideal.ofBits .f32 0x45000000#32) = dvz z d g w r l := by
  obtain ⟨x, q, t, hx, hx0, hq, hv, ht, htt⟩ := real_row (real_vrow hz r)
  choose D' hD' using fun k => (real_dvv hz hd hw r k).mul (hg k)
  have h0 : (2048 : ℝ) ≠ 0 := by norm_num
  have e : dvz z d g w r l = ((t * (D' l - (∑ k, D' k) / 2048 - x l * t * ((∑ k, D' k * (x k * t)) / 2048)) : ℝ) : EReal) := by
    simp only [dvz, dnv, hat, hx, ht, hD', Reals.ofBits_2048, ← EReal.coe_mul, ← Reals.coe_sum, Reals.div_real h0, ← EReal.coe_sub]
  refine ⟨⟨_, e⟩, fun P hP => ?_⟩
  rw [e, ← row x D' t q hx0 htt l]
  simp only [hP, hx, ht, hv, hD', Reals.ofBits_2048, Reals.ofBits_neg_half, ← EReal.coe_mul, ← Reals.coe_sum, Reals.div_real h0, Reals.div_real hq.ne',
    ← EReal.coe_add, ← EReal.coe_neg]
end

/-! The reference, stage by stage, over the whole arrays. -/
section
variable (Z : FVec Ideal S2048x4096 .f32) (D : FVec Ideal S2048x2048 .f32) (G B : FVec Ideal S1x2048 .f32) (W : FVec Ideal S1x8x128x128 .f32)
  (S : FVec Ideal S1x8x128 .f32)

/-- Row `r` of chunk `n`. -/
def rowOf (n : Fin 16) (r : Fin 128) : Fin 2048 := ⟨n.val * 128 + r.val, by omega⟩

abbrev zc (n : Fin 16) (r : Fin 128) (l : Fin 4096) : EReal := Z (ix2 (rowOf n r) l)
abbrev dc (n : Fin 16) (r : Fin 128) (l : Fin 2048) : EReal := D (ix2 (rowOf n r) l)
abbrev gc (l : Fin 2048) : EReal := G (ix2 0 l)
abbrev wc (i : Fin 8) (j k : Fin 128) : EReal := W (ix4 0 i j k)
abbrev sc (r : Fin 128) (i : Fin 8) : EReal := S (ix3 0 i r)

theorem v19_at (hZ : ∀ i, IsR (Z i)) (R : Fin 2048) (l : Fin 4096) : val_main_v19 (F := Ideal) Z (ix2 R l) = gel (Z (ix2 R l)) := by
  pointwise [val_main_v19, val_main_v5, val_main_v4, val_main_cst, val_main_v11, val_main_v9, val_main_v8, val_main_v7, val_main_v6, val_main_cst_0]
  exact gel_host (hZ _)
theorem v115_at (hZ : ∀ i, IsR (Z i)) (R : Fin 2048) (l : Fin 4096) (hc : IsR (val_main_v106 (F := Ideal) Z D G B W S (ix2 R l))) :
    val_main_v115 (F := Ideal) Z D G B W S (ix2 R l) = val_main_v106 (F := Ideal) Z D G B W S (ix2 R l) * gpr (Z (ix2 R l)) := by
  pointwise [val_main_v115, val_main_v114, val_main_v113, val_main_v112, val_main_v111, val_main_v110, val_main_v109, val_main_v108, val_main_v107,
    val_main_cst_23, val_main_v18, val_main_v17, val_main_v16, val_main_v15, val_main_v14, val_main_v13, val_main_v12, val_main_v10, val_main_cst_3, val_main_cst_2,
    val_main_cst_1,  val_main_v5, val_main_v4, val_main_cst, val_main_v11, val_main_v9, val_main_v8, val_main_v7, val_main_v6, val_main_cst_0]
  exact gpr_host (hZ _) hc
variable (hz : ∀ R l, val_main_v19 (F := Ideal) Z (ix2 R l) = gel (Z (ix2 R l)))
include hz

theorem v27_at (R : Fin 2048) (l : Fin 2048) : val_main_v27 (F := Ideal) Z (ix2 R l) = cen (fun k => gel (Z (ix2 R (hi k)))) l := by
  pointwise [val_main_v27, val_main_v26, val_main_v25, val_main_v24, val_main_v23, val_main_v22, val_main_v21, val_main_cst_4, val_main_cst_5, hz]
  rfl
theorem v34_at (R : Fin 2048) : val_main_v34 (F := Ideal) Z (ix2 R 0) = veps (fun k => gel (Z (ix2 R (hi k)))) := by
  pointwise [val_main_v34, val_main_v33, val_main_v32, val_main_v31, val_main_v30, val_main_v29, val_main_v28, val_main_cst_6, val_main_cst_7, val_main_cst_8, v27_at Z hz]
  rfl
theorem v35_at (R : Fin 2048) : val_main_v35 (F := Ideal) Z (ix2 R 0) = rsd (fun k => gel (Z (ix2 R (hi k)))) := by
  pointwise [val_main_v35, v34_at Z hz]
  rfl
theorem v40_at (R : Fin 2048) (l : Fin 2048) : val_main_v40 (F := Ideal) Z (ix2 R l) = hat (fun k => gel (Z (ix2 R (hi k)))) l := by
  pointwise [val_main_v40, v27_at Z hz, val_main_v39, v35_at Z hz]
  rfl
theorem v47_at (n : Fin 16) (r : Fin 128) (i : Fin 8) (k : Fin 256) :
    val_main_v47 (F := Ideal) Z G B (ix4 n r i k) = vln (zc Z n) (gc G) (gc B) r (col i k) := by
  pointwise [val_main_v47, val_main_v46, val_main_v45, val_main_v44, val_main_v43, val_main_v42, val_main_v41, v40_at Z hz, val_main_v0, val_main_v1]
  rfl
omit hz in
theorem v52_at (i : Fin 8) (j k : Fin 128) : val_main_v52 (F := Ideal) W (ix3 i j k) = wm (wc W) i j k := by
  pointwise [val_main_v52, val_main_v2, val_main_v51, val_main_v50, val_main_v49, val_main_v48, val_main_call0_v5, val_main_call0_v4, val_main_call0_v3,
     val_main_call0_v2, val_main_call0_v1, val_main_call0_v0, val_main_call0_c, val_main_call0_cst, val_main_cst_10]
  rw [mask_at, select_if]
  rfl

theorem v62_at (n : Fin 16) (r : Fin 128) (i : Fin 8) (k : Fin 256) : val_main_v62 (F := Ideal) Z D G B W S (ix2 (rowOf n r) (col i k)) =
   duv (zc Z n) (dc D n) (gc G) (gc B) (wc W) (sc S) r (col i k) := by
  pointwise [val_main_v62, val_main_v59, val_main_v58, val_main_v57, val_main_v56, val_main_v55, val_main_v54, val_main_v53, rowOf, col, val_main_v3, v47_at Z G B hz, v52_at]
  simp only [mul_comm (vln _ _ _ _ _)]
  unfold duv sgv
  rw [show grp ⟨i.val * 256 + k.val, _⟩ = i from grp_col i k]
  rfl
theorem v68_at (n : Fin 16) (r : Fin 128) (i : Fin 8) (k : Fin 256) : val_main_v68 (F := Ideal) Z D (ix4 i n k r) = dsv (zc Z n) (dc D n) r (col i k) := by
  pointwise [val_main_v68, val_main_v63, val_main_v61, val_main_v20, hz]
  exact mul_comm _ _
theorem v64_at (r : Fin 128) (i : Fin 8) : val_main_v64 (F := Ideal) Z D (ix2 r i) = ∑ n, ∑ k, dsv (zc Z n) (dc D n) r (col i k) := by
  pointwise [val_main_v64, val_main_v63, val_main_v61, val_main_v20, hz, val_main_cst_11, reduce_ends, zero_add]
  exact Finset.sum_congr rfl fun n _ => Finset.sum_congr rfl fun k _ => mul_comm _ _
theorem v65_at (r : Fin 128) (i : Fin 8) : val_main_v65 (F := Ideal) Z D (ix4 0 r i 0) = ∑ n, ∑ k, dsv (zc Z n) (dc D n) r (col i k) := by
  pointwise [val_main_v65, v64_at Z D hz]
theorem v66_at (r : Fin 128) (i : Fin 8) : val_main_v66 (F := Ideal) Z D (ix2 r i) = val_main_v65 (F := Ideal) Z D (ix4 0 r i 0) := by
  pointwise [val_main_v66, val_main_cst_12, reduce_ends]
  simp only [Finset.univ_unique, Finset.sum_singleton, zero_add]
  rfl
theorem v117_at (r : Fin 128) (i : Fin 8) : val_main_v117 (F := Ideal) Z D (ix2 r i) = ∑ n, ∑ k, dsv (zc Z n) (dc D n) r (col i k) := by
  pointwise [val_main_v117, val_main_v67, v66_at Z D hz, v65_at Z D hz]
theorem v73_at (i : Fin 8) (j k : Fin 128) : val_main_v73 (F := Ideal) Z D G B (ix3 i j k) = ∑ n, dwv (zc Z n) (dc D n) (gc G) (gc B) i j k := by
  pointwise [val_main_v73, val_main_v72, val_main_v69, v68_at Z D hz, v47_at Z G B hz, val_main_v50, val_main_v49, val_main_v48, val_main_call0_v5, val_main_call0_v4, val_main_call0_v3,
     val_main_call0_v2, val_main_call0_v1, val_main_call0_v0, val_main_call0_c, val_main_call0_cst, val_main_cst_10]
  rw [mask_at, select_if]
  unfold dwv
  split_ifs with h
  · rfl
  · exact Finset.sum_const_zero.symm
theorem v74_at (n : Fin 16) (r : Fin 128) (i : Fin 8) (k : Fin 256) : val_main_v74 (F := Ideal) Z D W (ix2 (rowOf n r) (col i k)) = dvv (zc Z n) (dc D n) (wc W) r (col i k) := by
  pointwise [val_main_v74, val_main_v71, val_main_v70, v68_at Z D hz, v52_at, rowOf, col]
  simp only [mul_comm (dsv _ _ _ _)]
  unfold dvv
  rw [show grp ⟨i.val * 256 + k.val, _⟩ = i from grp_col i k]

omit hz in
/-- Every column is a group's. -/
theorem col_grp (l : Fin 2048) : ∃ i k, l = col i k := ⟨grp l, ⟨l.val % 256, by omega⟩, Fin.ext (by simp [col, grp]; omega)⟩

theorem v74_at' (n : Fin 16) (r : Fin 128) (l : Fin 2048) : val_main_v74 (F := Ideal) Z D W (ix2 (rowOf n r) l) = dvv (zc Z n) (dc D n) (wc W) r l := by
  obtain ⟨i, k, rfl⟩ := col_grp l
  exact v74_at Z D W hz n r i k
theorem v119_at (l : Fin 2048) : val_main_v119 (F := Ideal) Z D W (ix2 0 l) = ∑ n, ∑ r, dvv (zc Z n) (dc D n) (wc W) r l := by
  pointwise [val_main_v119, val_main_v77, val_main_v76, val_main_v75, val_main_cst_13, val_main_cst_14]
  simp only [Finset.univ_unique, Finset.sum_singleton, zero_add]
  refine (Fin.sum_mul_add_congr fun n r _ => ?_).symm
  exact (v74_at' Z D W hz n r l).symm
theorem v118_at (l : Fin 2048) : val_main_v118 (F := Ideal) Z D W (ix2 0 l) = ∑ n, ∑ r, dvv (zc Z n) (dc D n) (wc W) r l * hat (vrow (zc Z n) r) l := by
  pointwise [val_main_v118, val_main_v83, val_main_v80, val_main_v79, val_main_v78, val_main_cst_15, val_main_cst_16]
  simp only [Finset.univ_unique, Finset.sum_singleton, zero_add]
  refine (Fin.sum_mul_add_congr fun n r _ => ?_).symm
  exact (mul_comm _ _).trans (congrArg₂ (· * ·) (v40_at Z hz (rowOf n r) l) (v74_at' Z D W hz n r l)).symm
theorem v105_at (hZ : ∀ i, IsR (Z i)) (hD : ∀ i, IsR (D i)) (hG : ∀ i, IsR (G i)) (hW : ∀ i, IsR (W i)) (n : Fin 16) (r : Fin 128) (l : Fin 2048) :
    val_main_v105 (F := Ideal) Z D G W (ix2 (rowOf n r) l) = dvz (zc Z n) (dc D n) (gc G) (wc W) r l := by
  pointwise [val_main_v105, val_main_v104, val_main_v103, val_main_v102, val_main_v101, val_main_v100, val_main_v99, val_main_v98, val_main_v97, val_main_v96, val_main_v95,
    val_main_v94, val_main_v93, val_main_v92, val_main_v91, val_main_v90, val_main_v89, val_main_v88, val_main_v87, val_main_v86, val_main_v85, val_main_v84, val_main_v82,
    val_main_v81, val_main_cst_22, val_main_cst_21, val_main_cst_20, val_main_cst_19, val_main_cst_18, val_main_cst_17, v27_at Z hz, v74_at' Z D W hz,
    val_main_v36, val_main_v37, val_main_v38, val_main_cst_9, val_main_v41, val_main_v0]
  simp only [Finset.univ_unique, Finset.sum_singleton, zero_add, Fin.default_eq_zero, v35_at Z hz, v34_at Z hz]
  exact (dvz_host (fun _ _ => hZ _) (fun _ _ => hD _) (fun _ => hG _) (fun _ _ _ => hW _) r l).2 _ fun _ => rfl
omit hz in
theorem v106_lo (R : Fin 2048) (l : Fin 2048) : val_main_v106 (F := Ideal) Z D G B W S (ix2 R (lo l)) = val_main_v62 (F := Ideal) Z D G B W S (ix2 R l) := by
  pointwise [val_main_v106, lo]
omit hz in
theorem v106_hi (R : Fin 2048) (l : Fin 2048) : val_main_v106 (F := Ideal) Z D G B W S (ix2 R (hi l)) = val_main_v105 (F := Ideal) Z D G W (ix2 R l) := by
  pointwise [val_main_v106, hi]
end

section
variable (Z : FVec Ideal S2048x4096 .f32) (D : FVec Ideal S2048x2048 .f32) (G B : FVec Ideal S1x2048 .f32) (W : FVec Ideal S1x8x128x128 .f32)
  (S : FVec Ideal S1x8x128 .f32) (hZ : ∀ i, IsR (Z i)) (hD : ∀ i, IsR (D i)) (hG : ∀ i, IsR (G i)) (hB : ∀ i, IsR (B i)) (hW : ∀ i, IsR (W i))
  (hS : ∀ i, IsR (S i))
include hZ hD hG hB hW hS
/-- The reference's gradient of the pre-activation, in its two halves. -/
theorem v116_lo (n : Fin 16) (r : Fin 128) (l : Fin 2048) : val_main_v116 (F := Ideal) Z D G B W S (ix2 (rowOf n r) (lo l)) =
    duv (zc Z n) (dc D n) (gc G) (gc B) (wc W) (sc S) r l * gpr (zc Z n r (lo l)) := by
  have e : val_main_v106 (F := Ideal) Z D G B W S (ix2 (rowOf n r) (lo l)) = duv (zc Z n) (dc D n) (gc G) (gc B) (wc W) (sc S) r l := by
    rw [v106_lo]
    obtain ⟨i, k, rfl⟩ := col_grp l
    exact v62_at Z D G B W S (v19_at Z hZ) n r i k
  refine Eq.trans ?_ (congrArg (· * _) e)
  refine v115_at Z D G B W S hZ _ _ ?_
  rw [e]
  exact real_duv (fun _ _ => hZ _) (fun _ _ => hD _) (fun _ => hG _) (fun _ => hB _) (fun _ _ _ => hW _) (fun _ _ => hS _) r l
theorem v116_hi (n : Fin 16) (r : Fin 128) (l : Fin 2048) : val_main_v116 (F := Ideal) Z D G B W S (ix2 (rowOf n r) (hi l)) =
    dvz (zc Z n) (dc D n) (gc G) (wc W) r l * gpr (zc Z n r (hi l)) := by
  have e : val_main_v106 (F := Ideal) Z D G B W S (ix2 (rowOf n r) (hi l)) = dvz (zc Z n) (dc D n) (gc G) (wc W) r l := by
    rw [v106_hi]
    exact v105_at Z D G W (v19_at Z hZ) hZ hD hG hW n r l
  refine Eq.trans ?_ (congrArg (· * _) e)
  refine v115_at Z D G B W S hZ _ _ ?_
  rw [e]
  exact (dvz_host (fun _ _ => hZ _) (fun _ _ => hD _) (fun _ => hG _) (fun _ _ _ => hW _) r l).1
end

end Cert.Kernel2Ideal.Gate

end
-- ==== Proof.GatePoint.lean ====
module
public import proofs.«01_k».proof.Proof.Gen.Kernel2Ideal.Value
public import proofs.«01_k».proof.Proof.Gen.Reference2Ideal.Read
public import proofs.«01_k».proof.Proof.Reals
public import Idealize.ShloMosaic.Lib.Pipeline.ValueKit
public import Idealize.ShloMosaic.Lib.Pipeline.ReadBack
public import Idealize.ShloMosaic.Lib.Pointwise
public import proofs.«01_k».proof.Proof.GateSpec
@[expose] public section
set_option maxRecDepth 16384
noncomputable section
open Idealize.ShloMosaic Idealize.ShloMosaic.TcCoe Idealize.SL.Sem
open Idealize.ShloMosaic.Pipeline (Dat)
namespace Cert.Kernel2Ideal.Gate
open Cert.Kernel2Ideal Cert.Kernel2Ideal.Gen
open Cert.Reference2Ideal.Read
variable (m : (ℓ : Loc nD τ sig) → Buf (Elt Ideal) ℓ)

theorem pred_lt (t : Fin cfg0.N) : t.val - 1 < cfg0.N := Nat.lt_of_le_of_lt (Nat.sub_le _ _) t.isLt

set_option maxHeartbeats 2000000 in
/-- What a point leaves in the windows of the pre-activation's gradient and of the norm's two gradients: through the two scratch arrays that hold
    the gradients of the gate's halves. -/
theorem point (c : Dev nD) (t : Fin cfg0.N) (r : Fin 128) (l : Fin 2048) :
    (outsAt0 m c t.val t.isLt).1 (ix2 r (lo l)) =
      duv (zf m c t) (df m c t) (gf m c t) (bf m c t) (wf m c t) (sf m c t) r l * gpr (zf m c t r (lo l))
    ∧ (outsAt0 m c t.val t.isLt).1 (ix2 r (hi l)) = dvz (zf m c t) (df m c t) (gf m c t) (wf m c t) r l * gpr (zf m c t r (hi l))
    ∧ (outsAt0 m c t.val t.isLt).2.2.2.1 (ix2 0 l) = (if t.val % 16 = 0 then 0 else (outsAt0 m c (t.val - 1) (pred_lt t)).2.2.2.1 (ix2 0 l))
        + ∑ k, dvv (zf m c t) (df m c t) (wf m c t) k l * hat (vrow (zf m c t) k) l
    ∧ (outsAt0 m c t.val t.isLt).2.2.2.2 (ix2 0 l) = (if t.val % 16 = 0 then 0 else (outsAt0 m c (t.val - 1) (pred_lt t)).2.2.2.2 (ix2 0 l))
        + ∑ k, dvv (zf m c t) (df m c t) (wf m c t) k l := by
  by_cases hA : t.val % 16 = 0
  on_goal 1 =>
    simp only [if_pos hA]
    rw [outsAt0_A m c t hA]
  on_goal 2 =>
    simp only [if_neg hA]
    rw [outsAt0_B m c t hA]
  all_goals
    frame_open
    simp (disch := decide) only [↓View.readCov_skip, ↓ View.readCov_cons_toLoadRect, ↓View.readCov_fill]
    frame_out
    clear hA
    generalize hE : View.readCov (Val := Elt Ideal) (View.whole cc0_scratch0) _ _ = E
    generalize hD : View.readCov (Val := Elt Ideal) (View.whole cc0_scratch1) _ _ = D
    have key : ∀ r l, E (ix2 r l) = duv (zf m c t) (df m c t) (gf m c t) (bf m c t) (wf m c t) (sf m c t) r l := by
      clear r l hD D
      intro r l
      rw [← hE, View.readCov_eq_canon']
      clear hE E
      canon_tiles x h
      all_goals (pointwise [k0_pay75, k0_pay65, k0_pay57, k0_pay49, k0_pay41, k0_pay32, k0_pay24, k0_pay14, k0_pay73, k0_pay74, k0_pay63, k0_pay64,
        k0_pay55, k0_pay56, k0_pay47, k0_pay48, k0_pay40, k0_pay38, k0_pay39, k0_pay30, k0_pay31, k0_pay22, k0_pay23, k0_pay12, k0_pay13,
        pay11_at, select_if, k0_pay10, k0_pay9, pay8_at, pay7_at])
      all_goals simp [LoadRect.idx, Rect.unit] at h0 h1
      all_goals refine du_of (zf m c t) (df m c t) (gf m c t) (bf m c t) (wf m c t) (sf m c t) r l _ (x 0) _ ?_ ?_ ?_
      all_goals first | omega | (simp; omega)
    have keyv : ∀ r l, D (ix2 r l) = dvv (zf m c t) (df m c t) (wf m c t) r l := by
      clear r l key hE E
      intro r l
      rw [← hD, View.readCov_eq_canon']
      clear hD D
      canon_tiles x h
      all_goals (pointwise [k0_pay21, k0_pay29, k0_pay37, k0_pay46, k0_pay54, k0_pay62, k0_pay72, k0_pay80, k0_pay73, k0_pay63, k0_pay55, k0_pay47,
        k0_pay38, k0_pay30, k0_pay22, k0_pay12, k0_pay15, k0_pay17, k0_pay25, k0_pay27, k0_pay33, k0_pay35, k0_pay42, k0_pay44, k0_pay50, k0_pay52,
        k0_pay58, k0_pay60, k0_pay66, k0_pay68, k0_pay76, k0_pay78, pay11_at, select_if, pay6_at])
      all_goals
        simp [LoadRect.idx, Rect.unit] at h0 h1
        have e := Fin.ext_iff.symm.1 h0
        subst e
        obtain ⟨n, hn⟩ := l
        simp only at h1
        subst h1
        obtain ⟨i, e⟩ : ∃ i, i = grp ⟨_, hn⟩ := ⟨_, rfl⟩
        unfold dvv wm dsv
        rw [← e]
        replace e := congrArg Fin.val e
        simp only [grp] at e
        obtain ⟨i, hi⟩ := i
        simp at e
        obtain rfl | rfl | rfl | rfl | rfl | rfl | rfl | rfl : i = 0 ∨ i = 1 ∨ i = 2 ∨ i = 3 ∨ i = 4 ∨ i = 5 ∨ i = 6 ∨ i = 7 := by omega
        all_goals first
          | (exfalso; omega)
          | rfl
    clear hE hD
    refine ⟨?_, ?_, ?_, ?_⟩
    · canon_tiles x h
      · exfalso; simp only [lo, ix2] at h1; omega
      obtain rfl : r = x 0 := Fin.ext h0
      obtain rfl : l = x 1 := Fin.ext h1
      clear h0 h1
      obtain ⟨a, b, rfl⟩ : ∃ a b, x = ix2 a b := ⟨_, _, eq_ix2 x⟩
      pointwise [k0_pay85, gpr_at, key]
      rfl
    · canon_tiles x h
      case piece1 => exfalso; simp only [hi, ix2] at h1; omega
      simp [hi, ix2] at h0 h1
      obtain rfl := Fin.ext_iff.symm.1 h0
      obtain rfl := Fin.ext_iff.symm.1 h1
      clear h0 h1
      obtain ⟨a, b, rfl⟩ : ∃ a b, x = ix2 a b := ⟨_, _, eq_ix2 x⟩
      pointwise [k0_pay1, k0_pay84, k0_pay83, k0_pay86, k0_pay87, gpr_at, keyv, pay8_at, k0_pay9, pay7_at]
      rfl
    · pointwise [k0_pay82, keyv, k0_pay9, pay8_at, pay7_at, k0_pay4]
      rfl
    · pointwise [k0_pay81, keyv, k0_pay5]

theorem sum_ds_of (z : Fin 128 → Fin 4096 → EReal) (d : Fin 128 → Fin 2048 → EReal) (p : Fin 128) (i : Fin 8)
    (q : Fin 256 → Fin 2048) (hq : ∀ x, (q x).val = i.val * 256 + x.val) :
    ∑ x, d p (q x) * gel (z p (lo (q x))) = ∑ k, dsv z d p (col i k) := by
  obtain rfl : q = col i := funext fun x => Fin.ext (hq x)
  rfl

set_option maxHeartbeats 2000000 in
/-- The mixing bias's gradient, a point's part. -/
theorem point_dbs (c : Dev nD) (t : Fin cfg0.N) (y : S128x8.Idx) : (outsAt0 m c t.val t.isLt).2.2.1 y =
    (if t.val % 16 = 0 then 0 else (outsAt0 m c (t.val - 1) (pred_lt t)).2.2.1 y) + ∑ k, dsv (zf m c t) (df m c t) (y 0) (col (y 1) k) := by
  by_cases hA : t.val % 16 = 0
  on_goal 1 =>
    simp only [if_pos hA]
    rw [outsAt0_A m c t hA]
    frame_open
    simp (disch := decide) only [↓View.readCov_skip, ↓ View.readCov_cons_toLoadRect, ↓View.readCov_fill]
    frame_out
    refine (canon_over _ _ ?_).trans ?_
    · simp only [List.dropLast]
      set_option maxRecDepth 1000000 in exact View.cover_of_tiled_head _ _ _ (by rfl) _
    simp only [List.dropLast]
  on_goal 2 =>
    simp only [if_neg hA]
    rw [outsAt0_B m c t hA]
    frame_out
  all_goals
    clear hA
    canon_tiles x h
    all_goals (pointwise [k0_pay16, k0_pay26, k0_pay34, k0_pay33, k0_pay43, k0_pay51, k0_pay59, k0_pay67, k0_pay77, k0_pay15, k0_pay25,
      k0_pay42, k0_pay50, k0_pay58, k0_pay66, k0_pay76, k0_pay3, pay6_at])
    all_goals
      obtain ⟨p, q, rfl⟩ : ∃ p q, y = ix2 p q := ⟨_, _, eq_ix2 y⟩
      have hx : (x 1).val = 0 := by omega
      rw [hx] at h1
      obtain rfl : p = x 0 := Fin.ext h0
      obtain ⟨q, hq⟩ := q
      replace h1 : q = _ := h1
      try simp only [Nat.add_zero] at h1
      subst h1
      first
        | refine sum_ds_of (zf m c t) (df m c t) (x 0) _ (fun _ => _) (fun _ => ?_)
        | refine congrArg₂ (· + ·) rfl (sum_ds_of (zf m c t) (df m c t) (x 0) _ (fun _ => _) (fun _ => ?_))
      first | rfl | (simp; done)

theorem dw_of (z : Fin 128 → Fin 4096 → EReal) (d : Fin 128 → Fin 2048 → EReal) (g b : Fin 2048 → EReal) (i : Fin 8) (j k : Fin 128)
    (q : Fin 256 → Fin 2048) (hq : ∀ x, (q x).val = i.val * 256 + x.val) :
    (if k ≤ j then ∑ x, d j (q x) * gel (z j (lo (q x))) * (cen (vrow z k) (q x) * rsd (vrow z k) * g (q x) + b (q x)) else 0) = dwv z d g b i j k := by
  obtain rfl : q = col i := funext fun x => Fin.ext (hq x)
  rfl

set_option maxHeartbeats 2000000 in
/-- The mixing weights' gradient, a point's part. -/
theorem point_dw (c : Dev nD) (t : Fin cfg0.N) (i : Fin 8) (j k : Fin 128) : (outsAt0 m c t.val t.isLt).2.1 (ix3 i j k) =
    (if t.val % 16 = 0 then 0 else (outsAt0 m c (t.val - 1) (pred_lt t)).2.1 (ix3 i j k))
      + dwv (zf m c t) (df m c t) (gf m c t) (bf m c t) i j k := by
  by_cases hA : t.val % 16 = 0
  on_goal 1 =>
    simp only [if_pos hA]
    rw [outsAt0_A m c t hA]
    frame_open
    simp (disch := decide) only [↓View.readCov_skip, ↓ View.readCov_cons_toLoadRect, ↓View.readCov_fill]
    frame_out
    refine (canon_over _ _ ?_).trans ?_
    · simp only [List.dropLast]
      set_option maxRecDepth 1000000 in exact View.cover_of_tiled_head _ _ _ (by rfl) _
    simp only [List.dropLast]
  on_goal 2 =>
    simp only [if_neg hA]
    rw [outsAt0_B m c t hA]
    frame_out
  all_goals
    clear hA
    canon_tiles x h
    all_goals (pointwise [k0_pay20, k0_pay28, k0_pay36, k0_pay45, k0_pay53, k0_pay61, k0_pay71, k0_pay79, k0_pay18, k0_pay19, k0_pay69, k0_pay70,
      k0_pay2, k0_pay75, k0_pay65, k0_pay57, k0_pay49, k0_pay41, k0_pay32, k0_pay24, k0_pay14, k0_pay73, k0_pay74, k0_pay63, k0_pay64, k0_pay55, k0_pay56,
      k0_pay47, k0_pay48, k0_pay40, k0_pay38, k0_pay39, k0_pay30, k0_pay31, k0_pay22, k0_pay23, k0_pay12, k0_pay13, k0_pay15, k0_pay17, k0_pay25,
      k0_pay27, k0_pay33, k0_pay35, k0_pay42, k0_pay44, k0_pay50, k0_pay52, k0_pay58, k0_pay60, k0_pay66, k0_pay68, k0_pay76, k0_pay78,
      pay11_at, select_if, k0_pay10, k0_pay9, pay6_at, pay8_at, pay7_at])
    all_goals
      have hx : (x 0).val = 0 := by omega
      rw [hx] at h0
      obtain rfl : j = x 1 := Fin.ext h1
      obtain rfl : k = x 2 := Fin.ext h2
      simp only [Nat.add_zero] at h0
      obtain ⟨i, hi⟩ := i
      replace h0 : i = _ := h0
      subst h0
      first
        | refine dw_of (zf m c t) (df m c t) (gf m c t) (bf m c t) _ (x 1) (x 2) (fun _ => _) (fun _ => ?_)
        | refine congrArg₂ (· + ·) rfl (dw_of (zf m c t) (df m c t) (gf m c t) (bf m c t) _ (x 1) (x 2) (fun _ => _) (fun _ => ?_))
      first | rfl | (simp; done)

end Cert.Kernel2Ideal.Gate

end
-- ==== Proof.Gate.lean ====
module
public import proofs.«01_k».proof.Proof.Gen.Kernel2Ideal.Value
public import proofs.«01_k».proof.Proof.Gen.Reference2Ideal.Read
public import proofs.«01_k».proof.Proof.Reals
public import Idealize.ShloMosaic.Lib.Pipeline.ValueKit
public import Idealize.ShloMosaic.Lib.Pipeline.ReadBack
public import Idealize.ShloMosaic.Lib.Pointwise
public import proofs.«01_k».proof.Proof.GateRef
public import proofs.«01_k».proof.Proof.GatePoint
@[expose] public section
set_option maxRecDepth 16384
noncomputable section
open Idealize.ShloMosaic Idealize.ShloMosaic.TcCoe Idealize.SL.Sem
open Idealize.ShloMosaic.Pipeline (Dat)
namespace Cert.Kernel2Ideal.Gate
open Cert.Kernel2Ideal Cert.Kernel2Ideal.Gen
open Cert.Reference2Ideal.Read
variable (m : (ℓ : Loc nD τ sig) → Buf (Elt Ideal) ℓ)
open Cert.Reals (IsR)

theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- A point's chunk. -/
def chunk (t : Fin cfg0.N) : Fin 16 := ⟨t.val, lt_of_lt_of_eq t.isLt N_0⟩

abbrev Z (c : Dev nD) : FVec Ideal S2048x4096 .f32 := m ((c : Thread nD τ).loc main_arg0)
abbrev D (c : Dev nD) : FVec Ideal S2048x2048 .f32 := m ((c : Thread nD τ).loc main_arg1)
abbrev G (c : Dev nD) : FVec Ideal S1x2048 .f32 := m ((c : Thread nD τ).loc main_arg2)
abbrev B (c : Dev nD) : FVec Ideal S1x2048 .f32 := m ((c : Thread nD τ).loc main_arg3)
abbrev W (c : Dev nD) : FVec Ideal S1x8x128x128 .f32 := m ((c : Thread nD τ).loc main_arg4)
abbrev S (c : Dev nD) : FVec Ideal S1x8x128 .f32 := m ((c : Thread nD τ).loc main_arg5)

theorem zf_eq (c : Dev nD) (t : Fin cfg0.N) : zf m c t = zc (Z m c) (chunk t) := by
  funext r l
  unfold zf zb zc rowOf chunk
  blk_point [iblk, V, idx t]
theorem df_eq (c : Dev nD) (t : Fin cfg0.N) : df m c t = dc (D m c) (chunk t) := by
  funext r l
  unfold df db dc rowOf chunk
  blk_point [iblk, V, idx t]
theorem gf_eq (c : Dev nD) (t : Fin cfg0.N) : gf m c t = gc (G m c) := by
  funext l
  unfold gf gb gc
  blk_point [iblk, V, idx t]
theorem bf_eq (c : Dev nD) (t : Fin cfg0.N) : bf m c t = gc (B m c) := by
  funext l
  unfold bf bb gc
  blk_point [iblk, V, idx t]
theorem wf_eq (c : Dev nD) (t : Fin cfg0.N) : wf m c t = wc (W m c) := by
  funext i j k
  unfold wf wb wc
  blk_point [iblk, V, idx t]
theorem sf_eq (c : Dev nD) (t : Fin cfg0.N) : sf m c t = sc (S m c) := by
  funext r i
  unfold sf cb sc
  blk_point [iblk, V, idx t]

theorem last_sum (f : (n : ℕ) → (h : n < cfg0.N) → EReal) (b : Fin cfg0.N → EReal) (hf : ∀ t : Fin cfg0.N,
    f t.val t.isLt = (if t.val % 16 = 0 then 0 else f (t.val - 1) (pred_lt t)) + b t) : f t0_15.val t0_15.isLt = ∑ n : Fin 16, b ⟨n.val, lt_of_lt_of_eq n.isLt N_0.symm⟩ := by
  have h := Pipeline.eq_sum_fin_of_reset_step_apply_last (ι := Unit) (fun n h _ => f n h) 16 (fun _ => 0) (fun t _ => b t)
    (fun t h _ => by rw [hf t, if_pos h])
    (fun t h _ => by rw [hf t, if_neg h])
    (le_of_eq N_0) t0_15 rfl ()
  rw [h, zero_add]
  exact Fintype.sum_equiv (finCongr N_0) _ _ fun _ => rfl

/-- The mixing weights' gradient. -/
theorem final_dw (c : Dev nD) (hz : ∀ i, IsR (Z m c i)) :
    (dats m 0 c).arrAt 7 (cfgs 0).N = val_main_v73 (F := Ideal) (Z m c) (D m c) (G m c) (B m c) := by
  refine (dats m 0 c).arrAt_eq_of_after_last 7 t0_15 (by decide +kernel) _ fun j => ?_
  blk_simp
  obtain ⟨i, j, k, rfl⟩ : ∃ (i : Fin 8) (a b : Fin 128), j = ix3 i a b := ⟨_, _, _, eq_ix3 j⟩
  rw [after0_7, v73_at _ _ _ _ (v19_at _ hz), last_sum (fun n h => (outsAt0 m c n h).2.1 (ix3 i j k)) _ (fun t => point_dw m c t i j k)]
  simp only [zf_eq, df_eq, gf_eq, bf_eq]
  rfl

/-- The mixing bias's gradient. -/
theorem final_dbs (c : Dev nD) (hz : ∀ i, IsR (Z m c i)) : (dats m 0 c).arrAt 8 (cfgs 0).N = val_main_v117 (F := Ideal) (Z m c) (D m c) := by
  refine (dats m 0 c).arrAt_eq_of_after_last 8 t0_15 (by decide +kernel) _ fun j => ?_
  blk_simp
  obtain ⟨r, i, rfl⟩ : ∃ (r : Fin 128) (i : Fin 8), j = ix2 r i := ⟨_, _, eq_ix2 j⟩
  rw [after0_8, v117_at _ _ (v19_at _ hz), last_sum (fun n h => (outsAt0 m c n h).2.2.1 (ix2 r i)) _ (fun t => point_dbs m c t (ix2 r i))]
  simp only [zf_eq, df_eq]
  rfl

/-- The norm's scale's and bias's gradients. -/
theorem final_dg (c : Dev nD) (hz : ∀ i, IsR (Z m c i)) : (dats m 0 c).arrAt 9 (cfgs 0).N = val_main_v118 (F := Ideal) (Z m c) (D m c) (W m c) := by
  refine (dats m 0 c).arrAt_eq_of_after_last 9 t0_15 (by decide +kernel) _ fun j => ?_
  blk_simp
  obtain ⟨r, l, rfl⟩ : ∃ (r : Fin 1) (l : Fin 2048), j = ix2 r l := ⟨_, _, eq_ix2 j⟩
  obtain rfl : r = 0 := Subsingleton.elim _ _
  rw [after0_9, v118_at _ _ _ (v19_at _ hz), last_sum (fun n h => (outsAt0 m c n h).2.2.2.1 (ix2 0 l)) _ (fun t => (point m c t 0 l).2.2.1)]
  simp only [zf_eq, df_eq, wf_eq]
  rfl
theorem final_db (c : Dev nD) (hz : ∀ i, IsR (Z m c i)) : (dats m 0 c).arrAt 10 (cfgs 0).N = val_main_v119 (F := Ideal) (Z m c) (D m c) (W m c) := by
  refine (dats m 0 c).arrAt_eq_of_after_last 10 t0_15 (by decide +kernel) _ fun j => ?_
  blk_simp
  obtain ⟨r, l, rfl⟩ : ∃ (r : Fin 1) (l : Fin 2048), j = ix2 r l := ⟨_, _, eq_ix2 j⟩
  obtain rfl : r = 0 := Subsingleton.elim _ _
  rw [after0_10, v119_at _ _ _ (v19_at _ hz), last_sum (fun n h => (outsAt0 m c n h).2.2.2.2 (ix2 0 l)) _ (fun t => (point m c t 0 l).2.2.2)]
  simp only [zf_eq, df_eq, wf_eq]
  rfl

/-- The pre-activation's gradient. -/
theorem final_dz (c : Dev nD) (hz : ∀ i, IsR (Z m c i)) (hd : ∀ i, IsR (D m c i)) (hg : ∀ i, IsR (G m c i)) (hb : ∀ i, IsR (B m c i))
    (hw : ∀ i, IsR (W m c i)) (hs : ∀ i, IsR (S m c i)) :
    (dats m 0 c).arrAt 6 (cfgs 0).N = val_main_v116 (F := Ideal) (Z m c) (D m c) (G m c) (B m c) (W m c) (S m c) := by
  refine (dats m 0 c).arrAt_eq_of_covers 6 _ (by decide +kernel) fun t _ y => ?_
  blk_simp
  have hy : ((cfg0.win 6).blk t).view.emb y = ix2 (rowOf (chunk t) (y 0)) (y 1) := by
    unfold rowOf chunk; blk_ext [idx t]
  rw [hy, after0_6]
  obtain ⟨r, l, rfl⟩ : ∃ (r : Fin 128) (l : Fin 4096), y = ix2 r l := ⟨_, _, eq_ix2 y⟩
  obtain ⟨l, rfl⟩ | ⟨l, rfl⟩ : (∃ k, l = lo k) ∨ ∃ k, l = hi k := by
    by_cases h : l.val < 2048
    · exact Or.inl ⟨⟨l.val, h⟩, rfl⟩
    · exact Or.inr ⟨⟨l.val - 2048, by omega⟩, Fin.ext (by simp only [hi]; omega)⟩
  · refine ((point m c t r l).1.trans ?_).trans (v116_lo _ _ _ _ _ _ hz hd hg hb hw hs (chunk t) r l).symm
    simp only [zf_eq, df_eq, gf_eq, bf_eq, wf_eq, sf_eq]
    exact congrArg (_ * gpr ·) (congrFun (congrFun (zf_eq m c t) r) (lo l))
  · refine ((point m c t r l).2.1.trans ?_).trans (v116_hi _ _ _ _ _ _ hz hd hg hb hw hs (chunk t) r l).symm
    simp only [zf_eq, df_eq, gf_eq, wf_eq]
    exact congrArg (_ * gpr ·) (congrFun (congrFun (zf_eq m c t) r) (hi l))

end Cert.Kernel2Ideal.Gate

end
-- ==== Proof.Pool.lean ====
/- The gradient of the multi-scale causal pooling: the array of the kernel is the reference's term. -/
module

public import proofs.«01_k».proof.Proof.Gen.Kernel3Ideal.Value
public import proofs.«01_k».proof.Proof.Gen.Reference3Ideal.Read
public import proofs.«01_k».proof.Proof.Reals
public import Idealize.ShloMosaic.Lib.Pipeline.ValueKit
public import Idealize.ShloMosaic.Lib.Pointwise
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.Kernel3Ideal.Pool

open Cert.Kernel3Ideal Cert.Kernel3Ideal.Gen
open Cert.Reference3Ideal.Read

variable (m : (ℓ : Loc nD τ sig) → Buf (Elt Ideal) ℓ)

/-! ## Window sums over a column read as a function of the naturals -/

/-- The sum of `w` entries from `t` on. -/
def win (q : Nat → EReal) (w t : Nat) : EReal := ∑ n ∈ Finset.range w, q (t + n)

/-- A window is its first half and its second half. -/
theorem win_double (q : Nat → EReal) (w t : Nat) : win q (w + w) t = win q w t + win q w (t + w) := by
  unfold win
  rw [Finset.sum_range_add]
  simp only [Nat.add_assoc]

/-- A window past the end is zero. -/
theorem win_past (q : Nat → EReal) (hq : ∀ n, 2048 ≤ n → q n = 0) (w t : Nat) (h : 2048 ≤ t) : win q w t = 0 :=
  Finset.sum_eq_zero fun n _ => hq _ (by omega)

/-- The suffix sum of the difference of a column and itself moved up by `w` is a window of `w`. -/
theorem suffix_sub (r : Nat → ℝ) (hr : ∀ n, 2048 ≤ n → r n = 0) (w t : Nat) :
    ∑ n ∈ Finset.range 2048, (r (t + n) - r (t + n + w)) = ∑ n ∈ Finset.range w, r (t + n) := by
  rw [Finset.sum_sub_distrib]
  have a := Finset.sum_range_add (fun n => r (t + n)) w 2048
  have b := Finset.sum_range_add (fun n => r (t + n)) 2048 w
  have z : ∑ x ∈ Finset.range w, r (t + (2048 + x)) = 0 := Finset.sum_eq_zero fun n _ => hr _ (by omega)
  rw [Nat.add_comm w 2048, b, z, add_zero] at a
  rw [a]
  simp only [show ∀ n, t + n + w = t + (w + n) from fun n => by omega]
  ring

/-! ## One doubling step of the kernel -/

/-- Adding a column moved up by `k` rows, zero past the end. -/
theorem step (k : Nat) (hk : 0 < k ∧ k < 2048) (K : BitVec 32) (hK : K = BitVec.ofNat 32 (2048 - k)) (A : FVec Ideal S2048x256 .f32) (j : Fin 256)
    (f : Nat → EReal) (hA : ∀ t : Fin 2048, A (ix2 t j) = f t.val) (hf : ∀ n, 2048 ≤ n → f n = 0) (t : Fin 2048) :
    addf A (select (cmpi .slt (iota .tc S2048x256 32 [0] iota_S2048x256_d0_w32) (broadcast S2048x256 K))
      (dynamicRotate 0 K none A rotates_S2048x256_d0) (broadcast S2048x256 (Scalar.ofBits (F := Ideal) .f32 0x00000000#32))) (ix2 t j)
      = f t.val + f (t.val + k) := by
  subst hK
  have ht := t.isLt
  pointwise
  rw [WordCmp.cmpi_slt_ofNat (by omega) (by omega), BitVec.toNat_ofNat]
  by_cases h : t.val < 2048 - k
  · rw [hA, decide_eq_true h, hA]
    show f t.val + f ((t.val + 2048 - (2048 - k) % 2 ^ 32 % 2048) % 2048) = _
    congr 2
    omega
  · rw [hA, decide_eq_false h, show Scalar.select (BitVec.ofBool false) _ (0 : EReal) = 0 from rfl, hf (t.val + k) (by omega)]

/-! ## The host's suffix sum -/

/-- The host's reversed running sum of a column. -/
theorem rev_sum (x : FVec Ideal Cert.Reference3Ideal.S2048x512 .f32) (init : Cert.Reference3Ideal.S_.Idx → EReal) (h) (hu) (hi : ∀ i, init i = 0) (c : Fin 512) (f : Nat → EReal)
    (hx : ∀ t : Fin 2048, x (ix2 t c) = f t.val) (hf : ∀ n, 2048 ≤ n → f n = 0) (t : Fin 2048) :
    Host.reduceWindowAdd (F := Ideal) (φ := .f32) (s := Cert.Reference3Ideal.S2048x512) (t := Cert.Reference3Ideal.S2048x512) (u := Cert.Reference3Ideal.S_)
      ![2048, 1] ![1, 1] ![0, 0] ![2047, 0] x init h hu (ix2 t c) = ∑ n ∈ Finset.range 2048, f (t.val + n) := by
  have ht := t.isLt
  have hc := c.isLt
  have fold : ∀ (M : Nat) (l : List (Fin M)) (g : Fin M → EReal) (k : Fin M → EReal) (v : EReal), (∀ n, g n = k n) →
      l.foldl (fun r n => r + g n) v = v + (l.map k).sum := by
    intro M l g k v hg
    induction l generalizing v with
    | nil => simp
    | cons a l ih => rw [List.foldl_cons, ih, List.map_cons, List.sum_cons, hg, add_assoc]
  unfold Host.reduceWindowAdd
  show Ideal.hostReduceWindowAdd _ _ _ _ h x (init (Shape.Idx.first hu)) (ix2 t c) = _
  unfold Ideal.hostReduceWindowAdd Host.reduceWindow
  refine (fold _ _ _ (fun n => f (t.val + n.val)) _ (fun n => ?_)).trans ?_
  · have hn : n.val < 2048 := lt_of_lt_of_eq n.isLt (Routing.numel_col 2048)
    have hw0 : ((⟨2, ![2048, 1]⟩ : Shape).rowMajor.symm n 0).val = n.val := by
      rw [show (⟨2, ![2048, 1]⟩ : Shape).rowMajor.symm n = _ from Routing.symm_col n]; rfl
    have hw1 : ((⟨2, ![2048, 1]⟩ : Shape).rowMajor.symm n 1).val = 0 := by
      rw [show (⟨2, ![2048, 1]⟩ : Shape).rowMajor.symm n = _ from Routing.symm_col n]; rfl
    dsimp only
    split
    · next hin =>
      have h0 := (hin 0).2
      change t.val * 1 + ((⟨2, ![2048, 1]⟩ : Shape).rowMajor.symm n 0).val - 0 < 2048 at h0
      rw [hw0] at h0
      refine (congrArg x (funext fun a => Fin.ext ?_)).trans (hx ⟨t.val + n.val, by omega⟩)
      match a with
      | ⟨0, _⟩ =>
        show t.val * 1 + ((⟨2, ![2048, 1]⟩ : Shape).rowMajor.symm n 0).val - 0 = t.val + n.val
        rw [hw0]; omega
      | ⟨1, _⟩ =>
        show c.val * 1 + ((⟨2, ![2048, 1]⟩ : Shape).rowMajor.symm n 1).val - 0 = c.val
        rw [hw1]; omega
    · next hin =>
      rw [hi]
      refine (hf _ ?_).symm
      by_contra hlt
      refine hin fun a => ?_
      match a with
      | ⟨0, _⟩ =>
        show 0 ≤ t.val * 1 + ((⟨2, ![2048, 1]⟩ : Shape).rowMajor.symm n 0).val ∧ t.val * 1 + ((⟨2, ![2048, 1]⟩ : Shape).rowMajor.symm n 0).val - 0 < 2048
        rw [hw0]; omega
      | ⟨1, _⟩ =>
        show 0 ≤ c.val * 1 + ((⟨2, ![2048, 1]⟩ : Shape).rowMajor.symm n 1).val ∧ c.val * 1 + ((⟨2, ![2048, 1]⟩ : Shape).rowMajor.symm n 1).val - 0 < 512
        rw [hw1]; omega
  · rw [hi, zero_add, ← List.ofFn_eq_map, List.sum_ofFn]
    exact (Fin.sum_univ_eq_sum_range (fun n => f (t.val + n)) _).trans (congrArg (fun M => ∑ n ∈ Finset.range M, f (t.val + n)) (Routing.numel_col 2048))

/-! ## The divided column -/

/-- How many rows the window of `w` ending at row `t` has. -/
def cnt (w t : Nat) : EReal := FloatOps.sitofp (F := Ideal) .f32 (IntOp.minsi (IntOp.addi (BitVec.ofNat 32 t) 1#32) (BitVec.ofNat 32 w))

theorem cnt_real (w t : Nat) (hw : w = 2 ∨ w = 4 ∨ w = 8 ∨ w = 16) (ht : t < 2048) : ∃ y : ℝ, y ≠ 0 ∧ cnt w t = (y : EReal) := by
  refine ⟨(((IntOp.minsi (IntOp.addi (BitVec.ofNat 32 t) 1#32) (BitVec.ofNat 32 w)).toInt : ℤ) : ℝ), ?_, rfl⟩
  have e1 : (IntOp.addi (BitVec.ofNat 32 t) 1#32).toInt = t + 1 := by
    have e : IntOp.addi (BitVec.ofNat 32 t) 1#32 = BitVec.ofNat 32 (t + 1) := (BitVec.ofNat_add t 1).symm
    have n : (BitVec.ofNat 32 (t + 1)).toNat = t + 1 := by rw [BitVec.toNat_ofNat]; omega
    rw [e, BitVec.toInt_eq_toNat_of_lt (by rw [n]; omega), n]
    push_cast
    rfl
  have e2 : (BitVec.ofNat 32 w).toInt = w := by rcases hw with rfl | rfl | rfl | rfl <;> rfl
  have e3 : (IntOp.minsi (IntOp.addi (BitVec.ofNat 32 t) 1#32) (BitVec.ofNat 32 w)).toInt ≠ 0 := by
    unfold IntOp.minsi
    split
    · rw [e1]; omega
    · rw [e2]; omega
  exact_mod_cast e3

/-- A column divided by the counts of its windows, zero past the end. -/
def colq (w : Nat) (col : Fin 2048 → EReal) (n : Nat) : EReal := if h : n < 2048 then Ideal.div (col ⟨n, h⟩) (cnt w n) else 0

theorem colq_in (w : Nat) (col : Fin 2048 → EReal) (t : Fin 2048) : colq w col t.val = Ideal.div (col t) (cnt w t.val) := dif_pos t.isLt
theorem colq_past (w : Nat) (col : Fin 2048 → EReal) (n : Nat) (h : 2048 ≤ n) : colq w col n = 0 := dif_neg (by omega)

/-- On a column of reals the suffix sum of the differences is the window sum. -/
theorem suffix_win (w : Nat) (hw : w = 2 ∨ w = 4 ∨ w = 8 ∨ w = 16) (col : Fin 2048 → EReal) (hc : ∀ t, Cert.Reals.IsR (col t)) (t : Nat) :
    ∑ n ∈ Finset.range 2048, (colq w col (t + n) + -colq w col (t + n + w)) = win (colq w col) w t := by
  have hq : ∀ n, ∃ r : ℝ, colq w col n = (r : EReal) ∧ (2048 ≤ n → r = 0) := by
    intro n
    by_cases h : n < 2048
    · obtain ⟨y, hy, e⟩ := cnt_real w n hw h
      obtain ⟨r, hr⟩ := Cert.Reals.IsR.div hy (hc ⟨n, h⟩)
      exact ⟨r, by rw [colq, dif_pos h, e, hr], fun h' => by omega⟩
    · exact ⟨0, by rw [colq, dif_neg h, EReal.coe_zero], fun _ => rfl⟩
  choose r hr hz using hq
  unfold win
  simp only [hr, ← EReal.coe_neg, ← EReal.coe_add, ← Cert.Reals.coe_sum, ← sub_eq_add_neg]
  rw [suffix_sub r hz]

/-! ## The kernel's block -/

theorem pay2_at (i : grid0.Coords) (v0 : Vec Ideal S2048x256 .f32) (w : Nat) (hw : (i 0).val = 0 ∧ w = 2 ∨ (i 0).val = 1 ∧ w = 4 ∨ (i 0).val = 2 ∧ w = 8 ∨ (i 0).val = 3 ∧ w = 16)
    (t : Fin 2048) (j : Fin 256) : k0_pay2 i v0 (ix2 t j) = win (colq w fun t => v0 (ix2 t j)) 2 t.val := by
  refine (step 1 (by decide) 2047#32 rfl _ j (colq w fun t => v0 (ix2 t j)) (fun t => ?_) (colq_past _ _) t).trans ?_
  · rw [colq_in]
    unfold cnt
    pointwise
    rcases hw with ⟨e, rfl⟩ | ⟨e, rfl⟩ | ⟨e, rfl⟩ | ⟨e, rfl⟩ <;> rw [e] <;> rfl
  · unfold win
    rw [Finset.sum_range_succ, Finset.sum_range_one]
    rfl

theorem pay3_at (i : grid0.Coords) (v0 : Vec Ideal S2048x256 .f32) (w : Nat) (hw : (i 0).val = 0 ∧ w = 2 ∨ (i 0).val = 1 ∧ w = 4 ∨ (i 0).val = 2 ∧ w = 8 ∨ (i 0).val = 3 ∧ w = 16)
    (t : Fin 2048) (j : Fin 256) : k0_pay3 i v0 (ix2 t j) = win (colq w fun t => v0 (ix2 t j)) 4 t.val :=
  (step 2 (by decide) 2046#32 rfl _ j _ (fun t => pay2_at i v0 w hw t j) (win_past _ (colq_past _ _) _) t).trans (win_double _ 2 _).symm

theorem pay4_at (i : grid0.Coords) (v0 : Vec Ideal S2048x256 .f32) (w : Nat) (hw : (i 0).val = 0 ∧ w = 2 ∨ (i 0).val = 1 ∧ w = 4 ∨ (i 0).val = 2 ∧ w = 8 ∨ (i 0).val = 3 ∧ w = 16)
    (t : Fin 2048) (j : Fin 256) : k0_pay4 i v0 (ix2 t j) = win (colq w fun t => v0 (ix2 t j)) 8 t.val :=
  (step 4 (by decide) 2044#32 rfl _ j _ (fun t => pay3_at i v0 w hw t j) (win_past _ (colq_past _ _) _) t).trans (win_double _ 4 _).symm

/-- What a grid point writes back: the window sums of its group, less the cotangent. -/
theorem pay_at (i : grid0.Coords) (v0 : Vec Ideal S2048x256 .f32) (w : Nat) (hw : (i 0).val = 0 ∧ w = 2 ∨ (i 0).val = 1 ∧ w = 4 ∨ (i 0).val = 2 ∧ w = 8 ∨ (i 0).val = 3 ∧ w = 16)
    (t : Fin 2048) (j : Fin 256) : k0_pay1 (BitVec.ofNat 32 (i 0).val) v0 (k0_pay2 i v0) (k0_pay3 i v0) (k0_pay4 i v0) k0_pay5 2040#32 (ix2 t j)
      = win (colq w fun t => v0 (ix2 t j)) w t.val - v0 (ix2 t j) := by
  have h16 := (step 8 (by decide) 2040#32 rfl (k0_pay4 i v0) j _ (fun t => pay4_at i v0 w hw t j) (win_past _ (colq_past _ _) _) t).trans (win_double _ 8 _).symm
  have e2 := pay2_at i v0 w hw t j
  have e3 := pay3_at i v0 w hw t j
  have e4 := pay4_at i v0 w hw t j
  rcases hw with ⟨e, rfl⟩ | ⟨e, rfl⟩ | ⟨e, rfl⟩ | ⟨e, rfl⟩ <;> rw [e]
  · exact congrArg (· - v0 (ix2 t j)) e2
  · exact congrArg (· - v0 (ix2 t j)) e3
  · exact congrArg (· - v0 (ix2 t j)) e4
  · exact congrArg (· - v0 (ix2 t j)) h16

/-! ## The reference -/

variable (x : Cert.Reference3Ideal.S2048x2048.Idx → EReal)

/-- A divided entry less the divided entry `w` rows on, in the reference's words. -/
theorem diff_at (w N : Nat) (hN : N + w = 2048) (col : Fin 2048 → EReal) (s : Fin 2048) (W : BitVec 32) (hW : W = BitVec.ofNat 32 w) :
    (Ideal.div (col s) (FloatOps.sitofp (F := Ideal) .f32 (IntOp.minsi (IntOp.addi 1#32 (BitVec.ofNat 32 s.val)) W))
      + if h : s.val < N then -Ideal.div (col ⟨w + s.val, by omega⟩) (FloatOps.sitofp (F := Ideal) .f32 (IntOp.minsi (IntOp.addi 1#32 (BitVec.ofNat 32 (w + s.val))) W)) else 0)
      = colq w col s.val + -colq w col (s.val + w) := by
  subst hW
  rw [colq_in, show IntOp.addi 1#32 (BitVec.ofNat 32 s.val) = IntOp.addi (BitVec.ofNat 32 s.val) 1#32 from BitVec.add_comm _ _]
  refine congrArg (Ideal.div (col s) (cnt w s.val) + ·) ?_
  by_cases h : s.val < N
  · rw [dif_pos h, colq, dif_pos (by omega), cnt, show IntOp.addi 1#32 (BitVec.ofNat 32 (w + s.val)) = IntOp.addi (BitVec.ofNat 32 (w + s.val)) 1#32 from BitVec.add_comm _ _]
    simp only [Nat.add_comm w s.val]
  · rw [dif_neg h, colq_past _ _ _ (by omega), neg_zero]

/-- The divided column less itself moved up is zero past the end. -/
theorem diff_past (w : Nat) (col : Fin 2048 → EReal) (n : Nat) (h : 2048 ≤ n) : colq w col n + -colq w col (n + w) = 0 := by
  rw [colq_past _ _ _ h, colq_past _ _ _ (by omega), neg_zero, add_zero]

theorem rev2 (hx : ∀ i, Cert.Reals.IsR (x i)) (t : Fin 2048) (c : Fin 512) :
    val_main_v156 (F := Ideal) x (ix2 t c) = win (colq 2 fun t => x (ix2 t ⟨c.val, by omega⟩)) 2 t.val := by
  refine (rev_sum _ _ _ _ (fun i => by pointwise [val_main_call7_call0_v0, val_main_call7_call0_cst]) c
    (fun n => colq 2 (fun t => x (ix2 t ⟨c.val, by omega⟩)) n + -colq 2 (fun t => x (ix2 t ⟨c.val, by omega⟩)) (n + 2)) (fun s => ?_)
    (diff_past _ _) t).trans (suffix_win 2 (by omega) _ (fun t => hx _) t.val)
  pointwise [val_main_v155, val_main_v150, val_main_v154, val_main_v153, val_main_v151, val_main_v149, val_main_v17, val_main_v94, val_main_v93, val_main_v92, val_main_cst_25,
    val_main_v15, val_main_v14, val_main_v13, val_main_v12, val_main_v11, val_main_v10, val_main_c, val_main_c_2]
  exact diff_at 2 2046 rfl (fun t => x (ix2 t ⟨c.val, by omega⟩)) s _ rfl

theorem rev4 (hx : ∀ i, Cert.Reals.IsR (x i)) (t : Fin 2048) (c : Fin 512) :
    val_main_v141 (F := Ideal) x (ix2 t c) = win (colq 4 fun t => x (ix2 t ⟨512 + c.val, by omega⟩)) 4 t.val := by
  refine (rev_sum _ _ _ _ (fun i => by pointwise [val_main_call6_call0_v0, val_main_call6_call0_cst]) c
    (fun n => colq 4 (fun t => x (ix2 t ⟨512 + c.val, by omega⟩)) n + -colq 4 (fun t => x (ix2 t ⟨512 + c.val, by omega⟩)) (n + 4)) (fun s => ?_)
    (diff_past _ _) t).trans (suffix_win 4 (by omega) _ (fun t => hx _) t.val)
  pointwise [val_main_v140, val_main_v135, val_main_v139, val_main_v138, val_main_v136, val_main_v134, val_main_v38, val_main_v96, val_main_v95, val_main_v92, val_main_cst_22,
    val_main_v36, val_main_v35, val_main_v34, val_main_v33, val_main_v32, val_main_v31, val_main_c_5, val_main_c_6]
  exact diff_at 4 2044 rfl (fun t => x (ix2 t ⟨512 + c.val, by omega⟩)) s _ rfl

theorem rev8 (hx : ∀ i, Cert.Reals.IsR (x i)) (t : Fin 2048) (c : Fin 512) :
    val_main_v126 (F := Ideal) x (ix2 t c) = win (colq 8 fun t => x (ix2 t ⟨1024 + c.val, by omega⟩)) 8 t.val := by
  refine (rev_sum _ _ _ _ (fun i => by pointwise [val_main_call5_call0_v0, val_main_call5_call0_cst]) c
    (fun n => colq 8 (fun t => x (ix2 t ⟨1024 + c.val, by omega⟩)) n + -colq 8 (fun t => x (ix2 t ⟨1024 + c.val, by omega⟩)) (n + 8)) (fun s => ?_)
    (diff_past _ _) t).trans (suffix_win 8 (by omega) _ (fun t => hx _) t.val)
  pointwise [val_main_v125, val_main_v120, val_main_v124, val_main_v123, val_main_v121, val_main_v119, val_main_v59, val_main_v98, val_main_v97, val_main_v92, val_main_cst_19,
    val_main_v57, val_main_v56, val_main_v55, val_main_v54, val_main_v53, val_main_v52, val_main_c_9, val_main_c_10]
  exact diff_at 8 2040 rfl (fun t => x (ix2 t ⟨1024 + c.val, by omega⟩)) s _ rfl

theorem rev16 (hx : ∀ i, Cert.Reals.IsR (x i)) (t : Fin 2048) (c : Fin 512) :
    val_main_v111 (F := Ideal) x (ix2 t c) = win (colq 16 fun t => x (ix2 t ⟨1536 + c.val, by omega⟩)) 16 t.val := by
  refine (rev_sum _ _ _ _ (fun i => by pointwise [val_main_call4_call0_v0, val_main_call4_call0_cst]) c
    (fun n => colq 16 (fun t => x (ix2 t ⟨1536 + c.val, by omega⟩)) n + -colq 16 (fun t => x (ix2 t ⟨1536 + c.val, by omega⟩)) (n + 16)) (fun s => ?_)
    (diff_past _ _) t).trans (suffix_win 16 (by omega) _ (fun t => hx _) t.val)
  pointwise [val_main_v110, val_main_v105, val_main_v109, val_main_v108, val_main_v106, val_main_v104, val_main_v80, val_main_v100, val_main_v99, val_main_v92, val_main_cst_16,
    val_main_v78, val_main_v77, val_main_v76, val_main_v75, val_main_v74, val_main_v73, val_main_c_13, val_main_c_14]
  exact diff_at 16 2032 rfl (fun t => x (ix2 t ⟨1536 + c.val, by omega⟩)) s _ rfl

/-- The reference's gradient: the window sums of the column's group, less the cotangent. -/
theorem ref_at (hx : ∀ i, Cert.Reals.IsR (x i)) (w : Nat) (t j : Fin 2048)
    (hw : j.val / 512 = 0 ∧ w = 2 ∨ j.val / 512 = 1 ∧ w = 4 ∨ j.val / 512 = 2 ∧ w = 8 ∨ j.val / 512 = 3 ∧ w = 16) :
    val_main_v161 (F := Ideal) x (ix2 t j) = win (colq w fun t => x (ix2 t j)) w t.val - x (ix2 t j) := by
  have hj := j.isLt
  pointwise [val_main_v161, val_main_v160, val_main_v159, val_main_v158, val_main_v157, val_main_v148, val_main_v147, val_main_v146, val_main_v145, val_main_v144,
    val_main_v143, val_main_v142, val_main_v133, val_main_v132, val_main_v131, val_main_v130, val_main_v129, val_main_v128, val_main_v127, val_main_v118,
    val_main_v117, val_main_v116, val_main_v115, val_main_v114, val_main_v113, val_main_v112, val_main_v103, val_main_v102, val_main_v101,
    val_main_v100, val_main_v99, val_main_v98, val_main_v97, val_main_v96, val_main_v95, val_main_v94, val_main_v93, val_main_v92,
    val_main_cst_15, val_main_cst_17, val_main_cst_18, val_main_cst_20, val_main_cst_21, val_main_cst_23, val_main_cst_24, val_main_cst_26]
  rcases hw with ⟨e, rfl⟩ | ⟨e, rfl⟩ | ⟨e, rfl⟩ | ⟨e, rfl⟩
  · have hc : ∀ h, (⟨j.val % 512, h⟩ : Fin 2048) = j := fun h => Fin.ext (by show j.val % 512 = j.val; omega)
    simp (disch := omega) only [dif_pos, dif_neg, zero_add, add_zero, rev2 x hx, hc]
    rw [add_comm, sub_eq_add_neg]
  · have hc : ∀ h, (⟨512 + j.val % 512, h⟩ : Fin 2048) = j := fun h => Fin.ext (by show 512 + j.val % 512 = j.val; omega)
    simp (disch := omega) only [dif_pos, dif_neg, zero_add, add_zero, rev4 x hx, hc]
    rw [add_comm, sub_eq_add_neg]
  · have hc : ∀ h, (⟨1024 + j.val % 512, h⟩ : Fin 2048) = j := fun h => Fin.ext (by show 1024 + j.val % 512 = j.val; omega)
    simp (disch := omega) only [dif_pos, dif_neg, zero_add, add_zero, rev8 x hx, hc]
    rw [add_comm, sub_eq_add_neg]
  · have hc : ∀ h, (⟨1536 + j.val % 512, h⟩ : Fin 2048) = j := fun h => Fin.ext (by show 1536 + j.val % 512 = j.val; omega)
    simp (disch := omega) only [dif_pos, dif_neg, zero_add, add_zero, rev16 x hx, hc]
    rw [add_comm, sub_eq_add_neg]

/-! ## The array after the run -/

abbrev P (c : Dev nD) : FVec Ideal Cert.Reference3Ideal.S2048x2048 .f32 := m ((c : Thread nD τ).loc main_arg0)

/-- Where each window's block sits at a grid point. -/
theorem idx : ∀ t : Fin cfg0.N, win0_0.index t = ![0, t.val] ∧ win0_1.index t = ![0, t.val] ∧ (grid0.coords t 0).val = t.val / 2 :=
  (by decide +kernel : ∀ t : Fin grid0.N, _)

theorem final_pool (c : Dev nD) (hx : ∀ i, Cert.Reals.IsR (P m c i)) : (dats m 0 c).arrAt 1 (cfgs 0).N = val_main_v161 (F := Ideal) (P m c) := by
  refine (dats m 0 c).arrAt_eq_of_covers 1 _ (by decide +kernel) fun t _ y => ?_
  blk_simp
  rw [after0_1]
  frame_out
  idx_vars y
  have ht : t.val < 8 := lt_of_lt_of_eq t.isLt N_0
  have hw : ∃ w, (t.val / 2 = 0 ∧ w = 2 ∨ t.val / 2 = 1 ∧ w = 4 ∨ t.val / 2 = 2 ∧ w = 8 ∨ t.val / 2 = 3 ∧ w = 16) := by
    obtain h | h | h | h : t.val / 2 = 0 ∨ t.val / 2 = 1 ∨ t.val / 2 = 2 ∨ t.val / 2 = 3 := by omega
    · exact ⟨2, by omega⟩
    · exact ⟨4, by omega⟩
    · exact ⟨8, by omega⟩
    · exact ⟨16, by omega⟩
  obtain ⟨w, hw⟩ := hw
  have hy := y1.isLt
  have hq : (t.val * 256 + y1.val) / 512 = t.val / 2 := by omega
  have e : ((View.whole main_v0).slice (win0_1.rect t)).emb (ix2 y0 y1) = ix2 y0 ⟨t.val * 256 + y1.val, by omega⟩ := by
    blk_ext [idx t]
  rw [pay_at (grid0.coords t) _ w (by rw [(idx t).2.2]; exact hw), e, ref_at (P m c) hx w _ _ (by rw [← hq] at hw; exact hw)]
  have b : ∀ s : Fin 2048, (iblk m c 0 t : FVec Ideal S2048x256 .f32) (ix2 s y1) = P m c (ix2 s ⟨t.val * 256 + y1.val, by omega⟩) := fun s => by
    blk_point [iblk, V, idx t]
  simp only [b]

end Cert.Kernel3Ideal.Pool

end
-- ==== Proof.Loss.lean ====
module
public import proofs.«01_k».proof.Proof.Gen.Kernel5Ideal.Value
public import proofs.«01_k».proof.Proof.Gen.Reference5Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel5Ideal.Loss
open Cert.Kernel5Ideal Cert.Kernel5Ideal.Gen
open Cert.Reference5Ideal.Read

/-- Two products of one pair of strips, added. -/
def strips (a b : FVec Ideal S512x512 .bf16) (v w : FVec Ideal S1x1x512x2048 .bf16) (j : S512x2048.Idx) : EReal :=
  (∑ k : Fin 512, a (ix2 (j 0) k) * v (ix4 0 0 k (j 1))) + ∑ k : Fin 512, b (ix2 (j 0) k) * w (ix4 0 0 k (j 1))

theorem pay_first (a b : FVec Ideal S512x512 .bf16) (v w : FVec Ideal S1x1x512x2048 .bf16) (j : S512x2048.Idx) :
    k0_pay4 (F := Ideal) a v b w j = strips a b v w j := by
  idx_vars j
  pointwise [k0_pay4, k0_pay3, strips]

theorem pay_next (a b : FVec Ideal S512x512 .bf16) (v w : FVec Ideal S1x1x512x2048 .bf16) (acc : FVec Ideal S512x2048 .f32) (j : S512x2048.Idx) :
    k0_pay5 (F := Ideal) a v b w acc j = acc j + strips a b v w j := by
  idx_vars j
  pointwise [k0_pay5, k0_pay3, strips]

/-- The reciprocal root mean square of a row. -/
def inv (h : Fin 2048 → EReal) : EReal :=
  Ideal.rsqrt (Ideal.div (∑ k, h k * h k) (Ideal.ofBits .f32 0x45000000#32) + Ideal.ofBits .f32 0x358637BD#32)

/-- The error of the normed row. -/
def err (h g y : Fin 2048 → EReal) (l : Fin 2048) : EReal := h l * inv h * g l - y l

/-- The mean of a row's squared errors. -/
def cost (h g y : Fin 2048 → EReal) : EReal := Ideal.div (∑ k, err h g y k * err h g y k) (Ideal.ofBits .f32 0x45000000#32)

/-- A row's term of the final norm's gradient. -/
def term (h g y : Fin 2048 → EReal) (l : Fin 2048) : EReal := err h g y l * Ideal.ofBits .f32 0x3A000000#32 * (h l * inv h)

/-- A row's gradient. -/
def grad (h g y : Fin 2048 → EReal) (l : Fin 2048) : EReal :=
  inv h * (err h g y l * Ideal.ofBits .f32 0x3A000000#32 * g l
    - h l * inv h * Ideal.div (∑ k, err h g y k * Ideal.ofBits .f32 0x3A000000#32 * g k * (h k * inv h)) (Ideal.ofBits .f32 0x45000000#32))

section
variable (p a y : FVec Ideal S512x2048 .f32) (g : FVec Ideal S1x2048 .f32)

theorem pay_scale (acc : FVec Ideal S1x2048 .f32) (j : S1x2048.Idx) :
    k0_pay8 (F := Ideal) (k0_pay13 p a) (k0_pay16 p a g y) acc j
      = acc j + ∑ r : Fin 512, term (fun k => p (ix2 r k) + a (ix2 r k)) (fun k => g (ix2 0 k)) (fun k => y (ix2 r k)) (j 1) := by
  pointwise! [k0_pay8, k0_pay16, k0_pay14, k0_pay13, k0_pay12, k0_pay11, k0_pay10, term, err, inv]

theorem pay_loss (acc : FVec Ideal S1x128 .f32) (j : S1x128.Idx) :
    k0_pay7 (F := Ideal) (k0_pay15 p a g y) acc j
      = acc j + Ideal.ofBits .f32 0x3F000000#32
        * ∑ r : Fin 512, cost (fun k => p (ix2 r k) + a (ix2 r k)) (fun k => g (ix2 0 k)) (fun k => y (ix2 r k)) := by
  idx_vars j
  pointwise [k0_pay7, k0_pay15, k0_pay14, k0_pay13, k0_pay12, k0_pay11, k0_pay10, cost, err, inv]

theorem pay_grad (r : Fin 512) (l : Fin 2048) :
    k0_pay6 (F := Ideal) (k0_pay17 p a g y) (k0_pay18 p a) (ix2 r l)
      = grad (fun k => p (ix2 r k) + a (ix2 r k)) (fun k => g (ix2 0 k)) (fun k => y (ix2 r k)) l := by
  pointwise [k0_pay6, k0_pay17, k0_pay18, k0_pay16, k0_pay14, k0_pay13, k0_pay12, k0_pay11, k0_pay10, grad, err, inv]

end

section
variable (A : FVec Ideal S2048x8192 .bf16) (B : FVec Ideal S8192x2048 .bf16) (X Y : FVec Ideal S2048x2048 .f32) (g : FVec Ideal S2048 .f32)

/-- A row of the last residual. -/
def hid (R l : Fin 2048) : EReal := X (ix2 R l) + ∑ k : Fin 8192, A (ix2 R k) * B (ix2 k l)

/-- The cotangent of an error, in the two forms. -/
theorem halves (e : ℝ) : (1 / 2 : ℝ) / 2048 * (2 * e) = e * (1 / 2048) := by ring

theorem ref_grad (fh : ∀ R l, ∃ r : ℝ, hid A B X R l = (r : EReal)) (fy : Reals.Finite Y) (fg : Reals.Finite g) (R l : Fin 2048) :
    val_main_v54 (F := Ideal) X A B g Y (ix2 R l) = grad (hid A B X R) (fun k => g (ix1 k)) (fun k => Y (ix2 R k)) l := by
  pointwise [val_main_v54, val_main_v53, val_main_v52, val_main_v51, val_main_v50, val_main_v49, val_main_v48, val_main_v47, val_main_v46,
    val_main_v45, val_main_v44, val_main_v43, val_main_v42, val_main_v41, val_main_v39, val_main_v38, val_main_v34, val_main_v33, val_main_v32,
    val_main_v31, val_main_v30, val_main_v29, val_main_v23, val_main_v22, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0, val_main_cst_1,
    val_main_cst_2, val_main_cst_3, val_main_cst_8, val_main_cst_9, val_main_cst_10, val_main_cst_13, val_main_cst_14, val_main_cst_15]
  choose h hH using fh
  unfold hid at hH
  choose y hy using fun k => fy (ix2 R k)
  choose w hw using fun k => fg (ix1 k)
  obtain ⟨q, hq, hQ⟩ := Reals.denom (h R)
  obtain ⟨s, hs, hs'⟩ := Reals.rsqrt_pos hq
  simp only [grad, err, inv, hid, hH, hy, hw, hQ, hs]
  simp only [Reals.ofBits_2048, Reals.ofBits_half, Reals.ofBits_two, Reals.ofBits_neg_half,
    Reals.ofBits_inv_2048, Reals.div_real (by norm_num : (2048 : ℝ) ≠ 0), Reals.div_real hq.ne', ← EReal.coe_mul,
    ← Reals.coe_sum, ← EReal.coe_add, ← EReal.coe_sub, Finset.univ_unique, Finset.sum_singleton, zero_add, halves]
  exact congrArg Real.toEReal ((Reals.row (h R) (fun k => (h R k * s * w k - y k) * (1 / 2048) * w k) s q hs' l).symm)

theorem ref_scale (fh : ∀ R l, ∃ r : ℝ, hid A B X R l = (r : EReal)) (fy : Reals.Finite Y) (fg : Reals.Finite g) (l : Fin 2048) :
    val_main_v56 (F := Ideal) X A B g Y (ix2 0 l) = ∑ R, term (hid A B X R) (fun k => g (ix1 k)) (fun k => Y (ix2 R k)) l := by
  pointwise [val_main_v56, val_main_v40, val_main_v37, val_main_v36, val_main_v35, val_main_v34, val_main_v33, val_main_v32,
    val_main_v31, val_main_v30, val_main_v29, val_main_v23, val_main_v22, val_main_v20, val_main_v19, val_main_v18, val_main_v17,
    val_main_v16, val_main_v15, val_main_v11, val_main_v10, val_main_v9, val_main_v8, val_main_v7,
    val_main_v6, val_main_v5, val_main_v4, val_main_v3, val_main_v2, val_main_v1, val_main_v0, val_main_cst, val_main_cst_0, val_main_cst_1,
    val_main_cst_3, val_main_cst_8, val_main_cst_9, val_main_cst_10, val_main_cst_11, val_main_cst_12]
  simp only [Finset.univ_unique, Finset.sum_singleton, zero_add]
  refine Finset.sum_congr rfl fun R _ => ?_
  choose h hH using fh
  unfold hid at hH
  choose y hy using fun k => fy (ix2 R k)
  choose w hw using fun k => fg (ix1 k)
  obtain ⟨q, hq, hQ⟩ := Reals.denom (h R)
  obtain ⟨s, hs, hs'⟩ := Reals.rsqrt_pos hq
  simp only [term, err, inv, hid, hH, hy, hw, hQ, hs]
  simp only [Reals.ofBits_2048, Reals.ofBits_half, Reals.ofBits_two,
    Reals.ofBits_inv_2048, Reals.div_real (by norm_num : (2048 : ℝ) ≠ 0), ← EReal.coe_mul, ← EReal.coe_sub, halves]
  exact congrArg Real.toEReal (mul_comm _ _)

theorem ref_loss (j : S1x128.Idx) :
    val_main_v57 (F := Ideal) X A B g Y j
      = Ideal.ofBits .f32 0x3F000000#32 * ∑ R, cost (hid A B X R) (fun k => g (ix1 k)) (fun k => Y (ix2 R k)) := by
  idx_vars j
  pointwise [val_main_v57, val_main_v28, val_main_v27, val_main_v26, val_main_v25, val_main_v24, val_main_v21,
    val_main_v20, val_main_v19, val_main_v18, val_main_v17,
    val_main_v16, val_main_v15, val_main_v11, val_main_v10, val_main_v9, val_main_v8, val_main_v7,
    val_main_v6, val_main_v5, val_main_v4, val_main_v3, val_main_v2, val_main_v1, val_main_v0, val_main_cst, val_main_cst_0, val_main_cst_1,
    val_main_cst_4, val_main_cst_5, val_main_cst_6, val_main_cst_7, cost, err, inv, hid]

end

variable (m : (ℓ : Loc nD τ sig) → Buf (Elt Ideal) ℓ)

theorem pred_lt (t : Fin cfg0.N) : t.val - 1 < cfg0.N := lt_of_le_of_lt (Nat.sub_le _ _) t.isLt

/-- The running product of one tile of rows. -/
theorem scratch (c : Dev nD) (t : Fin cfg0.N) (j : S512x2048.Idx) :
    (outsAt0 m c t.val t.isLt).2.2.2.2 j
      = (if t.val % 4 = 0 then 0 else (outsAt0 m c (t.val - 1) (pred_lt t)).2.2.2.2 j) + strips (iblk m c 0 t) (iblk m c 1 t) (iblk m c 2 t) (iblk m c 3 t) j := by
  have hN : t.val < 16 := lt_of_lt_of_eq t.isLt N_0
  by_cases h1 : t.val % 4 = 0
  · by_cases h0 : t.val % 16 = 0
    · rw [outsAt0_A m c t h0 h1 (by omega) (by omega), if_pos h1, zero_add]; frame_out; exact pay_first _ _ _ _ j
    · rw [outsAt0_D m c t h0 h1 (by omega) (by omega), if_pos h1, zero_add]; frame_out; exact pay_first _ _ _ _ j
  · by_cases h3 : t.val % 4 = 3
    · rw [outsAt0_C m c t (by omega) h1 (by omega) h3, if_neg h1]; frame_out; simp only [read_unread_whole]; exact pay_next _ _ _ _ _ j
    · rw [outsAt0_B m c t (by omega) h1 (by omega) h3, if_neg h1]; frame_out; simp only [read_unread_whole]; exact pay_next _ _ _ _ _ j

theorem kept (c : Dev nD) (t : Fin cfg0.N) (h0 : t.val % 16 ≠ 0) (h : t.val % 4 ≠ 3) :
    (outsAt0 m c t.val t.isLt).2.2.1 = (outsAt0 m c (t.val - 1) (pred_lt t)).2.2.1
    ∧ (outsAt0 m c t.val t.isLt).2.2.2.1 = (outsAt0 m c (t.val - 1) (pred_lt t)).2.2.2.1 := by
  have hN : t.val < 16 := lt_of_lt_of_eq t.isLt N_0
  by_cases h1 : t.val % 4 = 0
  · rw [outsAt0_D m c t h0 h1 (by omega) (by omega)]; exact ⟨rfl, rfl⟩
  · rw [outsAt0_B m c t h0 h1 (by omega) h]; exact ⟨rfl, rfl⟩

theorem started (c : Dev nD) (t : Fin cfg0.N) (h0 : t.val % 16 = 0) :
    (∀ j, (outsAt0 m c t.val t.isLt).2.2.1 j = 0) ∧ (∀ j, (outsAt0 m c t.val t.isLt).2.2.2.1 j = 0) := by
  rw [outsAt0_A m c t h0 (by omega) (by omega) (by omega)]
  constructor
  · intro j; frame_out; pointwise! [k0_pay1]
  · intro j; frame_out; pointwise! [k0_pay2]

theorem idx : ∀ t : Fin cfg0.N, win0_0.index t = ![t.val / 4, t.val % 4 * 4 + 1] ∧ win0_1.index t = ![t.val / 4, t.val % 4 * 4 + 3]
    ∧ win0_2.index t = ![t.val % 4, 0, 1, 0] ∧ win0_3.index t = ![t.val % 4, 0, 3, 0] ∧ win0_4.index t = ![t.val / 4, 0]
    ∧ win0_5.index t = ![0, 0] ∧ win0_6.index t = ![t.val / 4, 0] ∧ win0_7.index t = ![t.val / 4, 0] ∧ win0_8.index t = ![t.val / 4, 0] :=
  (by decide +kernel : ∀ t : Fin grid0.N, _)

/-- Row `r` of point `t`'s tile, as a row of the whole array. -/
def at_row (t : Fin cfg0.N) (r : Fin 512) : Fin 2048 := ⟨t.val / 4 * 512 + r.val, by have : t.val < 16 := lt_of_lt_of_eq t.isLt N_0; omega⟩

/-- Entry `k` of the strip `n` strips of 512 into point `t`'s quarter of the inner axis. -/
def at_in (t : Fin cfg0.N) (n : Fin 4) (k : Fin 512) : Fin 8192 := ⟨(t.val % 4 * 4 + n.val) * 512 + k.val, by omega⟩

abbrev X (c : Dev nD) : FVec Ideal S2048x2048 .f32 := m ((c : Thread nD τ).loc main_arg0)
abbrev A (c : Dev nD) : FVec Ideal S2048x8192 .bf16 := m ((c : Thread nD τ).loc main_arg1)
abbrev B (c : Dev nD) : FVec Ideal S8192x2048 .bf16 := m ((c : Thread nD τ).loc main_arg2)
abbrev G (c : Dev nD) : FVec Ideal S2048 .f32 := m ((c : Thread nD τ).loc main_arg3)
abbrev Y (c : Dev nD) : FVec Ideal S2048x2048 .f32 := m ((c : Thread nD τ).loc main_arg4)

theorem entry_w (c : Dev nD) : V m c main_v10 = shapeCast S4x1x2048x2048 (B m c) shapeCasts_S8192x2048_S4x1x2048x2048 := by
  unfold V hostOps0
  after_results
  try rfl

theorem entry_g (c : Dev nD) : V m c main_v11 = broadcastInDim S1x2048 ![1] bcast_S2048_S1x2048_1 (G m c) := by
  unfold V hostOps0
  after_results
  try rfl

/-- The product of the even strips. -/
theorem even (A : FVec Ideal S2048x8192 .bf16) (B : FVec Ideal S8192x2048 .bf16) (R l : Fin 2048) :
    Host.dotGeneral dot_S2048x8x512_S8x512x2048_S2048x2048_12_01_0_2_n_n none
      (extf (F := Ideal) .f32 (shapeCast S2048x8x512 (extractStridedSlice S2048x8x1x512 ![0, 0, 0, 0]
        (shapeCast S2048x8x2x512 A shapeCasts_S2048x8192_S2048x8x2x512) slices_S2048x8x2x512_S2048x8x1x512_0_0_0_0)
        shapeCasts_S2048x8x1x512_S2048x8x512) bitsLt_bf16_f32)
      (extf .f32 (shapeCast S8x512x2048 (extractStridedSlice S8x1x512x2048 ![0, 0, 0, 0]
        (shapeCast S8x2x512x2048 B shapeCasts_S8192x2048_S8x2x512x2048) slices_S8x2x512x2048_S8x1x512x2048_0_0_0_0)
        shapeCasts_S8x1x512x2048_S8x512x2048) bitsLt_bf16_f32) (ix2 R l)
      = ∑ b : Fin 8, ∑ k : Fin 512, A (ix2 R ⟨b.val * 1024 + k.val, by omega⟩) * B (ix2 ⟨b.val * 1024 + k.val, by omega⟩ l) := by
  pointwise

/-- The residual with the even strips' product, as this call is given it. -/
theorem entry_p (c : Dev nD) (R l : Fin 2048) : (V m c main_v9 : FVec Ideal S2048x2048 .f32) (ix2 R l) = X m c (ix2 R l)
    + ∑ b : Fin 8, ∑ k : Fin 512, A m c (ix2 R ⟨b.val * 1024 + k.val, by omega⟩) * B m c (ix2 ⟨b.val * 1024 + k.val, by omega⟩ l) := by
  unfold V hostOps0
  after_results
  exact congrArg (X m c (ix2 R l) + ·) (even (A m c) (B m c) R l)

/-- A sum over sixteen, its even terms first. -/
theorem parity (S : Fin 16 → EReal) : ∑ s, S s = (∑ b : Fin 8, S ⟨b.val * 2, by omega⟩)
    + (((S 1 + S 3) + (S 5 + S 7)) + (S 9 + S 11) + (S 13 + S 15)) := by
  simp only [Fin.sum_univ_succ, Finset.univ_eq_empty, Finset.sum_empty]
  show S 0 + (S 1 + (S 2 + (S 3 + (S 4 + (S 5 + (S 6 + (S 7 + (S 8 + (S 9 + (S 10 + (S 11 + (S 12 + (S 13 + (S 14 + (S 15 + 0)))))))))))))))
    = (S 0 + (S 2 + (S 4 + (S 6 + (S 8 + (S 10 + (S 12 + (S 14 + 0)))))))) + _
  simp only [add_zero]
  ac_rfl

/-- A sum over the inner axis: the even strips, then the odd ones in the order the four points add them. -/
theorem strips_sum (f : Fin 8192 → EReal) : ∑ k, f k = (∑ b : Fin 8, ∑ k : Fin 512, f ⟨b.val * 1024 + k.val, by omega⟩)
    + ((((∑ k : Fin 512, f ⟨512 + k.val, by omega⟩) + ∑ k : Fin 512, f ⟨1536 + k.val, by omega⟩)
      + ((∑ k : Fin 512, f ⟨2560 + k.val, by omega⟩) + ∑ k : Fin 512, f ⟨3584 + k.val, by omega⟩))
      + ((∑ k : Fin 512, f ⟨4608 + k.val, by omega⟩) + ∑ k : Fin 512, f ⟨5632 + k.val, by omega⟩)
      + ((∑ k : Fin 512, f ⟨6656 + k.val, by omega⟩) + ∑ k : Fin 512, f ⟨7680 + k.val, by omega⟩)) := by
  have h : ∑ s : Fin 16, ∑ k : Fin 512, f ⟨s.val * 512 + k.val, by omega⟩ = ∑ k, f k :=
    Fin.sum_mul_add_congr fun s k hl => rfl
  have e : ∀ (s : Fin 16) (v : ℕ) (hv : v + 512 ≤ 8192), s.val * 512 = v →
      (∑ k : Fin 512, f ⟨s.val * 512 + k.val, by omega⟩) = ∑ k : Fin 512, f ⟨v + k.val, by omega⟩ := by
    intro s v hv hs; subst hs; rfl
  rw [← h, parity, e 1 512 (by omega) rfl, e 3 1536 (by omega) rfl, e 5 2560 (by omega) rfl, e 7 3584 (by omega) rfl,
    e 9 4608 (by omega) rfl, e 11 5632 (by omega) rfl, e 13 6656 (by omega) rfl, e 15 7680 (by omega) rfl]
  exact congrArg (· + _) (Finset.sum_congr rfl fun b _ => e ⟨b.val * 2, by omega⟩ (b.val * 1024) (by omega) (by show b.val * 2 * 512 = _; omega))

theorem blocks (c : Dev nD) (t : Fin cfg0.N) (r : Fin 512) (l : Fin 2048) (k : Fin 512) :
    (iblk m c 0 t : FVec Ideal S512x512 .bf16) (ix2 r k) = A m c (ix2 (at_row t r) (at_in t 1 k))
    ∧ (iblk m c 1 t : FVec Ideal S512x512 .bf16) (ix2 r k) = A m c (ix2 (at_row t r) (at_in t 3 k))
    ∧ (iblk m c 2 t : FVec Ideal S1x1x512x2048 .bf16) (ix4 0 0 k l) = B m c (ix2 (at_in t 1 k) l)
    ∧ (iblk m c 3 t : FVec Ideal S1x1x512x2048 .bf16) (ix4 0 0 k l) = B m c (ix2 (at_in t 3 k) l) := by
  refine ⟨?_, ?_, ?_, ?_⟩
  · unfold at_row at_in; blk_point [iblk, V, idx t]
  · unfold at_row at_in; blk_point [iblk, V, idx t]
  · unfold at_in; blk_simp [iblk]; rw [entry_w]; pointwise; blk_ext [idx t]
  · unfold at_in; blk_simp [iblk]; rw [entry_w]; pointwise; blk_ext [idx t]

theorem rows (c : Dev nD) (t : Fin cfg0.N) (r : Fin 512) (l : Fin 2048) :
    (iblk m c 4 t : FVec Ideal S512x2048 .f32) (ix2 r l) = (V m c main_v9 : FVec Ideal S2048x2048 .f32) (ix2 (at_row t r) l)
    ∧ (iblk m c 5 t : FVec Ideal S1x2048 .f32) (ix2 0 l) = G m c (ix1 l)
    ∧ (iblk m c 6 t : FVec Ideal S512x2048 .f32) (ix2 r l) = Y m c (ix2 (at_row t r) l) := by
  refine ⟨?_, ?_, ?_⟩
  · unfold at_row; blk_simp [iblk]; blk_ext [idx t]
  · blk_simp [iblk]; rw [entry_g]; pointwise; blk_ext [idx t]
  · unfold at_row; blk_point [iblk, V, idx t]

/-- What one point adds to its tile's running product. -/
theorem strips_at (c : Dev nD) (t : Fin cfg0.N) (r : Fin 512) (l : Fin 2048) :
    strips (iblk m c 0 t) (iblk m c 1 t) (iblk m c 2 t) (iblk m c 3 t) (ix2 r l)
      = (∑ k, A m c (ix2 (at_row t r) (at_in t 1 k)) * B m c (ix2 (at_in t 1 k) l))
        + ∑ k, A m c (ix2 (at_row t r) (at_in t 3 k)) * B m c (ix2 (at_in t 3 k) l) := by
  exact congrArg₂ (· + ·) (Finset.sum_congr rfl fun k _ => congrArg₂ (fun x y : EReal => x * y) (blocks m c t r l k).1 (blocks m c t r l k).2.2.1)
    (Finset.sum_congr rfl fun k _ => congrArg₂ (fun x y : EReal => x * y) (blocks m c t r l k).2.1 (blocks m c t r l k).2.2.2)

/-- The residual's block at a point. -/
abbrev part (c : Dev nD) (t : Fin cfg0.N) : FVec Ideal S512x2048 .f32 := iblk m c 4 t

/-- At a tile's last point the running product completes the residual. -/
theorem whole (c : Dev nD) (t : Fin cfg0.N) (h : t.val % 4 = 3) (r : Fin 512) (l : Fin 2048) :
    part m c t (ix2 r l) + (outsAt0 m c t.val t.isLt).2.2.2.2 (ix2 r l)
      = hid (A m c) (B m c) (X m c) (at_row t r) l := by
  have hN : t.val < 16 := lt_of_lt_of_eq t.isLt N_0
  have s0 := scratch m c t (ix2 r l)
  have s1 := scratch m c ⟨t.val - 1, pred_lt t⟩ (ix2 r l)
  have s2 := scratch m c ⟨t.val - 1 - 1, pred_lt ⟨t.val - 1, pred_lt t⟩⟩ (ix2 r l)
  have s3 := scratch m c ⟨t.val - 1 - 1 - 1, pred_lt ⟨t.val - 1 - 1, pred_lt ⟨t.val - 1, pred_lt t⟩⟩⟩ (ix2 r l)
  rw [if_neg (by omega)] at s0
  rw [if_neg (by show ¬((t.val - 1) % 4 = 0); omega)] at s1
  rw [if_neg (by show ¬((t.val - 1 - 1) % 4 = 0); omega)] at s2
  rw [if_pos (by show (t.val - 1 - 1 - 1) % 4 = 0; omega), zero_add] at s3
  rw [s0, s1, s2, s3, show part m c t (ix2 r l) = _ from (rows m c t r l).1, entry_p, strips_at, strips_at, strips_at, strips_at]
  unfold hid
  rw [strips_sum (fun k => A m c (ix2 (at_row t r) k) * B m c (ix2 k l)), add_assoc]
  have e : ∀ (u : Fin cfg0.N) (n : Fin 4) (k : Fin 512) (v : ℕ) (hv : v + k.val < 8192), u.val / 4 = t.val / 4 → (u.val % 4 * 4 + n.val) * 512 = v →
      A m c (ix2 (at_row u r) (at_in u n k)) * B m c (ix2 (at_in u n k) l)
        = A m c (ix2 (at_row t r) ⟨v + k.val, hv⟩) * B m c (ix2 ⟨v + k.val, hv⟩ l) := by
    intro u n k v hv hu hn
    have h1 : at_row u r = at_row t r := Fin.ext (by show u.val / 4 * 512 + _ = t.val / 4 * 512 + _; rw [hu])
    have h2 : at_in u n k = ⟨v + k.val, hv⟩ := Fin.ext (by show (u.val % 4 * 4 + n.val) * 512 + _ = _; rw [hn])
    rw [h1, h2]
  congr 2
  congr 1
  · congr 1
    · congr 1
      · exact congrArg₂ (· + ·) (Finset.sum_congr rfl fun k _ => e _ _ _ _ (by omega) (by show (t.val - 1 - 1 - 1) / 4 = _; omega) (by show ((t.val - 1 - 1 - 1) % 4 * 4 + 1) * 512 = _; omega))
          (Finset.sum_congr rfl fun k _ => e _ _ _ _ (by omega) (by show (t.val - 1 - 1 - 1) / 4 = _; omega) (by show ((t.val - 1 - 1 - 1) % 4 * 4 + 3) * 512 = _; omega))
      · exact congrArg₂ (· + ·) (Finset.sum_congr rfl fun k _ => e _ _ _ _ (by omega) (by show (t.val - 1 - 1) / 4 = _; omega) (by show ((t.val - 1 - 1) % 4 * 4 + 1) * 512 = _; omega))
          (Finset.sum_congr rfl fun k _ => e _ _ _ _ (by omega) (by show (t.val - 1 - 1) / 4 = _; omega) (by show ((t.val - 1 - 1) % 4 * 4 + 3) * 512 = _; omega))
    · exact congrArg₂ (· + ·) (Finset.sum_congr rfl fun k _ => e _ _ _ _ (by omega) (by show (t.val - 1) / 4 = _; omega) (by show ((t.val - 1) % 4 * 4 + 1) * 512 = _; omega))
          (Finset.sum_congr rfl fun k _ => e _ _ _ _ (by omega) (by show (t.val - 1) / 4 = _; omega) (by show ((t.val - 1) % 4 * 4 + 3) * 512 = _; omega))
  · exact congrArg₂ (· + ·) (Finset.sum_congr rfl fun k _ => e _ _ _ _ (by omega) rfl (by show (t.val % 4 * 4 + 1) * 512 = _; omega))
      (Finset.sum_congr rfl fun k _ => e _ _ _ _ (by omega) rfl (by show (t.val % 4 * 4 + 3) * 512 = _; omega))

/-- What a tile's last point leaves in the four outputs. -/
theorem ended (c : Dev nD) (t : Fin cfg0.N) (h : t.val % 4 = 3) :
    (outsAt0 m c t.val t.isLt).1 = k0_pay6 (F := Ideal) (k0_pay17 (iblk m c 4 t) (outsAt0 m c t.val t.isLt).2.2.2.2 (iblk m c 5 t) (iblk m c 6 t))
        (k0_pay18 (iblk m c 4 t) (outsAt0 m c t.val t.isLt).2.2.2.2)
    ∧ (outsAt0 m c t.val t.isLt).2.1 = k0_pay6 (F := Ideal) (k0_pay17 (iblk m c 4 t) (outsAt0 m c t.val t.isLt).2.2.2.2 (iblk m c 5 t) (iblk m c 6 t))
        (k0_pay18 (iblk m c 4 t) (outsAt0 m c t.val t.isLt).2.2.2.2)
    ∧ (outsAt0 m c t.val t.isLt).2.2.1 = k0_pay8 (F := Ideal) (k0_pay13 (iblk m c 4 t) (outsAt0 m c t.val t.isLt).2.2.2.2)
        (k0_pay16 (iblk m c 4 t) (outsAt0 m c t.val t.isLt).2.2.2.2 (iblk m c 5 t) (iblk m c 6 t)) (outsAt0 m c (t.val - 1) (pred_lt t)).2.2.1
    ∧ (outsAt0 m c t.val t.isLt).2.2.2.1 = k0_pay7 (F := Ideal)
        (k0_pay15 (iblk m c 4 t) (outsAt0 m c t.val t.isLt).2.2.2.2 (iblk m c 5 t) (iblk m c 6 t)) (outsAt0 m c (t.val - 1) (pred_lt t)).2.2.2.1 := by
  have hN : t.val < 16 := lt_of_lt_of_eq t.isLt N_0
  rw [outsAt0_C m c t (by omega) (by omega) (by omega) h]
  refine ⟨?_, ?_, ?_, ?_⟩
  · frame_out
  · frame_out; rfl
  · frame_out
  · frame_out

theorem last7 : ∀ t : Fin cfg0.N, (cfg0.win 7).flush t = true → t.val % 4 = 3 := (by decide +kernel : ∀ t : Fin grid0.N, _)
theorem last8 : ∀ t : Fin cfg0.N, (cfg0.win 8).flush t = true → t.val % 4 = 3 := (by decide +kernel : ∀ t : Fin grid0.N, _)

/-- The three rows a tile's last point works on. -/
theorem tile (c : Dev nD) (t : Fin cfg0.N) (h : t.val % 4 = 3) (r : Fin 512) :
    (fun k => part m c t (ix2 r k) + (outsAt0 m c t.val t.isLt).2.2.2.2 (ix2 r k)) = hid (A m c) (B m c) (X m c) (at_row t r)
    ∧ (fun k => (iblk m c 5 t : FVec Ideal S1x2048 .f32) (ix2 0 k)) = (fun k => G m c (ix1 k))
    ∧ (fun k => (iblk m c 6 t : FVec Ideal S512x2048 .f32) (ix2 r k)) = (fun k => Y m c (ix2 (at_row t r) k)) :=
  ⟨funext fun k => whole m c t h r k, funext fun k => (rows m c t r k).2.1, funext fun k => (rows m c t r k).2.2⟩

section
variable (c : Dev nD) (fh : ∀ R l, ∃ r : ℝ, hid (A m c) (B m c) (X m c) R l = (r : EReal)) (fy : Reals.Finite (Y m c)) (fg : Reals.Finite (G m c))
include fh fy fg

theorem point (t : Fin cfg0.N) (h : t.val % 4 = 3) (y : S512x2048.Idx) :
    k0_pay6 (F := Ideal) (k0_pay17 (iblk m c 4 t) (outsAt0 m c t.val t.isLt).2.2.2.2 (iblk m c 5 t) (iblk m c 6 t))
        (k0_pay18 (iblk m c 4 t) (outsAt0 m c t.val t.isLt).2.2.2.2) y
      = val_main_v54 (F := Ideal) (X m c) (A m c) (B m c) (G m c) (Y m c) (ix2 (at_row t (y 0)) (y 1)) := by
  obtain ⟨r, l, rfl⟩ : ∃ (r : Fin 512) (l : Fin 2048), y = ix2 r l := ⟨_, _, eq_ix2 (y : S512x2048.Idx)⟩
  obtain ⟨e1, e2, e3⟩ := tile m c t h r
  refine (pay_grad (part m c t) _ _ _ r l).trans ?_
  rw [e1, e2, e3]
  exact (ref_grad _ _ _ _ _ fh fy fg (at_row t r) l).symm

/-- The residual's gradient. -/
theorem final_dh : (dats m 0 c).arrAt 7 (cfgs 0).N = val_main_v54 (F := Ideal) (X m c) (A m c) (B m c) (G m c) (Y m c) := by
  refine (dats m 0 c).arrAt_eq_of_covers 7 _ (by decide +kernel) fun t ht y => ?_
  have h := last7 t ht
  blk_simp
  have hy : ((cfg0.win 7).blk t).view.emb y = ix2 (at_row t (y 0)) (y 1) := by
    unfold at_row; blk_ext [idx t]
  rw [hy, after0_7, (ended m c t h).1]
  exact point m c fh fy fg t h y

/-- Its copy at bf16. -/
theorem final_copy : (dats m 0 c).arrAt 8 (cfgs 0).N = val_main_v55 (F := Ideal) (X m c) (A m c) (B m c) (G m c) (Y m c) := by
  refine (dats m 0 c).arrAt_eq_of_covers 8 _ (by decide +kernel) fun t ht y => ?_
  have h := last8 t ht
  blk_simp
  have hy : ((cfg0.win 8).blk t).view.emb y = ix2 (at_row t (y 0)) (y 1) := by
    unfold at_row; blk_ext [idx t]
  rw [hy, after0_8, (ended m c t h).2.1]
  exact point m c fh fy fg t h y

end

/-- The rows of the four tiles are the rows. -/
theorem tiles_sum (f : Fin 2048 → EReal) : (∑ t : Fin cfg0.N, if t.val % 4 = 3 then ∑ r, f (at_row t r) else 0) = ∑ R, f R := by
  have hN : cfg0.N = 4 * 4 := N_0
  have h1 : (∑ q : Fin 4, ∑ k : Fin 4, if k = 3 then ∑ r : Fin 512, f ⟨q.val * 512 + r.val, by omega⟩ else 0)
      = ∑ t : Fin cfg0.N, if t.val % 4 = 3 then ∑ r, f (at_row t r) else 0 := Fin.sum_mul_add_congr (fun q k hl => by
      by_cases hk : k = 3
      · subst hk
        rw [if_pos rfl, if_pos (by show (q.val * 4 + 3) % 4 = 3; omega)]
        refine Finset.sum_congr rfl fun r _ => congrArg f (Fin.ext ?_)
        show q.val * 512 + r.val = (q.val * 4 + 3) / 4 * 512 + r.val
        omega
      · rw [if_neg hk, if_neg]
        have : k.val ≠ 3 := fun e => hk (Fin.ext e)
        show ¬((q.val * 4 + k.val) % 4 = 3); omega) hN
  have h2 : (∑ q : Fin 4, ∑ r : Fin 512, f ⟨q.val * 512 + r.val, by omega⟩) = ∑ R, f R := Fin.sum_mul_add_congr fun s k hl => rfl
  rw [← h1, ← h2]
  refine Finset.sum_congr rfl fun q _ => ?_
  rw [Finset.sum_ite_eq' Finset.univ (3 : Fin 4), if_pos (Finset.mem_univ _)]

section
variable (c : Dev nD) (fh : ∀ R l, ∃ r : ℝ, hid (A m c) (B m c) (X m c) R l = (r : EReal)) (fy : Reals.Finite (Y m c)) (fg : Reals.Finite (G m c))

/-- What a point adds to the final norm's gradient. -/
theorem step_scale (t : Fin cfg0.N) (j : S1x2048.Idx) : (outsAt0 m c t.val t.isLt).2.2.1 j
    = (if t.val % 16 = 0 then 0 else (outsAt0 m c (t.val - 1) (pred_lt t)).2.2.1 j)
      + if t.val % 4 = 3 then ∑ r, term (hid (A m c) (B m c) (X m c) (at_row t r)) (fun k => G m c (ix1 k)) (fun k => Y m c (ix2 (at_row t r) k)) (j 1) else 0 := by
  by_cases h0 : t.val % 16 = 0
  · rw [if_pos h0, if_neg (by omega), (started m c t h0).1 j, add_zero]
  · rw [if_neg h0]
    by_cases h : t.val % 4 = 3
    · rw [if_pos h, (ended m c t h).2.2.1]
      refine (pay_scale (part m c t) _ _ _ _ j).trans ?_
      refine congrArg (_ + ·) (Finset.sum_congr rfl fun r _ => ?_)
      obtain ⟨e1, e2, e3⟩ := tile m c t h r
      rw [e1, e2, e3]
    · rw [if_neg h, (kept m c t h0 h).1, add_zero]

/-- What a point adds to the loss. -/
theorem step_loss (t : Fin cfg0.N) (j : S1x128.Idx) : (outsAt0 m c t.val t.isLt).2.2.2.1 j
    = (if t.val % 16 = 0 then 0 else (outsAt0 m c (t.val - 1) (pred_lt t)).2.2.2.1 j)
      + if t.val % 4 = 3 then Ideal.ofBits .f32 0x3F000000#32 * ∑ r, cost (hid (A m c) (B m c) (X m c) (at_row t r)) (fun k => G m c (ix1 k))
          (fun k => Y m c (ix2 (at_row t r) k)) else 0 := by
  by_cases h0 : t.val % 16 = 0
  · rw [if_pos h0, if_neg (by omega), (started m c t h0).2 j, add_zero]
  · rw [if_neg h0]
    by_cases h : t.val % 4 = 3
    · rw [if_pos h, (ended m c t h).2.2.2]
      refine (pay_loss (part m c t) _ _ _ _ j).trans ?_
      refine congrArg (fun s : EReal => _ + _ * s) (Finset.sum_congr rfl fun r _ => ?_)
      obtain ⟨e1, e2, e3⟩ := tile m c t h r
      rw [e1, e2, e3]
    · rw [if_neg h, (kept m c t h0 h).2, add_zero]

include fh fy fg

/-- The final norm's gradient: the rows of the four tiles, added up. -/
theorem final_scale : (dats m 0 c).arrAt 9 (cfgs 0).N = val_main_v56 (F := Ideal) (X m c) (A m c) (B m c) (G m c) (Y m c) := by
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0) _
    (fun t h j => by rw [step_scale m c t j, if_pos h])
    (fun t h j => by rw [step_scale m c t j, if_neg h])
    (le_of_eq N_0) t0_15 rfl j, zero_add]
  rw [tiles_sum (fun R => term (hid (A m c) (B m c) (X m c) R) (fun k => G m c (ix1 k)) (fun k => Y m c (ix2 R k)) (j 1))]
  obtain ⟨l, rfl⟩ : ∃ l : Fin 2048, j = ix2 0 l := ⟨j 1, by rw [eq_ix2 (j : S1x2048.Idx)]; exact congrArg (ix2 · _) (Subsingleton.elim _ _)⟩
  exact (ref_scale _ _ _ _ _ fh fy fg _).symm

/-- The loss: the costs of the rows of the four tiles, added up. -/
theorem final_loss : (dats m 0 c).arrAt 10 (cfgs 0).N = val_main_v57 (F := Ideal) (X m c) (A m c) (B m c) (G m c) (Y m c) := by
  refine (dats m 0 c).arrAt_eq_of_after_last 10 t0_15 (by decide +kernel) _ fun j => ?_
  blk_simp
  have fc : ∀ R, ∃ r : ℝ, cost (hid (A m c) (B m c) (X m c) R) (fun k => G m c (ix1 k)) (fun k => Y m c (ix2 R k)) = (r : EReal) := by
    intro R
    choose h hH using fh
    choose y hy using fun k => fy (ix2 R k)
    choose w hw using fun k => fg (ix1 k)
    obtain ⟨q, hq, hQ⟩ := Reals.denom (h R)
    obtain ⟨s, hs, hs'⟩ := Reals.rsqrt_pos hq
    simp only [cost, err, inv, hH, hy, hw, hQ, hs]
    simp only [Reals.ofBits_2048, Reals.div_real (by norm_num : (2048 : ℝ) ≠ 0), ← EReal.coe_mul, ← EReal.coe_sub, ← Reals.coe_sum]
    exact ⟨_, rfl⟩
  choose z hz using fc
  rw [after0_10, Pipeline.eq_sum_fin_of_reset_step_apply_last (fun n h => (outsAt0 m c n h).2.2.2.1) 16 (fun _ => 0) _
    (fun t h j => by rw [step_loss m c t j, if_pos h])
    (fun t h j => by rw [step_loss m c t j, if_neg h])
    (le_of_eq N_0) t0_15 rfl j, zero_add, ref_loss]
  simp only [hz, Reals.ofBits_half, ← Reals.coe_sum, ← EReal.coe_mul]
  simp only [Finset.mul_sum, Reals.coe_sum]
  exact tiles_sum (fun R => ((1 / 2 * z R : ℝ) : EReal))

end

/-- The last residual is finite where its parts are. -/
theorem hid_real (c : Dev nD) (fx : Reals.Finite (X m c)) (fa : ∀ i, ∃ r : ℝ, A m c i = (r : EReal)) (fb : ∀ i, ∃ r : ℝ, B m c i = (r : EReal))
    (R l : Fin 2048) : ∃ r : ℝ, hid (A m c) (B m c) (X m c) R l = (r : EReal) :=
  Reals.IsR.add (fx _) (Reals.IsR.sum fun _ => Reals.IsR.mul (fa _) (fb _))

end Cert.Kernel5Ideal.Loss

end
-- ==== Proof.RmsFwd.lean ====
module
public import proofs.«01_k».proof.Proof.Gen.Kernel7Ideal.Value
public import proofs.«01_k».proof.Proof.Gen.Reference7Ideal.Read
public import proofs.«01_k».proof.Proof.Reals
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel7Ideal.RmsFwd
open Cert.Kernel7Ideal Cert.Kernel7Ideal.Gen
open Cert.Reference7Ideal.Read

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- Row `r` of point `t`'s block, as a row of the whole array. -/
def at_row (t : Fin cfg0.N) (r : Fin 512) : Fin 2048 := ⟨t.val * 512 + r.val, by have : t.val < 4 := lt_of_lt_of_eq t.isLt N_0; omega⟩

abbrev X (c : Dev nD) : FVec Ideal S2048x2048 .f32 := m ((c : Thread nD τ).loc main_arg0)
abbrev G (c : Dev nD) : FVec Ideal S1x2048 .f32 := m ((c : Thread nD τ).loc main_arg1)

theorem blocks (c : Dev nD) (t : Fin cfg0.N) (r : Fin 512) (l : Fin 2048) :
    (iblk m c 0 t : FVec Ideal S512x2048 .f32) (ix2 r l) = X m c (ix2 (at_row t r) l)
    ∧ (iblk m c 1 t : FVec Ideal S1x2048 .f32) (ix2 0 l) = G m c (ix2 0 l) := by
  refine ⟨?_, ?_⟩
  · unfold at_row; blk_point [iblk, V, idx t]
  · blk_point [iblk, V, idx t]

theorem final_norm (c : Dev nD) : (dats m 0 c).arrAt 2 (cfgs 0).N = val_main_v14 (F := Ideal) (X m c) (G m c) := by
  refine (dats m 0 c).arrAt_eq_of_covers 2 _ (by decide +kernel) fun t _ y => ?_
  obtain ⟨r, l, rfl⟩ : ∃ (r : Fin 512) (l : Fin 2048), y = ix2 r l := ⟨_, _, eq_ix2 (y : S512x2048.Idx)⟩
  blk_simp
  have hy : ((cfg0.win 2).blk t).view.emb (ix2 r l) = ix2 (at_row t r) l := by
    unfold at_row; blk_ext [idx t]
  rw [hy, after0_2]
  frame_out
  pointwise [k0_pay1]
  simp only [fun l => (blocks m c t r l).1, fun l => (blocks m c t r l).2]
  pointwise [val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

end Cert.Kernel7Ideal.RmsFwd

end
-- ==== Proof.GateFwd.lean ====
/- The spatial gating: the array of the kernel is the reference's term. -/
module

public import proofs.«01_k».proof.Proof.Gen.Kernel8Ideal.Value
public import proofs.«01_k».proof.Proof.Gen.Reference8Ideal.Read
public import proofs.«01_k».proof.Proof.Reals
public import proofs.«01_k».proof.Proof.GateRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.GateFwd

open Cert.Kernel8Ideal Cert.Kernel8Ideal.Gen
open Cert.Reference8Ideal.Read
open Cert.Kernel2Ideal.Gate (gel s2i cen veps rsd hat vrow vln wm sgv lo hi grp col rowOf gel_host sqrt_two mask_at select_if grp_col col_grp zc gc wc sc)

variable (m : (ℓ : Loc nD τ sig) → Buf (Elt Ideal) ℓ)

theorem named_s2i : Named.named (F := Ideal) κ "sqrt_half" (φ := .f32) 0x3F3504F3#32 = s2i := IdealRules.named_const.ideal_named_scalar _ _ _ _ rfl

/-! ## The gelu at every extended real -/

theorem gel_all (x : EReal) : Ideal.ofBits .f32 0x3F000000#32 * x * Ideal.erfc (Ideal.div (-x) (Ideal.sqrt (Ideal.ofBits .f32 0x40000000#32))) = gel x := by
  have h2 : (0 : ℝ) < √2 := by positivity
  have hi : (0 : ℝ) < (√2)⁻¹ := by positivity
  have hh : (0 : ℝ) < 1 / 2 := by norm_num
  have hd : ∀ y : EReal, Ideal.div y ((√2 : ℝ) : EReal) = y * (((√2)⁻¹ : ℝ) : EReal) := fun y => by
    rw [Ideal.div, if_neg (by exact_mod_cast h2.ne'), EReal.coe_inv]
  have h1 : (1 : EReal) = ((1 : ℝ) : EReal) := rfl
  induction x using EReal.rec with
  | bot =>
    rw [sqrt_two, hd, EReal.neg_bot, EReal.top_mul_coe_of_pos hi, gel, s2i, EReal.bot_mul_coe_of_pos hi, Ideal.erfc, Ideal.erf_top, Ideal.erf_bot, h1]
    simp only [← EReal.coe_neg, ← EReal.coe_add, ← EReal.coe_sub]
    norm_num
  | coe x => exact gel_host ⟨x, rfl⟩
  | top =>
    rw [sqrt_two, hd, EReal.neg_top, EReal.bot_mul_coe_of_pos hi, gel, s2i, EReal.top_mul_coe_of_pos hi, Ideal.erfc, Ideal.erf_top, Ideal.erf_bot, h1,
      Reals.ofBits_half, EReal.coe_mul_top_of_pos hh]
    simp only [← EReal.coe_neg, ← EReal.coe_add, ← EReal.coe_sub]
    rw [EReal.top_mul_coe_of_pos (by norm_num), EReal.top_mul_coe_of_pos (by norm_num), EReal.top_mul_coe_of_pos hh]

/-! ## The kernel's block -/

theorem pay3_at (x : FVec Ideal S128x2048 .f32) (i : S128x2048.Idx) : k0_pay3 (F := Ideal) x i = gel (x i) := by
  pointwise! [k0_pay3]
  rw [named_s2i, Reals.ofBits_half]; rfl

theorem pay4_at (x : FVec Ideal S128x2048 .f32) (g b : FVec Ideal S1x2048 .f32) (r : Fin 128) (l : Fin 2048) :
    k0_pay4 (F := Ideal) x g b (ix2 r l) = hat (fun k => gel (x (ix2 r k))) l * g (ix2 0 l) + b (ix2 0 l) := by
  pointwise [k0_pay4]
  simp only [named_s2i, Reals.ofBits_half]
  rfl

theorem pay5_at (j k : Fin 128) : k0_pay5 (ix2 j k) = if k ≤ j then 1#1 else 0#1 := by
  pointwise [k0_pay5]
  rw [WordCmp.cmpi_sle_ofNat (lt_trans k.isLt (by norm_num)) (lt_trans j.isLt (by norm_num))]
  by_cases h : k ≤ j <;> simp [h]

abbrev zb (c : Dev nD) (t : Fin cfg0.N) : FVec Ideal S128x4096 .f32 := iblk m c 0 t
abbrev gb (c : Dev nD) (t : Fin cfg0.N) : FVec Ideal S1x2048 .f32 := iblk m c 1 t
abbrev bb (c : Dev nD) (t : Fin cfg0.N) : FVec Ideal S1x2048 .f32 := iblk m c 2 t
abbrev wb (c : Dev nD) (t : Fin cfg0.N) : FVec Ideal S8x128x128 .f32 := iblk m c 3 t
abbrev cb (c : Dev nD) (t : Fin cfg0.N) : FVec Ideal S128x8 .f32 := iblk m c 4 t
abbrev zf (c : Dev nD) (t : Fin cfg0.N) (r : Fin 128) (l : Fin 4096) : EReal := zb m c t (ix2 r l)
abbrev gf (c : Dev nD) (t : Fin cfg0.N) (l : Fin 2048) : EReal := gb m c t (ix2 0 l)
abbrev bf (c : Dev nD) (t : Fin cfg0.N) (l : Fin 2048) : EReal := bb m c t (ix2 0 l)
abbrev wf (c : Dev nD) (t : Fin cfg0.N) (i : Fin 8) (j k : Fin 128) : EReal := wb m c t (ix3 i j k)
abbrev sf (c : Dev nD) (t : Fin cfg0.N) (r : Fin 128) (i : Fin 8) : EReal := cb m c t (ix2 r i)

/-- A chunk's result: the gate's first half times the mixed second half. -/
def out (z : Fin 128 → Fin 4096 → EReal) (g b : Fin 2048 → EReal) (w : Fin 8 → Fin 128 → Fin 128 → EReal) (s : Fin 128 → Fin 8 → EReal)
    (r : Fin 128) (l : Fin 2048) : EReal := gel (z r (lo l)) * sgv z g b w s r l

theorem pay15_at (z : FVec Ideal S128x4096 .f32) (g b : FVec Ideal S1x2048 .f32) (w : FVec Ideal S8x128x128 .f32) (s : FVec Ideal S128x8 .f32) (r : Fin 128) (l : Fin 2048) :
    k0_pay15 (F := Ideal) z g b w s (ix2 r l) = gel (z (ix2 r (lo l))) := by
  unfold k0_pay15
  pointwise [pay3_at]
  rfl
theorem pay16_at (z : FVec Ideal S128x4096 .f32) (g b : FVec Ideal S1x2048 .f32) (w : FVec Ideal S8x128x128 .f32) (s : FVec Ideal S128x8 .f32) (r : Fin 128) (l : Fin 2048) :
    k0_pay16 (F := Ideal) z g b w s (ix2 r l) = vln (fun r l => z (ix2 r l)) (fun l => g (ix2 0 l)) (fun l => b (ix2 0 l)) r l := by
  unfold k0_pay16
  pointwise [pay4_at]
  rfl
theorem pay17_at (z : FVec Ideal S128x4096 .f32) (g b : FVec Ideal S1x2048 .f32) (w : FVec Ideal S8x128x128 .f32) (s : FVec Ideal S128x8 .f32) (j k : Fin 128) :
    k0_pay17 (F := Ideal) z g b w s (ix2 j k) = if k ≤ j then 1#1 else 0#1 := pay5_at j k

theorem out_of (z : Fin 128 → Fin 4096 → EReal) (g b : Fin 2048 → EReal) (w : Fin 8 → Fin 128 → Fin 128 → EReal) (s : Fin 128 → Fin 8 → EReal)
    (r : Fin 128) (l : Fin 2048) (i : Fin 8) (r' : Fin 128) (l' : Fin 2048) (hr : r.val = r'.val) (hl : l.val = l'.val) (hi : l'.val / 256 = i.val) :
    gel (z r' (lo l')) * ((∑ x, if x ≤ r' then w i r' x * vln z g b x l' else 0) + s r' i) = out z g b w s r l := by
  obtain rfl := Fin.ext hr
  obtain rfl := Fin.ext hl
  obtain rfl : grp l = i := Fin.ext hi
  unfold out sgv wm
  simp only [ite_mul, zero_mul]

set_option maxHeartbeats 400000 in
theorem point (c : Dev nD) (t : Fin cfg0.N) (r : Fin 128) (l : Fin 2048) : (dats m 0 c).after 5 t (ix2 r l)
    = out (zf m c t) (gf m c t) (bf m c t) (wf m c t) (sf m c t) r l := by
  rw [after0_5]
  frame_out
  canon_tiles x h
  all_goals (pointwise [k0_pay1, k0_pay2, k0_pay6, k0_pay7, k0_pay8, k0_pay9, k0_pay10, k0_pay11, k0_pay12, k0_pay13, k0_pay14, pay5_at, pay15_at, pay16_at, pay17_at, select_if])
  all_goals simp only [ite_mul, zero_mul]
  all_goals simp only [ix2] at h0 h1
  all_goals refine out_of (zf m c t) (gf m c t) (bf m c t) (wf m c t) (sf m c t) r l _ (x 0) _ ?_ ?_ ?_
  all_goals first | exact h0 | exact h1 | skip
  all_goals first | omega | (simp; omega)

/-! ## The reference -/

section
variable (Z : FVec Ideal S2048x4096 .f32) (G B : FVec Ideal S1x2048 .f32) (W : FVec Ideal S1x8x128x128 .f32) (S : FVec Ideal S1x8x128 .f32)

theorem v11_at (R : Fin 2048) (l : Fin 4096) : val_main_v11 (F := Ideal) Z (ix2 R l) = gel (Z (ix2 R l)) := by
  pointwise [val_main_v11, val_main_v5, val_main_v4, val_main_cst, val_main_v10, val_main_v9, val_main_v8, val_main_v7, val_main_v6, val_main_cst_0]
  exact gel_all _
theorem v19_at (R : Fin 2048) (l : Fin 2048) : val_main_v19 (F := Ideal) Z (ix2 R l) = cen (fun k => gel (Z (ix2 R (hi k)))) l := by
  pointwise [val_main_v19, val_main_v18, val_main_v17, val_main_v16, val_main_v15, val_main_v14, val_main_v13, val_main_cst_1, val_main_cst_2, v11_at]
  rfl
theorem v35_at (R : Fin 2048) (l : Fin 2048) : val_main_v35 (F := Ideal) Z G B (ix2 R l) = hat (fun k => gel (Z (ix2 R (hi k)))) l * G (ix2 0 l) + B (ix2 0 l) := by
  pointwise [val_main_v35, val_main_v34, val_main_v33, val_main_v32, val_main_v31, val_main_v30, val_main_v29, val_main_v28, val_main_v27, val_main_v26, val_main_v25,
    val_main_v24, val_main_v23, val_main_v22, val_main_v21, val_main_v20, val_main_cst_3, val_main_cst_4, val_main_cst_5, val_main_v0, val_main_v1, v19_at]
  rfl
theorem v41_at (i : Fin 8) (j k : Fin 128) : val_main_v41 (F := Ideal) W (ix3 i j k) = wm (wc W) i j k := by
  pointwise [val_main_v41, val_main_v2, val_main_v40, val_main_v39, val_main_v38, val_main_v37, val_main_call0_v5, val_main_call0_v4, val_main_call0_v3,
     val_main_call0_v2, val_main_call0_v1, val_main_call0_v0, val_main_call0_c, val_main_call0_cst, val_main_cst_6]
  rw [mask_at, select_if]
  rfl
theorem v50_at (n : Fin 16) (r : Fin 128) (i : Fin 8) (k : Fin 256) : val_main_v50 (F := Ideal) Z G B W S (ix2 (rowOf n r) (col i k)) =
    out (zc Z n) (gc G) (gc B) (wc W) (sc S) r (col i k) := by
  pointwise [val_main_v50, val_main_v49, val_main_v48, val_main_v47, val_main_v46, val_main_v45, val_main_v44, val_main_v43, val_main_v42, val_main_v36, val_main_v12,
    rowOf, col, val_main_v3, v35_at, v41_at, v11_at]
  simp only [mul_comm (_ + _)]
  unfold out sgv
  rw [show grp ⟨i.val * 256 + k.val, _⟩ = i from grp_col i k]
  rfl
end

/-! ## The array after the run -/

theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] :=
  (by decide +kernel : ∀ t : Fin grid0.N, _)

/-- A point's chunk. -/
def chunk (t : Fin cfg0.N) : Fin 16 := ⟨t.val, lt_of_lt_of_eq t.isLt N_0⟩

abbrev Z (c : Dev nD) : FVec Ideal S2048x4096 .f32 := m ((c : Thread nD τ).loc main_arg0)
abbrev G (c : Dev nD) : FVec Ideal S1x2048 .f32 := m ((c : Thread nD τ).loc main_arg1)
abbrev B (c : Dev nD) : FVec Ideal S1x2048 .f32 := m ((c : Thread nD τ).loc main_arg2)
abbrev W (c : Dev nD) : FVec Ideal S1x8x128x128 .f32 := m ((c : Thread nD τ).loc main_arg3)
abbrev S (c : Dev nD) : FVec Ideal S1x8x128 .f32 := m ((c : Thread nD τ).loc main_arg4)

theorem zf_eq (c : Dev nD) (t : Fin cfg0.N) : zf m c t = zc (Z m c) (chunk t) := by
  funext r l
  unfold zf zb zc rowOf chunk
  blk_point [iblk, V, idx t]
theorem gf_eq (c : Dev nD) (t : Fin cfg0.N) : gf m c t = gc (G m c) := by
  funext l
  unfold gf gb gc
  blk_point [iblk, V, idx t]
theorem bf_eq (c : Dev nD) (t : Fin cfg0.N) : bf m c t = gc (B m c) := by
  funext l
  unfold bf bb gc
  blk_point [iblk, V, idx t]
theorem wf_eq (c : Dev nD) (t : Fin cfg0.N) : wf m c t = wc (W m c) := by
  funext i j k
  unfold wf wb wc
  blk_point [iblk, V, idx t]
theorem sf_eq (c : Dev nD) (t : Fin cfg0.N) : sf m c t = sc (S m c) := by
  funext r i
  unfold sf cb sc
  blk_point [iblk, V, idx t]

theorem final_gate (c : Dev nD) : (dats m 0 c).arrAt 5 (cfgs 0).N = val_main_v50 (F := Ideal) (Z m c) (G m c) (B m c) (W m c) (S m c) := by
  refine (dats m 0 c).arrAt_eq_of_covers 5 _ (by decide +kernel) fun t _ y => ?_
  obtain ⟨r, l, rfl⟩ : ∃ (r : Fin 128) (l : Fin 2048), y = ix2 r l := ⟨_, _, eq_ix2 (y : S128x2048.Idx)⟩
  blk_simp
  have hy : ((cfg0.win 5).blk t).view.emb (ix2 r l) = ix2 (rowOf (chunk t) r) l := by
    unfold rowOf chunk; blk_ext [idx t]
  obtain ⟨i, k, rfl⟩ := col_grp l
  rw [hy, v50_at]
  refine (point m c t r (col i k)).trans ?_
  rw [zf_eq, gf_eq, bf_eq, wf_eq, sf_eq]

end Cert.Kernel8Ideal.GateFwd

end
-- ==== Proof.PoolFwd.lean ====
/- The multi-scale causal pooling: the array of the kernel is the reference's term. -/
module

public import proofs.«01_k».proof.Proof.Gen.Kernel9Ideal.Value
public import proofs.«01_k».proof.Proof.Gen.Reference9Ideal.Read
public import proofs.«01_k».proof.Proof.Reals
public import proofs.«01_k».proof.Proof.Pool
public import Idealize.ShloMosaic.Lib.Pipeline.ValueKit
public import Idealize.ShloMosaic.Lib.Pointwise
public import Idealize.ShloMosaic.Lib.Routing.OpsOne

@[expose] public section

set_option maxRecDepth 16384

noncomputable section

open Idealize.ShloMosaic Idealize.ShloMosaic.TcCoe Idealize.SL.Sem
open Idealize.ShloMosaic.Pipeline (Dat)

namespace Cert.Kernel9Ideal.PoolFwd

open Cert.Kernel9Ideal Cert.Kernel9Ideal.Gen
open Cert.Reference9Ideal.Read
open Cert.Kernel3Ideal.Pool (win win_double cnt cnt_real)

variable (m : (ℓ : Loc nD τ sig) → Buf (Elt Ideal) ℓ)

/-- A column with 2048 zeros above it, and zeros below. -/
def pad (col : Fin 2048 → EReal) (n : Nat) : EReal := if h : 2048 ≤ n ∧ n < 4096 then col ⟨n - 2048, by omega⟩ else 0

theorem pad_in (col : Fin 2048 → EReal) (t : Fin 2048) : pad col (t.val + 2048) = col t :=
  (dif_pos ⟨by omega, by omega⟩).trans (congrArg col (Fin.ext (by show t.val + 2048 - 2048 = t.val; omega)))
theorem pad_above (col : Fin 2048 → EReal) (n : Nat) (h : n < 2048) : pad col n = 0 := dif_neg (by omega)

/-- The window of `w` that ends at `n`. -/
def back (p : Nat → EReal) (w n : Nat) : EReal := win p w (n + 1 - w)

theorem back_above (col : Fin 2048 → EReal) (w n : Nat) (hw : w ≤ 16) (h : n < 2048) : back (pad col) w n = 0 := by
  unfold back win
  exact Finset.sum_eq_zero fun i hi => pad_above _ _ (by have := Finset.mem_range.1 hi; omega)

theorem back_double (p : Nat → EReal) (w n : Nat) (h : w + w ≤ n + 1) : back p w n + back p w (n - w) = back p (w + w) n := by
  unfold back
  rw [win_double, add_comm]
  exact congrArg₂ (fun a b => win p w a + win p w b) (by omega) (by omega)

/-! ## One doubling step of the kernel -/

/-- Adding a column moved down by `k` rows, zero above the start. -/
theorem step (k : Nat) (hk : 0 < k ∧ k < 2048) (K : BitVec 32) (hK : K = BitVec.ofNat 32 k) (A : FVec Ideal S2048x256 .f32) (j : Fin 256)
    (f : Nat → EReal) (hA : ∀ t : Fin 2048, A (ix2 t j) = f (t.val + 2048)) (hf : ∀ n, n < 2048 → f n = 0) (t : Fin 2048) :
    addf A (select (cmpi .sge (iota .tc S2048x256 32 [0] iota_S2048x256_d0_w32) (broadcast S2048x256 K))
      (dynamicRotate 0 K none A rotates_S2048x256_d0) (broadcast S2048x256 (Scalar.ofBits (F := Ideal) .f32 0x00000000#32))) (ix2 t j)
      = f (t.val + 2048) + f (t.val + 2048 - k) := by
  subst hK
  have ht := t.isLt
  pointwise
  rw [WordCmp.cmpi_sge_ofNat (by omega) (by omega), BitVec.toNat_ofNat]
  by_cases h : k ≤ t.val
  · rw [hA, decide_eq_true h, hA]
    show f (t.val + 2048) + f ((t.val + 2048 - k % 2 ^ 32 % 2048) % 2048 + 2048) = _
    congr 2
    omega
  · rw [hA, decide_eq_false h, show Scalar.select (BitVec.ofBool false) _ (0 : EReal) = 0 from rfl, hf (t.val + 2048 - k) (by omega)]

/-! ## The host's running sum -/

/-- The host's running sum of a column. -/
theorem run_sum (x : FVec Ideal Cert.Reference9Ideal.S2048x512 .f32) (init : Cert.Reference9Ideal.S_.Idx → EReal) (h) (hu) (hi : ∀ i, init i = 0) (c : Fin 512)
    (col : Fin 2048 → EReal) (hx : ∀ t : Fin 2048, x (ix2 t c) = col t) (t : Fin 2048) :
    Host.reduceWindowAdd (F := Ideal) (φ := .f32) (s := Cert.Reference9Ideal.S2048x512) (t := Cert.Reference9Ideal.S2048x512) (u := Cert.Reference9Ideal.S_)
      ![2048, 1] ![1, 1] ![2047, 0] ![0, 0] x init h hu (ix2 t c) = ∑ n ∈ Finset.range (t.val + 2049), pad col n := by
  have ht := t.isLt
  have hc := c.isLt
  have fold : ∀ (M : Nat) (l : List (Fin M)) (g : Fin M → EReal) (k : Fin M → EReal) (v : EReal), (∀ n, g n = k n) →
      l.foldl (fun r n => r + g n) v = v + (l.map k).sum := by
    intro M l g k v hg
    induction l generalizing v with
    | nil => simp
    | cons a l ih => rw [List.foldl_cons, ih, List.map_cons, List.sum_cons, hg, add_assoc]
  rw [show t.val + 2049 = (t.val + 1) + 2048 from rfl, Finset.sum_range_add,
    Finset.sum_eq_zero (fun n hn => pad_above col n (by have := Finset.mem_range.1 hn; omega)), zero_add]
  unfold Host.reduceWindowAdd
  show Ideal.hostReduceWindowAdd _ _ _ _ h x (init (Shape.Idx.first hu)) (ix2 t c) = _
  unfold Ideal.hostReduceWindowAdd Host.reduceWindow
  refine (fold _ _ _ (fun n => pad col (t.val + 1 + n.val)) _ (fun n => ?_)).trans ?_
  · have hn : n.val < 2048 := lt_of_lt_of_eq n.isLt (Routing.numel_col 2048)
    have hw0 : ((⟨2, ![2048, 1]⟩ : Shape).rowMajor.symm n 0).val = n.val := by
      rw [show (⟨2, ![2048, 1]⟩ : Shape).rowMajor.symm n = _ from Routing.symm_col n]; rfl
    have hw1 : ((⟨2, ![2048, 1]⟩ : Shape).rowMajor.symm n 1).val = 0 := by
      rw [show (⟨2, ![2048, 1]⟩ : Shape).rowMajor.symm n = _ from Routing.symm_col n]; rfl
    dsimp only
    split
    · next hin =>
      have h0 := hin 0
      change 2047 ≤ t.val * 1 + ((⟨2, ![2048, 1]⟩ : Shape).rowMajor.symm n 0).val ∧ t.val * 1 + ((⟨2, ![2048, 1]⟩ : Shape).rowMajor.symm n 0).val - 2047 < 2048 at h0
      rw [hw0] at h0
      have e : t.val + 1 + n.val = (⟨t.val + n.val - 2047, by omega⟩ : Fin 2048).val + 2048 := by dsimp only; omega
      rw [e, pad_in]
      refine (congrArg x (funext fun a => Fin.ext ?_)).trans (hx _)
      match a with
      | ⟨0, _⟩ =>
        show t.val * 1 + ((⟨2, ![2048, 1]⟩ : Shape).rowMajor.symm n 0).val - 2047 = t.val + n.val - 2047
        rw [hw0]; omega
      | ⟨1, _⟩ =>
        show c.val * 1 + ((⟨2, ![2048, 1]⟩ : Shape).rowMajor.symm n 1).val - 0 = c.val
        rw [hw1]; omega
    · next hin =>
      rw [hi]
      refine (pad_above _ _ ?_).symm
      by_contra hlt
      refine hin fun a => ?_
      match a with
      | ⟨0, _⟩ =>
        show 2047 ≤ t.val * 1 + ((⟨2, ![2048, 1]⟩ : Shape).rowMajor.symm n 0).val ∧ t.val * 1 + ((⟨2, ![2048, 1]⟩ : Shape).rowMajor.symm n 0).val - 2047 < 2048
        rw [hw0]; omega
      | ⟨1, _⟩ =>
        show 0 ≤ c.val * 1 + ((⟨2, ![2048, 1]⟩ : Shape).rowMajor.symm n 1).val ∧ c.val * 1 + ((⟨2, ![2048, 1]⟩ : Shape).rowMajor.symm n 1).val - 0 < 512
        rw [hw1]; omega
  · rw [hi, zero_add, ← List.ofFn_eq_map, List.sum_ofFn]
    exact (Fin.sum_univ_eq_sum_range (fun n => pad col (t.val + 1 + n)) _).trans
      (congrArg (fun M => ∑ n ∈ Finset.range M, pad col (t.val + 1 + n)) (Routing.numel_col 2048))

/-- On a column of reals the difference of two running sums is the window between them. -/
theorem diff_win (w : Nat) (hw : w ≤ 16) (col : Fin 2048 → EReal) (hc : ∀ t, Cert.Reals.IsR (col t)) (t : Nat) :
    (∑ n ∈ Finset.range (t + 2049), pad col n) - (if w ≤ t then ∑ n ∈ Finset.range (t - w + 2049), pad col n else 0) = back (pad col) w (t + 2048) := by
  have hq : ∀ n, ∃ r : ℝ, pad col n = (r : EReal) := fun n => by
    unfold pad
    split
    · exact hc _
    · exact ⟨0, EReal.coe_zero.symm⟩
  have hp : (if w ≤ t then ∑ n ∈ Finset.range (t - w + 2049), pad col n else 0) = ∑ n ∈ Finset.range (t + 2049 - w), pad col n := by
    split
    · exact congrArg (fun M => ∑ n ∈ Finset.range M, pad col n) (by omega)
    · exact (Finset.sum_eq_zero fun n hn => pad_above col n (by have := Finset.mem_range.1 hn; omega)).symm
  rw [hp]
  unfold back win
  choose r hr using hq
  rw [show t + 2049 = (t + 2048 + 1 - w) + w by omega, Finset.sum_range_add, show t + 2048 + 1 - w + w - w = t + 2048 + 1 - w by omega]
  simp only [hr, ← EReal.coe_add, ← Cert.Reals.coe_sum, ← EReal.coe_sub]
  rw [add_sub_cancel_left]

/-! ## The kernel's block -/

/-- The group of a grid point and its window. -/
abbrev Window (g w : Nat) : Prop := g = 0 ∧ w = 2 ∨ g = 1 ∧ w = 4 ∨ g = 2 ∧ w = 8 ∨ g = 3 ∧ w = 16

theorem pay2_at (i : grid0.Coords) (v0 : Vec Ideal S2048x256 .f32) (w : Nat) (hw : Window (i 0).val w) (t : Fin 2048) (j : Fin 256) :
    k0_pay2 i v0 (ix2 t j) = back (pad fun t => v0 (ix2 t j)) w (t.val + 2048) := by
  have ht := t.isLt
  have h2 : ∀ t : Fin 2048, _ = back (pad fun t => v0 (ix2 t j)) 2 (t.val + 2048) := fun t =>
    (step 1 (by decide) 1#32 rfl v0 j (pad fun t => v0 (ix2 t j)) (fun t => (pad_in (fun t => v0 (ix2 t j)) t).symm) (pad_above _) t).trans (by
      unfold back win
      rw [Finset.sum_range_succ, Finset.sum_range_one, add_comm]
      exact congrArg₂ (fun a b => pad (fun t => v0 (ix2 t j)) a + pad (fun t => v0 (ix2 t j)) b) (by omega) (by omega))
  have h4 : ∀ t : Fin 2048, _ = back (pad fun t => v0 (ix2 t j)) 4 (t.val + 2048) := fun t =>
    (step 2 (by decide) 2#32 rfl _ j _ h2 (fun n => back_above _ 2 n (by decide)) t).trans (back_double _ 2 _ (by omega))
  have h8 : ∀ t : Fin 2048, _ = back (pad fun t => v0 (ix2 t j)) 8 (t.val + 2048) := fun t =>
    (step 4 (by decide) 4#32 rfl _ j _ h4 (fun n => back_above _ 4 n (by decide)) t).trans (back_double _ 4 _ (by omega))
  have h16 : ∀ t : Fin 2048, _ = back (pad fun t => v0 (ix2 t j)) 16 (t.val + 2048) := fun t =>
    (step 8 (by decide) 8#32 rfl _ j _ h8 (fun n => back_above _ 8 n (by decide)) t).trans (back_double _ 8 _ (by omega))
  unfold k0_pay2
  rcases hw with ⟨e, rfl⟩ | ⟨e, rfl⟩ | ⟨e, rfl⟩ | ⟨e, rfl⟩ <;> rw [e]
  · exact h2 t
  · exact h4 t
  · exact h8 t
  · exact h16 t

/-- What a grid point writes back: the mean over the window of its group, less the entry. -/
theorem pay1_at (i : grid0.Coords) (v0 : Vec Ideal S2048x256 .f32) (w : Nat) (hw : Window (i 0).val w) (t : Fin 2048) (j : Fin 256) :
    k0_pay1 (BitVec.ofNat 32 (i 0).val) v0 (iota .tc S2048x256 32 [0] iota_S2048x256_d0_w32) (k0_pay2 i v0) k0_pay3 k0_pay4 k0_pay5 k0_pay6 2#32 (ix2 t j)
      = Ideal.div (back (pad fun t => v0 (ix2 t j)) w (t.val + 2048)) (cnt w t.val) - v0 (ix2 t j) := by
  rw [← pay2_at i v0 w hw t j]
  unfold cnt
  pointwise [k0_pay1, k0_pay3, k0_pay4, k0_pay5, k0_pay6]
  rcases hw with ⟨e, rfl⟩ | ⟨e, rfl⟩ | ⟨e, rfl⟩ | ⟨e, rfl⟩ <;> rw [e] <;> rfl

/-! ## The reference -/

variable (x : Cert.Reference9Ideal.S2048x2048.Idx → EReal)

/-- The mean over the window of `w` that ends at row `t`, less the entry. -/
def val (w : Nat) (col : Fin 2048 → EReal) (t : Fin 2048) : EReal := Ideal.div (back (pad col) w (t.val + 2048)) (cnt w t.val) - col t

theorem run2 (t : Fin 2048) (c : Fin 512) : val_main_v3 (F := Ideal) x (ix2 t c) = ∑ n ∈ Finset.range (t.val + 2049), pad (fun t => x (ix2 t ⟨c.val, by omega⟩)) n :=
  run_sum _ _ _ _ (fun i => by pointwise [val_main_call0_call0_v0, val_main_call0_call0_cst]) c _ (fun s => by pointwise [val_main_v2, val_main_v1, val_main_v0]) t
theorem run4 (t : Fin 2048) (c : Fin 512) : val_main_v23 (F := Ideal) x (ix2 t c) = ∑ n ∈ Finset.range (t.val + 2049), pad (fun t => x (ix2 t ⟨512 + c.val, by omega⟩)) n :=
  run_sum _ _ _ _ (fun i => by pointwise [val_main_call1_call0_v0, val_main_call1_call0_cst]) c _ (fun s => by pointwise [val_main_v22, val_main_v21, val_main_v0]) t
theorem run8 (t : Fin 2048) (c : Fin 512) : val_main_v43 (F := Ideal) x (ix2 t c) = ∑ n ∈ Finset.range (t.val + 2049), pad (fun t => x (ix2 t ⟨1024 + c.val, by omega⟩)) n :=
  run_sum _ _ _ _ (fun i => by pointwise [val_main_call2_call0_v0, val_main_call2_call0_cst]) c _ (fun s => by pointwise [val_main_v42, val_main_v41, val_main_v0]) t
theorem run16 (t : Fin 2048) (c : Fin 512) : val_main_v63 (F := Ideal) x (ix2 t c) = ∑ n ∈ Finset.range (t.val + 2049), pad (fun t => x (ix2 t ⟨1536 + c.val, by omega⟩)) n :=
  run_sum _ _ _ _ (fun i => by pointwise [val_main_call3_call0_v0, val_main_call3_call0_cst]) c _ (fun s => by pointwise [val_main_v62, val_main_v61, val_main_v0]) t

/-- The difference of two running sums, in the reference's words. -/
theorem val_of (w : Nat) (hw : w ≤ 16) (col : Fin 2048 → EReal) (hc : ∀ t, Cert.Reals.IsR (col t)) (t : Fin 2048) (C : Fin 2048 → EReal)
    (hC : ∀ t, C t = ∑ n ∈ Finset.range (t.val + 2049), pad col n) (W : BitVec 32) (hW : W = BitVec.ofNat 32 w) (D : EReal)
    (hD : D = if h : t.val < w then 0 else C ⟨t.val - w, by omega⟩) :
    Ideal.div (C t - D) (FloatOps.sitofp (F := Ideal) .f32 (IntOp.minsi (IntOp.addi 1#32 (BitVec.ofNat 32 t.val)) W)) - col t = val w col t := by
  subst hW hD
  rw [val, ← diff_win w hw col hc t.val, cnt, show IntOp.addi 1#32 (BitVec.ofNat 32 t.val) = IntOp.addi (BitVec.ofNat 32 t.val) 1#32 from BitVec.add_comm _ _, hC t]
  refine congrArg (fun d => Ideal.div (_ - d) _ - _) ?_
  by_cases h : w ≤ t.val
  · rw [dif_neg (by omega), if_pos h, hC]
  · rw [dif_pos (by omega), if_neg h]

theorem mean2 (hx : ∀ i, Cert.Reals.IsR (x i)) (t : Fin 2048) (c : Fin 512) : val_main_v20 (F := Ideal) x (ix2 t c) = val 2 (fun t => x (ix2 t ⟨c.val, by omega⟩)) t := by
  refine Eq.trans ?_ (val_of 2 (by decide) _ (fun t => hx _) t _ (fun s => run2 x s c) _ rfl _ rfl)
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v2, val_main_v1,
    val_main_v0, val_main_cst, val_main_c, val_main_c_0]
theorem mean4 (hx : ∀ i, Cert.Reals.IsR (x i)) (t : Fin 2048) (c : Fin 512) : val_main_v40 (F := Ideal) x (ix2 t c) = val 4 (fun t => x (ix2 t ⟨512 + c.val, by omega⟩)) t := by
  refine Eq.trans ?_ (val_of 4 (by decide) _ (fun t => hx _) t _ (fun s => run4 x s c) _ rfl _ rfl)
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v22, val_main_v21,
    val_main_v0, val_main_cst_1, val_main_c_2, val_main_c_3]
theorem mean8 (hx : ∀ i, Cert.Reals.IsR (x i)) (t : Fin 2048) (c : Fin 512) : val_main_v60 (F := Ideal) x (ix2 t c) = val 8 (fun t => x (ix2 t ⟨1024 + c.val, by omega⟩)) t := by
  refine Eq.trans ?_ (val_of 8 (by decide) _ (fun t => hx _) t _ (fun s => run8 x s c) _ rfl _ rfl)
  pointwise [val_main_v60, val_main_v59, val_main_v58, val_main_v57, val_main_v56, val_main_v55, val_main_v54, val_main_v53, val_main_v52, val_main_v51, val_main_v50, val_main_v49, val_main_v48, val_main_v47, val_main_v46, val_main_v45, val_main_v44, val_main_v42, val_main_v41,
    val_main_v0, val_main_cst_4, val_main_c_5, val_main_c_6]
theorem mean16 (hx : ∀ i, Cert.Reals.IsR (x i)) (t : Fin 2048) (c : Fin 512) : val_main_v80 (F := Ideal) x (ix2 t c) = val 16 (fun t => x (ix2 t ⟨1536 + c.val, by omega⟩)) t := by
  refine Eq.trans ?_ (val_of 16 (by decide) _ (fun t => hx _) t _ (fun s => run16 x s c) _ rfl _ rfl)
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v62, val_main_v61,
    val_main_v0, val_main_cst_7, val_main_c_8, val_main_c_9]

/-- The reference's pooling: the mean over the window of the column's group, less the entry. -/
theorem ref_at (hx : ∀ i, Cert.Reals.IsR (x i)) (w : Nat) (t j : Fin 2048) (hw : Window (j.val / 512) w) :
    val_main_v87 (F := Ideal) x (ix2 t j) = val w (fun t => x (ix2 t j)) t := by
  have hj := j.isLt
  pointwise [val_main_v87, val_main_v86, val_main_v85, val_main_v84, val_main_v83, val_main_v82, val_main_v81]
  rcases hw with ⟨e, rfl⟩ | ⟨e, rfl⟩ | ⟨e, rfl⟩ | ⟨e, rfl⟩
  · have hc : ∀ h, (⟨j.val % 512, h⟩ : Fin 2048) = j := fun h => Fin.ext (by show j.val % 512 = j.val; omega)
    simp (disch := omega) only [dif_pos, dif_neg, mean2 x hx, hc]
  · have hc : ∀ h, (⟨512 + j.val % 512, h⟩ : Fin 2048) = j := fun h => Fin.ext (by show 512 + j.val % 512 = j.val; omega)
    simp (disch := omega) only [dif_pos, dif_neg, mean4 x hx, hc]
  · have hc : ∀ h, (⟨1024 + j.val % 512, h⟩ : Fin 2048) = j := fun h => Fin.ext (by show 1024 + j.val % 512 = j.val; omega)
    simp (disch := omega) only [dif_pos, dif_neg, mean8 x hx, hc]
  · have hc : ∀ h, (⟨1536 + j.val % 512, h⟩ : Fin 2048) = j := fun h => Fin.ext (by show 1536 + j.val % 512 = j.val; omega)
    simp (disch := omega) only [dif_pos, dif_neg, mean16 x hx, hc]

/-! ## The array after the run -/

abbrev P (c : Dev nD) : FVec Ideal Cert.Reference9Ideal.S2048x2048 .f32 := m ((c : Thread nD τ).loc main_arg0)

/-- Where each window's block sits at a grid point. -/
theorem idx : ∀ t : Fin cfg0.N, win0_0.index t = ![0, t.val] ∧ win0_1.index t = ![0, t.val] ∧ (grid0.coords t 0).val = t.val / 2 :=
  (by decide +kernel : ∀ t : Fin grid0.N, _)

theorem final_pool (c : Dev nD) (hx : ∀ i, Cert.Reals.IsR (P m c i)) : (dats m 0 c).arrAt 1 (cfgs 0).N = val_main_v87 (F := Ideal) (P m c) := by
  refine (dats m 0 c).arrAt_eq_of_covers 1 _ (by decide +kernel) fun t _ y => ?_
  blk_simp
  rw [after0_1]
  frame_out
  idx_vars y
  have ht : t.val < 8 := lt_of_lt_of_eq t.isLt N_0
  have hw : ∃ w, Window (t.val / 2) w := by
    obtain h | h | h | h : t.val / 2 = 0 ∨ t.val / 2 = 1 ∨ t.val / 2 = 2 ∨ t.val / 2 = 3 := by omega
    · exact ⟨2, by omega⟩
    · exact ⟨4, by omega⟩
    · exact ⟨8, by omega⟩
    · exact ⟨16, by omega⟩
  obtain ⟨w, hw⟩ := hw
  have hy := y1.isLt
  have hq : (t.val * 256 + y1.val) / 512 = t.val / 2 := by omega
  have e : ((View.whole main_v0).slice (win0_1.rect t)).emb (ix2 y0 y1) = ix2 y0 ⟨t.val * 256 + y1.val, by omega⟩ := by
    blk_ext [idx t]
  rw [pay1_at (grid0.coords t) _ w (by rw [(idx t).2.2]; exact hw), e, ref_at (P m c) hx w _ _ (by rw [← hq] at hw; exact hw), val]
  have b : ∀ s : Fin 2048, (iblk m c 0 t : FVec Ideal S2048x256 .f32) (ix2 s y1) = P m c (ix2 s ⟨t.val * 256 + y1.val, by omega⟩) := fun s => by
    blk_point [iblk, V, idx t]
  simp only [b]

end Cert.Kernel9Ideal.PoolFwd

end
-- ==== Proof.Up.lean ====
module
public import proofs.«01_k».proof.Proof.Gen.Kernel10Ideal.Value
public import proofs.«01_k».proof.Proof.Gen.Reference10Ideal.Read
public import proofs.«01_k».proof.Proof.Reals
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel10Ideal.Up
open Cert.Kernel10Ideal Cert.Kernel10Ideal.Gen
open Cert.Reference10Ideal.Read

variable (m : (ℓ : Loc nD τ sig) → Buf (Elt Ideal) ℓ)

theorem idx : ∀ t : Fin cfg0.N, win0_0.index t = ![0, 0] ∧ win0_1.index t = ![t.val / 4, 0, 0, t.val % 4] ∧ win0_2.index t = ![0, t.val]
    ∧ win0_3.index t = ![0, t.val] :=
  (by decide +kernel : ∀ t : Fin grid0.N, _)

/-- Column `k` of point `t`'s block, as a column of the whole array. -/
def at_col (t : Fin cfg0.N) (k : Fin 512) : Fin 8192 := ⟨t.val * 512 + k.val, by have : t.val < 16 := lt_of_lt_of_eq t.isLt N_0; omega⟩

abbrev H (c : Dev nD) : FVec Ideal S2048x2048 .f32 := m ((c : Thread nD τ).loc main_arg0)
abbrev W (c : Dev nD) : FVec Ideal S2048x8192 .f32 := m ((c : Thread nD τ).loc main_arg1)

theorem blocks (c : Dev nD) (t : Fin cfg0.N) (r : Fin 2048) (k : Fin 2048) (l : Fin 512) :
    (iblk m c 0 t : FVec Ideal S2048x2048 .bf16) (ix2 r k) = H m c (ix2 r k)
    ∧ (iblk m c 1 t : FVec Ideal S1x1x2048x512 .bf16) (ix4 0 0 k l) = W m c (ix2 k (at_col t l)) := by
  refine ⟨?_, ?_⟩
  · blk_simp [iblk]
    unfold V hostOps0
    after_results
    pointwise; blk_ext [idx t]
  · unfold at_col; blk_simp [iblk]
    unfold V hostOps0
    after_results
    pointwise; blk_ext [idx t]

/-- A tile's product, rectified: the reference's entry. -/
theorem point (c : Dev nD) (t : Fin cfg0.N) (r : Fin 2048) (l : Fin 512) :
    k0_pay1 (F := Ideal) (iblk m c 0 t) (iblk m c 1 t) (ix2 r l) = val_main_v1 (F := Ideal) (H m c) (W m c) (ix2 r (at_col t l)) := by
  pointwise [k0_pay1]
  simp only [fun k => (blocks m c t r k l).1, fun k => (blocks m c t r k l).2]
  pointwise [val_main_v1, val_main_v0, val_main_call0_v0, val_main_call0_cst]

theorem final_act (c : Dev nD) : (dats m 0 c).arrAt 2 (cfgs 0).N = val_main_v2 (F := Ideal) (H m c) (W m c) := by
  refine (dats m 0 c).arrAt_eq_of_covers 2 _ (by decide +kernel) fun t _ y => ?_
  obtain ⟨r, l, rfl⟩ : ∃ (r : Fin 2048) (l : Fin 512), y = ix2 r l := ⟨_, _, eq_ix2 (y : S2048x512.Idx)⟩
  blk_simp
  have hy : ((cfg0.win 2).blk t).view.emb (ix2 r l) = ix2 r (at_col t l) := by
    unfold at_col; blk_ext [idx t]
  rw [hy, after0_2]
  frame_out
  pointwise [k0_pay2, val_main_v2]
  exact point m c t r l

theorem final_sq (c : Dev nD) : (dats m 0 c).arrAt 3 (cfgs 0).N = val_main_v4 (F := Ideal) (H m c) (W m c) := by
  refine (dats m 0 c).arrAt_eq_of_covers 3 _ (by decide +kernel) fun t _ y => ?_
  obtain ⟨r, l, rfl⟩ : ∃ (r : Fin 2048) (l : Fin 512), y = ix2 r l := ⟨_, _, eq_ix2 (y : S2048x512.Idx)⟩
  blk_simp
  have hy : ((cfg0.win 3).blk t).view.emb (ix2 r l) = ix2 r (at_col t l) := by
    unfold at_col; blk_ext [idx t]
  rw [hy, after0_3]
  frame_out
  pointwise [k0_pay3, val_main_v4, val_main_v3]
  exact congrArg (fun x : EReal => x * x) (point m c t r l)

end Cert.Kernel10Ideal.Up

end
-- ==== Proof.Grp.lean ====
module
public import proofs.«01_k».proof.Proof.Gen.Kernel11Ideal.Value
public import proofs.«01_k».proof.Proof.Gen.Reference11Ideal.Read
public import proofs.«01_k».proof.Proof.Reals
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.Kernel11Ideal.Grp
open Cert.Kernel11Ideal Cert.Kernel11Ideal.Gen
open Cert.Reference11Ideal.Read

variable (m : (ℓ : Loc nD τ sig) → Buf (Elt Ideal) ℓ)

theorem idx : ∀ t : Fin cfg0.N, win0_0.index t = ![0, t.val] ∧ win0_1.index t = ![0, t.val, 0, 0] ∧ win0_2.index t = ![0, t.val]
    ∧ win0_3.index t = ![0, t.val] ∧ win0_4.index t = ![0, t.val] :=
  (by decide +kernel : ∀ t : Fin grid0.N, _)

/-- Column `k` of group `t`, as a column of the whole array. -/
def at_col (t : Fin cfg0.N) (k : Fin 512) : Fin 2048 := ⟨t.val * 512 + k.val, by have : t.val < 4 := lt_of_lt_of_eq t.isLt N_0; omega⟩
def at_grp (t : Fin cfg0.N) : Fin 4 := ⟨t.val, lt_of_lt_of_eq t.isLt N_0⟩

abbrev P (c : Dev nD) : FVec Ideal S2048x2048 .f32 := m ((c : Thread nD τ).loc main_arg0)
abbrev W (c : Dev nD) : FVec Ideal S1x4x512x512 .f32 := m ((c : Thread nD τ).loc main_arg1)
abbrev S (c : Dev nD) : FVec Ideal S1x2048 .f32 := m ((c : Thread nD τ).loc main_arg2)

theorem blocks (c : Dev nD) (t : Fin cfg0.N) (r : Fin 2048) (j : Fin 4) (k : Fin 128) (l : Fin 512) :
    (iblk m c 0 t : FVec Ideal S2048x512 .bf16) (ix2 r l) = P m c (ix2 r (at_col t l))
    ∧ (iblk m c 1 t : FVec Ideal S4x1x128x512 .bf16) (ix4 j 0 k l) = W m c (ix4 0 (at_grp t) ⟨j.val * 128 + k.val, by omega⟩ l)
    ∧ (iblk m c 2 t : FVec Ideal S1x512 .f32) (ix2 0 l) = S m c (ix2 0 (at_col t l)) := by
  refine ⟨?_, ?_, ?_⟩
  · unfold at_col; blk_simp [iblk]
    unfold V hostOps0
    after_results
    pointwise; blk_ext [idx t]
  · unfold at_grp; blk_simp [iblk]
    unfold V hostOps0
    after_results
    pointwise; blk_ext [idx t]
  · unfold at_col; blk_point [iblk, V, idx t]

/-- A group's product: the reference's entry. -/
theorem point (c : Dev nD) (t : Fin cfg0.N) (r : Fin 2048) (l : Fin 512) :
    k0_pay1 (F := Ideal) (iblk m c 0 t) (iblk m c 1 t) (ix2 r l) = val_main_v4 (F := Ideal) (P m c) (W m c) (ix2 r (at_col t l)) := by
  have ht : t.val < 4 := lt_of_lt_of_eq t.isLt N_0
  pointwise [k0_pay1]
  simp only [fun j k => (blocks m c t r j k l).2.1, fun k => (blocks m c t r 0 0 k).1]
  pointwise [val_main_v4, val_main_v3, val_main_v2, val_main_v1, val_main_v0]
  refine Finset.sum_congr rfl fun x _ => (mul_comm _ _).trans (congrArg₂ (fun a b : EReal => a * b) (congrArg (W m c) ?_) (congrArg (P m c) ?_))
  · refine congr (congrArg₂ (ix4 0) (Fin.ext ?_) (Fin.ext ?_)) (Fin.ext ?_)
    · show t.val = (t.val * 512 + l.val) / 512; omega
    · show x.val / 128 * 128 + x.val % 128 = x.val; omega
    · show l.val = (t.val * 512 + l.val) % 512; omega
  · refine congrArg (ix2 r) (Fin.ext ?_)
    show t.val * 512 + x.val = (t.val * 512 + l.val) / 512 * 512 + x.val; omega

theorem final_mixed (c : Dev nD) : (dats m 0 c).arrAt 3 (cfgs 0).N = val_main_v4 (F := Ideal) (P m c) (W m c) := by
  refine (dats m 0 c).arrAt_eq_of_covers 3 _ (by decide +kernel) fun t _ y => ?_
  obtain ⟨r, l, rfl⟩ : ∃ (r : Fin 2048) (l : Fin 512), y = ix2 r l := ⟨_, _, eq_ix2 (y : S2048x512.Idx)⟩
  blk_simp
  have hy : ((cfg0.win 3).blk t).view.emb (ix2 r l) = ix2 r (at_col t l) := by
    unfold at_col; blk_ext [idx t]
  rw [hy, after0_3]
  frame_out
  exact point m c t r l

theorem final_scaled (c : Dev nD) : (dats m 0 c).arrAt 4 (cfgs 0).N = val_main_v9 (F := Ideal) (P m c) (W m c) (S m c) := by
  refine (dats m 0 c).arrAt_eq_of_covers 4 _ (by decide +kernel) fun t _ y => ?_
  obtain ⟨r, l, rfl⟩ : ∃ (r : Fin 2048) (l : Fin 512), y = ix2 r l := ⟨_, _, eq_ix2 (y : S2048x512.Idx)⟩
  blk_simp
  have hy : ((cfg0.win 4).blk t).view.emb (ix2 r l) = ix2 r (at_col t l) := by
    unfold at_col; blk_ext [idx t]
  rw [hy, after0_4]
  frame_out
  pointwise [k0_pay2, val_main_v9, val_main_v8, val_main_v7, val_main_v6, val_main_v5]
  exact congrArg₂ (fun x y : EReal => x * y) (point m c t r l) (blocks m c t r 0 0 l).2.2

end Cert.Kernel11Ideal.Grp

end
-- ==== Proof.Down.lean ====
module
public import proofs.«01_k».proof.Proof.Gen.Kernel12Ideal.Value
public import proofs.«01_k».proof.Proof.Gen.Reference12Ideal.Read
public import proofs.«01_k».proof.Proof.Loss
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel12Ideal.Down
open Cert.Kernel12Ideal Cert.Kernel12Ideal.Gen
open Cert.Reference12Ideal.Read

variable (m : (ℓ : Loc nD τ sig) → Buf (Elt Ideal) ℓ)

theorem idx : ∀ t : Fin cfg0.N, win0_0.index t = ![t.val / 16, t.val % 8 * 2 + 1] ∧ win0_1.index t = ![t.val % 8 / 2, 0, t.val % 2 * 2 + 1, t.val / 8 % 2]
    ∧ win0_2.index t = ![t.val / 16, t.val / 8 % 2] ∧ win0_3.index t = ![t.val / 16, t.val / 8 % 2] :=
  (by decide +kernel : ∀ t : Fin grid0.N, _)

/-- Row `r` and column `l` of point `t`'s tile, and entry `k` of its strip, in the whole arrays. -/
def at_row (t : Fin cfg0.N) (r : Fin 1024) : Fin 2048 := ⟨t.val / 16 * 1024 + r.val, by have : t.val < 32 := lt_of_lt_of_eq t.isLt N_0; omega⟩
def at_col (t : Fin cfg0.N) (l : Fin 1024) : Fin 2048 := ⟨t.val / 8 % 2 * 1024 + l.val, by omega⟩
def at_in (t : Fin cfg0.N) (k : Fin 512) : Fin 8192 := ⟨(t.val % 8 * 2 + 1) * 512 + k.val, by omega⟩

abbrev X (c : Dev nD) : FVec Ideal S2048x2048 .f32 := m ((c : Thread nD τ).loc main_arg0)
abbrev A (c : Dev nD) : FVec Ideal S2048x8192 .bf16 := m ((c : Thread nD τ).loc main_arg1)
abbrev B (c : Dev nD) : FVec Ideal S8192x2048 .bf16 := m ((c : Thread nD τ).loc main_arg2)

theorem entry_w (c : Dev nD) : V m c main_v10 = shapeCast S4x1x2048x2048 (B m c) shapeCasts_S8192x2048_S4x1x2048x2048 := by
  unfold V hostOps0
  after_results
  try rfl

/-- The residual with the even strips' product, as this call is given it. -/
theorem entry_p (c : Dev nD) (R l : Fin 2048) : (V m c main_v9 : FVec Ideal S2048x2048 .f32) (ix2 R l) = X m c (ix2 R l)
    + ∑ b : Fin 8, ∑ k : Fin 512, A m c (ix2 R ⟨b.val * 1024 + k.val, by omega⟩) * B m c (ix2 ⟨b.val * 1024 + k.val, by omega⟩ l) := by
  unfold V hostOps0
  after_results
  exact congrArg (X m c (ix2 R l) + ·) (Cert.Kernel5Ideal.Loss.even (A m c) (B m c) R l)

theorem blocks (c : Dev nD) (t : Fin cfg0.N) (r l : Fin 1024) (k : Fin 512) :
    (iblk m c 0 t : FVec Ideal S1024x512 .bf16) (ix2 r k) = A m c (ix2 (at_row t r) (at_in t k))
    ∧ (iblk m c 1 t : FVec Ideal S1x1x512x1024 .bf16) (ix4 0 0 k l) = B m c (ix2 (at_in t k) (at_col t l))
    ∧ (iblk m c 2 t : FVec Ideal S1024x1024 .f32) (ix2 r l) = (V m c main_v9 : FVec Ideal S2048x2048 .f32) (ix2 (at_row t r) (at_col t l)) := by
  refine ⟨?_, ?_, ?_⟩
  · unfold at_row at_in; blk_point [iblk, V, idx t]
  · unfold at_in at_col; blk_simp [iblk]; rw [entry_w]; pointwise; blk_ext [idx t]
  · unfold at_row at_col; blk_simp [iblk]; blk_ext [idx t]

/-- What one point adds to its tile's running product. -/
def term (c : Dev nD) (t : Fin cfg0.N) (r l : Fin 1024) : EReal :=
  ∑ k, A m c (ix2 (at_row t r) (at_in t k)) * B m c (ix2 (at_in t k) (at_col t l))

theorem prod_at (c : Dev nD) (t : Fin cfg0.N) (r l : Fin 1024) :
    k0_pay1 (F := Ideal) (iblk m c 0 t) (iblk m c 1 t) (ix2 r l) = term m c t r l := by
  pointwise [k0_pay1]
  exact Finset.sum_congr rfl fun k _ => congrArg₂ (fun x y : EReal => x * y) (blocks m c t r l k).1 (blocks m c t r l k).2.1

/-- The running product after a point of a tile. -/
theorem scratch (c : Dev nD) (t : Fin cfg0.N) (r l : Fin 1024) : (outsAt0 m c t.val t.isLt).2 (ix2 r l)
    = (if t.val % 8 = 0 then 0 else (outsAt0 m c (t.val - 1) (Nat.lt_of_le_of_lt (Nat.sub_le _ _) t.isLt)).2 (ix2 r l)) + term m c t r l := by
  by_cases h : t.val % 8 = 0
  · rw [outsAt0_A m c t h (by omega) (by omega), if_pos h, zero_add]
    frame_out
    pointwise [k0_pay2]
    exact prod_at m c t r l
  · rw [if_neg h]
    by_cases h7 : t.val % 8 = 7
    · rw [outsAt0_C m c t h (by omega) h7]
      frame_out
      simp only [read_unread_whole]
      pointwise [k0_pay3]
      exact congrArg (_ + ·) (prod_at m c t r l)
    · rw [outsAt0_B m c t h (by omega) h7]
      frame_out
      simp only [read_unread_whole]
      pointwise [k0_pay3]
      exact congrArg (_ + ·) (prod_at m c t r l)

/-- The residual's block at a point. -/
abbrev part (c : Dev nD) (t : Fin cfg0.N) : FVec Ideal S1024x1024 .f32 := iblk m c 2 t

theorem last (c : Dev nD) (t : Fin cfg0.N) (h : t.val % 8 = 7) (r l : Fin 1024) : (outsAt0 m c t.val t.isLt).1 (ix2 r l)
    = part m c t (ix2 r l) + (outsAt0 m c t.val t.isLt).2 (ix2 r l) := by
  rw [outsAt0_C m c t (by omega) (by omega) h]
  frame_out
  simp only [read_unread_whole]
  pointwise [k0_pay4]

/-- A sum over the inner axis: the even strips, then the odd ones. -/
theorem strips_sum (f : Fin 8192 → EReal) : ∑ k, f k = (∑ b : Fin 8, ∑ k : Fin 512, f ⟨b.val * 1024 + k.val, by omega⟩)
    + ∑ b : Fin 8, ∑ k : Fin 512, f ⟨(b.val * 2 + 1) * 512 + k.val, by omega⟩ := by
  have h : ∑ b : Fin 8, ∑ k : Fin 1024, f ⟨b.val * 1024 + k.val, by omega⟩ = ∑ k, f k :=
    Fin.sum_mul_add_congr fun s k hl => rfl
  rw [← h, ← Finset.sum_add_distrib]
  refine Finset.sum_congr rfl fun b _ => (Fin.sum_univ_add (fun k : Fin (512 + 512) => f ⟨b.val * 1024 + k.val, by omega⟩)).trans ?_
  refine congrArg (_ + ·) (Finset.sum_congr rfl fun k _ => congrArg f (Fin.ext ?_))
  show b.val * 1024 + (512 + k.val) = (b.val * 2 + 1) * 512 + k.val
  omega

theorem whole (c : Dev nD) (t : Fin cfg0.N) (h : t.val % 8 = 7) (r l : Fin 1024) : (outsAt0 m c t.val t.isLt).1 (ix2 r l)
    = val_main_v3 (F := Ideal) (X m c) (A m c) (B m c) (ix2 (at_row t r) (at_col t l)) := by
  have hN : t.val < 32 := lt_of_lt_of_eq t.isLt N_0
  rw [last m c t h, show part m c t (ix2 r l) = _ from (blocks m c t r l 0).2.2, entry_p]
  have sums := Pipeline.eq_sum_fin_of_reset_step_of_flush (fun n hn => (outsAt0 m c n hn).2 (ix2 r l)) 8 0 (fun u => term m c u r l)
    (fun u hu => by rw [scratch m c u r l, if_pos hu]) (fun u hu => by rw [scratch m c u r l, if_neg hu]) t h
  rw [sums, zero_add]
  pointwise [val_main_v3, val_main_v2, val_main_v1, val_main_v0]
  rw [strips_sum (fun k => A m c (ix2 (at_row t r) k) * B m c (ix2 k (at_col t l))), add_assoc]
  refine congrArg (_ + ·) (congrArg (_ + ·) (Finset.sum_congr rfl fun b _ => ?_))
  unfold term
  refine Finset.sum_congr rfl fun k _ => congrArg₂ (fun x y : EReal => x * y) (congrArg (A m c) (congrArg₂ ix2 (Fin.ext ?_) (Fin.ext ?_)))
    (congrArg (B m c) (congrArg₂ ix2 (Fin.ext ?_) (Fin.ext ?_)))
  · show (8 * (t.val / 8) + b.val) / 16 * 1024 + r.val = t.val / 16 * 1024 + r.val; omega
  · show ((8 * (t.val / 8) + b.val) % 8 * 2 + 1) * 512 + k.val = (b.val * 2 + 1) * 512 + k.val; omega
  · show ((8 * (t.val / 8) + b.val) % 8 * 2 + 1) * 512 + k.val = (b.val * 2 + 1) * 512 + k.val; omega
  · show (8 * (t.val / 8) + b.val) / 8 % 2 * 1024 + l.val = t.val / 8 % 2 * 1024 + l.val; omega

theorem last_points : ∀ t, (cfg0.win 3).flush t = true → t.val % 8 = 7 := (by decide +kernel : ∀ t : Fin grid0.N, _)

theorem final_down (c : Dev nD) : (dats m 0 c).arrAt 3 (cfgs 0).N = val_main_v3 (F := Ideal) (X m c) (A m c) (B m c) := by
  refine (dats m 0 c).arrAt_eq_of_covers 3 _ (by decide +kernel) fun t ht y => ?_
  obtain ⟨r, l, rfl⟩ : ∃ (r : Fin 1024) (l : Fin 1024), y = ix2 r l := ⟨_, _, eq_ix2 (y : S1024x1024.Idx)⟩
  blk_simp
  have hy : ((cfg0.win 3).blk t).view.emb (ix2 r l) = ix2 (at_row t r) (at_col t l) := by
    unfold at_row at_col; blk_ext [idx t]
  rw [hy, after0_3]
  exact whole m c t (last_points t ht) r l

end Cert.Kernel12Ideal.Down

end
-- ==== Proof.Psum.lean ====
/-
  The loss's sum over the eight devices. Each device slices its own partial sum out of its row, and one all-reduce of
  the group of eight adds the eight scalars. The run goes through the regions kit with two segments and no kernel: the
  host stretch that makes the operand, and the all-reduce. What is read at the end: the result is the fold of the
  members' operands, the argument is as launched, and the three counters of the exchange are at zero.
-/
module

public import proofs.«01_k».proof.Proof.Gen.Kernel13Ideal
public import proofs.«01_k».proof.Proof.Gen.Kernel13Ideal.Launch
public import proofs.«01_k».proof.Proof.Gen.Kernel13
public import proofs.«01_k».proof.Proof.Gen.Reference13Ideal
public import Idealize.ShloMosaic.Lib.StableHlo.CollectiveRules
public import Idealize.ShloMosaic.Lib.StableHlo.Run
public import Idealize.ShloMosaic.Lib.Pipeline.Regions
public import Idealize.ShloMosaic.Lib.Pipeline.CollectiveSegs
public import Idealize.ShloMosaic.Lib.Layout
public import Idealize.ShloMosaic.Lib.Tactic
public import Idealize.ShloMosaic.Lib.Pointwise
public import Idealize.ShloMosaic.Lib.Pipeline.ValueKit

@[expose] public section

noncomputable section

namespace Cert.Kernel13Ideal.Psum

open Cert.Kernel13Ideal Cert.Kernel13Ideal.Gen
open Cert.Kernel13Ideal.Gen.Sites (L lv)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- The pipelines' component (there is none to run) beside the exchange's. -/
abbrev UU : Type := URounds (GSem nD τ sig) Unit × Sites.UC

local notation "𝕄" => MT nD τ sig ℕ (Elt F) ℕ UU ℕ

abbrev EP : Emb (URounds (GSem nD τ sig) Unit) (MT nD τ sig ℕ (Elt F) ℕ UU ℕ) := embL
abbrev EC : Emb Sites.UC (MT nD τ sig ℕ (Elt F) ℕ UU ℕ) := embR

abbrev adm : (p : Fin 0) → (pcfgs (F := F) p).Adm := fun p => p.elim0
abbrev pdats : (p : Fin 0) → (c : Dev nD) → Pipeline.Dat τ (Elt F) ℕ ℕ UU ℕ (Pipeline.pin (pcfgs (F := F)) adm p) c :=
  fun p => p.elim0

variable (m : (ℓ : Loc nD τ sig) → Buf (Elt F) ℓ) (ρ : Dev nD → PrngReg)

/-! ## The valuations: launched, the operand made, the sum received -/

abbrev V₀ (c : Dev nD) : Valuation τ sig (Elt F) := fun b => m ((c : Dev nD), b)
abbrev V₁ (c : Dev nD) : Valuation τ sig (Elt F) := StableHlo.after hostOps0 (V₀ m c)
abbrev V₂ (c : Dev nD) : Valuation τ sig (Elt F) := (ar0 (F := F)).after₀ (V₁ m) c

/-- That the exchange's cells are under their invariants: persistent, so a copy rides to the end of the run. -/
abbrev invs : sProp 𝕄 := iprop(∃ κ, (AllReduce.Dat.once (U := UU) (ar0 (F := F)) (V₁ m)).cellInvs (Sites.E0 EC) κ)

/-! ## The two segments -/

theorem hostOps0_fresh : (hostOps0 : List (HloOp τ sig (Elt F))).Forall fun op => op.fresh = ∅ := by
  simp only [List.Forall]; repeat' constructor

local notation "ℍ" => Pipeline.HostSeg (Ix := ℕ) (Name := ℕ) (U := UU) (Lvl := ℕ) (pcfgs (F := F)) defs₀ Variants.none L lv

/-- The stretch that slices the partial sum out, what the exchange needs riding along. -/
def segOps : ℍ :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V₀ m) (Sites.Es EC (V₁ m) 0)

/-- The all-reduce at the operand's valuation. -/
def segSum : ℍ := Sites.seg0 EC Variants.none (V₁ m) (Sites.Rest0 (V₁ m) fun _ => invs m)

def segs : List (Pipeline.Seg (pcfgs (F := F)) adm (pdats (F := F)) 0 defs₀ Variants.none L lv) :=
  [.host (segOps m), .host (segSum m)]

theorem main_eq (c : Dev nD) : main (F := F) c = Pipeline.Seg.run (segs m) :=
  main_segs adm pdats 0 Variants.none L lv (segOps m) (segSum m) rfl rfl c

theorem ops_sum (c : Dev nD) : (segOps m).post c ⊢ (segSum m).pre c := by
  refine BIBase.Entails.trans ?_ (Sites.pre0 EC Variants.none (V₁ m) (fun _ => invs m) c)
  show iprop(StableHlo.held (c : Thread nD τ) (Pipeline.ucRefs τ sig) (V₁ m c) ∗ Sites.Es EC (V₁ m) 0 c) ⊢ _
  rw [Sites.Es_0]
  iintro ⟨Hh, HO, Hp, Hr⟩
  ihave #Hi := (show (Sites.rides0 EC (V₁ m) c : sProp 𝕄) ⊢ invs m from by
    dsimp only [Sites.rides0]; unfold AllReduce.Dat.rides; iintro ⟨Hi, -⟩; iexact Hi) $$ Hr
  isplitl [Hh]; · iexact Hh
  isplitl [HO Hp Hr]
  · isplitl [HO]; · iexact HO
    isplitl [Hp] <;> iassumption
  iexact Hi

/-- The state at the end: every buffer at the received valuation, the exchange's cells past. -/
abbrev Tₙ (c : Dev nD) : sProp 𝕄 :=
  iprop(StableHlo.held (c : Thread nD τ) (Pipeline.ucRefs τ sig) (V₂ m c) ∗ (invs m ∗ Sites.Ghost0 EC c))

theorem sum_end (c : Dev nD) : (segSum (F := F) m).post c ⊢ iprop(Tₙ m c ∗ ∃ W, owes (c : Thread nD τ) (0 : CellTallies nD τ sig ℕ) W) := by
  refine (Sites.post0 EC Variants.none (V₁ m) (fun _ => invs m) c).trans ?_
  iintro ⟨Hh, HE, Hg, Hi⟩
  ihave HO := (Sites.hE_last EC (V₁ m) c) $$ HE
  isplitr [HO]
  · isplitl [Hh]; · iexact Hh
    isplitl [Hi] <;> iassumption
  iexact HO

/-! ## The run -/

def u₀ : UU :=
  (initOf (Pipeline.cells (Pipeline.pin (pcfgs (F := F)) adm) cellOf_inj) (Pipeline.launchToks (Pipeline.pin (pcfgs (F := F)) adm) cellOf_inj),
    Sites.uC (U := UU) (V₁ m))

theorem V₁_arg (c : Dev nD) : V₁ m c main_arg0 = m ((c : Thread nD τ).loc main_arg0) :=
  (StableHlo.after_of_writes_sub (W := [main_v1, main_v2]) hostOps0 _ (StableHlo.forall_writes_sub_of_map rfl) (by decide)).trans rfl

/-- The argument is none of the exchange's buffers. -/
theorem arg_not_site : (Proc.devRef .tc main_arg0 : DevRef τ sig) ∉ (ar0 (F := F)).siteRefs := by
  intro h
  simp only [AllReduce.Cfg.siteRefs, AllReduce.Cfg.stageRefs, Finset.mem_insert, Finset.mem_map, Finset.mem_univ, true_and] at h
  rcases h with h | h | ⟨j, h⟩
  · exact absurd h (show (Proc.devRef .tc main_arg0 : DevRef τ sig) ≠ Proc.devRef .tc main_v3 by decide)
  · exact absurd h (show (Proc.devRef .tc main_arg0 : DevRef τ sig) ≠ Proc.devRef .tc main_v2 by decide)
  · exact absurd h ((by decide : ∀ j : Fin 8, (Proc.devRef .tc (ar0_stage j) : DevRef τ sig) ≠ Proc.devRef .tc main_arg0) j)

theorem V₂_arg (c : Dev nD) : V₂ m c main_arg0 = m ((c : Thread nD τ).loc main_arg0) :=
  ((ar0 (F := F)).after₀_off_siteRefs (V₁ m) c arg_not_site).trans (V₁_arg m c)

set_option backward.isDefEq.respectTransparency.types false in
/-- Every weakly fair execution from zero counters ends with the sum on every device, the argument as launched and
    every counter at zero. -/
theorem run : θ_run defs (onTc (τ := τ) (main (F := F))) ⟨m, fun _ => 0, ρ⟩ (fun r => (∀ c : Dev nD,
    r.2.mem ((c.tc : Thread nD τ).loc main_v3) = V₂ m c main_v3
      ∧ r.2.mem ((c.tc : Thread nD τ).loc main_arg0) = m ((c.tc : Thread nD τ).loc main_arg0)) ∧ r.2.sem = fun _ => 0) :=
  Pipeline.θ_run_regions_kit_sems (pcfgs (F := F)) adm pdats 0 cellOf_inj EP defs₀ Variants.none L lv m ρ main (segs m)
    (fun c Q => by rw [main_eq m c])
    (by simp only [segs, Pipeline.Seg.pipes_host, Pipeline.Seg.pipes_nil]; exact List.nodup_nil)
    (O₀ := Sites.O0 (F := F)) (hL := Sites.hL) (G := Sites.G EC (V₁ m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := fun c => iprop(StableHlo.held (c : Thread nD τ) (Pipeline.ucRefs τ sig) (V₀ m c) ∗ Sites.Es EC (V₁ m) 0 c))
    (Tₙ := Tₙ m)
    (hch := ⟨fun c => .rfl, ops_sum m, sum_end m⟩)
    (hinit := by
      have hsplit : (bigSep Finset.univ fun c : Dev nD => iprop(unscopedBufs c (fun b => m ((c.tc : Thread nD τ).loc b)) ∗ unscopedSems0 c
            ∗ owes (c.tc : Thread nD τ) (Sites.O0 (F := F) c) ∅ ∗ Pipeline.launchCred (Sites.O0 (F := F)) c ∗ prngReg c (ρ c) ∗ Sites.G EC (V₁ m) c))
          ⊢ (iprop((bigSep Finset.univ fun c : Dev nD => StableHlo.held (c : Thread nD τ) (Pipeline.ucRefs τ sig) (V₀ m c))
              ∗ bigSep Finset.univ fun c : Dev nD => iprop(unscopedSems0 c ∗ owes (c.tc : Thread nD τ) (Sites.O0 (F := F) c) ∅
                ∗ Pipeline.launchCred (Sites.O0 (F := F)) c ∗ prngReg c (ρ c) ∗ Sites.G EC (V₁ m) c)) : sProp 𝕄) := by
        rw [← bigSep_sep']
        exact bigSep_mono fun c _ => by
          rw [← Pipeline.unscopedBufs_held (Ix := ℕ) (Name := ℕ) (U := UU) (Lvl := ℕ) c (V₀ m c)]; exact BI.Entails.refl _
      iintro ⟨H, Hla⟩
      ihave H' := hsplit $$ H
      icases H' with ⟨Hh, Hr⟩
      imod (Sites.hE0 EC (V₁ m) ρ) $$ [Hr Hla] with HE
      · isplitl [Hr]; · iexact Hr
        iexact Hla
      imodintro
      rw [bigSep_sep']
      isplitl [Hh]; · iexact Hh
      iexact HE)
    (QY := fun c s => (s.mem ((c.tc : Thread nD τ).loc main_v3) = V₂ m c main_v3
        ∧ s.mem ((c.tc : Thread nD τ).loc main_arg0) = m ((c.tc : Thread nD τ).loc main_arg0))
      ∧ (s.sem ((ar0 (F := F)).barrierCell c) = 0 ∧ s.sem ((ar0 (F := F)).recvCell c) = 0 ∧ s.sem ((ar0 (F := F)).sendCell c) = 0))
    (hfin := fun c s' => by
      unfold Tₙ StableHlo.held
      iintro ⟨⟨Hh, He⟩, HSI⟩
      ihave Hr := (pointsTo_read_all (Pipeline.ucRefs τ sig) (fun b => ((c : Thread nD τ).1, b)) (V₂ m c) s') $$ [Hh HSI]
      · isplitl [Hh] <;> iassumption
      icases Hr with ⟨%h, HSI⟩
      imod ((AllReduce.Dat.once (ar0 (F := F)) (V₁ m)).ghostAfter_read (Sites.E0 EC) c (k := 0) le_rfl s') $$ [He HSI] with ⟨%hz, HSI⟩
      · isplitl [He] <;> iassumption
      imodintro
      isplitr
      · ipureintro
        exact ⟨⟨h (Proc.devRef .tc main_v3) (Finset.mem_filter.mpr ⟨StableHlo.devRef_mem_tcRefs main_v3, by decide⟩),
          (h (Proc.devRef .tc main_arg0) (Finset.mem_filter.mpr ⟨StableHlo.devRef_mem_tcRefs main_arg0, by decide⟩)).trans (V₂_arg m c)⟩, hz⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-! ## The value -/

section Value

variable (m : (ℓ : Loc nD τ sig) → Buf (Elt Ideal) ℓ)

/-- The first element of a device's row. -/
abbrev first (c : Dev nD) : EReal := (m ((c.tc : Thread nD τ).loc main_arg0) : FVec Ideal S1x128 .f32) (ix2 (0 : Fin 1) (0 : Fin 128))

/-- What a device sends: the first element of its row. -/
theorem operand_at (c : Dev nD) (y : S_.Idx) : (V₁ m c main_v2 : FVec Ideal S_ .f32) y = first m c := by
  unfold V₁ hostOps0
  after_results
  pointwise

/-- The member at position `j` of any device's group is device `j`. -/
theorem peer_eq (c : Dev nD) (j : Fin 8) : (ar0 (F := Ideal)).peer c j = (j : Dev nD) :=
  (by decide : ∀ (c : Dev nD) (j : Fin 8), ar0_mem ((ar0_pos c).1, j) = j) c j

/-- What every device receives: the eight first elements' sum. -/
theorem received_at (c : Dev nD) (y : S_.Idx) : (V₂ m c main_v3 : FVec Ideal S_ .f32) y = ∑ d : Fin 8, first m d := by
  have e : (V₂ m c main_v3 : FVec Ideal S_ .f32) y
      = ((List.finRange 8).drop 1).foldl (fun (a : EReal) (j : Fin 8) => a + (V₁ m ((ar0 (F := Ideal)).peer c j) main_v2 : FVec Ideal S_ .f32) y)
        ((V₁ m ((ar0 (F := Ideal)).peer c (0 : Fin 8)) main_v2 : FVec Ideal S_ .f32) y) :=
    congrFun ((ar0 (F := Ideal)).after₀_result (V₁ m) c) y
  rw [e, (by decide : (List.finRange 8).drop 1 = [1, 2, 3, 4, 5, 6, 7])]
  simp only [List.foldl_cons, List.foldl_nil, peer_eq, Fin.sum_univ_eight]
  have o (d : Fin 8) := operand_at m d y
  exact congrArg₂ _ (congrArg₂ _ (congrArg₂ _ (congrArg₂ _ (congrArg₂ _ (congrArg₂ _ (congrArg₂ _ (o 0) (o 1)) (o 2)) (o 3)) (o 4)) (o 5)) (o 6)) (o 7)

end Value

end Cert.Kernel13Ideal.Psum

namespace Cert.Reference13Ideal.Psum

open Cert.Reference13Ideal Cert.Reference13Ideal.Gen Idealize.ShloMosaic Idealize.ShloMosaic.TcCoe Idealize.SL.Sem Idealize.ShloMosaic.StableHlo

variable {F : FTy → Type} [FloatOps F]

abbrev ops : List (HloOp τ sig (Elt F)) :=
  [ unary main_arg0 main_v0 ((extractStridedSlice S8x1 ![0, 0] · slices_S8x128_S8x1_0_0) : (⟨S8x128, .f32⟩ : BufTy).Contents (Elt F) → (⟨S8x1, .f32⟩ : BufTy).Contents (Elt F)),
    reshape main_v0 main_v1 (rfl : (.f32 : EltTy) = .f32) shapeCasts_S8x1_S8,
    nullary main_cst (constant S_ .f32 0x00000000#32),
    binary main_v1 main_cst main_v2 ((fun x v => Host.reduceAdd x v reducesTo_S8_S_d0 h_S_) : (⟨S8, .f32⟩ : BufTy).Contents (Elt F) → (⟨S_, .f32⟩ : BufTy).Contents (Elt F) → (⟨S_, .f32⟩ : BufTy).Contents (Elt F)) ]

theorem ops_sub : (ops : List (HloOp τ sig (Elt F))).Forall fun op => op.bufs ⊆ tcRefs τ sig :=
  ⟨unary_bufs_sub .., reshape_bufs_sub .., nullary_bufs_sub .., binary_bufs_sub ..⟩

/-- The rows' first elements added up. -/
def total (x : FVec Ideal S8x128 .f32) : FVec Ideal S_ .f32 :=
  Host.reduceAdd (F := Ideal) (shapeCast S8 (extractStridedSlice S8x1 ![0, 0] x slices_S8x128_S8x1_0_0) shapeCasts_S8x1_S8) (constant S_ .f32 0x00000000#32) reducesTo_S8_S_d0 h_S_

theorem total_at (x : FVec Ideal S8x128 .f32) (y : S_.Idx) : total x y = ∑ d : Fin 8, x (ix2 d (0 : Fin 128)) := by
  unfold total
  pointwise

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = total (m ((c.tc : Thread nD τ).loc main_arg0))
      ∧ r.2.mem ((c.tc : Thread nD τ).loc main_arg0) = m ((c.tc : Thread nD τ).loc main_arg0) :=
  (θ_run defs _ _).mono (fun _ h c => ⟨(h c main_v2).trans (by after_results; rfl), (h c main_arg0).trans (by after_results)⟩)
    (run_seq (by decide) (by decide) defs main (fun _ => ops) (fun _ => rfl) (fun _ => ops_sub) m ρ)

end Cert.Reference13Ideal.Psum

end
-- ==== Proof.MmBwd.lean ====
module
public import proofs.«01_k».proof.Proof.Gen.Kernel14Ideal.Value
public import proofs.«01_k».proof.Proof.Gen.Reference14Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel14Ideal.MmBwd
open Cert.Kernel14Ideal Cert.Kernel14Ideal.Gen
open Cert.Reference14Ideal.Read

variable (m : (ℓ : Loc nD τ sig) → Buf (Elt Ideal) ℓ)

theorem idx : ∀ t : Fin cfg0.N, win0_0.index t = ![0, 0] ∧ win0_1.index t = ![t.val, 0, 0, 0] ∧ win0_2.index t = ![0, t.val]
    ∧ win0_3.index t = ![0, t.val] ∧ win0_4.index t = ![t.val, 0, 0, 0] :=
  (by decide +kernel : ∀ t : Fin grid0.N, _)

/-- Entry `k` of point `t`'s strip, in the whole weight. -/
def at_in (t : Fin cfg0.N) (k : Fin 512) : Fin 2048 := ⟨t.val * 512 + k.val, by have : t.val < 4 := lt_of_lt_of_eq t.isLt N_0; omega⟩

abbrev D (c : Dev nD) : FVec Ideal S2048x2048 .bf16 := m ((c : Thread nD τ).loc main_arg0)
abbrev W (c : Dev nD) : FVec Ideal S2048x2048 .bf16 := m ((c : Thread nD τ).loc main_arg1)
abbrev A (c : Dev nD) : FVec Ideal S2048x2048 .bf16 := m ((c : Thread nD τ).loc main_arg2)

theorem blocks (c : Dev nD) (t : Fin cfg0.N) (r l : Fin 2048) (k : Fin 512) :
    (iblk m c 0 t : FVec Ideal S2048x2048 .bf16) (ix2 r l) = D m c (ix2 r l)
    ∧ (iblk m c 1 t : FVec Ideal S1x1x512x2048 .bf16) (ix4 0 0 k l) = W m c (ix2 (at_in t k) l)
    ∧ (iblk m c 2 t : FVec Ideal S2048x512 .bf16) (ix2 r k) = A m c (ix2 r (at_in t k)) := by
  refine ⟨?_, ?_, ?_⟩
  · blk_point [iblk, V, idx t]
  · unfold at_in; blk_simp [iblk]
    unfold V hostOps0
    after_results
    pointwise; blk_ext [idx t]
  · unfold at_in; blk_point [iblk, V, idx t]

theorem final_dx (c : Dev nD) : (dats m 0 c).arrAt 3 (cfgs 0).N = val_main_v6 (F := Ideal) (D m c) (W m c) := by
  refine (dats m 0 c).arrAt_eq_of_covers 3 _ (by decide +kernel) fun t _ y => ?_
  obtain ⟨r, k, rfl⟩ : ∃ (r : Fin 2048) (k : Fin 512), y = ix2 r k := ⟨_, _, eq_ix2 (y : S2048x512.Idx)⟩
  blk_simp
  have hy : ((cfg0.win 3).blk t).view.emb (ix2 r k) = ix2 r (at_in t k) := by
    unfold at_in; blk_ext [idx t]
  rw [hy, after0_3]
  frame_out
  pointwise [k0_pay1]
  simp only [fun l => (blocks m c t r l k).1, fun l => (blocks m c t r l k).2.1]
  pointwise [val_main_v6, val_main_v3, val_main_v1]

theorem final_dw (c : Dev nD) : (dats m 0 c).arrAt 4 (cfgs 0).N = val_main_v8 (F := Ideal) (D m c) (A m c) := by
  refine (dats m 0 c).arrAt_eq_of_covers 4 _ (by decide +kernel) fun t _ y => ?_
  obtain ⟨a, b, k, l, rfl⟩ : ∃ (a b : Fin 1) (k : Fin 512) (l : Fin 2048), y = ix4 a b k l := ⟨_, _, _, _, eq_ix4 (y : S1x1x512x2048.Idx)⟩
  obtain rfl : a = 0 := Subsingleton.elim _ _
  obtain rfl : b = 0 := Subsingleton.elim _ _
  blk_simp
  have hy : ((cfg0.win 4).blk t).view.emb (ix4 0 0 k l) = ix4 ⟨t.val, lt_of_lt_of_eq t.isLt N_0⟩ 0 k l := by
    blk_ext [idx t]
  rw [hy, after0_4]
  frame_out
  pointwise [k0_pay2]
  simp only [fun r => (blocks m c t r l k).1, fun r => (blocks m c t r l k).2.2]
  pointwise [val_main_v8, val_main_v7, val_main_v5, val_main_v4, val_main_v3, val_main_v0]
  unfold at_in
  exact Finset.sum_congr (M := EReal) rfl fun r _ => mul_comm (_ : EReal) _

end Cert.Kernel14Ideal.MmBwd

end
-- ==== Proof.MmDw.lean ====
module
public import proofs.«01_k».proof.Proof.Gen.Kernel15Ideal.Value
public import proofs.«01_k».proof.Proof.Gen.Reference15Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel15Ideal.MmDw
open Cert.Kernel15Ideal Cert.Kernel15Ideal.Gen
open Cert.Reference15Ideal.Read

variable (m : (ℓ : Loc nD τ sig) → Buf (Elt Ideal) ℓ)

theorem idx : ∀ t : Fin cfg0.N, win0_0.index t = ![0, t.val] ∧ win0_1.index t = ![0, 0] ∧ win0_2.index t = ![t.val / 2, 0, t.val % 2, 0] :=
  (by decide +kernel : ∀ t : Fin grid0.N, _)

/-- Entry `k` of point `t`'s strip: in the whole weight, and in its quarter. -/
def at_in (t : Fin cfg0.N) (k : Fin 1024) : Fin 8192 := ⟨t.val * 1024 + k.val, by have : t.val < 8 := lt_of_lt_of_eq t.isLt N_0; omega⟩
def at_quarter (t : Fin cfg0.N) : Fin 4 := ⟨t.val / 2, by have : t.val < 8 := lt_of_lt_of_eq t.isLt N_0; omega⟩
def at_row (t : Fin cfg0.N) (k : Fin 1024) : Fin 2048 := ⟨t.val % 2 * 1024 + k.val, by omega⟩

abbrev A (c : Dev nD) : FVec Ideal S2048x8192 .bf16 := m ((c : Thread nD τ).loc main_arg0)
abbrev D (c : Dev nD) : FVec Ideal S2048x2048 .bf16 := m ((c : Thread nD τ).loc main_arg1)

theorem blocks (c : Dev nD) (t : Fin cfg0.N) (r l : Fin 2048) (k : Fin 1024) :
    (iblk m c 0 t : FVec Ideal S2048x1024 .bf16) (ix2 r k) = A m c (ix2 r (at_in t k))
    ∧ (iblk m c 1 t : FVec Ideal S2048x2048 .bf16) (ix2 r l) = D m c (ix2 r l) := by
  refine ⟨?_, ?_⟩
  · unfold at_in; blk_point [iblk, V, idx t]
  · blk_point [iblk, V, idx t]

theorem final_dw (c : Dev nD) : (dats m 0 c).arrAt 2 (cfgs 0).N = val_main_v7 (F := Ideal) (A m c) (D m c) := by
  refine (dats m 0 c).arrAt_eq_of_covers 2 _ (by decide +kernel) fun t _ y => ?_
  obtain ⟨a, b, k, l, rfl⟩ : ∃ (a b : Fin 1) (k : Fin 1024) (l : Fin 2048), y = ix4 a b k l := ⟨_, _, _, _, eq_ix4 (y : S1x1x1024x2048.Idx)⟩
  obtain rfl : a = 0 := Subsingleton.elim _ _
  obtain rfl : b = 0 := Subsingleton.elim _ _
  blk_simp
  have hy : ((cfg0.win 2).blk t).view.emb (ix4 0 0 k l) = ix4 (at_quarter t) 0 (at_row t k) l := by
    unfold at_quarter at_row; blk_ext [idx t]
  rw [hy, after0_2]
  frame_out
  pointwise [k0_pay1]
  simp only [fun r => (blocks m c t r l k).1, fun r => (blocks m c t r l k).2]
  pointwise [val_main_v7, val_main_v6, val_main_v5, val_main_v4, val_main_v3, val_main_v1]
  refine Finset.sum_congr (M := EReal) rfl fun r _ => (mul_comm (_ : EReal) _).trans (congrArg (fun k => D m c (ix2 r l) * A m c (ix2 r k)) (Fin.ext ?_))
  show t.val * 1024 + k.val = t.val / 2 * 2048 + (t.val % 2 * 1024 + k.val)
  omega

end Cert.Kernel15Ideal.MmDw

end
-- ==== Proof.MmAw.lean ====
module
public import proofs.«01_k».proof.Proof.Gen.Kernel16Ideal.Value
public import proofs.«01_k».proof.Proof.Gen.Reference16Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel16Ideal.MmAw
open Cert.Kernel16Ideal Cert.Kernel16Ideal.Gen
open Cert.Reference16Ideal.Read

variable (m : (ℓ : Loc nD τ sig) → Buf (Elt Ideal) ℓ)

theorem idx : ∀ t : Fin cfg0.N, win0_0.index t = ![t.val / 8, t.val % 4] ∧ win0_1.index t = ![t.val % 4, 0, t.val / 4 % 2, 0]
    ∧ win0_2.index t = ![t.val / 8, t.val / 4 % 2] :=
  (by decide +kernel : ∀ t : Fin grid0.N, _)

/-- Row `r` and column `l` of point `t`'s tile, and entry `k` of its strip, in the whole arrays. -/
def at_row (t : Fin cfg0.N) (r : Fin 1024) : Fin 2048 := ⟨t.val / 8 * 1024 + r.val, by have : t.val < 16 := lt_of_lt_of_eq t.isLt N_0; omega⟩
def at_col (t : Fin cfg0.N) (l : Fin 1024) : Fin 2048 := ⟨t.val / 4 % 2 * 1024 + l.val, by omega⟩
def at_in (t : Fin cfg0.N) (k : Fin 2048) : Fin 8192 := ⟨t.val % 4 * 2048 + k.val, by omega⟩

abbrev D (c : Dev nD) : FVec Ideal S2048x8192 .bf16 := m ((c : Thread nD τ).loc main_arg0)
abbrev W (c : Dev nD) : FVec Ideal S2048x8192 .f32 := m ((c : Thread nD τ).loc main_arg1)

theorem blocks (c : Dev nD) (t : Fin cfg0.N) (r l : Fin 1024) (k : Fin 2048) :
    (iblk m c 0 t : FVec Ideal S1024x2048 .bf16) (ix2 r k) = D m c (ix2 (at_row t r) (at_in t k))
    ∧ (iblk m c 1 t : FVec Ideal S1x1x1024x2048 .bf16) (ix4 0 0 l k) = W m c (ix2 (at_col t l) (at_in t k)) := by
  refine ⟨?_, ?_⟩
  · unfold at_row at_in; blk_point [iblk, V, idx t]
  · unfold at_in at_col; blk_simp [iblk]
    unfold V hostOps0
    after_results
    pointwise; blk_ext [idx t]

/-- What one point adds to its tile's running product. -/
def term (c : Dev nD) (t : Fin cfg0.N) (r l : Fin 1024) : EReal :=
  ∑ k, D m c (ix2 (at_row t r) (at_in t k)) * W m c (ix2 (at_col t l) (at_in t k))

theorem prod_at (c : Dev nD) (t : Fin cfg0.N) (r l : Fin 1024) :
    k0_pay1 (F := Ideal) (iblk m c 0 t) (iblk m c 1 t) (ix2 r l) = term m c t r l := by
  pointwise [k0_pay1]
  exact Finset.sum_congr rfl fun k _ => congrArg₂ (fun x y : EReal => x * y) (blocks m c t r l k).1 (blocks m c t r l k).2

/-- The running product after a point of a tile. -/
theorem scratch (c : Dev nD) (t : Fin cfg0.N) (r l : Fin 1024) : (outsAt0 m c t.val t.isLt).2 (ix2 r l)
    = (if t.val % 4 = 0 then 0 else (outsAt0 m c (t.val - 1) (Nat.lt_of_le_of_lt (Nat.sub_le _ _) t.isLt)).2 (ix2 r l)) + term m c t r l := by
  by_cases h : t.val % 4 = 0
  · rw [outsAt0_A m c t h (by omega) (by omega), if_pos h, zero_add]
    frame_out
    pointwise [k0_pay2]
    exact prod_at m c t r l
  · rw [if_neg h]
    by_cases h3 : t.val % 4 = 3
    · rw [outsAt0_C m c t h (by omega) h3]
      frame_out
      simp only [read_unread_whole]
      pointwise [k0_pay3]
      exact congrArg (_ + ·) (prod_at m c t r l)
    · rw [outsAt0_B m c t h (by omega) h3]
      frame_out
      simp only [read_unread_whole]
      pointwise [k0_pay3]
      exact congrArg (_ + ·) (prod_at m c t r l)

theorem last (c : Dev nD) (t : Fin cfg0.N) (h : t.val % 4 = 3) (r l : Fin 1024) :
    (outsAt0 m c t.val t.isLt).1 (ix2 r l) = (outsAt0 m c t.val t.isLt).2 (ix2 r l) := by
  rw [outsAt0_C m c t (by omega) (by omega) h]
  frame_out

theorem whole (c : Dev nD) (t : Fin cfg0.N) (h : t.val % 4 = 3) (r l : Fin 1024) : (outsAt0 m c t.val t.isLt).1 (ix2 r l)
    = val_main_v3 (F := Ideal) (D m c) (W m c) (ix2 (at_row t r) (at_col t l)) := by
  have hN : t.val < 16 := lt_of_lt_of_eq t.isLt N_0
  rw [last m c t h]
  have sums := Pipeline.eq_sum_fin_of_reset_step_of_flush (fun n hn => (outsAt0 m c n hn).2 (ix2 r l)) 4 0 (fun u => term m c u r l)
    (fun u hu => by rw [scratch m c u r l, if_pos hu]) (fun u hu => by rw [scratch m c u r l, if_neg hu]) t h
  rw [sums, zero_add]
  pointwise [val_main_v3, val_main_v2]
  refine Fin.sum_mul_add_congr fun b k hk => ?_
  refine congrArg₂ (fun x y : EReal => x * y) (congrArg (D m c) (congrArg₂ ix2 (Fin.ext ?_) (Fin.ext ?_)))
    (congrArg (W m c) (congrArg₂ ix2 (Fin.ext ?_) (Fin.ext ?_)))
  · show (4 * (t.val / 4) + b.val) / 8 * 1024 + r.val = t.val / 8 * 1024 + r.val; omega
  · show (4 * (t.val / 4) + b.val) % 4 * 2048 + k.val = b.val * 2048 + k.val; omega
  · show (4 * (t.val / 4) + b.val) / 4 % 2 * 1024 + l.val = t.val / 4 % 2 * 1024 + l.val; omega
  · show (4 * (t.val / 4) + b.val) % 4 * 2048 + k.val = b.val * 2048 + k.val; omega

theorem last_points : ∀ t, (cfg0.win 2).flush t = true → t.val % 4 = 3 := (by decide +kernel : ∀ t : Fin grid0.N, _)

theorem final_dx (c : Dev nD) : (dats m 0 c).arrAt 2 (cfgs 0).N = val_main_v3 (F := Ideal) (D m c) (W m c) := by
  refine (dats m 0 c).arrAt_eq_of_covers 2 _ (by decide +kernel) fun t ht y => ?_
  obtain ⟨r, l, rfl⟩ : ∃ (r : Fin 1024) (l : Fin 1024), y = ix2 r l := ⟨_, _, eq_ix2 (y : S1024x1024.Idx)⟩
  blk_simp
  have hy : ((cfg0.win 2).blk t).view.emb (ix2 r l) = ix2 (at_row t r) (at_col t l) := by
    unfold at_row at_col; blk_ext [idx t]
  rw [hy, after0_2]
  exact whole m c t (last_points t ht) r l

end Cert.Kernel16Ideal.MmAw

end
-- ==== Proof.Small.lean ====
module
public import proofs.«01_k».proof.Proof.Gen.Kernel17Ideal.Frame
public import proofs.«01_k».proof.Proof.Gen.Reference17Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel17Ideal.Small
open Cert.Kernel17Ideal Cert.Kernel17Ideal.Gen
open Cert.Reference17Ideal.Read

variable (m : (ℓ : Loc nD τ sig) → Buf (Elt Ideal) ℓ)

theorem idx : ∀ t : Fin cfg0.N, win0_0.index t = ![0, 0, 0] ∧ win0_1.index t = ![0, 0] :=
  (by decide +kernel : ∀ t : Fin grid0.N, _)

abbrev Slots (c : Dev nD) : FVec Ideal S8x1160x128 .f32 := V m c main_v23

/-- What the call leaves: the sum of the eight slots. -/
abbrev Total (c : Dev nD) : FVec Ideal S1160x128 .f32 := fun i => ∑ k : Fin 8, (Slots m c (ix3 k (i 0) (i 1)) : EReal)

theorem total (c : Dev nD) : (dats m 0 c).arrAt 1 (cfgs 0).N = Total m c := by
  refine (dats m 0 c).arrAt_eq_of_covers 1 _ (by decide +kernel) fun t _ y => ?_
  obtain ⟨r, l, rfl⟩ : ∃ (r : Fin 1160) (l : Fin 128), y = ix2 r l := ⟨_, _, eq_ix2 (y : S1160x128.Idx)⟩
  have hb (k : Fin 8) : (iblk m c 0 t : FVec Ideal S8x1160x128 .f32) (ix3 k r l) = Slots m c (ix3 k r l) := by
    blk_point [iblk, V, idx t]
  blk_simp
  have hy : ((cfg0.win 1).blk t).view.emb (ix2 r l) = ix2 r l := by blk_ext [idx t]
  rw [hy, after0_1]
  frame_out
  pointwise [k0_pay1]
  simp only [hb]
  exact (Fin.sum_univ_eight (M := EReal) fun k => Slots m c (ix3 k r l)).symm

theorem array (c : Dev nD) : Pipeline.withArrays (cfgs 0).spec c (V0 m c) (fun w => (dats m 0 c).arrAt w (cfgs 0).N) (Proc.devRef .tc main_v24) = Total m c :=
  (Pipeline.withArrays_arr (cfgs 0).spec launch0.win.arr_inj c (V0 m c) (fun w => (dats m 0 c).arrAt w (cfgs 0).N) 1).trans (total m c)

/-- A piece of the packed rows, read at one of its rows. -/
theorem piece {n : ℕ} (xs : List ((s : Shape) × (s.Idx → Ideal .f32))) (h : Shape.Concatenates (xs.map (·.1)) S8x1160x128 1)
    (p off : ℕ) (hp : p < xs.length) (x : (⟨3, ![8, n, 128]⟩ : Shape).Idx → Ideal .f32) (hx : xs[p] = ⟨_, x⟩)
    (hoff : (((xs.take p).map (·.1)).map fun s => if h : s.rank = 3 then s.size ((1 : Fin 3).cast h.symm) else 0).sum = off)
    (k : Fin 8) (r : Fin n) (l : Fin 128) (hr : off + r.val < 1160) :
    concatenate S8x1160x128 1 xs h (ix3 k ⟨off + r.val, hr⟩ l) = x (ix3 k r l) := by
  refine concatenate_apply_piece (t := S8x1160x128) 1 xs h _ p hp _ x hx rfl off hoff (ix3 k r l) (fun b hb => ?_) rfl
  fin_cases b
  · rfl
  · exact absurd rfl hb
  · rfl

/-- The slots' entries, weight by weight. -/
theorem slots (c : Dev nD) (k : Fin 8) :
    (∀ n : Fin 2048, Slots m c (ix3 k ⟨n.val / 128, by omega⟩ ⟨n.val % 128, by omega⟩) = (m ((c : Thread nD τ).loc main_arg0) : FVec Ideal S8x1x2048 .f32) (ix3 k 0 n))
    ∧ (∀ n : Fin 2048, Slots m c (ix3 k ⟨16 + n.val / 128, by omega⟩ ⟨n.val % 128, by omega⟩) = (m ((c : Thread nD τ).loc main_arg1) : FVec Ideal S8x1x2048 .f32) (ix3 k 0 n))
    ∧ (∀ (g : Fin 8) (s l : Fin 128), Slots m c (ix3 k ⟨32 + (g.val * 128 + s.val), by omega⟩ l) = (m ((c : Thread nD τ).loc main_arg2) : FVec Ideal S8x1x8x128x128 .f32) (ix5 k 0 g s l))
    ∧ (∀ (g : Fin 8) (l : Fin 128), Slots m c (ix3 k ⟨1056 + g.val, by omega⟩ l) = (m ((c : Thread nD τ).loc main_arg3) : FVec Ideal S8x1x8x128 .f32) (ix4 k 0 g l))
    ∧ (∀ n : Fin 2048, Slots m c (ix3 k ⟨1064 + n.val / 128, by omega⟩ ⟨n.val % 128, by omega⟩) = (m ((c : Thread nD τ).loc main_arg4) : FVec Ideal S8x1x2048 .f32) (ix3 k 0 n))
    ∧ (∀ (a : Fin 2) (n : Fin 2048), Slots m c (ix3 k ⟨1080 + (a.val * 16 + n.val / 128), by omega⟩ ⟨n.val % 128, by omega⟩) = (m ((c : Thread nD τ).loc main_arg5) : FVec Ideal S8x2x2048 .f32) (ix3 k a n))
    ∧ (∀ (a : Fin 2) (n : Fin 2048), Slots m c (ix3 k ⟨1112 + (a.val * 16 + n.val / 128), by omega⟩ ⟨n.val % 128, by omega⟩) = (m ((c : Thread nD τ).loc main_arg6) : FVec Ideal S8x2x2048 .f32) (ix3 k a n))
    ∧ (∀ n : Fin 2048, Slots m c (ix3 k ⟨1144 + n.val / 128, by omega⟩ ⟨n.val % 128, by omega⟩) = (m ((c : Thread nD τ).loc main_arg7) : FVec Ideal S8x2048 .f32) (ix2 k n)) := by
  unfold Slots V V0 hostOps0 hostOps0_1 hostOps0_2 hostOps0_3 hostOps0_4 hostOps0_5 hostOps0_6 hostOps0_7 hostOps0_8 hostOps0_9 hostOps0_10 hostOps0_11
    hostOps0_12 hostOps0_13 hostOps0_14 hostOps0_15 hostOps0_16
  simp only [List.flatten_cons, List.flatten_nil, List.append_nil, List.cons_append, List.nil_append,
    StableHlo.TRef.binary, StableHlo.TRef.unary, StableHlo.TRef.toBuf, StableHlo.TRef.ofBuf, cast_eq]
  after_results_simp
  dsimp only [Matrix.cons_val]
  after_results_simp
  refine ⟨fun n => ?_, fun n => ?_, fun g s l => ?_, fun g l => ?_, fun n => ?_, fun a n => ?_, fun a n => ?_, fun n => ?_⟩
  · rw [show (⟨n.val / 128, by omega⟩ : Fin 1160) = ⟨0 + n.val / 128, by omega⟩ from Fin.ext (Nat.zero_add _).symm]
    refine (piece _ _ 0 0 (by exact (by decide : 0 < 8)) _ rfl rfl k ⟨n.val / 128, by omega⟩ _ _).trans ?_; pointwise
    all_goals (rw [dif_pos (by omega)]; congr 1; congr 1 <;> exact Fin.ext (by dsimp only; omega))
  · refine (piece _ _ 1 16 (by exact (by decide : 1 < 8)) _ rfl rfl k ⟨n.val / 128, by omega⟩ _ _).trans ?_; pointwise
    all_goals (rw [dif_pos (by omega)]; congr 1; congr 1 <;> exact Fin.ext (by dsimp only; omega))
  · refine (piece _ _ 2 32 (by exact (by decide : 2 < 8)) _ rfl rfl k ⟨g.val * 128 + s.val, by omega⟩ _ _).trans ?_; pointwise
    all_goals (rw [dif_pos (by omega)]; congr 1; congr 1 <;> exact Fin.ext (by dsimp only; omega))
  · refine (piece _ _ 3 1056 (by exact (by decide : 3 < 8)) _ rfl rfl k g _ _).trans ?_; pointwise
    all_goals (rw [dif_pos (by omega)]; congr 1; congr 1 <;> exact Fin.ext (by dsimp only; omega))
  · refine (piece _ _ 4 1064 (by exact (by decide : 4 < 8)) _ rfl rfl k ⟨n.val / 128, by omega⟩ _ _).trans ?_; pointwise
    all_goals (rw [dif_pos (by omega)]; congr 1; congr 1 <;> exact Fin.ext (by dsimp only; omega))
  · refine (piece _ _ 5 1080 (by exact (by decide : 5 < 8)) _ rfl rfl k ⟨a.val * 16 + n.val / 128, by omega⟩ _ _).trans ?_; pointwise
    all_goals (rw [dif_pos (by omega)]; congr 1; congr 1 <;> exact Fin.ext (by dsimp only; omega))
  · refine (piece _ _ 6 1112 (by exact (by decide : 6 < 8)) _ rfl rfl k ⟨a.val * 16 + n.val / 128, by omega⟩ _ _).trans ?_; pointwise
    all_goals (rw [dif_pos (by omega)]; congr 1; congr 1 <;> exact Fin.ext (by dsimp only; omega))
  · refine (piece _ _ 7 1144 (by exact (by decide : 7 < 8)) _ rfl rfl k ⟨n.val / 128, by omega⟩ _ _).trans ?_; pointwise
    all_goals (rw [dif_pos (by omega)]; congr 1; congr 1 <;> exact Fin.ext (by dsimp only; omega))

/-- The results' buffers after the slices. -/
theorem finals (c : Dev nD) :
    Pipeline.afterTail₀ cfgs (dats m) 0 (V0 m) [hostOps1] c main_v27 = val_main_v0 (F := Ideal) (m ((c : Thread nD τ).loc main_arg0))
    ∧ Pipeline.afterTail₀ cfgs (dats m) 0 (V0 m) [hostOps1] c main_v30 = val_main_v1 (F := Ideal) (m ((c : Thread nD τ).loc main_arg1))
    ∧ Pipeline.afterTail₀ cfgs (dats m) 0 (V0 m) [hostOps1] c main_v33 = val_main_v2 (F := Ideal) (m ((c : Thread nD τ).loc main_arg2))
    ∧ Pipeline.afterTail₀ cfgs (dats m) 0 (V0 m) [hostOps1] c main_v36 = val_main_v3 (F := Ideal) (m ((c : Thread nD τ).loc main_arg3))
    ∧ Pipeline.afterTail₀ cfgs (dats m) 0 (V0 m) [hostOps1] c main_v39 = val_main_v4 (F := Ideal) (m ((c : Thread nD τ).loc main_arg4))
    ∧ Pipeline.afterTail₀ cfgs (dats m) 0 (V0 m) [hostOps1] c main_v42 = val_main_v5 (F := Ideal) (m ((c : Thread nD τ).loc main_arg5))
    ∧ Pipeline.afterTail₀ cfgs (dats m) 0 (V0 m) [hostOps1] c main_v45 = val_main_v6 (F := Ideal) (m ((c : Thread nD τ).loc main_arg6))
    ∧ Pipeline.afterTail₀ cfgs (dats m) 0 (V0 m) [hostOps1] c main_v47 = val_main_v7 (F := Ideal) (m ((c : Thread nD τ).loc main_arg7)) := by
  unfold Pipeline.afterTail₀ hostOps1
  simp only [List.flatten_cons, List.flatten_nil, List.append_nil, List.cons_append, List.nil_append]
  after_results_simp
  rw [array m c]
  refine ⟨?_, ?_, ?_, ?_, ?_, ?_, ?_, ?_⟩ <;> funext i <;> idx_vars i <;>
    pointwise [val_main_v0, val_main_v1, val_main_v2, val_main_v3, val_main_v4, val_main_v5, val_main_v6, val_main_v7,
      val_main_cst, val_main_cst_0, val_main_cst_1, val_main_cst_2, val_main_cst_3, val_main_cst_4, val_main_cst_5, val_main_cst_6]
  all_goals refine Finset.sum_congr (M := EReal) rfl fun k _ => ?_
  · exact (slots m c k).1 i1
  · exact (slots m c k).2.1 i1
  · exact (slots m c k).2.2.1 i1 i2 i3
  · exact (slots m c k).2.2.2.1 i1 i2
  · exact (slots m c k).2.2.2.2.1 i1
  · exact (slots m c k).2.2.2.2.2.1 i0 i1
  · exact (slots m c k).2.2.2.2.2.2.1 i0 i1
  · exact (slots m c k).2.2.2.2.2.2.2 i0

/-- Every run ends with the results' buffers at the reference's sums and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v27) = val_main_v0 (F := Ideal) (m ((c : Thread nD τ).loc main_arg0))
      ∧ r.2.mem ((c : Thread nD τ).loc main_v30) = val_main_v1 (F := Ideal) (m ((c : Thread nD τ).loc main_arg1))
      ∧ r.2.mem ((c : Thread nD τ).loc main_v33) = val_main_v2 (F := Ideal) (m ((c : Thread nD τ).loc main_arg2))
      ∧ r.2.mem ((c : Thread nD τ).loc main_v36) = val_main_v3 (F := Ideal) (m ((c : Thread nD τ).loc main_arg3))
      ∧ r.2.mem ((c : Thread nD τ).loc main_v39) = val_main_v4 (F := Ideal) (m ((c : Thread nD τ).loc main_arg4))
      ∧ r.2.mem ((c : Thread nD τ).loc main_v42) = val_main_v5 (F := Ideal) (m ((c : Thread nD τ).loc main_arg5))
      ∧ r.2.mem ((c : Thread nD τ).loc main_v45) = val_main_v6 (F := Ideal) (m ((c : Thread nD τ).loc main_arg6))
      ∧ r.2.mem ((c : Thread nD τ).loc main_v47) = val_main_v7 (F := Ideal) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h c).2 main_v27 (Pipeline.mem_restRefs_of main_v27 (by decide) (by decide))).trans (finals m c).1,
    ((h c).2 main_v30 (Pipeline.mem_restRefs_of main_v30 (by decide) (by decide))).trans (finals m c).2.1,
    ((h c).2 main_v33 (Pipeline.mem_restRefs_of main_v33 (by decide) (by decide))).trans (finals m c).2.2.1,
    ((h c).2 main_v36 (Pipeline.mem_restRefs_of main_v36 (by decide) (by decide))).trans (finals m c).2.2.2.1,
    ((h c).2 main_v39 (Pipeline.mem_restRefs_of main_v39 (by decide) (by decide))).trans (finals m c).2.2.2.2.1,
    ((h c).2 main_v42 (Pipeline.mem_restRefs_of main_v42 (by decide) (by decide))).trans (finals m c).2.2.2.2.2.1,
    ((h c).2 main_v45 (Pipeline.mem_restRefs_of main_v45 (by decide) (by decide))).trans (finals m c).2.2.2.2.2.2.1,
    ((h c).2 main_v47 (Pipeline.mem_restRefs_of main_v47 (by decide) (by decide))).trans (finals m c).2.2.2.2.2.2.2,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m ρ)

end Cert.Kernel17Ideal.Small

end
-- ==== Proof.Adam.lean ====
module
public import proofs.«01_k».proof.Proof.Gen.Kernel19Ideal.Value
public import proofs.«01_k».proof.Proof.Gen.Reference19Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel19Ideal.Adam
open Cert.Kernel19Ideal Cert.Kernel19Ideal.Gen
open Cert.Reference19Ideal.Read

variable (m : (ℓ : Loc nD τ sig) → Buf (Elt Ideal) ℓ)

theorem idx : ∀ t : Fin cfg0.N, win0_0.index t = ![0, t.val, 0] ∧ win0_1.index t = ![0, t.val, 0] ∧ win0_2.index t = ![0, t.val, 0]
    ∧ win0_3.index t = ![0, 0, t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

/-- Row `r` of point `t`'s rows, in the whole matrix. -/
def row (t : Fin cfg0.N) (r : Fin 256) : Fin 2048 := ⟨t.val * 256 + r.val, by have : t.val < 8 := lt_of_lt_of_eq t.isLt N_0; omega⟩

/-- The weights, the two moments, and a result's contents before the call. -/
abbrev Both := FVec Ideal S2x2048x2048 .f32

abbrev W (c : Dev nD) : Both := m ((c : Thread nD τ).loc main_arg0)
abbrev M (c : Dev nD) : Both := m ((c : Thread nD τ).loc main_arg1)
abbrev U (c : Dev nD) : Both := m ((c : Thread nD τ).loc main_arg2)
abbrev P (c : Dev nD) : FVec Ideal S4x1x2048x2048 .bf16 := m ((c : Thread nD τ).loc main_arg3)

theorem blocks (c : Dev nD) (t : Fin cfg0.N) (r : Fin 256) (l : Fin 2048) :
    (iblk m c 0 t : FVec Ideal S1x256x2048 .f32) (ix3 0 r l) = W m c (ix3 0 (row t r) l)
    ∧ (iblk m c 1 t : FVec Ideal S1x256x2048 .f32) (ix3 0 r l) = M m c (ix3 0 (row t r) l)
    ∧ (iblk m c 2 t : FVec Ideal S1x256x2048 .f32) (ix3 0 r l) = U m c (ix3 0 (row t r) l) := by
  unfold row
  refine ⟨?_, ?_, ?_⟩ <;> blk_point [iblk, V, idx t]

theorem part (c : Dev nD) (t : Fin cfg0.N) (k : Fin 4) (r : Fin 256) (l : Fin 2048) :
    (iblk m c 3 t : FVec Ideal S4x1x256x2048 .bf16) (ix4 k 0 r l) = P m c (ix4 k 0 (row t r) l) := by
  unfold row; blk_point [iblk, V, idx t]

/-- Where a result's block lies: rows of the first layer. -/
theorem at_row (t : Fin cfg0.N) (r : Fin 256) (l : Fin 2048) :
    ((cfg0.win 4).blk t).view.emb (ix3 0 r l) = ix3 0 (row t r) l ∧ ((cfg0.win 5).blk t).view.emb (ix3 0 r l) = ix3 0 (row t r) l
    ∧ ((cfg0.win 6).blk t).view.emb (ix3 0 r l) = ix3 0 (row t r) l ∧ ((cfg0.win 7).blk t).view.emb (ix3 0 r l) = ix3 0 (row t r) l := by
  unfold row
  refine ⟨?_, ?_, ?_, ?_⟩ <;> blk_ext [idx t]

/-- A block's index, by row and column. -/
theorem block_index (y : S1x256x2048.Idx) : ∃ (r : Fin 256) (l : Fin 2048), y = ix3 0 r l :=
  ⟨y 1, y 2, (eq_ix3 y).trans (congrArg (fun a => ix3 a (y 1) (y 2)) (Subsingleton.elim _ _))⟩

/-- An index of the second layer. -/
theorem second (i : S2x2048x2048.Idx) (h : ¬ (i 0 : ℕ) / 1 = 0) : i = ix3 1 (i 1) (i 2) :=
  (eq_ix3 i).trans (congrArg (fun a => ix3 a (i 1) (i 2)) (Fin.ext (show (i 0 : ℕ) = 1 by have : (i 0 : ℕ) < 2 := (i 0).isLt; omega)))

/-- The sum of the four parts' blocks is the reference's gradient. -/
theorem grad_point (c : Dev nD) (t : Fin cfg0.N) (r : Fin 256) (l : Fin 2048) :
    (P m c (ix4 0 0 (row t r) l) + P m c (ix4 1 0 (row t r) l) + P m c (ix4 2 0 (row t r) l) + P m c (ix4 3 0 (row t r) l) : EReal)
      = val_main_v2 (F := Ideal) (P m c) (ix2 (row t r) l) := by
  pointwise [val_main_v2, val_main_v1, val_main_v0, val_main_cst]
  exact (Fin.sum_univ_four (M := EReal) fun k => P m c (ix4 k 0 (row t r) l)).symm

theorem final_grad (c : Dev nD) : (dats m 0 c).arrAt 4 (cfgs 0).N = val_main_v37 (F := Ideal) (P m c) (m ((c : Thread nD τ).loc main_arg4)) := by
  refine ((dats m 0 c).arrAt_eq_of_coversWhere 4 (val_main_v37 (F := Ideal) (P m c) (m ((c : Thread nD τ).loc main_arg4)))
    (P := fun i => ((i 0 : Fin _) : ℕ) / 1 = 0) (fun β => β (0 : Fin _) = 0) (by decide +kernel) (fun t _ y => ?_) (fun j => Iff.rfl)).trans (funext fun i => ?_)
  · obtain ⟨r, l, rfl⟩ := block_index y
    blk_simp
    rw [(at_row t r l).1, after0_4]
    unfold outsAt0
    frame_out
    pointwise [k0_pay2, k0_pay6]
    simp only [part, (blocks m c t r l).1, (blocks m c t r l).2.1, (blocks m c t r l).2.2, grad_point]
    pointwise [val_main_v37, val_main_v35]
  · split
    · rfl
    · next h =>
      rw [second i h]
      show V m c main_v0_0 _ = _
      unfold V hostOps0
      after_results
      pointwise [val_main_v37, val_main_v36, val_main_v34, val_main_v33]
      rfl

theorem final_delta (c : Dev nD) : (dats m 0 c).arrAt 5 (cfgs 0).N = val_main_v42 (F := Ideal) (W m c) (M m c) (U m c) (P m c) (m ((c : Thread nD τ).loc main_arg5)) := by
  refine ((dats m 0 c).arrAt_eq_of_coversWhere 5 (val_main_v42 (F := Ideal) (W m c) (M m c) (U m c) (P m c) (m ((c : Thread nD τ).loc main_arg5)))
    (P := fun i => ((i 0 : Fin _) : ℕ) / 1 = 0) (fun β => β (0 : Fin _) = 0) (by decide +kernel) (fun t _ y => ?_) (fun j => Iff.rfl)).trans (funext fun i => ?_)
  · obtain ⟨r, l, rfl⟩ := block_index y
    blk_simp
    rw [(at_row t r l).2.1, after0_5]
    unfold outsAt0
    frame_out
    pointwise [k0_pay3, k0_pay1, k0_pay6, k0_pay7, k0_pay8, k0_pay9, k0_pay10]
    simp only [part, (blocks m c t r l).1, (blocks m c t r l).2.1, (blocks m c t r l).2.2, grad_point]
    pointwise [val_main_v42, val_main_v40, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst_0, val_main_cst_1, val_main_cst_2, val_main_cst_3, val_main_cst_4, val_main_cst_5, val_main_cst_6, val_main_cst_7, val_main_cst_8]
  · split
    · rfl
    · next h =>
      rw [second i h]
      show V m c main_v0_1 _ = _
      unfold V hostOps0
      after_results
      pointwise [val_main_v42, val_main_v41, val_main_v39, val_main_v38]
      rfl

theorem final_first (c : Dev nD) : (dats m 0 c).arrAt 6 (cfgs 0).N = val_main_v47 (F := Ideal) (M m c) (P m c) (m ((c : Thread nD τ).loc main_arg6)) := by
  refine ((dats m 0 c).arrAt_eq_of_coversWhere 6 (val_main_v47 (F := Ideal) (M m c) (P m c) (m ((c : Thread nD τ).loc main_arg6)))
    (P := fun i => ((i 0 : Fin _) : ℕ) / 1 = 0) (fun β => β (0 : Fin _) = 0) (by decide +kernel) (fun t _ y => ?_) (fun j => Iff.rfl)).trans (funext fun i => ?_)
  · obtain ⟨r, l, rfl⟩ := block_index y
    blk_simp
    rw [(at_row t r l).2.2.1, after0_6]
    unfold outsAt0
    frame_out
    pointwise [k0_pay4, k0_pay8, k0_pay6]
    simp only [part, (blocks m c t r l).1, (blocks m c t r l).2.1, (blocks m c t r l).2.2, grad_point]
    pointwise [val_main_v47, val_main_v45, val_main_v13, val_main_v12, val_main_v11, val_main_v10, val_main_v9, val_main_v6, val_main_v5, val_main_cst_0, val_main_cst_1]
  · split
    · rfl
    · next h =>
      rw [second i h]
      show V m c main_v0_2 _ = _
      unfold V hostOps0
      after_results
      pointwise [val_main_v47, val_main_v46, val_main_v44, val_main_v43]
      rfl

theorem final_second (c : Dev nD) : (dats m 0 c).arrAt 7 (cfgs 0).N = val_main_v52 (F := Ideal) (U m c) (P m c) (m ((c : Thread nD τ).loc main_arg7)) := by
  refine ((dats m 0 c).arrAt_eq_of_coversWhere 7 (val_main_v52 (F := Ideal) (U m c) (P m c) (m ((c : Thread nD τ).loc main_arg7)))
    (P := fun i => ((i 0 : Fin _) : ℕ) / 1 = 0) (fun β => β (0 : Fin _) = 0) (by decide +kernel) (fun t _ y => ?_) (fun j => Iff.rfl)).trans (funext fun i => ?_)
  · obtain ⟨r, l, rfl⟩ := block_index y
    blk_simp
    rw [(at_row t r l).2.2.2, after0_7]
    unfold outsAt0
    frame_out
    pointwise [k0_pay5, k0_pay1, k0_pay9, k0_pay10, k0_pay6]
    simp only [part, (blocks m c t r l).1, (blocks m c t r l).2.1, (blocks m c t r l).2.2, grad_point]
    pointwise [val_main_v52, val_main_v50, val_main_v19, val_main_v18, val_main_v17, val_main_v16, val_main_v15, val_main_v14, val_main_v8, val_main_v7, val_main_cst_2, val_main_cst_3]
  · split
    · rfl
    · next h =>
      rw [second i h]
      show V m c main_v0_3 _ = _
      unfold V hostOps0
      after_results
      pointwise [val_main_v52, val_main_v51, val_main_v49, val_main_v48]
      rfl

end Cert.Kernel19Ideal.Adam

end
-- ==== Proof.AdamSmall.lean ====
module
public import proofs.«01_k».proof.Proof.Gen.Kernel18Ideal.Frame
public import proofs.«01_k».proof.Proof.Gen.Reference18Ideal.Read
public import proofs.«01_k».proof.Proof.Reals
public import Idealize.ShloMosaic.Lib.Pipeline.ValueKit
public import Idealize.ShloMosaic.Lib.Pointwise
public import Idealize.ShloMosaic.Lib.Pipeline.ReadBack
@[expose] public section
set_option maxRecDepth 16384
noncomputable section
open Idealize.ShloMosaic Idealize.ShloMosaic.TcCoe Idealize.SL.Sem
open Idealize.ShloMosaic.Pipeline (Dat)
namespace Cert.Kernel18Ideal.AdamSmall
open Cert.Kernel18Ideal Cert.Kernel18Ideal.Gen
open Cert.Reference18Ideal.Read

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The packed weights, gradients and moments. -/
abbrev Packed := FVec Ideal S1152x128 .f32

abbrev W (c : Dev nD) : Packed := V m c main_v23
abbrev G (c : Dev nD) : Packed := V m c main_v47
abbrev M (c : Dev nD) : Packed := V m c main_v71
abbrev U (c : Dev nD) : Packed := V m c main_v95

/-- What the call leaves in its three results: the update and the two moments. -/
abbrev Delta (c : Dev nD) : Packed := k0_pay4 (F := Ideal) (W m c) (G m c) (M m c) (U m c)
abbrev First (c : Dev nD) : Packed := k0_pay2 (F := Ideal) (G m c) (M m c)
abbrev Second (c : Dev nD) : Packed := k0_pay3 (F := Ideal) (G m c) (U m c)

theorem block (c : Dev nD) (t : Fin cfg0.N) : (iblk m c 0 t : Packed) = W m c ∧ (iblk m c 1 t : Packed) = G m c
    ∧ (iblk m c 2 t : Packed) = M m c ∧ (iblk m c 3 t : Packed) = U m c := by
  refine ⟨?_, ?_, ?_, ?_⟩ <;> funext i <;> rw [eq_ix2 i] <;> blk_point [iblk, V, idx t]

theorem whole (t : Fin cfg0.N) (r : Fin 1152) (l : Fin 128) : ((cfg0.win 4).blk t).view.emb (ix2 r l) = ix2 r l
    ∧ ((cfg0.win 5).blk t).view.emb (ix2 r l) = ix2 r l ∧ ((cfg0.win 6).blk t).view.emb (ix2 r l) = ix2 r l := by
  refine ⟨?_, ?_, ?_⟩ <;> blk_ext [idx t]

theorem packed (c : Dev nD) : (dats m 0 c).arrAt 4 (cfgs 0).N = Delta m c ∧ (dats m 0 c).arrAt 5 (cfgs 0).N = First m c
    ∧ (dats m 0 c).arrAt 6 (cfgs 0).N = Second m c := by
  refine ⟨(dats m 0 c).arrAt_eq_of_covers 4 _ (by decide +kernel) fun t _ y => ?_, (dats m 0 c).arrAt_eq_of_covers 5 _ (by decide +kernel) fun t _ y => ?_,
    (dats m 0 c).arrAt_eq_of_covers 6 _ (by decide +kernel) fun t _ y => ?_⟩
  all_goals
    obtain ⟨r, l, rfl⟩ : ∃ (r : Fin 1152) (l : Fin 128), y = ix2 r l := ⟨_, _, eq_ix2 (y : S1152x128.Idx)⟩
    blk_simp
  · rw [(whole t r l).1, after0_4]; frame_out
    rw [(block m c t).1, (block m c t).2.1, (block m c t).2.2.1, (block m c t).2.2.2]
  · rw [(whole t r l).2.1, after0_5]; frame_out
    rw [(block m c t).2.1, (block m c t).2.2.1]
  · rw [(whole t r l).2.2, after0_6]; frame_out
    rw [(block m c t).2.1, (block m c t).2.2.2]

theorem arrays (c : Dev nD) :
    Pipeline.withArrays (cfgs 0).spec c (V0 m c) (fun w => (dats m 0 c).arrAt w (cfgs 0).N) (Proc.devRef .tc main_v96_0) = Delta m c
    ∧ Pipeline.withArrays (cfgs 0).spec c (V0 m c) (fun w => (dats m 0 c).arrAt w (cfgs 0).N) (Proc.devRef .tc main_v96_1) = First m c
    ∧ Pipeline.withArrays (cfgs 0).spec c (V0 m c) (fun w => (dats m 0 c).arrAt w (cfgs 0).N) (Proc.devRef .tc main_v96_2) = Second m c :=
  ⟨(Pipeline.withArrays_arr (cfgs 0).spec launch0.win.arr_inj c (V0 m c) (fun w => (dats m 0 c).arrAt w (cfgs 0).N) 4).trans (packed m c).1,
    (Pipeline.withArrays_arr (cfgs 0).spec launch0.win.arr_inj c (V0 m c) (fun w => (dats m 0 c).arrAt w (cfgs 0).N) 5).trans (packed m c).2.1,
    (Pipeline.withArrays_arr (cfgs 0).spec launch0.win.arr_inj c (V0 m c) (fun w => (dats m 0 c).arrAt w (cfgs 0).N) 6).trans (packed m c).2.2⟩

/-- A piece of the packed rows, read at one of its rows. -/
theorem piece {n : ℕ} (xs : List ((s : Shape) × (s.Idx → Ideal .f32))) (h : Shape.Concatenates (xs.map (·.1)) S1152x128 0)
    (p off : ℕ) (hp : p < xs.length) (x : (⟨2, ![n, 128]⟩ : Shape).Idx → Ideal .f32) (hx : xs[p] = ⟨_, x⟩)
    (hoff : (((xs.take p).map (·.1)).map fun s => if h : s.rank = 2 then s.size ((0 : Fin 2).cast h.symm) else 0).sum = off)
    (r : Fin n) (l : Fin 128) (hr : off + r.val < 1152) :
    concatenate S1152x128 0 xs h (ix2 ⟨off + r.val, hr⟩ l) = x (ix2 r l) := by
  refine concatenate_apply_piece (t := S1152x128) 0 xs h _ p hp _ x hx rfl off hoff (ix2 r l) (fun b hb => ?_) rfl
  fin_cases b
  · exact absurd rfl hb
  · rfl

/-- The packed rows hold the eight arrays' entries, one array after the other. -/
def Holds (z : Packed) (a : FVec Ideal S1x2048 .f32) (b : FVec Ideal S1x2048 .f32) (c : FVec Ideal S1x8x128x128 .f32) (d : FVec Ideal S1x8x128 .f32) (e : FVec Ideal S1x512 .f32) (f : FVec Ideal S2x2048 .f32) (g : FVec Ideal S2x2048 .f32) (h : FVec Ideal S2048 .f32) : Prop :=
    (∀ n : Fin 2048, z (ix2 ⟨n.val / 128, by omega⟩ ⟨n.val % 128, by omega⟩) = a (ix2 0 n))
    ∧ (∀ n : Fin 2048, z (ix2 ⟨16 + n.val / 128, by omega⟩ ⟨n.val % 128, by omega⟩) = b (ix2 0 n))
    ∧ (∀ (q : Fin 8) (s l : Fin 128), z (ix2 ⟨32 + (q.val * 128 + s.val), by omega⟩ l) = c (ix4 0 q s l))
    ∧ (∀ (q : Fin 8) (l : Fin 128), z (ix2 ⟨1056 + q.val, by omega⟩ l) = d (ix3 0 q l))
    ∧ (∀ n : Fin 512, z (ix2 ⟨1064 + n.val / 128, by omega⟩ ⟨n.val % 128, by omega⟩) = e (ix2 0 n))
    ∧ (∀ (p : Fin 2) (n : Fin 2048), z (ix2 ⟨1072 + (p.val * 16 + n.val / 128), by omega⟩ ⟨n.val % 128, by omega⟩) = f (ix2 p n))
    ∧ (∀ (p : Fin 2) (n : Fin 2048), z (ix2 ⟨1104 + (p.val * 16 + n.val / 128), by omega⟩ ⟨n.val % 128, by omega⟩) = g (ix2 p n))
    ∧ (∀ n : Fin 2048, z (ix2 ⟨1136 + n.val / 128, by omega⟩ ⟨n.val % 128, by omega⟩) = h (ix1 n))

theorem pack_holds (o : FVec Ideal S_ .f32) (a : FVec Ideal S1x2048 .f32) (b : FVec Ideal S1x2048 .f32) (c : FVec Ideal S1x8x128x128 .f32) (d : FVec Ideal S1x8x128 .f32) (e : FVec Ideal S1x512 .f32) (f : FVec Ideal S2x2048 .f32) (g : FVec Ideal S2x2048 .f32) (h : FVec Ideal S2048 .f32) :
    Holds (concatenate S1152x128 0 [⟨S16x128, fun i => shapeCast S16x128 (pad S2048 ![0] ![0] ![0] (fun i => shapeCast S2048 a shapeCasts_S1x2048_S2048 i) o pads_S2048_S2048_000 h_S_) shapeCasts_S2048_S16x128 i⟩,
      ⟨S16x128, fun i => shapeCast S16x128 (pad S2048 ![0] ![0] ![0] (fun i => shapeCast S2048 b shapeCasts_S1x2048_S2048 i) o pads_S2048_S2048_000 h_S_) shapeCasts_S2048_S16x128 i⟩,
      ⟨S1024x128, fun i => shapeCast S1024x128 (pad S131072 ![0] ![0] ![0] (fun i => shapeCast S131072 c shapeCasts_S1x8x128x128_S131072 i) o pads_S131072_S131072_000 h_S_) shapeCasts_S131072_S1024x128 i⟩,
      ⟨S8x128, fun i => shapeCast S8x128 (pad S1024 ![0] ![0] ![0] (fun i => shapeCast S1024 d shapeCasts_S1x8x128_S1024 i) o pads_S1024_S1024_000 h_S_) shapeCasts_S1024_S8x128 i⟩,
      ⟨S8x128, fun i => shapeCast S8x128 (pad S1024 ![0] ![512] ![0] (fun i => shapeCast S512 e shapeCasts_S1x512_S512 i) o pads_S512_S1024_05120 h_S_) shapeCasts_S1024_S8x128 i⟩,
      ⟨S32x128, fun i => shapeCast S32x128 (pad S4096 ![0] ![0] ![0] (fun i => shapeCast S4096 f shapeCasts_S2x2048_S4096 i) o pads_S4096_S4096_000 h_S_) shapeCasts_S4096_S32x128 i⟩,
      ⟨S32x128, fun i => shapeCast S32x128 (pad S4096 ![0] ![0] ![0] (fun i => shapeCast S4096 g shapeCasts_S2x2048_S4096 i) o pads_S4096_S4096_000 h_S_) shapeCasts_S4096_S32x128 i⟩,
      ⟨S16x128, fun i => shapeCast S16x128 (pad S2048 ![0] ![0] ![0] h o pads_S2048_S2048_000 h_S_) shapeCasts_S2048_S16x128 i⟩]
      concatenates_S16x128_S16x128_S1024x128_S8x128_S8x128_S32x128_S32x128_S16x128_S1152x128_d0) a b c d e f g h := by
  refine ⟨fun n => ?_, fun n => ?_, fun q s l => ?_, fun q l => ?_, fun n => ?_, fun p n => ?_, fun p n => ?_, fun n => ?_⟩
  · rw [show (⟨n.val / 128, by omega⟩ : Fin 1152) = ⟨0 + n.val / 128, by omega⟩ from Fin.ext (Nat.zero_add _).symm]
    refine (piece _ _ 0 0 (by exact (by decide : 0 < 8)) _ rfl rfl ⟨n.val / 128, by omega⟩ _ _).trans ?_; pointwise
    all_goals (rw [dif_pos (by omega)]; congr 1; congr 1 <;> exact Fin.ext (by dsimp only; omega))
  · refine (piece _ _ 1 16 (by exact (by decide : 1 < 8)) _ rfl rfl ⟨n.val / 128, by omega⟩ _ _).trans ?_; pointwise
    all_goals (rw [dif_pos (by omega)]; congr 1; congr 1 <;> exact Fin.ext (by dsimp only; omega))
  · refine (piece _ _ 2 32 (by exact (by decide : 2 < 8)) _ rfl rfl ⟨q.val * 128 + s.val, by omega⟩ _ _).trans ?_; pointwise
    all_goals (rw [dif_pos (by omega)]; congr 1; congr 1 <;> exact Fin.ext (by dsimp only; omega))
  · refine (piece _ _ 3 1056 (by exact (by decide : 3 < 8)) _ rfl rfl q _ _).trans ?_; pointwise
    all_goals (rw [dif_pos (by omega)]; congr 1; congr 1 <;> exact Fin.ext (by dsimp only; omega))
  · refine (piece _ _ 4 1064 (by exact (by decide : 4 < 8)) _ rfl rfl ⟨n.val / 128, by omega⟩ _ _).trans ?_; pointwise
    all_goals (rw [dif_pos (by omega)]; congr 1; congr 1 <;> exact Fin.ext (by dsimp only; omega))
  · refine (piece _ _ 5 1072 (by exact (by decide : 5 < 8)) _ rfl rfl ⟨p.val * 16 + n.val / 128, by omega⟩ _ _).trans ?_; pointwise
    all_goals (rw [dif_pos (by omega)]; congr 1; congr 1 <;> exact Fin.ext (by dsimp only; omega))
  · refine (piece _ _ 6 1104 (by exact (by decide : 6 < 8)) _ rfl rfl ⟨p.val * 16 + n.val / 128, by omega⟩ _ _).trans ?_; pointwise
    all_goals (rw [dif_pos (by omega)]; congr 1; congr 1 <;> exact Fin.ext (by dsimp only; omega))
  · refine (piece _ _ 7 1136 (by exact (by decide : 7 < 8)) _ rfl rfl ⟨n.val / 128, by omega⟩ _ _).trans ?_; pointwise
    all_goals (rw [dif_pos (by omega)]; congr 1; congr 1 <;> exact Fin.ext (by dsimp only; omega))

set_option maxHeartbeats 3200000 in
theorem holds (c : Dev nD) :
    Holds (W m c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
    ∧ Holds (G m c) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
    ∧ Holds (M m c) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
    ∧ Holds (U m c) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) := by
  unfold Holds W G M U V V0 hostOps0 hostOps0_1 hostOps0_2 hostOps0_3 hostOps0_4 hostOps0_5 hostOps0_6 hostOps0_7 hostOps0_8 hostOps0_9 hostOps0_10 hostOps0_11 hostOps0_12 hostOps0_13 hostOps0_14 hostOps0_15 hostOps0_16 hostOps0_17 hostOps0_18 hostOps0_19 hostOps0_20 hostOps0_21 hostOps0_22 hostOps0_23 hostOps0_24 hostOps0_25 hostOps0_26 hostOps0_27 hostOps0_28 hostOps0_29 hostOps0_30 hostOps0_31 hostOps0_32 hostOps0_33 hostOps0_34 hostOps0_35 hostOps0_36 hostOps0_37 hostOps0_38 hostOps0_39 hostOps0_40 hostOps0_41 hostOps0_42 hostOps0_43 hostOps0_44 hostOps0_45 hostOps0_46 hostOps0_47 hostOps0_48 hostOps0_49 hostOps0_50 hostOps0_51 hostOps0_52 hostOps0_53 hostOps0_54 hostOps0_55 hostOps0_56 hostOps0_57 hostOps0_58 hostOps0_59 hostOps0_60 hostOps0_61 hostOps0_62 hostOps0_63 hostOps0_64
  simp only [List.flatten_cons, List.flatten_nil, List.append_nil, List.cons_append, List.nil_append,
    StableHlo.TRef.binary, StableHlo.TRef.unary, StableHlo.TRef.toBuf, StableHlo.TRef.ofBuf, cast_eq]
  after_results_simp
  dsimp only [Matrix.cons_val]
  after_results_simp
  exact ⟨pack_holds _ _ _ _ _ _ _ _ _, pack_holds _ _ _ _ _ _ _ _ _, pack_holds _ _ _ _ _ _ _ _ _, pack_holds _ _ _ _ _ _ _ _ _⟩

/-- AdamW of one entry: the update and the two moments. -/
def first (g m : Ideal .f32) : Ideal .f32 := k0_pay2 (F := Ideal) (fun _ => g) (fun _ => m) (ix2 0 0)
def second (g u : Ideal .f32) : Ideal .f32 := k0_pay3 (F := Ideal) (fun _ => g) (fun _ => u) (ix2 0 0)
def delta (w g m u : Ideal .f32) : Ideal .f32 := k0_pay4 (F := Ideal) (fun _ => w) (fun _ => g) (fun _ => m) (fun _ => u) (ix2 0 0)

/-- The results at an entry, from the arguments at that entry. -/
theorem entry (c : Dev nD) {r : Fin 1152} {l : Fin 128} {w g x u : Ideal .f32} (hw : W m c (ix2 r l) = w) (hg : G m c (ix2 r l) = g)
    (hx : M m c (ix2 r l) = x) (hu : U m c (ix2 r l) = u) :
    Delta m c (ix2 r l) = delta w g x u ∧ First m c (ix2 r l) = first g x ∧ Second m c (ix2 r l) = second g u := by
  subst hw hg hx hu
  unfold Delta First Second delta first second
  refine ⟨?_, ?_, ?_⟩ <;> pointwise [k0_pay4, k0_pay3, k0_pay2, k0_pay1]

/-- The reference's updates `d`, first moments `f` and second moments `s`, weight by weight. -/
abbrev d0 (c : Dev nD) : FVec Ideal S1x2048 .f32 := val_main_v23 (F := Ideal) (m ((c : Thread nD τ).loc main_arg0)) (m ((c : Thread nD τ).loc main_arg8)) (m ((c : Thread nD τ).loc main_arg16)) (m ((c : Thread nD τ).loc main_arg24))
abbrev d1 (c : Dev nD) : FVec Ideal S1x2048 .f32 := val_main_v47 (F := Ideal) (m ((c : Thread nD τ).loc main_arg1)) (m ((c : Thread nD τ).loc main_arg9)) (m ((c : Thread nD τ).loc main_arg17)) (m ((c : Thread nD τ).loc main_arg25))
abbrev d2 (c : Dev nD) : FVec Ideal S1x8x128x128 .f32 := val_main_v71 (F := Ideal) (m ((c : Thread nD τ).loc main_arg2)) (m ((c : Thread nD τ).loc main_arg10)) (m ((c : Thread nD τ).loc main_arg18)) (m ((c : Thread nD τ).loc main_arg26))
abbrev d3 (c : Dev nD) : FVec Ideal S1x8x128 .f32 := val_main_v95 (F := Ideal) (m ((c : Thread nD τ).loc main_arg3)) (m ((c : Thread nD τ).loc main_arg11)) (m ((c : Thread nD τ).loc main_arg19)) (m ((c : Thread nD τ).loc main_arg27))
abbrev d4 (c : Dev nD) : FVec Ideal S1x512 .f32 := val_main_v119 (F := Ideal) (m ((c : Thread nD τ).loc main_arg4)) (m ((c : Thread nD τ).loc main_arg12)) (m ((c : Thread nD τ).loc main_arg20)) (m ((c : Thread nD τ).loc main_arg28))
abbrev d5 (c : Dev nD) : FVec Ideal S2x2048 .f32 := val_main_v143 (F := Ideal) (m ((c : Thread nD τ).loc main_arg5)) (m ((c : Thread nD τ).loc main_arg13)) (m ((c : Thread nD τ).loc main_arg21)) (m ((c : Thread nD τ).loc main_arg29))
abbrev d6 (c : Dev nD) : FVec Ideal S2x2048 .f32 := val_main_v167 (F := Ideal) (m ((c : Thread nD τ).loc main_arg6)) (m ((c : Thread nD τ).loc main_arg14)) (m ((c : Thread nD τ).loc main_arg22)) (m ((c : Thread nD τ).loc main_arg30))
abbrev d7 (c : Dev nD) : FVec Ideal S2048 .f32 := val_main_v191 (F := Ideal) (m ((c : Thread nD τ).loc main_arg7)) (m ((c : Thread nD τ).loc main_arg15)) (m ((c : Thread nD τ).loc main_arg23)) (m ((c : Thread nD τ).loc main_arg31))
abbrev f0 (c : Dev nD) : FVec Ideal S1x2048 .f32 := val_main_v4 (F := Ideal) (m ((c : Thread nD τ).loc main_arg8)) (m ((c : Thread nD τ).loc main_arg16))
abbrev f1 (c : Dev nD) : FVec Ideal S1x2048 .f32 := val_main_v28 (F := Ideal) (m ((c : Thread nD τ).loc main_arg9)) (m ((c : Thread nD τ).loc main_arg17))
abbrev f2 (c : Dev nD) : FVec Ideal S1x8x128x128 .f32 := val_main_v52 (F := Ideal) (m ((c : Thread nD τ).loc main_arg10)) (m ((c : Thread nD τ).loc main_arg18))
abbrev f3 (c : Dev nD) : FVec Ideal S1x8x128 .f32 := val_main_v76 (F := Ideal) (m ((c : Thread nD τ).loc main_arg11)) (m ((c : Thread nD τ).loc main_arg19))
abbrev f4 (c : Dev nD) : FVec Ideal S1x512 .f32 := val_main_v100 (F := Ideal) (m ((c : Thread nD τ).loc main_arg12)) (m ((c : Thread nD τ).loc main_arg20))
abbrev f5 (c : Dev nD) : FVec Ideal S2x2048 .f32 := val_main_v124 (F := Ideal) (m ((c : Thread nD τ).loc main_arg13)) (m ((c : Thread nD τ).loc main_arg21))
abbrev f6 (c : Dev nD) : FVec Ideal S2x2048 .f32 := val_main_v148 (F := Ideal) (m ((c : Thread nD τ).loc main_arg14)) (m ((c : Thread nD τ).loc main_arg22))
abbrev f7 (c : Dev nD) : FVec Ideal S2048 .f32 := val_main_v172 (F := Ideal) (m ((c : Thread nD τ).loc main_arg15)) (m ((c : Thread nD τ).loc main_arg23))
abbrev s0 (c : Dev nD) : FVec Ideal S1x2048 .f32 := val_main_v10 (F := Ideal) (m ((c : Thread nD τ).loc main_arg8)) (m ((c : Thread nD τ).loc main_arg24))
abbrev s1 (c : Dev nD) : FVec Ideal S1x2048 .f32 := val_main_v34 (F := Ideal) (m ((c : Thread nD τ).loc main_arg9)) (m ((c : Thread nD τ).loc main_arg25))
abbrev s2 (c : Dev nD) : FVec Ideal S1x8x128x128 .f32 := val_main_v58 (F := Ideal) (m ((c : Thread nD τ).loc main_arg10)) (m ((c : Thread nD τ).loc main_arg26))
abbrev s3 (c : Dev nD) : FVec Ideal S1x8x128 .f32 := val_main_v82 (F := Ideal) (m ((c : Thread nD τ).loc main_arg11)) (m ((c : Thread nD τ).loc main_arg27))
abbrev s4 (c : Dev nD) : FVec Ideal S1x512 .f32 := val_main_v106 (F := Ideal) (m ((c : Thread nD τ).loc main_arg12)) (m ((c : Thread nD τ).loc main_arg28))
abbrev s5 (c : Dev nD) : FVec Ideal S2x2048 .f32 := val_main_v130 (F := Ideal) (m ((c : Thread nD τ).loc main_arg13)) (m ((c : Thread nD τ).loc main_arg29))
abbrev s6 (c : Dev nD) : FVec Ideal S2x2048 .f32 := val_main_v154 (F := Ideal) (m ((c : Thread nD τ).loc main_arg14)) (m ((c : Thread nD τ).loc main_arg30))
abbrev s7 (c : Dev nD) : FVec Ideal S2048 .f32 := val_main_v178 (F := Ideal) (m ((c : Thread nD τ).loc main_arg15)) (m ((c : Thread nD τ).loc main_arg31))

/-- What the call leaves holds the reference's updates and moments. -/
theorem updated (c : Dev nD) : Holds (Delta m c) (d0 m c) (d1 m c) (d2 m c) (d3 m c) (d4 m c) (d5 m c) (d6 m c) (d7 m c)
    ∧ Holds (First m c) (f0 m c) (f1 m c) (f2 m c) (f3 m c) (f4 m c) (f5 m c) (f6 m c) (f7 m c)
    ∧ Holds (Second m c) (s0 m c) (s1 m c) (s2 m c) (s3 m c) (s4 m c) (s5 m c) (s6 m c) (s7 m c) := by
  obtain ⟨hw, hg, hx, hu⟩ := holds m c
  refine ⟨⟨fun n => ?_, fun n => ?_, fun q s l => ?_, fun q l => ?_, fun n => ?_, fun p n => ?_, fun p n => ?_, fun n => ?_⟩, ⟨fun n => ?_, fun n => ?_, fun q s l => ?_, fun q l => ?_, fun n => ?_, fun p n => ?_, fun p n => ?_, fun n => ?_⟩, ⟨fun n => ?_, fun n => ?_, fun q s l => ?_, fun q l => ?_, fun n => ?_, fun p n => ?_, fun p n => ?_, fun n => ?_⟩⟩
  · exact (entry m c (hw.1 n) (hg.1 n) (hx.1 n) (hu.1 n)).1.trans rfl
  · exact (entry m c (hw.2.1 n) (hg.2.1 n) (hx.2.1 n) (hu.2.1 n)).1.trans rfl
  · exact (entry m c (hw.2.2.1 q s l) (hg.2.2.1 q s l) (hx.2.2.1 q s l) (hu.2.2.1 q s l)).1.trans rfl
  · exact (entry m c (hw.2.2.2.1 q l) (hg.2.2.2.1 q l) (hx.2.2.2.1 q l) (hu.2.2.2.1 q l)).1.trans rfl
  · exact (entry m c (hw.2.2.2.2.1 n) (hg.2.2.2.2.1 n) (hx.2.2.2.2.1 n) (hu.2.2.2.2.1 n)).1.trans rfl
  · exact (entry m c (hw.2.2.2.2.2.1 p n) (hg.2.2.2.2.2.1 p n) (hx.2.2.2.2.2.1 p n) (hu.2.2.2.2.2.1 p n)).1.trans rfl
  · exact (entry m c (hw.2.2.2.2.2.2.1 p n) (hg.2.2.2.2.2.2.1 p n) (hx.2.2.2.2.2.2.1 p n) (hu.2.2.2.2.2.2.1 p n)).1.trans rfl
  · exact (entry m c (hw.2.2.2.2.2.2.2 n) (hg.2.2.2.2.2.2.2 n) (hx.2.2.2.2.2.2.2 n) (hu.2.2.2.2.2.2.2 n)).1.trans rfl
  · exact (entry m c (hw.1 n) (hg.1 n) (hx.1 n) (hu.1 n)).2.1.trans rfl
  · exact (entry m c (hw.2.1 n) (hg.2.1 n) (hx.2.1 n) (hu.2.1 n)).2.1.trans rfl
  · exact (entry m c (hw.2.2.1 q s l) (hg.2.2.1 q s l) (hx.2.2.1 q s l) (hu.2.2.1 q s l)).2.1.trans rfl
  · exact (entry m c (hw.2.2.2.1 q l) (hg.2.2.2.1 q l) (hx.2.2.2.1 q l) (hu.2.2.2.1 q l)).2.1.trans rfl
  · exact (entry m c (hw.2.2.2.2.1 n) (hg.2.2.2.2.1 n) (hx.2.2.2.2.1 n) (hu.2.2.2.2.1 n)).2.1.trans rfl
  · exact (entry m c (hw.2.2.2.2.2.1 p n) (hg.2.2.2.2.2.1 p n) (hx.2.2.2.2.2.1 p n) (hu.2.2.2.2.2.1 p n)).2.1.trans rfl
  · exact (entry m c (hw.2.2.2.2.2.2.1 p n) (hg.2.2.2.2.2.2.1 p n) (hx.2.2.2.2.2.2.1 p n) (hu.2.2.2.2.2.2.1 p n)).2.1.trans rfl
  · exact (entry m c (hw.2.2.2.2.2.2.2 n) (hg.2.2.2.2.2.2.2 n) (hx.2.2.2.2.2.2.2 n) (hu.2.2.2.2.2.2.2 n)).2.1.trans rfl
  · exact (entry m c (hw.1 n) (hg.1 n) (hx.1 n) (hu.1 n)).2.2.trans rfl
  · exact (entry m c (hw.2.1 n) (hg.2.1 n) (hx.2.1 n) (hu.2.1 n)).2.2.trans rfl
  · exact (entry m c (hw.2.2.1 q s l) (hg.2.2.1 q s l) (hx.2.2.1 q s l) (hu.2.2.1 q s l)).2.2.trans rfl
  · exact (entry m c (hw.2.2.2.1 q l) (hg.2.2.2.1 q l) (hx.2.2.2.1 q l) (hu.2.2.2.1 q l)).2.2.trans rfl
  · exact (entry m c (hw.2.2.2.2.1 n) (hg.2.2.2.2.1 n) (hx.2.2.2.2.1 n) (hu.2.2.2.2.1 n)).2.2.trans rfl
  · exact (entry m c (hw.2.2.2.2.2.1 p n) (hg.2.2.2.2.2.1 p n) (hx.2.2.2.2.2.1 p n) (hu.2.2.2.2.2.1 p n)).2.2.trans rfl
  · exact (entry m c (hw.2.2.2.2.2.2.1 p n) (hg.2.2.2.2.2.2.1 p n) (hx.2.2.2.2.2.2.1 p n) (hu.2.2.2.2.2.2.1 p n)).2.2.trans rfl
  · exact (entry m c (hw.2.2.2.2.2.2.2 n) (hg.2.2.2.2.2.2.2 n) (hx.2.2.2.2.2.2.2 n) (hu.2.2.2.2.2.2.2 n)).2.2.trans rfl

set_option maxHeartbeats 1600000 in
/-- The results' buffers after the slices. -/
theorem finals (c : Dev nD) :
    Pipeline.afterTail₀ cfgs (dats m) 0 (V0 m) [hostOps1] c main_v99 = d0 m c
    ∧ Pipeline.afterTail₀ cfgs (dats m) 0 (V0 m) [hostOps1] c main_v102 = d1 m c
    ∧ Pipeline.afterTail₀ cfgs (dats m) 0 (V0 m) [hostOps1] c main_v105 = d2 m c
    ∧ Pipeline.afterTail₀ cfgs (dats m) 0 (V0 m) [hostOps1] c main_v108 = d3 m c
    ∧ Pipeline.afterTail₀ cfgs (dats m) 0 (V0 m) [hostOps1] c main_v112 = d4 m c
    ∧ Pipeline.afterTail₀ cfgs (dats m) 0 (V0 m) [hostOps1] c main_v115 = d5 m c
    ∧ Pipeline.afterTail₀ cfgs (dats m) 0 (V0 m) [hostOps1] c main_v118 = d6 m c
    ∧ Pipeline.afterTail₀ cfgs (dats m) 0 (V0 m) [hostOps1] c main_v120 = d7 m c
    ∧ Pipeline.afterTail₀ cfgs (dats m) 0 (V0 m) [hostOps1] c main_v123 = f0 m c
    ∧ Pipeline.afterTail₀ cfgs (dats m) 0 (V0 m) [hostOps1] c main_v126 = f1 m c
    ∧ Pipeline.afterTail₀ cfgs (dats m) 0 (V0 m) [hostOps1] c main_v129 = f2 m c
    ∧ Pipeline.afterTail₀ cfgs (dats m) 0 (V0 m) [hostOps1] c main_v132 = f3 m c
    ∧ Pipeline.afterTail₀ cfgs (dats m) 0 (V0 m) [hostOps1] c main_v136 = f4 m c
    ∧ Pipeline.afterTail₀ cfgs (dats m) 0 (V0 m) [hostOps1] c main_v139 = f5 m c
    ∧ Pipeline.afterTail₀ cfgs (dats m) 0 (V0 m) [hostOps1] c main_v142 = f6 m c
    ∧ Pipeline.afterTail₀ cfgs (dats m) 0 (V0 m) [hostOps1] c main_v144 = f7 m c
    ∧ Pipeline.afterTail₀ cfgs (dats m) 0 (V0 m) [hostOps1] c main_v147 = s0 m c
    ∧ Pipeline.afterTail₀ cfgs (dats m) 0 (V0 m) [hostOps1] c main_v150 = s1 m c
    ∧ Pipeline.afterTail₀ cfgs (dats m) 0 (V0 m) [hostOps1] c main_v153 = s2 m c
    ∧ Pipeline.afterTail₀ cfgs (dats m) 0 (V0 m) [hostOps1] c main_v156 = s3 m c
    ∧ Pipeline.afterTail₀ cfgs (dats m) 0 (V0 m) [hostOps1] c main_v160 = s4 m c
    ∧ Pipeline.afterTail₀ cfgs (dats m) 0 (V0 m) [hostOps1] c main_v163 = s5 m c
    ∧ Pipeline.afterTail₀ cfgs (dats m) 0 (V0 m) [hostOps1] c main_v166 = s6 m c
    ∧ Pipeline.afterTail₀ cfgs (dats m) 0 (V0 m) [hostOps1] c main_v168 = s7 m c := by
  unfold Pipeline.afterTail₀ hostOps1
  simp only [List.flatten_cons, List.flatten_nil, List.append_nil, List.cons_append, List.nil_append]
  after_results_simp
  rw [(arrays m c).1, (arrays m c).2.1, (arrays m c).2.2]
  obtain ⟨hd, hf, hs⟩ := updated m c
  refine ⟨?_, ?_, ?_, ?_, ?_, ?_, ?_, ?_, ?_, ?_, ?_, ?_, ?_, ?_, ?_, ?_, ?_, ?_, ?_, ?_, ?_, ?_, ?_, ?_⟩ <;> funext i <;> idx_vars i <;> pointwise
  all_goals try obtain rfl : i0 = 0 := Subsingleton.elim (α := Fin 1) _ _
  · exact hd.1 i1
  · exact hd.2.1 i1
  · exact hd.2.2.1 i1 i2 i3
  · exact hd.2.2.2.1 i1 i2
  · exact hd.2.2.2.2.1 i1
  · exact hd.2.2.2.2.2.1 i0 i1
  · exact hd.2.2.2.2.2.2.1 i0 i1
  · exact hd.2.2.2.2.2.2.2 i0
  · exact hf.1 i1
  · exact hf.2.1 i1
  · exact hf.2.2.1 i1 i2 i3
  · exact hf.2.2.2.1 i1 i2
  · exact hf.2.2.2.2.1 i1
  · exact hf.2.2.2.2.2.1 i0 i1
  · exact hf.2.2.2.2.2.2.1 i0 i1
  · exact hf.2.2.2.2.2.2.2 i0
  · exact hs.1 i1
  · exact hs.2.1 i1
  · exact hs.2.2.1 i1 i2 i3
  · exact hs.2.2.2.1 i1 i2
  · exact hs.2.2.2.2.1 i1
  · exact hs.2.2.2.2.2.1 i0 i1
  · exact hs.2.2.2.2.2.2.1 i0 i1
  · exact hs.2.2.2.2.2.2.2 i0

/-- Every run ends with the results' buffers at the reference's updates and moments and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v99) = d0 m c
      ∧ r.2.mem ((c : Thread nD τ).loc main_v102) = d1 m c
      ∧ r.2.mem ((c : Thread nD τ).loc main_v105) = d2 m c
      ∧ r.2.mem ((c : Thread nD τ).loc main_v108) = d3 m c
      ∧ r.2.mem ((c : Thread nD τ).loc main_v112) = d4 m c
      ∧ r.2.mem ((c : Thread nD τ).loc main_v115) = d5 m c
      ∧ r.2.mem ((c : Thread nD τ).loc main_v118) = d6 m c
      ∧ r.2.mem ((c : Thread nD τ).loc main_v120) = d7 m c
      ∧ r.2.mem ((c : Thread nD τ).loc main_v123) = f0 m c
      ∧ r.2.mem ((c : Thread nD τ).loc main_v126) = f1 m c
      ∧ r.2.mem ((c : Thread nD τ).loc main_v129) = f2 m c
      ∧ r.2.mem ((c : Thread nD τ).loc main_v132) = f3 m c
      ∧ r.2.mem ((c : Thread nD τ).loc main_v136) = f4 m c
      ∧ r.2.mem ((c : Thread nD τ).loc main_v139) = f5 m c
      ∧ r.2.mem ((c : Thread nD τ).loc main_v142) = f6 m c
      ∧ r.2.mem ((c : Thread nD τ).loc main_v144) = f7 m c
      ∧ r.2.mem ((c : Thread nD τ).loc main_v147) = s0 m c
      ∧ r.2.mem ((c : Thread nD τ).loc main_v150) = s1 m c
      ∧ r.2.mem ((c : Thread nD τ).loc main_v153) = s2 m c
      ∧ r.2.mem ((c : Thread nD τ).loc main_v156) = s3 m c
      ∧ r.2.mem ((c : Thread nD τ).loc main_v160) = s4 m c
      ∧ r.2.mem ((c : Thread nD τ).loc main_v163) = s5 m c
      ∧ r.2.mem ((c : Thread nD τ).loc main_v166) = s6 m c
      ∧ r.2.mem ((c : Thread nD τ).loc main_v168) = s7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31) :=
  (θ_run defs _ _).mono (fun r h c => ⟨((h c).2 main_v99 (Pipeline.mem_restRefs_of main_v99 (by decide) (by decide))).trans (finals m c).1,
    ((h c).2 main_v102 (Pipeline.mem_restRefs_of main_v102 (by decide) (by decide))).trans (finals m c).2.1,
    ((h c).2 main_v105 (Pipeline.mem_restRefs_of main_v105 (by decide) (by decide))).trans (finals m c).2.2.1,
    ((h c).2 main_v108 (Pipeline.mem_restRefs_of main_v108 (by decide) (by decide))).trans (finals m c).2.2.2.1,
    ((h c).2 main_v112 (Pipeline.mem_restRefs_of main_v112 (by decide) (by decide))).trans (finals m c).2.2.2.2.1,
    ((h c).2 main_v115 (Pipeline.mem_restRefs_of main_v115 (by decide) (by decide))).trans (finals m c).2.2.2.2.2.1,
    ((h c).2 main_v118 (Pipeline.mem_restRefs_of main_v118 (by decide) (by decide))).trans (finals m c).2.2.2.2.2.2.1,
    ((h c).2 main_v120 (Pipeline.mem_restRefs_of main_v120 (by decide) (by decide))).trans (finals m c).2.2.2.2.2.2.2.1,
    ((h c).2 main_v123 (Pipeline.mem_restRefs_of main_v123 (by decide) (by decide))).trans (finals m c).2.2.2.2.2.2.2.2.1,
    ((h c).2 main_v126 (Pipeline.mem_restRefs_of main_v126 (by decide) (by decide))).trans (finals m c).2.2.2.2.2.2.2.2.2.1,
    ((h c).2 main_v129 (Pipeline.mem_restRefs_of main_v129 (by decide) (by decide))).trans (finals m c).2.2.2.2.2.2.2.2.2.2.1,
    ((h c).2 main_v132 (Pipeline.mem_restRefs_of main_v132 (by decide) (by decide))).trans (finals m c).2.2.2.2.2.2.2.2.2.2.2.1,
    ((h c).2 main_v136 (Pipeline.mem_restRefs_of main_v136 (by decide) (by decide))).trans (finals m c).2.2.2.2.2.2.2.2.2.2.2.2.1,
    ((h c).2 main_v139 (Pipeline.mem_restRefs_of main_v139 (by decide) (by decide))).trans (finals m c).2.2.2.2.2.2.2.2.2.2.2.2.2.1,
    ((h c).2 main_v142 (Pipeline.mem_restRefs_of main_v142 (by decide) (by decide))).trans (finals m c).2.2.2.2.2.2.2.2.2.2.2.2.2.2.1,
    ((h c).2 main_v144 (Pipeline.mem_restRefs_of main_v144 (by decide) (by decide))).trans (finals m c).2.2.2.2.2.2.2.2.2.2.2.2.2.2.2.1,
    ((h c).2 main_v147 (Pipeline.mem_restRefs_of main_v147 (by decide) (by decide))).trans (finals m c).2.2.2.2.2.2.2.2.2.2.2.2.2.2.2.2.1,
    ((h c).2 main_v150 (Pipeline.mem_restRefs_of main_v150 (by decide) (by decide))).trans (finals m c).2.2.2.2.2.2.2.2.2.2.2.2.2.2.2.2.2.1,
    ((h c).2 main_v153 (Pipeline.mem_restRefs_of main_v153 (by decide) (by decide))).trans (finals m c).2.2.2.2.2.2.2.2.2.2.2.2.2.2.2.2.2.2.1,
    ((h c).2 main_v156 (Pipeline.mem_restRefs_of main_v156 (by decide) (by decide))).trans (finals m c).2.2.2.2.2.2.2.2.2.2.2.2.2.2.2.2.2.2.2.1,
    ((h c).2 main_v160 (Pipeline.mem_restRefs_of main_v160 (by decide) (by decide))).trans (finals m c).2.2.2.2.2.2.2.2.2.2.2.2.2.2.2.2.2.2.2.2.1,
    ((h c).2 main_v163 (Pipeline.mem_restRefs_of main_v163 (by decide) (by decide))).trans (finals m c).2.2.2.2.2.2.2.2.2.2.2.2.2.2.2.2.2.2.2.2.2.1,
    ((h c).2 main_v166 (Pipeline.mem_restRefs_of main_v166 (by decide) (by decide))).trans (finals m c).2.2.2.2.2.2.2.2.2.2.2.2.2.2.2.2.2.2.2.2.2.2.1,
    ((h c).2 main_v168 (Pipeline.mem_restRefs_of main_v168 (by decide) (by decide))).trans (finals m c).2.2.2.2.2.2.2.2.2.2.2.2.2.2.2.2.2.2.2.2.2.2.2,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c),
    ((h c).2 main_arg11 (Pipeline.mem_restRefs_of main_arg11 (by decide) (by decide))).trans (W_main_arg11 m (dats m) c),
    ((h c).2 main_arg12 (Pipeline.mem_restRefs_of main_arg12 (by decide) (by decide))).trans (W_main_arg12 m (dats m) c),
    ((h c).2 main_arg13 (Pipeline.mem_restRefs_of main_arg13 (by decide) (by decide))).trans (W_main_arg13 m (dats m) c),
    ((h c).2 main_arg14 (Pipeline.mem_restRefs_of main_arg14 (by decide) (by decide))).trans (W_main_arg14 m (dats m) c),
    ((h c).2 main_arg15 (Pipeline.mem_restRefs_of main_arg15 (by decide) (by decide))).trans (W_main_arg15 m (dats m) c),
    ((h c).2 main_arg16 (Pipeline.mem_restRefs_of main_arg16 (by decide) (by decide))).trans (W_main_arg16 m (dats m) c),
    ((h c).2 main_arg17 (Pipeline.mem_restRefs_of main_arg17 (by decide) (by decide))).trans (W_main_arg17 m (dats m) c),
    ((h c).2 main_arg18 (Pipeline.mem_restRefs_of main_arg18 (by decide) (by decide))).trans (W_main_arg18 m (dats m) c),
    ((h c).2 main_arg19 (Pipeline.mem_restRefs_of main_arg19 (by decide) (by decide))).trans (W_main_arg19 m (dats m) c),
    ((h c).2 main_arg20 (Pipeline.mem_restRefs_of main_arg20 (by decide) (by decide))).trans (W_main_arg20 m (dats m) c),
    ((h c).2 main_arg21 (Pipeline.mem_restRefs_of main_arg21 (by decide) (by decide))).trans (W_main_arg21 m (dats m) c),
    ((h c).2 main_arg22 (Pipeline.mem_restRefs_of main_arg22 (by decide) (by decide))).trans (W_main_arg22 m (dats m) c),
    ((h c).2 main_arg23 (Pipeline.mem_restRefs_of main_arg23 (by decide) (by decide))).trans (W_main_arg23 m (dats m) c),
    ((h c).2 main_arg24 (Pipeline.mem_restRefs_of main_arg24 (by decide) (by decide))).trans (W_main_arg24 m (dats m) c),
    ((h c).2 main_arg25 (Pipeline.mem_restRefs_of main_arg25 (by decide) (by decide))).trans (W_main_arg25 m (dats m) c),
    ((h c).2 main_arg26 (Pipeline.mem_restRefs_of main_arg26 (by decide) (by decide))).trans (W_main_arg26 m (dats m) c),
    ((h c).2 main_arg27 (Pipeline.mem_restRefs_of main_arg27 (by decide) (by decide))).trans (W_main_arg27 m (dats m) c),
    ((h c).2 main_arg28 (Pipeline.mem_restRefs_of main_arg28 (by decide) (by decide))).trans (W_main_arg28 m (dats m) c),
    ((h c).2 main_arg29 (Pipeline.mem_restRefs_of main_arg29 (by decide) (by decide))).trans (W_main_arg29 m (dats m) c),
    ((h c).2 main_arg30 (Pipeline.mem_restRefs_of main_arg30 (by decide) (by decide))).trans (W_main_arg30 m (dats m) c),
    ((h c).2 main_arg31 (Pipeline.mem_restRefs_of main_arg31 (by decide) (by decide))).trans (W_main_arg31 m (dats m) c)⟩) (run_main m ρ)

end Cert.Kernel18Ideal.AdamSmall

end
-- ==== Proof.Pair.lean ====
/-
  The sum of the two cores' gradients, one chip after the other. Which half of the gradient the call reads, and where the
  chip's own sum goes, are words read at run time, so everything here is stated at a member of the family of the eight
  places a core can have. What the two outputs hold after each point is simple enough to say outright: the first holds the
  sum at that point, and the second, from the point that stores it to the one that writes it back, the sum at the chip's
  own point.
-/
module

public import proofs.«01_k».proof.Defs
public import proofs.«01_k».proof.Proof.Gen.Kernel20Ideal
public import proofs.«01_k».proof.Proof.Gen.Kernel20Ideal.Launch
public import proofs.«01_k».proof.Proof.Gen.Kernel20Ideal.Skeleton
public import proofs.«01_k».proof.Proof.Gen.Kernel20
public import proofs.«01_k».proof.Proof.Gen.Reference20Ideal
public import Idealize.ShloMosaic.Lib.Pipeline.Kit
public import Idealize.ShloMosaic.Lib.Pipeline.TableIdle
public import Idealize.ShloMosaic.Lib.Pipeline.FrameBody
public import Idealize.ShloMosaic.Lib.Pipeline.FrameSuffix
public import Idealize.ShloMosaic.Lib.DynamicIndex
public import Idealize.ShloMosaic.Lib.Pipeline.ValueKit
public import Idealize.ShloMosaic.Lib.Pointwise
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.StableHlo.Run
public import Idealize.ShloMosaic.PureOps.Ideal
public import Idealize.ShloMosaic.Adequacy
public import Idealize.ShloMosaic.Init

@[expose] public section

set_option maxRecDepth 16384

noncomputable section

namespace Cert.Kernel20Ideal.Pair

open Cert.Kernel20Ideal Cert.Kernel20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- The pipelines' component: nothing else is run. -/
abbrev UU : Type := UR sig nD τ

local notation "𝕄" => MT nD τ sig Unit (Elt F) ℕ UU ℕ

/-! ## The eight places -/

/-- The table of a place: the chip's number and the core's. -/
def place (ch : Fin 8) : S2.Idx → BitVec 32 := fun x => if (x 0).val = 0 then BitVec.ofNat 32 (ch.val / 2) else BitVec.ofNat 32 (ch.val % 2)

abbrev tab : Memref sig .tc .smem S2 .i32 := Memref.whole main_arg0

def held (ch : Fin 8) : pre0.Contents (Elt F) := fun | ⟨0, _⟩ => place ch | ⟨_ + 1, h⟩ => absurd h (by simp)

theorem inb0 : ∀ (ch : Fin 8) (i : grid0.Coords), ∀ a, (cc0_transform_0 inb_S2_S1_1 numel1_S1 (held (F := Ideal) ch) i a + 1) * S1x1x1024x2048.size a ≤ S4x1x2048x2048.size a := by
  decide +kernel

theorem inb3 : ∀ (ch : Fin 8) (i : grid0.Coords), ∀ a, (cc0_transform_3 inb_S2_S1_0 numel1_S1 inb_S2_S1_1 (held (F := Ideal) ch) i a + 1) * S1x1x1024x2048.size a ≤ S4x1x2048x2048.size a := by
  decide +kernel

theorem ok (ch : Fin 8) : ok0 (F := F) (held ch) :=
  ⟨fun i => ⟨inb0 ch i, .inr (Affine.block_words_dvd (s := S4x1x2048x2048) (p := EltTy.packing .bf16) (by decide) (by decide))⟩,
    fun i => ⟨inb3 ch i, .inr (Affine.block_words_dvd (s := S4x1x2048x2048) (p := EltTy.packing .bf16) (by decide) (by decide))⟩⟩

def adm (ch : Fin 8) : (pcfg0 (F := F)).Adm := ⟨held ch, ok ch⟩
abbrev cfgA (F : FTy → Type) [FloatOps F] (ch : Fin 8) : Pipeline.Cfg sig Λ₀ := cfg0 (F := F) (adm ch)
abbrev pcs (F : FTy → Type) [FloatOps F] (ch : Fin 8) : Fin 1 → Pipeline.Cfg sig Λ₀ := Pipeline.pin (pcfgs (F := F)) fun _ => adm ch

/-- The word that tells whether a point is the chip's own. -/
abbrev word (T : S2.Idx → Elt F .i32) : BitVec 32 :=
  View.readAt (Elt F) (tab).view (Rect.unit (s := S2) ![0] S1.size inb_S2_S1_0).toLoadRect T (Shape.Idx.first (numel1_S1.symm ▸ Nat.one_pos))

/-! ## The body, run once as it does not store the chip's own sum and once as it does -/

section Body

variable (c : Dev nD) (i : grid0.Coords) (arg4 : Memref sig .tc .vmem S1x1x1024x2048 .bf16) (harg4 : arg4.IsWhole)
  (arg5 : Memref sig .tc .vmem S1x1x1024x2048 .bf16) (harg5 : arg5.IsWhole) (arg6 : Memref sig .tc .vmem S1x1x1024x2048 .bf16) (harg6 : arg6.IsWhole)
  (arg7 : Memref sig .tc .vmem S1x1x1024x2048 .bf16) (harg7 : arg7.IsWhole) (T : S2.Idx → Elt F .i32) (x0 x1 : S1x1x1024x2048.Idx → Elt F .bf16)

set_option maxHeartbeats 8000000 in
theorem run_other (k0_h1 : ¬(k0_cond1 i (word T) = 1#1)) (y3 : S1x1x1024x2048.Idx → Elt F .bf16) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (tab.view.loc (c : Thread nD τ) ↦{fullShare.right} T)
      ∗ (∃ d, owns (c : Thread nD τ) arg6 fullShare d)
      ∗ owns (c : Thread nD τ) arg7 fullShare y3
      ∗ (iprop((arg4.view.loc (c : Thread nD τ) ↦[arg4.view.set]{fullShare} arg4.view.rep x0)
          ∗ (arg5.view.loc (c : Thread nD τ) ↦[arg5.view.set]{fullShare} arg5.view.rep x1)
          ∗ (tab.view.loc (c : Thread nD τ) ↦{fullShare.right} T)
          ∗ owns (c : Thread nD τ) arg6 fullShare (k0_pay2 x0 x1)
          ∗ owns (c : Thread nD τ) arg7 fullShare y3) -∗ K ⟨⟩))
      ⊢ wp frame (wpE (defs₀ (F := F)) Variants.none c none) Set.univ (cc0_pair_sum i tab (Memref.isWhole_whole _) arg4 harg4 arg5 harg5 arg6 harg6 arg7 harg7) K := by
  unfold owns
  rw [cc0_pair_sum_eq_skeleton]; unfold cc0_pair_sum_skel
  iintro ⟨H0, H1, HT0, ⟨%d2, %f2, -, HO2⟩, ⟨%f3, %hf3, HO3⟩, Hk⟩
  obtain rfl := harg7.eq_unread hf3
  have hT0 : tab.IsWhole := Memref.isWhole_whole _
  sl_exec! (disch := first | (guard_target = ¬(k0_cond1 _ _ = _); exact k0_h1))
  sl_step
  iapply Hk
  isplitl [H0]; · iexact H0
  isplitl [H1]; · iexact H1
  isplitl [HT0]; · iexact HT0
  isplitl [HO2]
  · iexists _; isplitr; swap
    · iexact HO2
    · ipureintro
      funext y
      frame_out
      rw [View.read_rep, View.read_rep]
  iexists _; isplitr; · ipureintro; exact harg7.read_unread _
  iexact HO3

set_option maxHeartbeats 8000000 in
theorem run_own (k0_h1 : k0_cond1 i (word T) = 1#1) (K : PUnit → sProp 𝕄) :
    iprop((arg4.view.loc (c : Thread nD τ) ↦[arg4.view.set]{fullShare} arg4.view.rep x0)
      ∗ (arg5.view.loc (c : Thread nD τ) ↦[arg5.view.set]{fullShare} arg5.view.rep x1)
      ∗ (tab.view.loc (c : Thread nD τ) ↦{fullShare.right} T)
      ∗ (∃ d, owns (c : Thread nD τ) arg6 fullShare d)
      ∗ (∃ d, owns (c : Thread nD τ) arg7 fullShare d)
      ∗ (iprop((arg4.view.loc (c : Thread nD τ) ↦[arg4.view.set]{fullShare} arg4.view.rep x0)
          ∗ (arg5.view.loc (c : Thread nD τ) ↦[arg5.view.set]{fullShare} arg5.view.rep x1)
          ∗ (tab.view.loc (c : Thread nD τ) ↦{fullShare.right} T)
          ∗ owns (c : Thread nD τ) arg6 fullShare (k0_pay2 x0 x1)
          ∗ owns (c : Thread nD τ) arg7 fullShare (k0_pay3 x0 x1)) -∗ K ⟨⟩))
      ⊢ wp frame (wpE (defs₀ (F := F)) Variants.none c none) Set.univ (cc0_pair_sum i tab (Memref.isWhole_whole _) arg4 harg4 arg5 harg5 arg6 harg6 arg7 harg7) K := by
  unfold owns
  rw [cc0_pair_sum_eq_skeleton]; unfold cc0_pair_sum_skel
  iintro ⟨H0, H1, HT0, ⟨%d2, %f2, -, HO2⟩, ⟨%d3, %f3, -, HO3⟩, Hk⟩
  have hT0 : tab.IsWhole := Memref.isWhole_whole _
  sl_exec! (disch := first | (guard_target = k0_cond1 _ _ = _; exact k0_h1))
  sl_step
  iapply Hk
  isplitl [H0]; · iexact H0
  isplitl [H1]; · iexact H1
  isplitl [HT0]; · iexact HT0
  isplitl [HO2]
  · iexists _; isplitr; swap
    · iexact HO2
    · ipureintro
      funext y
      frame_out
      rw [View.read_rep, View.read_rep]
  iexists _; isplitr; swap
  · iexact HO3
  · ipureintro
    funext y
    frame_out
    rw [View.read_rep, View.read_rep]

end Body

/-! ## The schedule -/

variable (ch : Fin 8)

abbrev crd (t : Fin (cfgA F ch).N) : (cfgA F ch).grid.Coords := (cfgA F ch).grid.coords t

theorem sched_ideal : ∀ (ch : Fin 8) (t : Fin (cfgA Ideal ch).N),
    (k0_cond1 (crd (F := Ideal) ch t) (word (F := Ideal) (place ch)) = 1#1 ↔ t.val = ch.val / 2)
    ∧ (cfgA Ideal ch).idle (2 : Fin 4) ((cfgA Ideal ch).grid.coords t) = false ∧ ((cfgA Ideal ch).win (2 : Fin 4)).flush t = true
    ∧ (cfgA Ideal ch).idle (3 : Fin 4) ((cfgA Ideal ch).grid.coords t) = !decide (t.val = ch.val / 2)
    ∧ ((cfgA Ideal ch).win (3 : Fin 4)).flush t = decide (t.val = 3) := by decide +kernel

/-- Which points store the chip's own sum, and which write it back. -/
theorem sched (t : Fin (cfgA F ch).N) :
    (k0_cond1 (crd (F := F) ch t) (word (F := F) (place ch)) = 1#1 ↔ t.val = ch.val / 2)
    ∧ (cfgA F ch).idle (2 : Fin 4) ((cfgA F ch).grid.coords t) = false ∧ ((cfgA F ch).win (2 : Fin 4)).flush t = true
    ∧ (cfgA F ch).idle (3 : Fin 4) ((cfgA F ch).grid.coords t) = !decide (t.val = ch.val / 2)
    ∧ ((cfgA F ch).win (3 : Fin 4)).flush t = decide (t.val = 3) := sched_ideal ch t

theorem lt_four (t : Fin (cfgA F ch).N) : t.val < 4 := by have h := t.isLt; exact lt_of_lt_of_eq h N_0

/-- The second output's buffer holds nothing of use up to the chip's own point. -/
theorem fresh3 (t : Fin (cfgA F ch).N) : (cfgA F ch).fresh (3 : Fin 4) t.val = decide (t.val ≤ ch.val / 2) := by
  rw [(cfgA F ch).fresh_tab (3 : Fin 4) (fun n => decide (n ≤ ch.val / 2 ∨ n = 4)) (by simp) (fun t => ?_) t.val (Nat.le_of_lt t.isLt)]
  · have := lt_four ch t
    exact decide_eq_decide.2 (by omega)
  · obtain ⟨-, -, -, h3, f3⟩ := sched (F := F) ch t
    rw [h3, f3]
    have := lt_four ch t
    have := ch.isLt
    rw [Bool.eq_iff_iff]
    simp only [decide_eq_true_eq, Bool.or_eq_true, Bool.and_eq_true, Bool.not_eq_true', decide_eq_false_iff_not]
    omega

/-! ## What the staging buffers hold -/

variable (m : (ℓ : Loc nD τ sig) → Buf (Elt F) ℓ) (ρ : Dev nD → PrngReg)

abbrev ms0 (t : Fin (cfgA F ch).N) : Memref sig .tc .vmem S1x1x1024x2048 .bf16 := spec0_0.stage ((cfgA F ch).slots t (0 : Fin 4))
abbrev hs0 (t : Fin (cfgA F ch).N) : (ms0 (F := F) ch t).IsWhole := hstage0_0 (((cfgA F ch).slots t (0 : Fin 4)).cast nbuf0_0)
abbrev ms1 (t : Fin (cfgA F ch).N) : Memref sig .tc .vmem S1x1x1024x2048 .bf16 := spec0_1.stage ((cfgA F ch).slots t (1 : Fin 4))
abbrev hs1 (t : Fin (cfgA F ch).N) : (ms1 (F := F) ch t).IsWhole := hstage0_1 (((cfgA F ch).slots t (1 : Fin 4)).cast nbuf0_1)
abbrev ms2 (t : Fin (cfgA F ch).N) : Memref sig .tc .vmem S1x1x1024x2048 .bf16 := spec0_2.stage ((cfgA F ch).slots t (2 : Fin 4))
abbrev hs2 (t : Fin (cfgA F ch).N) : (ms2 (F := F) ch t).IsWhole := hstage0_2 (((cfgA F ch).slots t (2 : Fin 4)).cast nbuf0_2)
abbrev ms3 (t : Fin (cfgA F ch).N) : Memref sig .tc .vmem S1x1x1024x2048 .bf16 := spec0_3.stage ((cfgA F ch).slots t (3 : Fin 4))
abbrev hs3 (t : Fin (cfgA F ch).N) : (ms3 (F := F) ch t).IsWhole := hstage0_3 (((cfgA F ch).slots t (3 : Fin 4)).cast nbuf0_3)

abbrev st : MemSt nD τ sig (Elt F) := ⟨m, fun _ => 0, ρ⟩

/-- Window `w`'s block at point `t`, read off its array at launch. -/
def blk (c : Dev nD) (w : Fin (cfgA F ch).W) (t : Fin (cfgA F ch).N) : (((cfgA F ch).win w).xblock (crd ch t)).Idx → Elt F ((cfgA F ch).win w).elt :=
  (((cfgA F ch).win w).blk t).view.read (Elt F) (m (((cfgA F ch).win w).arr.view.loc (c : Thread nD τ)))

/-- The chip's own point. -/
def own : Fin (cfgA F ch).N := ⟨ch.val / 2, lt_of_lt_of_eq (by omega : ch.val / 2 < 4) N_0.symm⟩

/-- What the calls keep besides the windows: the table at the place, and what the core holds of its own. -/
def inv (c : Dev nD) : sProp 𝕄 :=
  iprop((tab.view.loc (c : Thread nD τ) ↦{fullShare.right} (place ch : S2.Idx → Elt F .i32)) ∗ Pipeline.ΦA spec0 c)

/-- The pipeline's data on core `c`: the second output's contents are named by the chip's own point alone. -/
def dats (_ : Fin 1) (c : Dev nD) : Dat τ (Elt F) Unit ℕ UU ℕ (cfgA F ch) c where
  A w := m (((cfgA F ch).win w).arr.view.loc (c : Thread nD τ))
  after w t := match w with
    | ⟨0, _⟩ => blk ch m c (0 : Fin 4) t
    | ⟨1, _⟩ => blk ch m c (1 : Fin 4) t
    | ⟨2, _⟩ => k0_pay2 (F := F) (blk ch m c (0 : Fin 4) t) (blk ch m c (1 : Fin 4) t)
    | ⟨3, _⟩ => k0_pay3 (F := F) (blk ch m c (0 : Fin 4) (own ch)) (blk ch m c (1 : Fin 4) (own ch))
  Φ _ := inv ch c
  q _ := fullShare
  owed _ := 0

theorem after0 (c : Dev nD) (t : Fin (cfgA F ch).N) : (dats ch m 0 c).after (0 : Fin 4) t = blk ch m c (0 : Fin 4) t := rfl
theorem after1 (c : Dev nD) (t : Fin (cfgA F ch).N) : (dats ch m 0 c).after (1 : Fin 4) t = blk ch m c (1 : Fin 4) t := rfl
theorem after2 (c : Dev nD) (t : Fin (cfgA F ch).N) : (dats ch m 0 c).after (2 : Fin 4) t = k0_pay2 (F := F) (blk ch m c (0 : Fin 4) t) (blk ch m c (1 : Fin 4) t) := rfl
theorem after3 (c : Dev nD) (t : Fin (cfgA F ch).N) : (dats ch m 0 c).after (3 : Fin 4) t = k0_pay3 (F := F) (blk ch m c (0 : Fin 4) (own ch)) (blk ch m c (1 : Fin 4) (own ch)) := rfl

theorem before0 (c : Dev nD) (t : Fin (cfgA F ch).N) (d) : (dats ch m 0 c).before (0 : Fin 4) t d = blk ch m c (0 : Fin 4) t :=
  ((dats ch m 0 c).before_in_eq_fetched (0 : Fin 4) rfl (fun _ => rfl) (fun _ _ _ => rfl) (fun t => by rw [after0]; unfold Dat.blockOf blk; rfl) t d).trans
    (by unfold Dat.fetched Dat.blockOf blk; rfl)
theorem before1 (c : Dev nD) (t : Fin (cfgA F ch).N) (d) : (dats ch m 0 c).before (1 : Fin 4) t d = blk ch m c (1 : Fin 4) t :=
  ((dats ch m 0 c).before_in_eq_fetched (1 : Fin 4) rfl (fun _ => rfl) (fun _ _ _ => rfl) (fun t => by rw [after1]; unfold Dat.blockOf blk; rfl) t d).trans
    (by unfold Dat.fetched Dat.blockOf blk; rfl)

/-- The second output's buffer before a point past the chip's own. -/
theorem before3 (c : Dev nD) (t : Fin (cfgA F ch).N) (h : ch.val / 2 < t.val) (d) :
    (dats ch m 0 c).before (3 : Fin 4) t d = k0_pay3 (F := F) (blk ch m c (0 : Fin 4) (own ch)) (blk ch m c (1 : Fin 4) (own ch)) := by
  rw [(dats ch m 0 c).before_out_traj (3 : Fin 4) rfl (fun _ _ => rfl) (fun t ht _ _ => rfl) t.val t rfl d, fresh3, decide_eq_false (by omega)]
  rfl

/-! ## The body at a point -/

abbrev bodyAt (t : Fin (cfgA F ch).N) : Prog (TpuEff nD τ sig (Elt F) Λ₀ .tc) PUnit :=
  cc0_pair_sum (crd (F := F) ch t) (Memref.whole main_arg0) (Memref.isWhole_whole _) (ms0 (F := F) ch t) (hs0 ch t) (ms1 (F := F) ch t) (hs1 ch t) (ms2 (F := F) ch t) (hs2 ch t) (ms3 (F := F) ch t) (hs3 ch t)

set_option maxHeartbeats 4000000 in
theorem sound_body (c : Dev nD) (t : Fin (cfgA F ch).N) :
    iprop((dats ch m 0 c).Φ t.castSucc ∗ (dats ch m 0 c).owesAt () t.castSucc
        ∗ (∃ d, owns (c : Thread nD τ) (ms0 (F := F) ch t) fullShare ((dats ch m 0 c).before (0 : Fin 4) t d))
        ∗ (∃ d, owns (c : Thread nD τ) (ms1 (F := F) ch t) fullShare ((dats ch m 0 c).before (1 : Fin 4) t d))
        ∗ (∃ d, owns (c : Thread nD τ) (ms2 (F := F) ch t) fullShare ((dats ch m 0 c).before (2 : Fin 4) t d))
        ∗ (∃ d, owns (c : Thread nD τ) (ms3 (F := F) ch t) fullShare ((dats ch m 0 c).before (3 : Fin 4) t d)))
      ⊢ wp frame (wpE (defs₀ (F := F)) Variants.none c none) Set.univ (bodyAt ch t) fun _ =>
          iprop((dats ch m 0 c).Φ t.succ ∗ (dats ch m 0 c).owesAt () t.succ
            ∗ bigSep Finset.univ fun w : Fin (cfgA F ch).W =>
                match (cfgA F ch).idle w ((cfgA F ch).grid.coords t) with
                | true =>
                  match ((cfgA F ch).win w).flush t with
                  | false => iprop(∃ d, owns (c : Thread nD τ) (((cfgA F ch).win w).stage ((cfgA F ch).slots t w)) fullShare ((dats ch m 0 c).before w t d))
                  | true => owns (c : Thread nD τ) (((cfgA F ch).win w).stage ((cfgA F ch).slots t w)) fullShare ((dats ch m 0 c).after w t)
                | false => owns (c : Thread nD τ) (((cfgA F ch).win w).stage ((cfgA F ch).slots t w)) fullShare ((dats ch m 0 c).after w t)) := by
  rw [bigSep_W0]
  obtain ⟨hk, i2, f2, i3, f3⟩ := sched (F := F) ch t
  have h4 := lt_four ch t
  by_cases q0 : t.val = ch.val / 2
  · have e : t = own ch := Fin.ext q0
    rw [decide_eq_true q0, Bool.not_true] at i3
    rewrite [i2, i3]
    simp only [before0, before1, after0, after1, after2, after3]
    rewrite [show (dats ch m 0 c).Φ t.succ = inv ch c from rfl, show (dats ch m 0 c).Φ t.castSucc = inv ch c from rfl,
      show (dats ch m 0 c).owesAt () t.succ = (dats ch m 0 c).owesAt () t.castSucc from rfl]
    rewrite [← e]
    unfold inv
    iintro ⟨⟨HT0, HA⟩, Ho, ⟨%d0, H0⟩, ⟨%d1, H1⟩, ⟨%d2, H2⟩, ⟨%d3, H3⟩⟩
    iapply (run_own c (crd (F := F) ch t) (ms0 (F := F) ch t) (hs0 ch t) (ms1 (F := F) ch t) (hs1 ch t) (ms2 (F := F) ch t) (hs2 ch t) (ms3 (F := F) ch t) (hs3 ch t) (place ch) (blk ch m c (0 : Fin 4) t) (blk ch m c (1 : Fin 4) t) (hk.2 q0) _)
    isplitl [H0]; · iapply rep_of_owns; iexact H0
    isplitl [H1]; · iapply rep_of_owns; iexact H1
    isplitl [HT0]; · iexact HT0
    isplitl [H2]; · iexists _; iexact H2
    isplitl [H3]; · iexists _; iexact H3
    iintro ⟨H0, H1, HT0, H2, H3⟩
    isplitl [HT0 HA]
    · isplitl [HT0]
      · iexact HT0
      · iexact HA
    isplitl [Ho]; · iexact Ho
    isplitl [H0]; · iapply owns_of_rep; iexact H0
    isplitl [H1]; · iapply owns_of_rep; iexact H1
    isplitl [H2]; · iexact H2
    iexact H3
  · rw [decide_eq_false q0, Bool.not_false] at i3
    rewrite [i2, i3]
    simp only [before0, before1, after0, after1, after2, after3]
    rewrite [show (dats ch m 0 c).Φ t.succ = inv ch c from rfl, show (dats ch m 0 c).Φ t.castSucc = inv ch c from rfl,
      show (dats ch m 0 c).owesAt () t.succ = (dats ch m 0 c).owesAt () t.castSucc from rfl]
    unfold inv
    iintro ⟨⟨HT0, HA⟩, Ho, ⟨%d0, H0⟩, ⟨%d1, H1⟩, ⟨%d2, H2⟩, ⟨%d3, H3⟩⟩
    iapply (run_other c (crd (F := F) ch t) (ms0 (F := F) ch t) (hs0 ch t) (ms1 (F := F) ch t) (hs1 ch t) (ms2 (F := F) ch t) (hs2 ch t) (ms3 (F := F) ch t) (hs3 ch t) (place ch) (blk ch m c (0 : Fin 4) t) (blk ch m c (1 : Fin 4) t) (fun h => q0 (hk.1 h)) _ _)
    isplitl [H0]; · iapply rep_of_owns; iexact H0
    isplitl [H1]; · iapply rep_of_owns; iexact H1
    isplitl [HT0]; · iexact HT0
    isplitl [H2]; · iexists _; iexact H2
    isplitl [H3]; · iexact H3
    iintro ⟨H0, H1, HT0, H2, H3⟩
    isplitl [HT0 HA]
    · isplitl [HT0]
      · iexact HT0
      · iexact HA
    isplitl [Ho]; · iexact Ho
    isplitl [H0]; · iapply owns_of_rep; iexact H0
    isplitl [H1]; · iapply owns_of_rep; iexact H1
    isplitl [H2]; · iexact H2
    by_cases q3 : t.val = 3
    · rw [decide_eq_true q3] at f3
      rewrite [f3]
      have hlt : ch.val / 2 < t.val := by have := ch.isLt; omega
      rewrite [before3 ch m c t hlt d3]
      iexact H3
    · rw [decide_eq_false q3] at f3
      rewrite [f3]
      iexists d3; iexact H3

theorem body_obligation (c : Dev nD) : BodyObligation (dats ch m 0 c) (defs₀ (F := F)) Variants.none () Set.univ := fun t => by
  rw [bigSep_W0]
  exact sound_body ch m c t

/-! ## The launch -/

/-- What is asked of the launch memory: every device's table names the place `ch`. -/
def Placed : Prop := ∀ c : Dev nD, m ((c : Thread nD τ).loc main_arg0) = (place ch : S2.Idx → Elt F .i32)

theorem share_eq (c : Dev nD) (w : Fin (cfgA F ch).W) : (dats ch m 0 c).share w = fullShare := by unfold Dat.share; split <;> rfl

theorem prefHeld_eq (c : Dev nD) (q : Fin 1 → PosShare TreeShare) (v : pre0.Contents (Elt F)) :
    (Pipeline.prefHeld (Ix := Unit) (Name := ℕ) (U := UU) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem inv_intro (c : Dev nD) : iprop(Pipeline.ΦA spec0 c ∗ Pipeline.ΦT pre0 (adm (F := F) ch).1 c) ⊢ (dats ch m 0 c).Φ 0 := by
  rw [show (dats ch m 0 c).Φ 0 = inv ch c from rfl]
  unfold inv Pipeline.ΦT
  rw [prefHeld_eq]
  iintro ⟨HA, HT0⟩
  isplitl [HT0]
  · iexact HT0
  · iexact HA

theorem inv_exit (c : Dev nD) : (dats ch m 0 c).Φ (Fin.last (cfgA F ch).N) ⊢ Pipeline.ΦA spec0 c := by
  rw [show (dats ch m 0 c).Φ (Fin.last (cfgA F ch).N) = inv ch c from rfl]
  unfold inv
  iintro ⟨-, HA⟩
  iexact HA

/-- The buffers as the call finds them. -/
abbrev V0 (c : Dev nD) : Valuation τ sig (Elt F) := StableHlo.after hostOps0 fun b => m (c, b)

/-- And as the program leaves them. -/
abbrev tail (c : Dev nD) (b : Ref sig .tc) : Buf (Elt F) ((c : Thread nD τ).loc b) :=
  Pipeline.afterTail pcfgs (fun _ => adm ch) (dats ch m) 0 (V0 m) [hostOps1] c b

theorem entry_array (c : Dev nD) (w : Fin 4) : m ((spec0 w).arr.view.loc (c : Thread nD τ)) = V0 m c (Proc.devRef .tc (Pipeline.arrRef spec0 w)) := by
  fin_cases w
  · show m ((c : Thread nD τ).loc main_arg1) = V0 m c (Proc.devRef .tc main_arg1); after_results
  · show m ((c : Thread nD τ).loc main_arg2) = V0 m c (Proc.devRef .tc main_arg2); after_results
  · show m ((c : Thread nD τ).loc main_v5_0) = V0 m c (Proc.devRef .tc main_v5_0); after_results
  · show m ((c : Thread nD τ).loc main_v5_1) = V0 m c (Proc.devRef .tc main_v5_1); after_results

theorem entry_table (c : Dev nD) : V0 m c (Proc.devRef .tc main_arg0) = m ((c : Thread nD τ).loc main_arg0) := by after_results

theorem tail_sub : ∀ op ∈ (hostOps1 : List (HloOp τ sig (Elt F))), op.bufs ⊆ Pipeline.tailRefs sig pre0 spec0 := by
  intro op hop
  refine Pipeline.sub_tailRefs pre0 spec0 op ((List.forall_iff_forall_mem.mp hostOps1_sub) op hop) fun k => ?_
  simp only [hostOps1, List.mem_cons, List.mem_nil_iff, or_false] at hop
  rcases hop with rfl | rfl | rfl <;> fin_cases k
  · rw [StableHlo.nullary_bufs, Finset.mem_singleton]
    exact StableHlo.devRef_ne_of_ne (by decide)
  · rw [StableHlo.nullary_bufs, Finset.mem_singleton]
    exact StableHlo.devRef_ne_of_ne (by decide)
  · intro h
    rcases Finset.mem_insert.1 h with h | h
    · exact StableHlo.devRef_ne_of_ne (by decide) h
    rcases Finset.mem_insert.1 h with h | h
    · exact StableHlo.devRef_ne_of_ne (by decide) h
    obtain ⟨i, -, h⟩ := Finset.mem_image.1 h
    fin_cases i <;> exact StableHlo.devRef_ne_of_ne (by decide) h

theorem tail_fresh : ∀ op ∈ (hostOps1 : List (HloOp τ sig (Elt F))), op.fresh = ∅ := by
  intro op hop
  simp only [hostOps1, List.mem_cons, List.mem_nil_iff, or_false] at hop
  rcases hop with rfl | rfl | rfl <;> rfl

theorem tail_keeps : ∀ op ∈ (hostOps1 : List (HloOp τ sig (Elt F))), ∀ w, Proc.devRef .tc (Pipeline.arrRef spec0 w) ∉ op.writes := by
  intro op hop w
  simp only [hostOps1, List.mem_cons, List.mem_nil_iff, or_false] at hop
  rcases hop with rfl | rfl | rfl <;> fin_cases w <;>
    simp only [StableHlo.nullary_writes, StableHlo.unaryIndexed_writes, Finset.mem_singleton] <;>
    exact StableHlo.devRef_ne_of_ne (by decide)

set_option backward.isDefEq.respectTransparency.types false in
set_option maxHeartbeats 4000000 in
/-- Every run from a memory that names a place terminates with the arrays at what the pipeline computes, every other
    buffer at what the lines around it leave, and every counter at zero. -/
theorem run_arrays (hp : Placed ch m) : θ_run (defs (F := F)) (onTc (τ := τ) (main (F := F))) (st m ρ) (fun r =>
    Pipeline.FramePost (pcs F ch) (dats ch m) 0 (tail ch m) r ∧ r.2.sem = fun _ => 0) :=
  Pipeline.θ_run_frameP_around_track pcfgs (fun _ => adm ch) (dats ch m) 0 launch0 defs₀ Variants.none m ρ main
    (hbody := fun c => (body_obligation ch m c).loose) (hshare := share_eq ch m) (howed := fun _ _ => rfl)
    (V₀ := V0 m) (opss := [hostOps1])
    (hsub := fun _ h => by rw [List.mem_singleton.1 h]; exact tail_sub)
    (hfresh := fun _ h => by rw [List.mem_singleton.1 h]; exact tail_fresh)
    (hkeep := fun _ h => by rw [List.mem_singleton.1 h]; exact tail_keeps)
    (hmain := Pipeline.hmainP_around pcfgs 0 defs₀ Variants.none m main [hostOps0] [hostOps1] hostOps0_sub (by simp only [List.Forall]; repeat' constructor) main_chain)
    (hA := entry_array m)
    (hpf := fun c k => by fin_cases k; exact (entry_table m c).trans (hp c))
    (hin := inv_intro ch m) (hout := inv_exit ch m)
    (Q' := fun r => Pipeline.FramePost (pcs F ch) (dats ch m) 0 (tail ch m) r ∧ r.2.sem = fun _ => 0) (hQ' := fun _ h => h)

theorem tail_arg0 (c : Dev nD) : tail ch m c main_arg0 = m ((c : Thread nD τ).loc main_arg0) := by
  unfold tail Pipeline.afterTail
  rw [List.flatten_cons, List.flatten_nil, List.append_nil]
  after_results
  exact (Pipeline.withArrays_of_ne spec0 c (V0 m c) (fun w => (dats ch m 0 c).arrAt w (cfgA F ch).N) main_arg0 (by decide)).trans (entry_table m c)

/-- The same with the arguments named: the two results, the arguments unchanged, the counters at zero. -/
theorem run (hp : Placed ch m) : θ_run (defs (F := F)) (onTc (τ := τ) (main (F := F))) ⟨m, fun _ => 0, ρ⟩ (fun r => (∀ c : Dev nD,
      r.2.mem ((c.tc : Thread nD τ).loc main_v5_0) = (dats ch m 0 c).arrAt (2 : Fin 4) (cfgA F ch).N
      ∧ r.2.mem ((c.tc : Thread nD τ).loc main_v6) = tail ch m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c).1 (2 : Fin 4), (h.1 c).2 main_v6 (show main_v6 ∈ Pipeline.restRefs sig spec0 by decide), ((h.1 c).2 main_arg0 (show main_arg0 ∈ Pipeline.restRefs sig spec0 by decide)).trans (tail_arg0 ch m c),
    ((h.1 c).1 (0 : Fin 4)).trans ((dats ch m 0 c).arrAt_in (0 : Fin 4) rfl _), ((h.1 c).1 (1 : Fin 4)).trans ((dats ch m 0 c).arrAt_in (1 : Fin 4) rfl _)⟩, h.2⟩)
    (run_arrays ch m ρ hp)

/-- The same without the results. -/
theorem unchanged (hp : Placed ch m) : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2.2, h.2⟩) (run ch m ρ hp)

/-! ## The values of the results -/

section Value

variable (m : (ℓ : Loc nD τ sig) → Buf (Elt Ideal) ℓ)

theorem idx : ∀ (ch : Fin 8) (t : Fin (cfgA Ideal ch).N), ((cfgA Ideal ch).win (0 : Fin 4)).index t = ![t.val, 0, ch.val % 2, 0]
    ∧ ((cfgA Ideal ch).win (1 : Fin 4)).index t = ![t.val, 0, 0, 0] ∧ ((cfgA Ideal ch).win (2 : Fin 4)).index t = ![t.val, 0, 0, 0]
    ∧ ((cfgA Ideal ch).win (3 : Fin 4)).index t = ![ch.val / 2, 0, ch.val % 2, 0] := by
  decide +kernel

abbrev Grad (c : Dev nD) : FVec Ideal S4x1x2048x2048 .bf16 := m ((c : Thread nD τ).loc main_arg1)
abbrev Other (c : Dev nD) : FVec Ideal S4x1x1024x2048 .bf16 := m ((c : Thread nD τ).loc main_arg2)

/-- Row `r` of the core's own half. -/
abbrev row (ch : Fin 8) (r : Fin 1024) : Fin 2048 := ⟨ch.val % 2 * 1024 + r.val, by omega⟩

/-- The core's own half and the other core's gradient, added. -/
def Sum (ch : Fin 8) (c : Dev nD) : FVec Ideal S4x1x1024x2048 .bf16 :=
  fun i => (Grad m c (ix4 (i 0) (i 1) (row ch (i 2)) (i 3)) : EReal) + Other m c i

theorem blk0_at (c : Dev nD) (t : Fin (cfgA Ideal ch).N) (r : Fin 1024) (l : Fin 2048) :
    (blk ch m c (0 : Fin 4) t : FVec Ideal S1x1x1024x2048 .bf16) (ix4 0 0 r l) = Grad m c (ix4 ⟨t.val, lt_four ch t⟩ 0 (row ch r) l) := by
  blk_point [blk, idx ch t]

theorem blk1_at (c : Dev nD) (t : Fin (cfgA Ideal ch).N) (r : Fin 1024) (l : Fin 2048) :
    (blk ch m c (1 : Fin 4) t : FVec Ideal S1x1x1024x2048 .bf16) (ix4 0 0 r l) = Other m c (ix4 ⟨t.val, lt_four ch t⟩ 0 r l) := by
  blk_point [blk, idx ch t]

theorem covers : ∀ ch : Fin 8, ((cfgA Ideal ch).win (2 : Fin 4)).Covers := by decide +kernel

theorem final (c : Dev nD) : (dats ch m 0 c).arrAt (2 : Fin 4) (cfgA Ideal ch).N = Sum m ch c := by
  refine (dats ch m 0 c).arrAt_eq_of_covers (2 : Fin 4) _ (covers ch) fun t _ y => ?_
  obtain ⟨r, l, rfl⟩ : ∃ (r : Fin 1024) (l : Fin 2048), y = ix4 0 0 r l :=
    ⟨(y : S1x1x1024x2048.Idx) 2, (y : S1x1x1024x2048.Idx) 3, by rw [eq_ix4 (y : S1x1x1024x2048.Idx)]; congr 1 <;> exact Subsingleton.elim (α := Fin 1) _ _⟩
  blk_simp
  have hy : (((cfgA Ideal ch).win (2 : Fin 4)).blk t).view.emb (ix4 0 0 r l) = ix4 ⟨t.val, lt_four ch t⟩ 0 r l := by blk_ext [idx ch t]
  rw [hy, after2]
  pointwise [k0_pay2, k0_pay1]
  exact congrArg₂ (fun a b : EReal => a + b) (blk0_at ch m c t r l) (blk1_at ch m c t r l)

/-- The chip's own sum. -/
abbrev Own (ch : Fin 8) (c : Dev nD) : FVec Ideal S1x1x1024x2048 .bf16 :=
  fun i => Sum m ch c (ix4 ⟨ch.val / 2, by omega⟩ (i 1) (i 2) (i 3))

/-- The second array holds it at the chip's own block. -/
theorem stored (c : Dev nD) (r : Fin 1024) (l : Fin 2048) :
    ((dats ch m 0 c).arrAt (3 : Fin 4) (cfgA Ideal ch).N : FVec Ideal S4x1x2048x2048 .bf16) (ix4 ⟨ch.val / 2, by omega⟩ 0 (row ch r) l)
      = Own m ch c (ix4 0 0 r l) := by
  have hf (t : Fin (cfgA Ideal ch).N) : ((cfgA Ideal ch).win (3 : Fin 4)).flush t = true ↔ t.val = 3 := by
    rw [(sched (F := Ideal) ch t).2.2.2.2, decide_eq_true_iff]
  obtain ⟨t, ht⟩ : ∃ t : Fin (cfgA Ideal ch).N, t.val = 3 := ⟨⟨3, lt_of_lt_of_eq (by omega : 3 < 4) N_0.symm⟩, rfl⟩
  have e := congrFun ((dats ch m 0 c).read_blk_arrAt_eq_flushed (3 : Fin 4)
    (fun t t' h h' hne => absurd (Fin.ext (((hf t).1 h).trans ((hf t').1 h').symm)) hne) (cfgA Ideal ch).N t t.isLt ((hf t).2 ht)) (ix4 0 0 r l)
  have hy : (((cfgA Ideal ch).win (3 : Fin 4)).blk t).view.emb (ix4 0 0 r l) = ix4 ⟨ch.val / 2, by omega⟩ 0 (row ch r) l := by blk_ext [idx ch t]
  rw [View.read_apply, hy] at e
  refine ((cast_eq _ _).symm.trans e).trans ?_
  blk_simp
  rw [after3]
  pointwise [k0_pay3, k0_pay1]
  exact congrArg₂ (fun a b : EReal => a + b) (blk0_at ch m c (own ch) r l) (blk1_at ch m c (own ch) r l)

/-- The buffers as the last line finds them. -/
abbrev mid (c : Dev nD) : Valuation τ sig (Elt Ideal) :=
  StableHlo.after [StableHlo.nullary main_c_0 (constantI S_ 32 0#32), StableHlo.nullary main_c_1 (constantI S_ 32 0#32)]
    (Pipeline.withArrays spec0 c (V0 m c) fun w => (dats ch m 0 c).arrAt w (cfgA Ideal ch).N)

theorem mid_chip (hp : Placed ch m) (c : Dev nD) : mid ch m c (Proc.devRef .tc main_v1) = fun _ => BitVec.ofNat 32 (ch.val / 2) := by
  after_results
  refine (Pipeline.withArrays_of_ne spec0 c (V0 m c) (fun w => (dats ch m 0 c).arrAt w (cfgA Ideal ch).N) main_v1 (by decide)).trans ?_
  after_results
  rw [hp c]
  pointwise
  rfl

theorem mid_row (hp : Placed ch m) (c : Dev nD) : mid ch m c (Proc.devRef .tc main_v4) = fun _ => BitVec.ofNat 32 (ch.val % 2 * 1024) := by
  after_results
  refine (Pipeline.withArrays_of_ne spec0 c (V0 m c) (fun w => (dats ch m 0 c).arrAt w (cfgA Ideal ch).N) main_v4 (by decide)).trans ?_
  after_results
  rw [hp c]
  pointwise
  exact funext fun _ => (BitVec.ofNat_mul (ch.val % 2) 1024).symm

theorem mid_zero (c : Dev nD) : mid ch m c (Proc.devRef .tc main_c_0) = constantI S_ 32 0#32 ∧ mid ch m c (Proc.devRef .tc main_c_1) = constantI S_ 32 0#32 := by
  constructor <;> after_results

theorem mid_array (c : Dev nD) : mid ch m c (Proc.devRef .tc main_v5_1) = (dats ch m 0 c).arrAt (3 : Fin 4) (cfgA Ideal ch).N := by
  after_results
  exact Pipeline.withArrays_arr spec0 (launch0 (F := Ideal)).win.arr_inj c (V0 m c) (fun w => (dats ch m 0 c).arrAt w (cfgA Ideal ch).N) (3 : Fin 4)

theorem start {v : S_.Idx → BitVec 32} {k : ℕ} (h : v = fun _ => BitVec.ofNat 32 k) (hk : k < 4096) : (v (Shape.Idx.first h_S_)).toInt = k := by
  rw [h]; exact toInt_ofNat_of_lt (by omega)

theorem final_own (hp : Placed ch m) (c : Dev nD) : tail ch m c main_v6 = Own m ch c := by
  have hc := ch.isLt
  unfold tail Pipeline.afterTail
  simp only [List.flatten_cons, List.flatten_nil, List.append_nil]
  rw [StableHlo.after_cons, StableHlo.after_cons, StableHlo.after_cons, StableHlo.after_nil, StableHlo.unaryIndexed_result]
  refine (Host.dynamicSlice_eq_extractStridedSlice S1x1x1024x2048 _ _ ![ch.val / 2, 0, ch.val % 2 * 1024, 0] _ ?_ ?_).trans ?_
  · refine ⟨rfl, fun a => ?_⟩
    fin_cases a
    · show ch.val / 2 + 1 ≤ 4; omega
    · show 0 + 1 ≤ 1; omega
    · show ch.val % 2 * 1024 + 1024 ≤ 2048; omega
    · show 0 + 2048 ≤ 2048; omega
  · intro a
    fin_cases a
    · exact start (k := ch.val / 2) (mid_chip ch m hp c) (by omega)
    · exact start (k := 0) (mid_zero ch m c).1 (by omega)
    · exact start (k := ch.val % 2 * 1024) (mid_row ch m hp c) (by omega)
    · exact start (k := 0) (mid_zero ch m c).2 (by omega)
  · refine (show _ = extractStridedSlice S1x1x1024x2048 ![ch.val / 2, 0, ch.val % 2 * 1024, 0]
      (mid ch m c (Proc.devRef .tc main_v5_1)) _ from rfl).trans ?_
    rw [mid_array]
    funext i
    idx_vars i
    obtain rfl : i0 = 0 := Subsingleton.elim _ _
    obtain rfl : i1 = 0 := Subsingleton.elim _ _
    refine Eq.trans ?_ (stored ch m c i2 i3)
    pointwise

end Value

end Cert.Kernel20Ideal.Pair

namespace Cert.Reference20Ideal.Pair

open Cert.Reference20Ideal Cert.Reference20Ideal.Gen Idealize.ShloMosaic Idealize.ShloMosaic.TcCoe Idealize.SL.Sem Idealize.ShloMosaic.StableHlo

variable {F : FTy → Type} [FloatOps F]

abbrev ops : List (HloOp τ sig (Elt F)) :=
  [ unary main_arg0 main_v0 ((extractStridedSlice S1 ![1] · slices_S2_S1_1) : (⟨S2, .i32⟩ : BufTy).Contents (Elt F) → (⟨S1, .i32⟩ : BufTy).Contents (Elt F)),
    reshape main_v0 main_v1 (rfl : (.i32 : EltTy) = .i32) shapeCasts_S1_S_,
    nullary main_c (constantI S_ 32 0#32),
    binary main_v1 main_c main_v2 (cmpi .eq : (⟨S_, .i32⟩ : BufTy).Contents (Elt F) → (⟨S_, .i32⟩ : BufTy).Contents (Elt F) → (⟨S_, .i1⟩ : BufTy).Contents (Elt F)),
    unary main_arg1 main_v3 ((extractStridedSlice S4x1x1024x2048 ![0, 0, 0, 0] · slices_S4x1x2048x2048_S4x1x1024x2048_0_0_0_0) : (⟨S4x1x2048x2048, .bf16⟩ : BufTy).Contents (Elt F) → (⟨S4x1x1024x2048, .bf16⟩ : BufTy).Contents (Elt F)),
    unary main_arg1 main_v4 ((extractStridedSlice S4x1x1024x2048 ![0, 0, 1024, 0] · slices_S4x1x2048x2048_S4x1x1024x2048_0_0_1024_0) : (⟨S4x1x2048x2048, .bf16⟩ : BufTy).Contents (Elt F) → (⟨S4x1x1024x2048, .bf16⟩ : BufTy).Contents (Elt F)),
    ternary main_v2 main_v3 main_v4 main_v5 ((fun p a b => select (broadcastInDim S4x1x1024x2048 ![] bcast_S_S4x1x1024x2048 p) a b) : (⟨S_, .i1⟩ : BufTy).Contents (Elt F) → (⟨S4x1x1024x2048, .bf16⟩ : BufTy).Contents (Elt F) → (⟨S4x1x1024x2048, .bf16⟩ : BufTy).Contents (Elt F) → (⟨S4x1x1024x2048, .bf16⟩ : BufTy).Contents (Elt F)),
    unary main_v5 main_v6 ((extf .f32 · bitsLt_bf16_f32) : (⟨S4x1x1024x2048, .bf16⟩ : BufTy).Contents (Elt F) → (⟨S4x1x1024x2048, .f32⟩ : BufTy).Contents (Elt F)),
    unary main_arg2 main_v7 ((extf .f32 · bitsLt_bf16_f32) : (⟨S4x1x1024x2048, .bf16⟩ : BufTy).Contents (Elt F) → (⟨S4x1x1024x2048, .f32⟩ : BufTy).Contents (Elt F)),
    binary main_v6 main_v7 main_v8 (addf : (⟨S4x1x1024x2048, .f32⟩ : BufTy).Contents (Elt F) → (⟨S4x1x1024x2048, .f32⟩ : BufTy).Contents (Elt F) → (⟨S4x1x1024x2048, .f32⟩ : BufTy).Contents (Elt F)),
    unary main_v8 main_v9 ((truncf .bf16 · bitsLt_bf16_f32) : (⟨S4x1x1024x2048, .f32⟩ : BufTy).Contents (Elt F) → (⟨S4x1x1024x2048, .bf16⟩ : BufTy).Contents (Elt F)),
    unary main_arg0 main_v10 ((extractStridedSlice S1 ![0] · slices_S2_S1_0) : (⟨S2, .i32⟩ : BufTy).Contents (Elt F) → (⟨S1, .i32⟩ : BufTy).Contents (Elt F)),
    reshape main_v10 main_v11 (rfl : (.i32 : EltTy) = .i32) shapeCasts_S1_S_,
    nullary main_c_0 (constantI S_ 32 0#32),
    nullary main_c_1 (constantI S_ 32 0#32),
    nullary main_c_2 (constantI S_ 32 0#32),
    unaryIndexed main_v9 ![main_v11, main_c_0, main_c_1, main_c_2] ⟨S_, .i32⟩ main_v12 ((fun x i => Host.dynamicSlice S1x1x1024x2048 x (fun k => (i k (Shape.Idx.first h_S_)).toInt) sliceFits_S4x1x1024x2048_S1x1x1024x2048) : (⟨S4x1x1024x2048, .bf16⟩ : BufTy).Contents (Elt F) → (Fin 4 → (⟨S_, .i32⟩ : BufTy).Contents (Elt F)) → (⟨S1x1x1024x2048, .bf16⟩ : BufTy).Contents (Elt F)) ]

theorem ops_sub : (ops : List (HloOp τ sig (Elt F))).Forall fun op => op.bufs ⊆ tcRefs τ sig :=
  ⟨unary_bufs_sub .., reshape_bufs_sub .., nullary_bufs_sub .., binary_bufs_sub .., unary_bufs_sub .., unary_bufs_sub .., ternary_bufs_sub ..,
    unary_bufs_sub .., unary_bufs_sub .., binary_bufs_sub .., unary_bufs_sub .., unary_bufs_sub .., reshape_bufs_sub .., nullary_bufs_sub ..,
    nullary_bufs_sub .., nullary_bufs_sub .., unaryIndexed_bufs_sub ..⟩

/-- What the reference computes of the whole. -/
def total (p : IVec S2 32) (g : FVec Ideal S4x1x2048x2048 .bf16) (o : FVec Ideal S4x1x1024x2048 .bf16) : FVec Ideal S4x1x1024x2048 .bf16 :=
  truncf .bf16 (addf
    (extf .f32 (select (broadcastInDim S4x1x1024x2048 ![] bcast_S_S4x1x1024x2048
        (cmpi .eq (shapeCast S_ (extractStridedSlice S1 ![1] p slices_S2_S1_1) shapeCasts_S1_S_) (constantI S_ 32 0#32)))
      (extractStridedSlice S4x1x1024x2048 ![0, 0, 0, 0] g slices_S4x1x2048x2048_S4x1x1024x2048_0_0_0_0)
      (extractStridedSlice S4x1x1024x2048 ![0, 0, 1024, 0] g slices_S4x1x2048x2048_S4x1x1024x2048_0_0_1024_0)) bitsLt_bf16_f32)
    (extf .f32 o bitsLt_bf16_f32)) bitsLt_bf16_f32

/-- And the chip's own part of it. -/
def part (p : IVec S2 32) (g : FVec Ideal S4x1x2048x2048 .bf16) (o : FVec Ideal S4x1x1024x2048 .bf16) : FVec Ideal S1x1x1024x2048 .bf16 :=
  Host.dynamicSlice S1x1x1024x2048 (total p g o) (fun k => ((![shapeCast S_ (extractStridedSlice S1 ![0] p slices_S2_S1_0) shapeCasts_S1_S_,
    constantI S_ 32 0#32, constantI S_ 32 0#32, constantI S_ 32 0#32] : Fin 4 → IVec S_ 32) k (Shape.Idx.first h_S_)).toInt) sliceFits_S4x1x1024x2048_S1x1x1024x2048

theorem part_read (m : (ℓ : Loc nD τ sig) → Buf (Elt Ideal) ℓ) (c : Dev nD) : after ops (fun b => m (c, b)) (Proc.devRef .tc main_v12)
    = part (m ((c.tc : Thread nD τ).loc main_arg0)) (m ((c.tc : Thread nD τ).loc main_arg1)) (m ((c.tc : Thread nD τ).loc main_arg2)) := by
  simp only [after_cons, after_nil]
  rw [unaryIndexed_result]
  refine congrArg₂ (fun x s => Host.dynamicSlice S1x1x1024x2048 x s sliceFits_S4x1x1024x2048_S1x1x1024x2048) ?_ (funext fun k => ?_)
  · after_results_loop
    rfl
  · fin_cases k
    · refine congrArg (fun v : IVec S_ 32 => (v (Shape.Idx.first h_S_)).toInt) (show _ = shapeCast S_ (extractStridedSlice S1 ![0] (m ((c.tc : Thread nD τ).loc main_arg0)) slices_S2_S1_0) shapeCasts_S1_S_ from ?_)
      show HloOp.result _ _ (Proc.devRef .tc main_v11) = _
      after_results_loop
      rfl
    · refine congrArg (fun v : IVec S_ 32 => (v (Shape.Idx.first h_S_)).toInt) (show _ = constantI S_ 32 0#32 from ?_)
      show HloOp.result _ _ (Proc.devRef .tc main_c_0) = _
      after_results_loop
      rfl
    · refine congrArg (fun v : IVec S_ 32 => (v (Shape.Idx.first h_S_)).toInt) (show _ = constantI S_ 32 0#32 from ?_)
      show HloOp.result _ _ (Proc.devRef .tc main_c_1) = _
      after_results_loop
      rfl
    · refine congrArg (fun v : IVec S_ 32 => (v (Shape.Idx.first h_S_)).toInt) (show _ = constantI S_ 32 0#32 from ?_)
      show HloOp.result _ _ (Proc.devRef .tc main_c_2) = _
      after_results_loop
      rfl

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v9) = total (m ((c.tc : Thread nD τ).loc main_arg0)) (m ((c.tc : Thread nD τ).loc main_arg1)) (m ((c.tc : Thread nD τ).loc main_arg2))
      ∧ r.2.mem ((c.tc : Thread nD τ).loc main_v12) = part (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v9).trans (by after_results; rfl), (h c main_v12).trans (part_read m c), (h c main_arg0).trans (by after_results),
      (h c main_arg1).trans (by after_results), (h c main_arg2).trans (by after_results)⟩)
    (run_seq (by decide) (by decide) defs main (fun _ => ops) (fun _ => rfl) (fun _ => ops_sub) m ρ)

/-- At a place, the reference's sum reads the core's own half. -/
theorem total_place (ch : Fin 8) (g : FVec Ideal S4x1x2048x2048 .bf16) (o : FVec Ideal S4x1x1024x2048 .bf16) (i : S4x1x1024x2048.Idx) :
    total (Cert.Kernel20Ideal.Pair.place ch) g o i = (g (ix4 (i 0) (i 1) (Cert.Kernel20Ideal.Pair.row ch (i 2)) (i 3)) : EReal) + o i := by
  have hw : Cert.Kernel20Ideal.Pair.place ch (ix1 1) = BitVec.ofNat 32 (ch.val % 2) := rfl
  unfold total
  idx_vars i
  pointwise
  rw [hw]
  obtain rfl : i1 = 0 := Subsingleton.elim _ _
  refine congrArg (fun a : EReal => a + o (ix4 i0 0 i2 i3)) ?_
  rcases Nat.mod_two_eq_zero_or_one ch.val with h | h
  · rw [h]
    refine (congrArg g ?_ : _ = g _)
    congr 1
    exact Fin.ext (by show i2.val = ch.val % 2 * 1024 + i2.val; omega)
  · rw [h]
    refine (congrArg g ?_ : _ = g _)
    congr 1
    exact Fin.ext (by show 1024 + i2.val = ch.val % 2 * 1024 + i2.val; omega)

/-- At a place, the part is the chip's own block. -/
theorem part_place (ch : Fin 8) (g : FVec Ideal S4x1x2048x2048 .bf16) (o : FVec Ideal S4x1x1024x2048 .bf16) (i : S1x1x1024x2048.Idx) :
    part (Cert.Kernel20Ideal.Pair.place ch) g o i = total (Cert.Kernel20Ideal.Pair.place ch) g o (ix4 ⟨ch.val / 2, by omega⟩ (i 1) (i 2) (i 3)) := by
  have hc := ch.isLt
  unfold part
  refine (congrFun (Host.dynamicSlice_eq_extractStridedSlice (s := S4x1x1024x2048) S1x1x1024x2048 _ _ ![ch.val / 2, 0, 0, 0] _ ?_ ?_) i).trans ?_
  · refine ⟨rfl, fun a => ?_⟩
    fin_cases a
    · show ch.val / 2 + 1 ≤ 4; omega
    · show 0 + 1 ≤ 1; omega
    · show 0 + 1024 ≤ 1024; omega
    · show 0 + 2048 ≤ 2048; omega
  · intro a
    fin_cases a
    · refine (congrArg BitVec.toInt (show _ = BitVec.ofNat 32 (ch.val / 2) from ?_)).trans (toInt_ofNat_of_lt (by omega))
      show shapeCast S_ (extractStridedSlice S1 ![0] (Cert.Kernel20Ideal.Pair.place ch) slices_S2_S1_0) shapeCasts_S1_S_ (Shape.Idx.first h_S_) = _
      pointwise
      rfl
    · rfl
    · rfl
    · rfl
  idx_vars i
  obtain rfl : i0 = 0 := Subsingleton.elim _ _
  pointwise
  refine congrArg _ ?_
  rw [Subsingleton.elim i1 0]

end Cert.Reference20Ideal.Pair

end
-- ==== Proof.lean ====
/- The proof of this certificate's claims. -/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.Scale
public import proofs.«01_k».proof.Proof.Gen.Kernel4.Frame
public import proofs.«01_k».proof.Proof.Gen.Kernel4Ideal.Value
public import proofs.«01_k».proof.Proof.Gen.Reference4Ideal.Read
public import proofs.«01_k».proof.Proof.Rms
public import proofs.«01_k».proof.Proof.Gen.Kernel6.Frame
public import proofs.«01_k».proof.Proof.Gen.Kernel6Ideal.Value
public import proofs.«01_k».proof.Proof.Gen.Reference6Ideal.Read
public import proofs.«01_k».proof.Proof.MlpDx
public import proofs.«01_k».proof.Proof.Gen.Kernel2.Frame
public import proofs.«01_k».proof.Proof.Gen.Kernel2Ideal.Value
public import proofs.«01_k».proof.Proof.Gen.Reference2Ideal.Read
public import proofs.«01_k».proof.Proof.Gate
public import proofs.«01_k».proof.Proof.Gen.Kernel3.Frame
public import proofs.«01_k».proof.Proof.Gen.Kernel3Ideal.Value
public import proofs.«01_k».proof.Proof.Gen.Reference3Ideal.Read
public import proofs.«01_k».proof.Proof.Pool
public import proofs.«01_k».proof.Proof.Gen.Kernel5.Frame
public import proofs.«01_k».proof.Proof.Gen.Kernel5Ideal.Value
public import proofs.«01_k».proof.Proof.Gen.Reference5Ideal.Read
public import proofs.«01_k».proof.Proof.Loss
public import proofs.«01_k».proof.Proof.Gen.Kernel7.Frame
public import proofs.«01_k».proof.Proof.Gen.Kernel7Ideal.Value
public import proofs.«01_k».proof.Proof.Gen.Reference7Ideal.Read
public import proofs.«01_k».proof.Proof.RmsFwd
public import proofs.«01_k».proof.Proof.Gen.Kernel8.Frame
public import proofs.«01_k».proof.Proof.Gen.Kernel8Ideal.Value
public import proofs.«01_k».proof.Proof.Gen.Reference8Ideal.Read
public import proofs.«01_k».proof.Proof.GateFwd
public import proofs.«01_k».proof.Proof.Gen.Kernel9.Frame
public import proofs.«01_k».proof.Proof.Gen.Kernel9Ideal.Value
public import proofs.«01_k».proof.Proof.Gen.Reference9Ideal.Read
public import proofs.«01_k».proof.Proof.PoolFwd
public import proofs.«01_k».proof.Proof.Gen.Kernel10.Frame
public import proofs.«01_k».proof.Proof.Gen.Kernel10Ideal.Value
public import proofs.«01_k».proof.Proof.Gen.Reference10Ideal.Read
public import proofs.«01_k».proof.Proof.Up
public import proofs.«01_k».proof.Proof.Gen.Kernel11.Frame
public import proofs.«01_k».proof.Proof.Gen.Kernel11Ideal.Value
public import proofs.«01_k».proof.Proof.Gen.Reference11Ideal.Read
public import proofs.«01_k».proof.Proof.Grp
public import proofs.«01_k».proof.Proof.Gen.Kernel12.Frame
public import proofs.«01_k».proof.Proof.Gen.Kernel12Ideal.Value
public import proofs.«01_k».proof.Proof.Gen.Reference12Ideal.Read
public import proofs.«01_k».proof.Proof.Down
public import proofs.«01_k».proof.Proof.Gen.Kernel13.Launch
public import proofs.«01_k».proof.Proof.Psum
public import proofs.«01_k».proof.Proof.Gen.Kernel14.Frame
public import proofs.«01_k».proof.Proof.Gen.Kernel14Ideal.Value
public import proofs.«01_k».proof.Proof.Gen.Reference14Ideal.Read
public import proofs.«01_k».proof.Proof.MmBwd
public import proofs.«01_k».proof.Proof.Gen.Kernel15.Frame
public import proofs.«01_k».proof.Proof.Gen.Kernel15Ideal.Value
public import proofs.«01_k».proof.Proof.Gen.Reference15Ideal.Read
public import proofs.«01_k».proof.Proof.MmDw
public import proofs.«01_k».proof.Proof.Gen.Kernel16.Frame
public import proofs.«01_k».proof.Proof.Gen.Kernel16Ideal.Value
public import proofs.«01_k».proof.Proof.Gen.Reference16Ideal.Read
public import proofs.«01_k».proof.Proof.MmAw
public import proofs.«01_k».proof.Proof.Gen.Kernel17.Frame
public import proofs.«01_k».proof.Proof.Gen.Kernel17Ideal.Frame
public import proofs.«01_k».proof.Proof.Gen.Reference17Ideal.Read
public import proofs.«01_k».proof.Proof.Small
public import proofs.«01_k».proof.Proof.Gen.Kernel19.Frame
public import proofs.«01_k».proof.Proof.Gen.Kernel19Ideal.Value
public import proofs.«01_k».proof.Proof.Gen.Reference19Ideal.Read
public import proofs.«01_k».proof.Proof.Adam
public import proofs.«01_k».proof.Proof.Gen.Kernel18.Frame
public import proofs.«01_k».proof.Proof.Gen.Kernel18Ideal.Frame
public import proofs.«01_k».proof.Proof.Gen.Reference18Ideal.Read
public import proofs.«01_k».proof.Proof.AdamSmall
public import proofs.«01_k».proof.Proof.Gen.Kernel20.Launch
public import proofs.«01_k».proof.Proof.Gen.Pre_placed
public import proofs.«01_k».proof.Proof.Pair
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The gradient of the branch scale is the reference's, exactly. -/
theorem scale : Cert.algebraic_KernelIdeal_ReferenceIdeal := by
  intro m g m' g' _ hagree
  refine ⟨_, _, Cert.KernelIdeal.Value.run_blocks m g,
    (θ_run Cert.ReferenceIdeal.defs _ _).mono (fun r h c => ?_) (Cert.ReferenceIdeal.Value.run m' g')⟩
  obtain ⟨h0, h1, hargs⟩ := h c
  obtain ⟨a0, a1, a2⟩ := hagree c
  rw [a0, a2] at h0
  rw [a0, a1] at h1
  exact ⟨h0.trans (Cert.KernelIdeal.Scale.final_mixed m c).symm, h1.trans (Cert.KernelIdeal.Scale.final_scale m c).symm, hargs⟩

theorem frame_reference4 : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

instance facts_finite_rms : Cert.Pre_finite_rms.Facts := ⟨by decide, by decide⟩

/-- The gradient of the root mean square norm is the reference's on finite activations, scales and cotangents. -/
theorem rms : Cert.algebraic_Kernel4Ideal_Reference4Ideal_pre_finite_rms := by
  intro m g m' g' hpre hagree
  refine ⟨_, _, _, Cert.Kernel4Ideal.Value.run_blocks m g,
    (θ_run Cert.Reference4Ideal.defs _ _).mono (fun r h c => ?_) (Cert.Reference4Ideal.Value.run m' g')⟩
  obtain ⟨h0, h1, h2, hargs⟩ := h c
  obtain ⟨a0, a1, a2, a3⟩ := hagree c
  obtain ⟨p0, p1, p2⟩ := hpre c
  have f0 : Cert.Reals.Finite (Cert.Kernel4Ideal.Rms.X m c) := Cert.Reals.finite_of_lt _ _ (fun _ => rfl) p0
  have f1 : Cert.Reals.Finite (Cert.Kernel4Ideal.Rms.G m c) := Cert.Reals.finite_of_lt _ _ (fun _ => rfl) p1
  have f2 : Cert.Reals.Finite (Cert.Kernel4Ideal.Rms.D m c) := Cert.Reals.finite_of_lt _ _ (fun _ => rfl) p2
  rw [Cert.Reference4Ideal.Read.val_main_v37_eq, a0, a1, a2, a3] at h0
  rw [Cert.Reference4Ideal.Read.val_main_v39_eq, a0, a1, a2, a3] at h1
  rw [a0, a2] at h2
  exact ⟨h0.trans (Cert.Kernel4Ideal.Rms.final_dx m c f0 f1 f2).symm, h1.trans (Cert.Kernel4Ideal.Rms.final_copy m c f0 f1 f2).symm,
    h2.trans (Cert.Kernel4Ideal.Rms.final_scale m c).symm, hargs⟩

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The gradient through the down product and the squared rectifier is the reference's, exactly. -/
theorem mlpdx : Cert.algebraic_Kernel6Ideal_Reference6Ideal := by
  intro m g m' g' _ hagree
  refine ⟨_, Cert.Kernel6Ideal.Value.run_blocks m g,
    (θ_run Cert.Reference6Ideal.defs _ _).mono (fun r h c => ?_) (Cert.Reference6Ideal.Value.run m' g')⟩
  obtain ⟨h0, hargs⟩ := h c
  obtain ⟨a0, a1, a2⟩ := hagree c
  rw [a0, a1, a2] at h0
  exact ⟨h0.trans (Cert.Kernel6Ideal.MlpDx.final_dx m c).symm, hargs⟩

theorem frame_reference2 : Cert.quiescent_Reference2Ideal := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

instance facts_finite_gate : Cert.Pre_finite_gate.Facts := ⟨by decide, by decide, by decide, by decide, by decide⟩

/-- A function of six arguments at equal arguments. -/
theorem congr_six {α β γ δ ε ζ η : Type _} (f : α → β → γ → δ → ε → ζ → η) {x x' : α} {y y' : β} {z z' : γ} {u u' : δ} {v v' : ε} {w w' : ζ}
    (hx : x = x') (hy : y = y') (hz : z = z') (hu : u = u') (hv : v = v') (hw : w = w') : f x y z u v w = f x' y' z' u' v' w' := by
  rw [hx, hy, hz, hu, hv, hw]

/-- The two named constants of the gelu are their float words but for rounding. -/
theorem preserves_gate : Cert.preserves_Kernel2_Kernel2Ideal :=
  ⟨IdealRules.named_const.statement _ _ _ _ _ rfl, IdealRules.named_const.statement _ _ _ _ _ rfl⟩

set_option maxHeartbeats 2000000 in
/-- The gated mixer's gradients are the reference's on finite arguments. -/
theorem gate : Cert.algebraic_Kernel2Ideal_Reference2Ideal_pre_finite_gate := by
  intro m g m' g' hpre hagree
  refine ⟨_, _, _, _, _, Cert.Kernel2Ideal.Value.run_blocks m g,
    (θ_run Cert.Reference2Ideal.defs _ _).mono (fun r h c => ?_) (Cert.Reference2Ideal.Value.run m' g')⟩
  obtain ⟨h0, h1, h2, h3, h4, hargs⟩ := h c
  obtain ⟨a0, a1, a2, a3, a4, a5⟩ := hagree c
  obtain ⟨p0, p1, p2, p3, p4, p5⟩ := hpre c
  have f0 : Cert.Reals.Finite (Cert.Kernel2Ideal.Gate.Z m c) := Cert.Reals.finite_of_lt _ _ (fun _ => rfl) p0
  have f1 : Cert.Reals.Finite (Cert.Kernel2Ideal.Gate.D m c) := Cert.Reals.finite_of_lt _ _ (fun _ => rfl) p1
  have f2 : Cert.Reals.Finite (Cert.Kernel2Ideal.Gate.G m c) := Cert.Reals.finite_of_lt _ _ (fun _ => rfl) p2
  have f3 : Cert.Reals.Finite (Cert.Kernel2Ideal.Gate.B m c) := Cert.Reals.finite_of_lt _ _ (fun _ => rfl) p3
  have f4 : Cert.Reals.Finite (Cert.Kernel2Ideal.Gate.W m c) := Cert.Reals.finite_of_lt _ _ (fun _ => rfl) p4
  have f5 : Cert.Reals.Finite (Cert.Kernel2Ideal.Gate.S m c) := Cert.Reals.finite_of_lt _ _ (fun _ => rfl) p5
  have k0 := h0.trans ((Cert.Reference2Ideal.Read.val_main_v116_eq _).trans (congr_six Cert.Reference2Ideal.Read.val_main_v116 a0 a1 a2 a3 a4 a5))
  have k1 := h1.trans ((Cert.Reference2Ideal.Read.val_main_v73_eq _).trans (congr_six (fun z d g b _ _ => Cert.Reference2Ideal.Read.val_main_v73 z d g b) a0 a1 a2 a3 a4 a5))
  have k2 := h2.trans ((Cert.Reference2Ideal.Read.val_main_v117_eq _).trans (congr_six (fun z d _ _ _ _ => Cert.Reference2Ideal.Read.val_main_v117 z d) a0 a1 a2 a3 a4 a5))
  have k3 := h3.trans ((Cert.Reference2Ideal.Read.val_main_v118_eq _).trans (congr_six (fun z d _ _ w _ => Cert.Reference2Ideal.Read.val_main_v118 z d w) a0 a1 a2 a3 a4 a5))
  have k4 := h4.trans ((Cert.Reference2Ideal.Read.val_main_v119_eq _).trans (congr_six (fun z d _ _ w _ => Cert.Reference2Ideal.Read.val_main_v119 z d w) a0 a1 a2 a3 a4 a5))
  exact ⟨k0.trans (Cert.Kernel2Ideal.Gate.final_dz m c f0 f1 f2 f3 f4 f5).symm, k1.trans (Cert.Kernel2Ideal.Gate.final_dw m c f0).symm,
    k2.trans (Cert.Kernel2Ideal.Gate.final_dbs m c f0).symm, k3.trans (Cert.Kernel2Ideal.Gate.final_dg m c f0).symm,
    k4.trans (Cert.Kernel2Ideal.Gate.final_db m c f0).symm, hargs⟩

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

instance facts_finite_pool : Cert.Pre_finite_pool.Facts := ⟨by decide⟩

/-- The pooling's gradient is the reference's on finite cotangents. -/
theorem pool : Cert.algebraic_Kernel3Ideal_Reference3Ideal_pre_finite_pool := by
  intro m g m' g' hpre hagree
  refine ⟨_, Cert.Kernel3Ideal.Value.run_blocks m g,
    (θ_run Cert.Reference3Ideal.defs _ _).mono (fun r h c => ?_) (Cert.Reference3Ideal.Value.run m' g')⟩
  obtain ⟨h0, hargs⟩ := h c
  have a0 := hagree c
  have f0 : Cert.Reals.Finite (Cert.Kernel3Ideal.Pool.P m c) := Cert.Reals.finite_of_lt _ _ (fun _ => rfl) (hpre c)
  have k0 := h0.trans ((Cert.Reference3Ideal.Read.val_main_v161_eq _).trans (congrArg Cert.Reference3Ideal.Read.val_main_v161 a0))
  exact ⟨k0.trans (Cert.Kernel3Ideal.Pool.final_pool m c f0).symm, hargs⟩

theorem frame_reference5 : Cert.quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run (F := Ideal) m ρ)

instance facts_finite_loss : Cert.Pre_finite_loss.Facts := ⟨by decide, by decide, by decide, by decide, by decide⟩

theorem congr_five {α₁ α₂ α₃ α₄ α₅ β : Type} (f : α₁ → α₂ → α₃ → α₄ → α₅ → β) {x x' : α₁} {y y' : α₂} {z z' : α₃} {u u' : α₄} {v v' : α₅}
    (hx : x = x') (hy : y = y') (hz : z = z') (hu : u = u') (hv : v = v') : f x y z u v = f x' y' z' u' v' := by
  rw [hx, hy, hz, hu, hv]

set_option maxHeartbeats 2000000 in
/-- The loss and the gradients of the last residual and of the final norm are the reference's on finite arguments. -/
theorem loss : Cert.algebraic_Kernel5Ideal_Reference5Ideal_pre_finite_loss := by
  intro m g m' g' hpre hagree
  refine ⟨_, _, _, _, Cert.Kernel5Ideal.Value.run_blocks m g,
    (θ_run Cert.Reference5Ideal.defs _ _).mono (fun r h c => ?_) (Cert.Reference5Ideal.Value.run m' g')⟩
  obtain ⟨h0, h1, h2, h3, hargs⟩ := h c
  obtain ⟨a0, a1, a2, a3, a4⟩ := hagree c
  obtain ⟨p0, p1, p2, p3, p4⟩ := hpre c
  have f0 : Cert.Reals.Finite (Cert.Kernel5Ideal.Loss.X m c) := Cert.Reals.finite_of_lt _ _ (fun _ => rfl) p0
  have f1 := Cert.Reals.finite_of_lt _ _ (fun _ => rfl) p1
  have f2 := Cert.Reals.finite_of_lt _ _ (fun _ => rfl) p2
  have f3 : Cert.Reals.Finite (Cert.Kernel5Ideal.Loss.G m c) := Cert.Reals.finite_of_lt _ _ (fun _ => rfl) p3
  have f4 : Cert.Reals.Finite (Cert.Kernel5Ideal.Loss.Y m c) := Cert.Reals.finite_of_lt _ _ (fun _ => rfl) p4
  have fh := Cert.Kernel5Ideal.Loss.hid_real m c f0 f1 f2
  have k0 := h0.trans ((Cert.Reference5Ideal.Read.val_main_v54_eq _ _).trans (congr_five Cert.Reference5Ideal.Read.val_main_v54 a0 a1 a2 a3 a4))
  have k1 := h1.trans ((Cert.Reference5Ideal.Read.val_main_v55_eq _ _).trans (congr_five Cert.Reference5Ideal.Read.val_main_v55 a0 a1 a2 a3 a4))
  have k2 := h2.trans ((Cert.Reference5Ideal.Read.val_main_v56_eq _ _ _ _ _).trans (congr_five Cert.Reference5Ideal.Read.val_main_v56 a0 a1 a2 a3 a4))
  have k3 := h3.trans ((Cert.Reference5Ideal.Read.val_main_v57_eq _ _ _ _ _).trans (congr_five Cert.Reference5Ideal.Read.val_main_v57 a0 a1 a2 a3 a4))
  exact ⟨k0.trans (Cert.Kernel5Ideal.Loss.final_dh m c fh f4 f3).symm, k1.trans (Cert.Kernel5Ideal.Loss.final_copy m c fh f4 f3).symm,
    k2.trans (Cert.Kernel5Ideal.Loss.final_scale m c fh f4 f3).symm, k3.trans (Cert.Kernel5Ideal.Loss.final_loss m c fh f4 f3).symm, hargs⟩

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The norm is the reference's. -/
theorem rmsf : Cert.algebraic_Kernel7Ideal_Reference7Ideal := by
  intro m g m' g' _ hagree
  refine ⟨_, Cert.Kernel7Ideal.Value.run_blocks m g,
    (θ_run Cert.Reference7Ideal.defs _ _).mono (fun r h c => ?_) (Cert.Reference7Ideal.Value.run m' g')⟩
  obtain ⟨h0, hargs⟩ := h c
  obtain ⟨a0, a1⟩ := hagree c
  rw [a0, a1] at h0
  exact ⟨h0.trans (Cert.Kernel7Ideal.RmsFwd.final_norm m c).symm, hargs⟩

theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The gating is the reference's. -/
theorem gatef : Cert.algebraic_Kernel8Ideal_Reference8Ideal := by
  intro m g m' g' _ hagree
  refine ⟨_, Cert.Kernel8Ideal.Value.run_blocks m g,
    (θ_run Cert.Reference8Ideal.defs _ _).mono (fun r h c => ?_) (Cert.Reference8Ideal.Value.run m' g')⟩
  obtain ⟨h0, hargs⟩ := h c
  obtain ⟨a0, a1, a2, a3, a4⟩ := hagree c
  have k0 := h0.trans ((Cert.Reference8Ideal.Read.val_main_v50_eq _ c).trans (congr_five Cert.Reference8Ideal.Read.val_main_v50 a0 a1 a2 a3 a4))
  exact ⟨k0.trans (Cert.Kernel8Ideal.GateFwd.final_gate m c).symm, hargs⟩

theorem preserves_gatef : Cert.preserves_Kernel8_Kernel8Ideal := IdealRules.named_const.statement _ _ _ _ _ rfl

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

instance facts_finite_v : Cert.Pre_finite_v.Facts := ⟨by decide⟩

/-- The pooling is the reference's on finite values. -/
theorem poolf : Cert.algebraic_Kernel9Ideal_Reference9Ideal_pre_finite_v := by
  intro m g m' g' hpre hagree
  refine ⟨_, Cert.Kernel9Ideal.Value.run_blocks m g,
    (θ_run Cert.Reference9Ideal.defs _ _).mono (fun r h c => ?_) (Cert.Reference9Ideal.Value.run m' g')⟩
  obtain ⟨h0, hargs⟩ := h c
  have a0 := hagree c
  have f0 : Cert.Reals.Finite (Cert.Kernel9Ideal.PoolFwd.P m c) := Cert.Reals.finite_of_lt _ _ (fun _ => rfl) (hpre c)
  have k0 := h0.trans ((Cert.Reference9Ideal.Read.val_main_v87_eq _ c).trans (congrArg Cert.Reference9Ideal.Read.val_main_v87 a0))
  exact ⟨k0.trans (Cert.Kernel9Ideal.PoolFwd.final_pool m c f0).symm, hargs⟩

theorem frame_reference10 : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The product's activation and its square are the reference's. -/
theorem up : Cert.algebraic_Kernel10Ideal_Reference10Ideal := by
  intro m g m' g' _ hagree
  refine ⟨_, _, Cert.Kernel10Ideal.Value.run_blocks m g,
    (θ_run Cert.Reference10Ideal.defs _ _).mono (fun r h c => ?_) (Cert.Reference10Ideal.Value.run m' g')⟩
  obtain ⟨h0, h1, hargs⟩ := h c
  obtain ⟨a0, a1⟩ := hagree c
  rw [a0, a1] at h0 h1
  exact ⟨h0.trans (Cert.Kernel10Ideal.Up.final_act m c).symm, h1.trans (Cert.Kernel10Ideal.Up.final_sq m c).symm, hargs⟩

theorem frame_reference11 : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The grouped product and its scaled activation are the reference's. -/
theorem grp : Cert.algebraic_Kernel11Ideal_Reference11Ideal := by
  intro m g m' g' _ hagree
  refine ⟨_, _, Cert.Kernel11Ideal.Value.run_blocks m g,
    (θ_run Cert.Reference11Ideal.defs _ _).mono (fun r h c => ?_) (Cert.Reference11Ideal.Value.run m' g')⟩
  obtain ⟨h0, h1, hargs⟩ := h c
  obtain ⟨a0, a1, a2⟩ := hagree c
  rw [a0, a1] at h0
  rw [a0, a1, a2] at h1
  exact ⟨h0.trans (Cert.Kernel11Ideal.Grp.final_mixed m c).symm, h1.trans (Cert.Kernel11Ideal.Grp.final_scaled m c).symm, hargs⟩

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The two halves of the product and the residual are the reference's. -/
theorem down : Cert.algebraic_Kernel12Ideal_Reference12Ideal := by
  intro m g m' g' _ hagree
  refine ⟨_, Cert.Kernel12Ideal.Value.run_blocks m g,
    (θ_run Cert.Reference12Ideal.defs _ _).mono (fun r h c => ?_) (Cert.Reference12Ideal.Value.run m' g')⟩
  obtain ⟨h0, hargs⟩ := h c
  obtain ⟨a0, a1, a2⟩ := hagree c
  rw [a0, a1, a2] at h0
  exact ⟨h0.trans (Cert.Kernel12Ideal.Down.final_down m c).symm, hargs⟩

theorem frame_kernel13ideal : Cert.quiescent_Kernel13Ideal := fun m ρ _ =>
  (θ_run Cert.Kernel13Ideal.defs _ _).mono (fun _ h => ⟨fun c => (h.1 c).2, h.2⟩) (Cert.Kernel13Ideal.Psum.run (F := Ideal) m ρ)

/-- The two programs are one text, so the run above, which is at any float values, is the kernel's too. -/
theorem frame_kernel13 : Cert.quiescent_Kernel13 := fun m ρ _ =>
  (θ_run Cert.Kernel13.defs _ _).mono (fun _ h => ⟨fun c => (h.1 c).2, h.2⟩) (Cert.Kernel13Ideal.Psum.run (F := Bits) m ρ)

theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Psum.run m ρ)

/-- Every device ends with the sum of all eight partial losses. -/
theorem psum : Cert.algebraic_Kernel13Ideal_Reference13Ideal := by
  intro m g m' g' _ hagree
  refine ⟨Cert.Reference13Ideal.Psum.total (m' (((0 : Dev Cert.Reference13Ideal.nD).tc : Thread Cert.Reference13Ideal.nD Cert.Reference13Ideal.τ).loc Cert.Reference13Ideal.main_arg0)), (θ_run Cert.Kernel13Ideal.defs _ _).mono (fun r h c => ⟨(h.1 c).1.trans (funext fun y => ?_), (h.1 c).2⟩)
      (Cert.Kernel13Ideal.Psum.run m g),
    (θ_run Cert.Reference13Ideal.defs _ _).mono (fun r h => h 0) (Cert.Reference13Ideal.Psum.run m' g')⟩
  refine (Cert.Kernel13Ideal.Psum.received_at m c y).trans (Eq.trans (?_ : (_ : EReal) = _) (Cert.Reference13Ideal.Psum.total_at _ y).symm)
  exact Finset.sum_congr (M := EReal) rfl fun d _ => (congrFun (hagree d) (ix2 (0 : Fin 1) (0 : Fin 128))).trans <|
    congrArg (m' (((0 : Dev Cert.Reference13Ideal.nD).tc : Thread Cert.Reference13Ideal.nD Cert.Reference13Ideal.τ).loc Cert.Reference13Ideal.main_arg0))
      (funext fun a => Fin.ext ((Layout.Tiles.idx_val ..).trans (by
        match a with
        | ⟨0, _⟩ => exact Nat.mul_one d.val
        | ⟨1, _⟩ => rfl)))

theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- A product's two gradients are the reference's. -/
theorem mmbwd : Cert.algebraic_Kernel14Ideal_Reference14Ideal := by
  intro m g m' g' _ hagree
  refine ⟨_, _, Cert.Kernel14Ideal.Value.run_blocks m g,
    (θ_run Cert.Reference14Ideal.defs _ _).mono (fun r h c => ?_) (Cert.Reference14Ideal.Value.run m' g')⟩
  obtain ⟨h0, h1, hargs⟩ := h c
  obtain ⟨a0, a1, a2⟩ := hagree c
  rw [a0, a1] at h0
  rw [a0, a2] at h1
  exact ⟨h0.trans (Cert.Kernel14Ideal.MmBwd.final_dx m c).symm, h1.trans (Cert.Kernel14Ideal.MmBwd.final_dw m c).symm, hargs⟩

theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- A weight's gradient is the reference's. -/
theorem mmdw : Cert.algebraic_Kernel15Ideal_Reference15Ideal := by
  intro m g m' g' _ hagree
  refine ⟨_, Cert.Kernel15Ideal.Value.run_blocks m g,
    (θ_run Cert.Reference15Ideal.defs _ _).mono (fun r h c => ?_) (Cert.Reference15Ideal.Value.run m' g')⟩
  obtain ⟨h0, hargs⟩ := h c
  obtain ⟨a0, a1⟩ := hagree c
  rw [a0, a1] at h0
  exact ⟨h0.trans (Cert.Kernel15Ideal.MmDw.final_dw m c).symm, hargs⟩

theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The gradient of a product's operand is the reference's. -/
theorem mmaw : Cert.algebraic_Kernel16Ideal_Reference16Ideal := by
  intro m g m' g' _ hagree
  refine ⟨_, Cert.Kernel16Ideal.Value.run_blocks m g,
    (θ_run Cert.Reference16Ideal.defs _ _).mono (fun r h c => ?_) (Cert.Reference16Ideal.Value.run m' g')⟩
  obtain ⟨h0, hargs⟩ := h c
  obtain ⟨a0, a1⟩ := hagree c
  rw [a0, a1] at h0
  exact ⟨h0.trans (Cert.Kernel16Ideal.MmAw.final_dx m c).symm, hargs⟩

theorem frame_reference17 : Cert.quiescent_Reference17Ideal := fun m ρ _ =>
  (θ_run Cert.Reference17Ideal.defs _ _).mono (fun r h => ⟨fun c => (h c).2.2.2.2.2.2.2.2, sem_eq_zero_of_no_sems (by decide) r.2⟩)
    (Cert.Reference17Ideal.Value.run (F := Ideal) m ρ)

/-- The sums over the eight slots of the small weights' gradients, cut out of one packed array, are the reference's sums. -/
theorem small : Cert.algebraic_Kernel17Ideal_Reference17Ideal := by
  intro m g m' g' _ hagree
  refine ⟨_, _, _, _, _, _, _, _, Cert.Kernel17Ideal.Small.run m g,
    (θ_run Cert.Reference17Ideal.defs _ _).mono (fun r h c => ?_) (Cert.Reference17Ideal.Value.run m' g')⟩
  obtain ⟨h0, h1, h2, h3, h4, h5, h6, h7, hargs⟩ := h c
  obtain ⟨a0, a1, a2, a3, a4, a5, a6, a7⟩ := hagree c
  rw [Cert.Reference17Ideal.Read.val_main_v0_eq, a0] at h0
  rw [Cert.Reference17Ideal.Read.val_main_v1_eq, a1] at h1
  rw [Cert.Reference17Ideal.Read.val_main_v2_eq, a2] at h2
  rw [Cert.Reference17Ideal.Read.val_main_v3_eq, a3] at h3
  rw [Cert.Reference17Ideal.Read.val_main_v4_eq, a4] at h4
  rw [Cert.Reference17Ideal.Read.val_main_v5_eq, a5] at h5
  rw [Cert.Reference17Ideal.Read.val_main_v6_eq, a6] at h6
  rw [Cert.Reference17Ideal.Read.val_main_v7_eq, a7] at h7
  exact ⟨h0, h1, h2, h3, h4, h5, h6, h7, hargs⟩

theorem frame_reference19 : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

/-- AdamW of a layer of a large weight, on the sum of the parts of its gradient, is the reference's. -/
theorem adam : Cert.algebraic_Kernel19Ideal_Reference19Ideal := by
  intro m g m' g' _ hagree
  refine ⟨_, _, _, _, Cert.Kernel19Ideal.Value.run_blocks m g,
    (θ_run Cert.Reference19Ideal.defs _ _).mono (fun r h c => ?_) (Cert.Reference19Ideal.Value.run m' g')⟩
  obtain ⟨h0, h1, h2, h3, hargs⟩ := h c
  obtain ⟨a0, a1, a2, a3, a4, a5, a6, a7⟩ := hagree c
  rw [Cert.Reference19Ideal.Read.val_main_v37_eq, a3, a4] at h0
  rw [Cert.Reference19Ideal.Read.val_main_v42_eq, a0, a1, a2, a3, a5] at h1
  rw [Cert.Reference19Ideal.Read.val_main_v47_eq, a1, a3, a6] at h2
  rw [Cert.Reference19Ideal.Read.val_main_v52_eq, a2, a3, a7] at h3
  exact ⟨h0.trans (Cert.Kernel19Ideal.Adam.final_grad m c).symm, h1.trans (Cert.Kernel19Ideal.Adam.final_delta m c).symm,
    h2.trans (Cert.Kernel19Ideal.Adam.final_first m c).symm, h3.trans (Cert.Kernel19Ideal.Adam.final_second m c).symm, hargs⟩

theorem frame_reference18 : Cert.quiescent_Reference18Ideal := fun m ρ _ =>
  (θ_run Cert.Reference18Ideal.defs _ _).mono (fun r h => ⟨fun c => (h c).2.2.2.2.2.2.2.2.2.2.2.2.2.2.2.2.2.2.2.2.2.2.2.2, sem_eq_zero_of_no_sems (by decide) r.2⟩)
    (Cert.Reference18Ideal.Value.run (F := Ideal) m ρ)

/-- AdamW of the small weights, packed into one array, is the reference's of each of them. -/
theorem adams : Cert.algebraic_Kernel18Ideal_Reference18Ideal := by
  intro m g m' g' _ hagree
  refine ⟨_, _, _, _, _, _, _, _, _, _, _, _, _, _, _, _, _, _, _, _, _, _, _, _, Cert.Kernel18Ideal.AdamSmall.run m g,
    (θ_run Cert.Reference18Ideal.defs _ _).mono (fun r h c => ?_) (Cert.Reference18Ideal.Value.run m' g')⟩
  obtain ⟨d0, d1, d2, d3, d4, d5, d6, d7, f0, f1, f2, f3, f4, f5, f6, f7, s0, s1, s2, s3, s4, s5, s6, s7, hargs⟩ := h c
  obtain ⟨a0, a1, a2, a3, a4, a5, a6, a7, a8, a9, a10, a11, a12, a13, a14, a15, a16, a17, a18, a19, a20, a21, a22, a23, a24, a25, a26, a27, a28, a29, a30, a31⟩ := hagree c
  rw [Cert.Reference18Ideal.Read.val_main_v23_eq (StableHlo.launchContents m' c)] at d0
  simp only [StableHlo.launchContents_devRef, a0, a8, a16, a24] at d0
  rw [Cert.Reference18Ideal.Read.val_main_v47_eq (StableHlo.launchContents m' c)] at d1
  simp only [StableHlo.launchContents_devRef, a1, a9, a17, a25] at d1
  rw [Cert.Reference18Ideal.Read.val_main_v71_eq (StableHlo.launchContents m' c)] at d2
  simp only [StableHlo.launchContents_devRef, a2, a10, a18, a26] at d2
  rw [Cert.Reference18Ideal.Read.val_main_v95_eq (StableHlo.launchContents m' c)] at d3
  simp only [StableHlo.launchContents_devRef, a3, a11, a19, a27] at d3
  rw [Cert.Reference18Ideal.Read.val_main_v119_eq (StableHlo.launchContents m' c)] at d4
  simp only [StableHlo.launchContents_devRef, a4, a12, a20, a28] at d4
  rw [Cert.Reference18Ideal.Read.val_main_v143_eq (StableHlo.launchContents m' c)] at d5
  simp only [StableHlo.launchContents_devRef, a5, a13, a21, a29] at d5
  rw [Cert.Reference18Ideal.Read.val_main_v167_eq (StableHlo.launchContents m' c)] at d6
  simp only [StableHlo.launchContents_devRef, a6, a14, a22, a30] at d6
  rw [Cert.Reference18Ideal.Read.val_main_v191_eq (StableHlo.launchContents m' c)] at d7
  simp only [StableHlo.launchContents_devRef, a7, a15, a23, a31] at d7
  rw [Cert.Reference18Ideal.Read.val_main_v4_eq (StableHlo.launchContents m' c)] at f0
  simp only [StableHlo.launchContents_devRef, a8, a16] at f0
  rw [Cert.Reference18Ideal.Read.val_main_v28_eq (StableHlo.launchContents m' c)] at f1
  simp only [StableHlo.launchContents_devRef, a9, a17] at f1
  rw [Cert.Reference18Ideal.Read.val_main_v52_eq (StableHlo.launchContents m' c)] at f2
  simp only [StableHlo.launchContents_devRef, a10, a18] at f2
  rw [Cert.Reference18Ideal.Read.val_main_v76_eq (StableHlo.launchContents m' c)] at f3
  simp only [StableHlo.launchContents_devRef, a11, a19] at f3
  rw [Cert.Reference18Ideal.Read.val_main_v100_eq (StableHlo.launchContents m' c)] at f4
  simp only [StableHlo.launchContents_devRef, a12, a20] at f4
  rw [Cert.Reference18Ideal.Read.val_main_v124_eq (StableHlo.launchContents m' c)] at f5
  simp only [StableHlo.launchContents_devRef, a13, a21] at f5
  rw [Cert.Reference18Ideal.Read.val_main_v148_eq (StableHlo.launchContents m' c)] at f6
  simp only [StableHlo.launchContents_devRef, a14, a22] at f6
  rw [Cert.Reference18Ideal.Read.val_main_v172_eq (StableHlo.launchContents m' c)] at f7
  simp only [StableHlo.launchContents_devRef, a15, a23] at f7
  rw [Cert.Reference18Ideal.Read.val_main_v10_eq (StableHlo.launchContents m' c)] at s0
  simp only [StableHlo.launchContents_devRef, a8, a24] at s0
  rw [Cert.Reference18Ideal.Read.val_main_v34_eq (StableHlo.launchContents m' c)] at s1
  simp only [StableHlo.launchContents_devRef, a9, a25] at s1
  rw [Cert.Reference18Ideal.Read.val_main_v58_eq (StableHlo.launchContents m' c)] at s2
  simp only [StableHlo.launchContents_devRef, a10, a26] at s2
  rw [Cert.Reference18Ideal.Read.val_main_v82_eq (StableHlo.launchContents m' c)] at s3
  simp only [StableHlo.launchContents_devRef, a11, a27] at s3
  rw [Cert.Reference18Ideal.Read.val_main_v106_eq (StableHlo.launchContents m' c)] at s4
  simp only [StableHlo.launchContents_devRef, a12, a28] at s4
  rw [Cert.Reference18Ideal.Read.val_main_v130_eq (StableHlo.launchContents m' c)] at s5
  simp only [StableHlo.launchContents_devRef, a13, a29] at s5
  rw [Cert.Reference18Ideal.Read.val_main_v154_eq (StableHlo.launchContents m' c)] at s6
  simp only [StableHlo.launchContents_devRef, a14, a30] at s6
  rw [Cert.Reference18Ideal.Read.val_main_v178_eq (StableHlo.launchContents m' c)] at s7
  simp only [StableHlo.launchContents_devRef, a15, a31] at s7
  exact ⟨d0, d1, d2, d3, d4, d5, d6, d7, f0, f1, f2, f3, f4, f5, f6, f7, s0, s1, s2, s3, s4, s5, s6, s7, hargs⟩

/-- The precondition names one of the eight places. -/
theorem place_of {F : FTy → Type} [FloatOps F] (p : IVec Cert.Pre_placed.S2 32) (a : FVec F Cert.Pre_placed.S4x1x2048x2048 .bf16)
    (o : FVec F Cert.Pre_placed.S4x1x1024x2048 .bf16) (h : Cert.Pre_placed.fn (F := F) p a o = fun _ => 1#1) : ∃ ch, p = Cert.Kernel20Ideal.Pair.place ch := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have e := congrFun h (fun k => k.elim0)
  have e0 (y : Cert.Pre_placed.S_.Idx) : shapeCast Cert.Pre_placed.S_ (extractStridedSlice Cert.Pre_placed.S1 ![0] p Cert.Pre_placed.Gen.slices_S2_S1_0) Cert.Pre_placed.Gen.shapeCasts_S1_S_ y = p (ix1 (0 : Fin 2)) := by
    pointwise
  have e1 (y : Cert.Pre_placed.S_.Idx) : shapeCast Cert.Pre_placed.S_ (extractStridedSlice Cert.Pre_placed.S1 ![1] p Cert.Pre_placed.Gen.slices_S2_S1_1) Cert.Pre_placed.Gen.shapeCasts_S1_S_ y = p (ix1 (1 : Fin 2)) := by
    pointwise
  simp only [Cert.Pre_placed.fn, andi, cmpi, constantI, IntOp.cmpi, andi_ofBool, ofBool_eq_one, Bool.and_eq_true, e0, e1] at e
  obtain ⟨⟨⟨h0, h1⟩, h2⟩, h3⟩ := e
  have c0 : (p (ix1 (0 : Fin 2))).toNat < 4 := by
    simp only [BitVec.sle, BitVec.slt, decide_eq_true_eq, BitVec.toInt, BitVec.toNat_ofNat] at h0 h1; omega
  have c1 : (p (ix1 (1 : Fin 2))).toNat < 2 := by
    simp only [BitVec.sle, BitVec.slt, decide_eq_true_eq, BitVec.toInt, BitVec.toNat_ofNat] at h2 h3; omega
  refine ⟨⟨2 * (p (ix1 (0 : Fin 2))).toNat + (p (ix1 (1 : Fin 2))).toNat, by omega⟩, funext fun x => ?_⟩
  obtain ⟨k, rfl⟩ : ∃ k : Fin 2, x = ix1 k := ⟨_, eq_ix1 (x : Cert.Pre_placed.S2.Idx)⟩
  apply BitVec.eq_of_toNat_eq
  match k with
  | 0 => show _ = ((2 * (p (ix1 (0 : Fin 2))).toNat + (p (ix1 (1 : Fin 2))).toNat) / 2) % 2 ^ 32; omega
  | 1 => show _ = ((2 * (p (ix1 (0 : Fin 2))).toNat + (p (ix1 (1 : Fin 2))).toNat) % 2) % 2 ^ 32; omega

theorem placed {F : FTy → Type} [FloatOps F] (m : (ℓ : Loc Cert.Kernel20Ideal.nD Cert.Kernel20Ideal.τ Cert.Kernel20Ideal.sig) → Buf (Elt F) ℓ)
    (h : ∀ c : Dev Cert.Kernel20Ideal.nD, Cert.Pre_placed.fn (F := F) (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg1))
      (m ((c.tc : Thread Cert.Kernel20Ideal.nD Cert.Kernel20Ideal.τ).loc Cert.Kernel20Ideal.main_arg2)) = fun _ => 1#1) :
    ∃ ch, Cert.Kernel20Ideal.Pair.Placed ch m :=
  (place_of _ _ _ (h 0)).imp fun ch e c => by
    obtain rfl : c = 0 := Subsingleton.elim (α := Fin 1) _ _
    exact e

theorem frame_kernel20ideal : Cert.quiescent_Kernel20Ideal := fun m ρ h =>
  (placed m h).elim fun ch hp => Cert.Kernel20Ideal.Pair.unchanged ch m ρ hp

/-- The frame at machine floats, of the program the module above is about. -/
def FrameBits : Prop :=
  ∀ (m : (ℓ : Loc Cert.Kernel20Ideal.nD Cert.Kernel20Ideal.τ Cert.Kernel20Ideal.sig) → Buf (Elt Bits) ℓ) (ρ : Dev Cert.Kernel20Ideal.nD → PrngReg),
    (∀ c : Dev Cert.Kernel20Ideal.nD, Cert.Pre_placed.fn (F := Bits) (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg1))
      (m ((c.tc : Thread Cert.Kernel20Ideal.nD Cert.Kernel20Ideal.τ).loc Cert.Kernel20Ideal.main_arg2)) = fun _ => 1#1) →
    θ_run (Cert.Kernel20Ideal.defs (F := Bits)) (onTc (τ := Cert.Kernel20Ideal.τ) (Cert.Kernel20Ideal.main (F := Bits))) ⟨m, fun _ => 0, ρ⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

theorem frame_bits : FrameBits := fun m ρ h =>
  (placed m h).elim fun ch hp => Cert.Kernel20Ideal.Pair.unchanged ch m ρ hp

/-- The two programs are one text, so the frame above is the kernel's too. -/
theorem frame_kernel20 : Cert.quiescent_Kernel20 := Eq.mp (show FrameBits = Cert.quiescent_Kernel20 by sl_kernel_rfl) frame_bits

theorem frame_reference20 : Cert.quiescent_Reference20Ideal := fun m ρ _ =>
  (θ_run Cert.Reference20Ideal.defs _ _).mono (fun r h => ⟨fun c => (h c).2.2, sem_eq_zero_of_no_sems (by decide) r.2⟩)
    (Cert.Reference20Ideal.Pair.run m ρ)

/-- The sum of the two cores' gradients, and the chip's own part of it, at each of the eight places. -/
theorem pair : Cert.algebraic_Kernel20Ideal_Reference20Ideal := by
  intro m g m' g' hpre hagree
  obtain ⟨ch, hp⟩ := placed m hpre
  have hs (c : Dev Cert.Kernel20Ideal.nD) (y : Cert.Reference20Ideal.S4x1x1024x2048.Idx) :
      Cert.Reference20Ideal.Pair.total (m' ((c.tc : Thread Cert.Reference20Ideal.nD Cert.Reference20Ideal.τ).loc Cert.Reference20Ideal.main_arg0))
        (m' ((c.tc : Thread Cert.Reference20Ideal.nD Cert.Reference20Ideal.τ).loc Cert.Reference20Ideal.main_arg1))
        (m' ((c.tc : Thread Cert.Reference20Ideal.nD Cert.Reference20Ideal.τ).loc Cert.Reference20Ideal.main_arg2)) y = Cert.Kernel20Ideal.Pair.Sum m ch c y := by
    obtain ⟨a0, a1, a2⟩ := hagree c
    rw [a0, a1, a2, hp c]
    exact Cert.Reference20Ideal.Pair.total_place ch _ _ y
  refine ⟨fun c => Cert.Kernel20Ideal.Pair.Sum m ch c, fun c => Cert.Kernel20Ideal.Pair.Own m ch c,
    (θ_run Cert.Kernel20Ideal.defs _ _).mono (fun r h c => ⟨(h.1 c).1.trans (Cert.Kernel20Ideal.Pair.final ch m c),
        (h.1 c).2.1.trans (Cert.Kernel20Ideal.Pair.final_own ch m hp c), (h.1 c).2.2⟩)
      (Cert.Kernel20Ideal.Pair.run ch m g hp),
    (θ_run Cert.Reference20Ideal.defs _ _).mono (fun r h c => ⟨(h c).1.trans (funext fun y => hs c y), (h c).2.1.trans (funext fun y => ?_), (h c).2.2⟩)
      (Cert.Reference20Ideal.Pair.run m' g')⟩
  refine Eq.trans ?_ (hs c _)
  rw [(hagree c).1, hp c]
  exact Cert.Reference20Ideal.Pair.part_place ch _ _ y

theorem claim : Cert.Claim := ⟨Cert.Kernel.Gen.facts, Cert.KernelIdeal.Gen.facts, Cert.ReferenceIdeal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel19.Gen.facts, Cert.Kernel19Ideal.Gen.facts, Cert.Reference19Ideal.Gen.facts, Cert.Kernel18.Gen.facts, Cert.Kernel18Ideal.Gen.facts, Cert.Reference18Ideal.Gen.facts, Cert.Kernel20.Gen.facts, Cert.Kernel20Ideal.Gen.facts, Cert.Reference20Ideal.Gen.facts, facts_finite_rms, facts_finite_gate, facts_finite_pool, facts_finite_loss, facts_finite_v, Cert.Pre_placed.Gen.facts,
  fun m ρ _ => Cert.Kernel.Gen.frame m ρ, fun m ρ _ => Cert.KernelIdeal.Gen.frame m ρ, frame_reference,
  fun m ρ _ => Cert.Kernel4.Gen.frame m ρ, fun m ρ _ => Cert.Kernel4Ideal.Gen.frame m ρ, fun m ρ _ => Cert.Kernel4Ideal.Gen.frame m ρ, frame_reference4, fun m ρ _ => frame_reference4 m ρ trivial,
  fun m ρ _ => Cert.Kernel6.Gen.frame m ρ, fun m ρ _ => Cert.Kernel6Ideal.Gen.frame m ρ, frame_reference6,
  fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, fun m ρ _ => Cert.Kernel3Ideal.Gen.frame m ρ, frame_reference3, fun m ρ _ => frame_reference3 m ρ trivial,
  fun m ρ _ => Cert.Kernel5.Gen.frame m ρ, fun m ρ _ => Cert.Kernel5Ideal.Gen.frame m ρ, fun m ρ _ => Cert.Kernel5Ideal.Gen.frame m ρ, frame_reference5, fun m ρ _ => frame_reference5 m ρ trivial,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, fun m ρ _ => Cert.Kernel9Ideal.Gen.frame m ρ, frame_reference9, fun m ρ _ => frame_reference9 m ρ trivial,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  frame_kernel13, frame_kernel13ideal, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel19.Gen.frame m ρ, fun m ρ _ => Cert.Kernel19Ideal.Gen.frame m ρ, frame_reference19,
  fun m ρ _ => Cert.Kernel18.Gen.frame m ρ, fun m ρ _ => Cert.Kernel18Ideal.Gen.frame m ρ, frame_reference18,
  frame_kernel20, frame_kernel20ideal, frame_reference20, fun m ρ _ => frame_reference20 m ρ trivial,
  trivial, scale,
  trivial, rms,
  trivial, mlpdx,
  preserves_gate, gate,
  trivial, pool,
  trivial, loss,
  trivial, rmsf,
  preserves_gatef, gatef,
  trivial, poolf,
  trivial, up,
  trivial, grp,
  trivial, down,
  trivial, psum,
  trivial, mmbwd,
  trivial, mmdw,
  trivial, mmaw,
  trivial, small,
  trivial, adam,
  trivial, adams,
  trivial, pair⟩

end Cert.Proof

end
